-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v12)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v12) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v79) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v9)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v9) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v42) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hOutProj : Cert.OutProj.Facts) (hOutProjIdeal : Cert.OutProjIdeal.Facts) (hOutProjRefIdeal : Cert.OutProjRefIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnRefIdeal (hFfnRefIdeal := hFfnRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnRefIdeal (hFfnIdeal := hFfnIdeal) (hFfnRefIdeal := hFfnRefIdeal)
    ∧ preserves_OutProj_OutProjIdeal
    ∧ algebraic_OutProjIdeal_OutProjRefIdeal (hOutProjIdeal := hOutProjIdeal) (hOutProjRefIdeal := hOutProjRefIdeal)
-- ==== Kernel.lean ====
abbrev S8x2048x1024 : Shape := ⟨3, ![8, 2048, 1024]⟩
abbrev S8x2048x512 : Shape := ⟨3, ![8, 2048, 512]⟩
abbrev S8x2048x16 : Shape := ⟨3, ![8, 2048, 16]⟩
abbrev S1x16 : Shape := ⟨2, ![1, 16]⟩
abbrev S1x1024 : Shape := ⟨2, ![1, 1024]⟩
abbrev S8x2048x2x8 : Shape := ⟨4, ![8, 2048, 2, 8]⟩
abbrev S_ : Shape := ⟨0, ![]⟩
abbrev S8x2048x2x128 : Shape := ⟨4, ![8, 2048, 2, 128]⟩
abbrev S8x2048x256 : Shape := ⟨3, ![8, 2048, 256]⟩
abbrev S16 : Shape := ⟨1, ![16]⟩
abbrev S2x8 : Shape := ⟨2, ![2, 8]⟩
abbrev S2x128 : Shape := ⟨2, ![2, 128]⟩
abbrev S1x256 : Shape := ⟨2, ![1, 256]⟩
abbrev S16x64 : Shape := ⟨2, ![16, 64]⟩
abbrev S1024 : Shape := ⟨1, ![1024]⟩
abbrev S1x1024x1024 : Shape := ⟨3, ![1, 1024, 1024]⟩
abbrev S1x1024x512 : Shape := ⟨3, ![1, 1024, 512]⟩
abbrev S1x1024x256 : Shape := ⟨3, ![1, 1024, 256]⟩
abbrev S2x128x512 : Shape := ⟨3, ![2, 128, 512]⟩
abbrev S4x2x256x512 : Shape := ⟨4, ![4, 2, 256, 512]⟩
abbrev S256x256 : Shape := ⟨2, ![256, 256]⟩
abbrev S1x256x512 : Shape := ⟨3, ![1, 256, 512]⟩
abbrev S256x512 : Shape := ⟨2, ![256, 512]⟩
abbrev S1x256x128 : Shape := ⟨3, ![1, 256, 128]⟩
abbrev S256x128 : Shape := ⟨2, ![256, 128]⟩
abbrev S1x128 : Shape := ⟨2, ![1, 128]⟩
abbrev S256x384 : Shape := ⟨2, ![256, 384]⟩
abbrev S128x256 : Shape := ⟨2, ![128, 256]⟩
abbrev S256x1 : Shape := ⟨2, ![256, 1]⟩
abbrev S1x1 : Shape := ⟨2, ![1, 1]⟩
abbrev S1x2x256x512 : Shape := ⟨4, ![1, 2, 256, 512]⟩
abbrev S2x256x512 : Shape := ⟨3, ![2, 256, 512]⟩
abbrev S1x1x256x128 : Shape := ⟨4, ![1, 1, 256, 128]⟩
abbrev S1x512 : Shape := ⟨2, ![1, 512]⟩
abbrev S1x128x512 : Shape := ⟨3, ![1, 128, 512]⟩
abbrev S128x512 : Shape := ⟨2, ![128, 512]⟩
abbrev S256 : Shape := ⟨1, ![256]⟩

abbrev nBuf : Space → Nat
  | .hbm => 33
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x16, .f32⟩
  | .hbm, ⟨3, _⟩ => ⟨S8x2048x1024, .f32⟩
  | .hbm, ⟨4, _⟩ => ⟨S1x16, .f32⟩
  | .hbm, ⟨5, _⟩ => ⟨S1x16, .f32⟩
  | .hbm, ⟨6, _⟩ => ⟨S1x16, .f32⟩
  | .hbm, ⟨7, _⟩ => ⟨S1x1024, .f32⟩
  | .hbm, ⟨8, _⟩ => ⟨S8x2048x2x8, .f32⟩
  | .hbm, ⟨9, _⟩ => ⟨S_, .i32⟩
  | .hbm, ⟨10, _⟩ => ⟨S_, .f32⟩
  | .hbm, ⟨11, _⟩ => ⟨S8x2048x2x128, .f32⟩
  | .hbm, ⟨12, _⟩ => ⟨S8x2048x256, .f32⟩
  | .hbm, ⟨13, _⟩ => ⟨S8x2048x512, .bf16⟩
  | .hbm, ⟨14, _⟩ => ⟨S16, .f32⟩
  | .hbm, ⟨15, _⟩ => ⟨S2x8, .f32⟩
  | .hbm, ⟨16, _⟩ => ⟨S_, .i32⟩
  | .hbm, ⟨17, _⟩ => ⟨S_, .f32⟩
  | .hbm, ⟨18, _⟩ => ⟨S2x128, .f32⟩
  | .hbm, ⟨19, _⟩ => ⟨S1x256, .f32⟩
  | .hbm, ⟨20, _⟩ => ⟨S16, .f32⟩
  | .hbm, ⟨21, _⟩ => ⟨S2x8, .f32⟩
  | .hbm, ⟨22, _⟩ => ⟨S_, .i32⟩
  | .hbm, ⟨23, _⟩ => ⟨S_, .f32⟩
  | .hbm, ⟨24, _⟩ => ⟨S2x128, .f32⟩
  | .hbm, ⟨25, _⟩ => ⟨S1x256, .f32⟩
  | .hbm, ⟨26, _⟩ => ⟨S16, .f32⟩
  | .hbm, ⟨27, _⟩ => ⟨S16x64, .f32⟩
  | .hbm, ⟨28, _⟩ => ⟨S1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S8x2048x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x256, .f32⟩
  | .local _ .vmem, ⟨5, _⟩ => ⟨S1x1024x256, .f32⟩
  | .local _ .vmem, ⟨6, _⟩ => ⟨S1x1024x1024, .f32⟩
  | .local _ .vmem, ⟨7, _⟩ => ⟨S1x1024x1024, .f32⟩
  | .local _ .vmem, ⟨8, _⟩ => ⟨S1x256, .f32⟩
  | .local _ .vmem, ⟨9, _⟩ => ⟨S1x256, .f32⟩
  | .local _ .vmem, ⟨10, _⟩ => ⟨S1x1024, .f32⟩
  | .local _ .vmem, ⟨11, _⟩ => ⟨S1x1024, .f32⟩
  | .local _ .vmem, ⟨12, _⟩ => ⟨S1x1024x1024, .bf16⟩
  | .local _ .vmem, ⟨13, _⟩ => ⟨S1x1024x1024, .bf16⟩
  | .local _ .vmem, ⟨14, _⟩ => ⟨S2x128x512, .f32⟩
  | .local _ .vmem, ⟨15, _⟩ => ⟨S4x2x256x512, .bf16⟩
  | .local _ .vmem, ⟨16, _⟩ => ⟨S4x2x256x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_call2_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x2048x1024 : Shape := ⟨3, ![8, 2048, 1024]⟩
abbrev S8x2048x512 : Shape := ⟨3, ![8, 2048, 512]⟩
abbrev S8x2048x16 : Shape := ⟨3, ![8, 2048, 16]⟩
abbrev S1x16 : Shape := ⟨2, ![1, 16]⟩
abbrev S1x1024 : Shape := ⟨2, ![1, 1024]⟩
abbrev S8x2048x256 : Shape := ⟨3, ![8, 2048, 256]⟩
abbrev S8x2048x16x64 : Shape := ⟨4, ![8, 2048, 16, 64]⟩
abbrev S8x2048x2x128 : Shape := ⟨4, ![8, 2048, 2, 128]⟩
abbrev S8x2048x2x8x128 : Shape := ⟨5, ![8, 2048, 2, 8, 128]⟩
abbrev S8x2048x16x128 : Shape := ⟨4, ![8, 2048, 16, 128]⟩
abbrev S16 : Shape := ⟨1, ![16]⟩
abbrev S1x1x16 : Shape := ⟨3, ![1, 1, 16]⟩
abbrev S_ : Shape := ⟨0, ![]⟩
abbrev S8x2048x16x1 : Shape := ⟨4, ![8, 2048, 16, 1]⟩
abbrev S8x8x256x16x64 : Shape := ⟨5, ![8, 8, 256, 16, 64]⟩
abbrev S8x8x256x16x128 : Shape := ⟨5, ![8, 8, 256, 16, 128]⟩
abbrev S8x8x256x16 : Shape := ⟨4, ![8, 8, 256, 16]⟩
abbrev S8x16x8x256 : Shape := ⟨4, ![8, 16, 8, 256]⟩
abbrev S8x16x8x256x1 : Shape := ⟨5, ![8, 16, 8, 256, 1]⟩
abbrev S8x16x8x1x256 : Shape := ⟨5, ![8, 16, 8, 1, 256]⟩
abbrev S8x16x8x256x256 : Shape := ⟨5, ![8, 16, 8, 256, 256]⟩
abbrev S256x256 : Shape := ⟨2, ![256, 256]⟩
abbrev S8x8x16x64x256 : Shape := ⟨5, ![8, 8, 16, 64, 256]⟩
abbrev S8x16x8x1 : Shape := ⟨4, ![8, 16, 8, 1]⟩
abbrev S8x8x256x16x1 : Shape := ⟨5, ![8, 8, 256, 16, 1]⟩
abbrev S8x8x16x64x128 : Shape := ⟨5, ![8, 8, 16, 64, 128]⟩
abbrev S8x16x8 : Shape := ⟨3, ![8, 16, 8]⟩
abbrev S8x16x64x128 : Shape := ⟨4, ![8, 16, 64, 128]⟩
abbrev S8x16x1 : Shape := ⟨3, ![8, 16, 1]⟩
abbrev S8x16 : Shape := ⟨2, ![8, 16]⟩
abbrev S8x16x1x1 : Shape := ⟨4, ![8, 16, 1, 1]⟩
abbrev S8x1x16x64x128 : Shape := ⟨5, ![8, 1, 16, 64, 128]⟩
abbrev S16x1 : Shape := ⟨2, ![16, 1]⟩
abbrev S1x1x16x1 : Shape := ⟨4, ![1, 1, 16, 1]⟩
abbrev S8x2048x2x512 : Shape := ⟨4, ![8, 2048, 2, 512]⟩
abbrev S8x2048x2 : Shape := ⟨3, ![8, 2048, 2]⟩
abbrev S8x2048x2x1 : Shape := ⟨4, ![8, 2048, 2, 1]⟩
abbrev S1024 : Shape := ⟨1, ![1024]⟩
abbrev S1x1x1024 : Shape := ⟨3, ![1, 1, 1024]⟩

abbrev nBuf : Space → Nat
  | .hbm => 205
  | .vmem => 0
  | .smem => 0
  | _ => 0

abbrev hbmTy0_0 (i : Nat) : BufTy := match i % 128 with
  | 0 => ⟨S8x2048x1024, .f32⟩
  | 1 => ⟨S8x2048x512, .f32⟩
  | 2 => ⟨S8x2048x16, .f32⟩
  | 3 => ⟨S8x2048x1024, .f32⟩
  | 4 => ⟨S1x16, .f32⟩
  | 5 => ⟨S1x16, .f32⟩
  | 6 => ⟨S1x16, .f32⟩
  | 7 => ⟨S1x1024, .f32⟩
  | 8 => ⟨S8x2048x256, .f32⟩
  | 9 => ⟨S8x2048x256, .f32⟩
  | 10 => ⟨S8x2048x16x64, .f32⟩
  | 11 => ⟨S8x2048x2x128, .f32⟩
  | 12 => ⟨S8x2048x2x8x128, .f32⟩
  | 13 => ⟨S8x2048x16x128, .f32⟩
  | 14 => ⟨S8x2048x2x128, .f32⟩
  | 15 => ⟨S8x2048x2x8x128, .f32⟩
  | 16 => ⟨S8x2048x16x128, .f32⟩
  | 17 => ⟨S16, .f32⟩
  | 18 => ⟨S1x1x16, .f32⟩
  | 19 => ⟨S8x2048x16, .f32⟩
  | 20 => ⟨S8x2048x16, .f32⟩
  | 21 => ⟨S_, .f32⟩
  | 22 => ⟨S8x2048x16, .f32⟩
  | 23 => ⟨S8x2048x16, .f32⟩
  | 24 => ⟨S8x2048x16, .f32⟩
  | 25 => ⟨S8x2048x16, .f32⟩
  | 26 => ⟨S8x2048x16, .i1⟩
  | 27 => ⟨S8x2048x16, .f32⟩
  | 28 => ⟨S8x2048x16, .f32⟩
  | 29 => ⟨S8x2048x16, .f32⟩
  | 30 => ⟨S8x2048x16, .f32⟩
  | 31 => ⟨S8x2048x16, .f32⟩
  | 32 => ⟨S8x2048x16, .f32⟩
  | 33 => ⟨S8x2048x16, .f32⟩
  | 34 => ⟨S8x2048x16, .f32⟩
  | 35 => ⟨S16, .f32⟩
  | 36 => ⟨S16, .f32⟩
  | 37 => ⟨S16, .f32⟩
  | 38 => ⟨S8x2048x16x1, .f32⟩
  | 39 => ⟨S8x2048x16x64, .f32⟩
  | 40 => ⟨S8x2048x16x64, .f32⟩
  | 41 => ⟨S8x8x256x16x64, .f32⟩
  | 42 => ⟨S8x8x256x16x128, .f32⟩
  | 43 => ⟨S8x8x256x16x128, .f32⟩
  | 44 => ⟨S1x1x16, .f32⟩
  | 45 => ⟨S8x2048x16, .f32⟩
  | 46 => ⟨S8x2048x16, .f32⟩
  | 47 => ⟨S8x8x256x16, .f32⟩
  | 48 => ⟨S8x16x8x256, .f32⟩
  | 49 => ⟨S_, .f32⟩
  | 50 => ⟨S_, .f32⟩
  | 51 => ⟨S8x16x8x256, .f32⟩
  | 52 => ⟨S_, .f32⟩
  | 53 => ⟨S_, .f32⟩
  | 54 => ⟨S8x16x8x256, .f32⟩
  | 55 => ⟨S8x16x8x256x1, .f32⟩
  | 56 => ⟨S8x16x8x1x256, .f32⟩
  | 57 => ⟨S8x16x8x256x256, .f32⟩
  | 58 => ⟨S8x16x8x256x256, .f32⟩
  | 59 => ⟨S8x16x8x256x256, .f32⟩
  | 60 => ⟨S_, .i1⟩
  | 61 => ⟨S256x256, .i1⟩
  | 62 => ⟨S256x256, .i32⟩
  | 63 => ⟨S_, .i32⟩
  | 64 => ⟨S256x256, .i32⟩
  | 65 => ⟨S256x256, .i32⟩
  | 66 => ⟨S256x256, .i32⟩
  | 67 => ⟨S256x256, .i1⟩
  | 68 => ⟨S_, .i1⟩
  | 69 => ⟨S256x256, .i1⟩
  | 70 => ⟨S256x256, .i1⟩
  | 71 => ⟨S_, .f32⟩
  | 72 => ⟨S_, .f32⟩
  | 73 => ⟨S8x16x8x256x256, .i1⟩
  | 74 => ⟨S8x16x8x256x256, .f32⟩
  | 75 => ⟨S8x16x8x256x256, .f32⟩
  | 76 => ⟨S8x16x8x256x256, .f32⟩
  | 77 => ⟨S8x16x8x256x256, .f32⟩
  | 78 => ⟨S8x16x8x256x256, .f32⟩
  | 79 => ⟨S8x8x16x64x256, .f32⟩
  | 80 => ⟨S8x8x256x16x64, .f32⟩
  | 81 => ⟨S8x16x8x1, .f32⟩
  | 82 => ⟨S8x16x8x256, .f32⟩
  | 83 => ⟨S8x16x8x256, .f32⟩
  | 84 => ⟨S8x16x8x256, .f32⟩
  | 85 => ⟨S8x8x256x16, .f32⟩
  | 86 => ⟨S8x8x256x16x1, .f32⟩
  | 87 => ⟨S8x8x256x16x64, .f32⟩
  | 88 => ⟨S8x8x256x16x64, .f32⟩
  | 89 => ⟨S8x8x16x64x128, .f32⟩
  | 90 => ⟨S8x16x8x1, .f32⟩
  | 91 => ⟨S8x16x8, .f32⟩
  | 92 => ⟨S8x16x8, .f32⟩
  | 93 => ⟨S_, .f32⟩
  | 94 => ⟨S8x16x64x128, .f32⟩
  | 95 => ⟨S8x16x1, .f32⟩
  | 96 => ⟨S8x16, .f32⟩
  | 97 => ⟨S8x16x1x1, .f32⟩
  | 98 => ⟨S8x16x64x128, .f32⟩
  | 99 => ⟨S8x16x64x128, .f32⟩
  | 100 => ⟨S8x1x16x64x128, .f32⟩
  | 101 => ⟨S8x16x64x128, .f32⟩
  | 102 => ⟨S8x16x64x128, .f32⟩
  | 103 => ⟨S8x16x1, .f32⟩
  | 104 => ⟨S8x16, .f32⟩
  | 105 => ⟨S8x16x1x1, .f32⟩
  | 106 => ⟨S8x16x64x128, .f32⟩
  | 107 => ⟨S8x16x64x128, .f32⟩
  | 108 => ⟨S8x1x16x64x128, .f32⟩
  | 109 => ⟨S8x16x64x128, .f32⟩
  | 110 => ⟨S8x16x64x128, .f32⟩
  | 111 => ⟨S8x16x1, .f32⟩
  | 112 => ⟨S8x16, .f32⟩
  | 113 => ⟨S8x16x1x1, .f32⟩
  | 114 => ⟨S8x16x64x128, .f32⟩
  | 115 => ⟨S8x16x64x128, .f32⟩
  | 116 => ⟨S8x1x16x64x128, .f32⟩
  | 117 => ⟨S8x16x64x128, .f32⟩
  | 118 => ⟨S8x16x64x128, .f32⟩
  | 119 => ⟨S8x16x1, .f32⟩
  | 120 => ⟨S8x16, .f32⟩
  | 121 => ⟨S8x16x1x1, .f32⟩
  | 122 => ⟨S8x16x64x128, .f32⟩
  | 123 => ⟨S8x16x64x128, .f32⟩
  | 124 => ⟨S8x1x16x64x128, .f32⟩
  | 125 => ⟨S8x16x64x128, .f32⟩
  | 126 => ⟨S8x16x64x128, .f32⟩
  | 127 => ⟨S8x16x1, .f32⟩
  | _ => ⟨S8x2048x1024, .f32⟩

abbrev hbmTy0_1 (i : Nat) : BufTy := match i % 128 with
  | 0 => ⟨S8x16, .f32⟩
  | 1 => ⟨S8x16x1x1, .f32⟩
  | 2 => ⟨S8x16x64x128, .f32⟩
  | 3 => ⟨S8x16x64x128, .f32⟩
  | 4 => ⟨S8x1x16x64x128, .f32⟩
  | 5 => ⟨S8x16x64x128, .f32⟩
  | 6 => ⟨S8x16x64x128, .f32⟩
  | 7 => ⟨S8x16x1, .f32⟩
  | 8 => ⟨S8x16, .f32⟩
  | 9 => ⟨S8x16x1x1, .f32⟩
  | 10 => ⟨S8x16x64x128, .f32⟩
  | 11 => ⟨S8x16x64x128, .f32⟩
  | 12 => ⟨S8x1x16x64x128, .f32⟩
  | 13 => ⟨S8x16x64x128, .f32⟩
  | 14 => ⟨S8x16x64x128, .f32⟩
  | 15 => ⟨S8x16x1, .f32⟩
  | 16 => ⟨S8x16, .f32⟩
  | 17 => ⟨S8x16x1x1, .f32⟩
  | 18 => ⟨S8x16x64x128, .f32⟩
  | 19 => ⟨S8x16x64x128, .f32⟩
  | 20 => ⟨S8x1x16x64x128, .f32⟩
  | 21 => ⟨S8x16x64x128, .f32⟩
  | 22 => ⟨S8x16x64x128, .f32⟩
  | 23 => ⟨S8x16x1, .f32⟩
  | 24 => ⟨S8x16, .f32⟩
  | 25 => ⟨S8x16x1x1, .f32⟩
  | 26 => ⟨S8x16x64x128, .f32⟩
  | 27 => ⟨S8x16x64x128, .f32⟩
  | 28 => ⟨S8x1x16x64x128, .f32⟩
  | 29 => ⟨S8x16x64x128, .f32⟩
  | 30 => ⟨S8x16x64x128, .f32⟩
  | 31 => ⟨S8x1x16x64x128, .f32⟩
  | 32 => ⟨S8x1x16x64x128, .f32⟩
  | 33 => ⟨S8x1x16x64x128, .f32⟩
  | 34 => ⟨S8x1x16x64x128, .f32⟩
  | 35 => ⟨S8x1x16x64x128, .f32⟩
  | 36 => ⟨S8x1x16x64x128, .f32⟩
  | 37 => ⟨S8x1x16x64x128, .f32⟩
  | 38 => ⟨S8x1x16x64x128, .f32⟩
  | 39 => ⟨S8x8x16x64x128, .f32⟩
  | 40 => ⟨S8x8x16x64x256, .f32⟩
  | 41 => ⟨S8x8x256x16x64, .f32⟩
  | 42 => ⟨S8x16x8x256, .f32⟩
  | 43 => ⟨S8x8x256x16, .f32⟩
  | 44 => ⟨S8x8x256x16x1, .f32⟩
  | 45 => ⟨S8x8x256x16x64, .f32⟩
  | 46 => ⟨S8x8x256x16x64, .f32⟩
  | 47 => ⟨S8x8x256x16x64, .f32⟩
  | 48 => ⟨S8x2048x16x64, .f32⟩
  | 49 => ⟨S16, .f32⟩
  | 50 => ⟨S16x1, .f32⟩
  | 51 => ⟨S1x1x16x1, .f32⟩
  | 52 => ⟨S8x2048x16x64, .f32⟩
  | 53 => ⟨S8x2048x16x64, .f32⟩
  | 54 => ⟨S8x2048x16x64, .f32⟩
  | 55 => ⟨S8x2048x1024, .f32⟩
  | 56 => ⟨S8x2048x1024, .f32⟩
  | 57 => ⟨S8x2048x2x512, .f32⟩
  | 58 => ⟨S8x2048x2x512, .f32⟩
  | 59 => ⟨S_, .f32⟩
  | 60 => ⟨S8x2048x2, .f32⟩
  | 61 => ⟨S8x2048x2x1, .f32⟩
  | 62 => ⟨S_, .f32⟩
  | 63 => ⟨S8x2048x2x1, .f32⟩
  | 64 => ⟨S8x2048x2x1, .f32⟩
  | 65 => ⟨S_, .f32⟩
  | 66 => ⟨S8x2048x2x1, .f32⟩
  | 67 => ⟨S8x2048x2x1, .f32⟩
  | 68 => ⟨S8x2048x2x1, .f32⟩
  | 69 => ⟨S8x2048x2x512, .f32⟩
  | 70 => ⟨S8x2048x2x512, .f32⟩
  | 71 => ⟨S8x2048x1024, .f32⟩
  | 72 => ⟨S1024, .f32⟩
  | 73 => ⟨S1x1x1024, .f32⟩
  | 74 => ⟨S8x2048x1024, .f32⟩
  | 75 => ⟨S8x2048x1024, .f32⟩
  | 76 => ⟨S8x2048x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call1_call0_cst : Ref sig .tc := ⟨.hbm, 49, rfl⟩
abbrev main_call1_call0_v0 : Ref sig .tc := ⟨.hbm, 50, rfl⟩
abbrev main_v28 : Ref sig .tc := ⟨.hbm, 51, rfl⟩
abbrev main_call2_call0_cst : Ref sig .tc := ⟨.hbm, 52, rfl⟩
abbrev main_call2_call0_v0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c : Ref sig .tc := ⟨.hbm, 60, rfl⟩
abbrev main_v35 : Ref sig .tc := ⟨.hbm, 61, rfl⟩
abbrev main_call3_v0 : Ref sig .tc := ⟨.hbm, 62, rfl⟩
abbrev main_call3_c : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_c_0 : Ref sig .tc := ⟨.hbm, 68, rfl⟩
abbrev main_call3_v5 : Ref sig .tc := ⟨.hbm, 69, rfl⟩
abbrev main_v36 : Ref sig .tc := ⟨.hbm, 70, rfl⟩
abbrev main_cst : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_0 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_cst_1 : Ref sig .tc := ⟨.hbm, 187, rfl⟩
abbrev main_v148 : Ref sig .tc := ⟨.hbm, 188, rfl⟩
abbrev main_v149 : Ref sig .tc := ⟨.hbm, 189, rfl⟩
abbrev main_cst_2 : Ref sig .tc := ⟨.hbm, 190, rfl⟩
abbrev main_v150 : Ref sig .tc := ⟨.hbm, 191, rfl⟩
abbrev main_v151 : Ref sig .tc := ⟨.hbm, 192, rfl⟩
abbrev main_cst_3 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩

abbrev nD : Nat := 1
abbrev τ : Topo := Topo.v7x

variable {F : FTy → Type} [FloatOps F]
-- ==== Ffn.lean ====
abbrev S8x2048x1024 : Shape := ⟨3, ![8, 2048, 1024]⟩
abbrev S8x6144 : Shape := ⟨2, ![8, 6144]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x1024 : Shape := ⟨2, ![1, 1024]⟩
abbrev S8x6x1024 : Shape := ⟨3, ![8, 6, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1x1024x1024 : Shape := ⟨3, ![1, 1024, 1024]⟩
abbrev S1x6x1024 : Shape := ⟨3, ![1, 6, 1024]⟩
abbrev S1024x1024 : Shape := ⟨2, ![1024, 1024]⟩
abbrev S8x5632 : Shape := ⟨2, ![8, 5632]⟩
abbrev S1024x2816 : Shape := ⟨2, ![1024, 2816]⟩
abbrev S1x1x1024 : Shape := ⟨3, ![1, 1, 1024]⟩
abbrev S1024x256 : Shape := ⟨2, ![1024, 256]⟩
abbrev S8x256 : Shape := ⟨2, ![8, 256]⟩
abbrev S1032x256 : Shape := ⟨2, ![1032, 256]⟩
abbrev S3x256 : Shape := ⟨2, ![3, 256]⟩
abbrev S1x256 : Shape := ⟨2, ![1, 256]⟩
abbrev S1024x1 : Shape := ⟨2, ![1024, 1]⟩

abbrev nBuf : Space → Nat
  | .hbm => 21
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1x1024, .f32⟩
  | .hbm, ⟨7, _⟩ => ⟨S1x1024, .f32⟩
  | .hbm, ⟨8, _⟩ => ⟨S8x6x1024, .f32⟩
  | .hbm, ⟨9, _⟩ => ⟨S1024x5632, .f32⟩
  | .hbm, ⟨10, _⟩ => ⟨S1024x5632, .bf16⟩
  | .hbm, ⟨11, _⟩ => ⟨S3x5632, .f32⟩
  | .hbm, ⟨12, _⟩ => ⟨S5632, .f32⟩
  | .hbm, ⟨13, _⟩ => ⟨S2816x1024, .f32⟩
  | .hbm, ⟨14, _⟩ => ⟨S2816x1024, .bf16⟩
  | .hbm, ⟨15, _⟩ => ⟨S1024, .f32⟩
  | .hbm, ⟨16, _⟩ => ⟨S1024, .f32⟩
  | .hbm, ⟨17, _⟩ => ⟨S1x5632, .f32⟩
  | .hbm, ⟨18, _⟩ => ⟨S1x1024, .f32⟩
  | .hbm, ⟨19, _⟩ => ⟨S1x1024, .f32⟩
  | .hbm, ⟨20, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x5632, .bf16⟩
  | .local _ .vmem, ⟨5, _⟩ => ⟨S3x5632, .f32⟩
  | .local _ .vmem, ⟨6, _⟩ => ⟨S1x5632, .f32⟩
  | .local _ .vmem, ⟨7, _⟩ => ⟨S2816x1024, .bf16⟩
  | .local _ .vmem, ⟨8, _⟩ => ⟨S1x1024, .f32⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1024x1024, .bf16⟩
  | .local _ .vmem, ⟨13, _⟩ => ⟨S8x5632, .f32⟩
  | .local _ .vmem, ⟨14, _⟩ => ⟨S1024x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnRefIdeal.lean ====
abbrev S8x2048x1024 : Shape := ⟨3, ![8, 2048, 1024]⟩
abbrev S8x6144 : Shape := ⟨2, ![8, 6144]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x1024 : Shape := ⟨2, ![1, 1024]⟩
abbrev S8x1x6144 : Shape := ⟨3, ![8, 1, 6144]⟩
abbrev S8x1x1024 : Shape := ⟨3, ![8, 1, 1024]⟩
abbrev S_ : Shape := ⟨0, ![]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x2048x5632 : Shape := ⟨3, ![8, 2048, 5632]⟩
abbrev S8x2050x5632 : Shape := ⟨3, ![8, 2050, 5632]⟩
abbrev S1x1x5632 : Shape := ⟨3, ![1, 1, 5632]⟩
abbrev S8x2048x2816 : Shape := ⟨3, ![8, 2048, 2816]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 106
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1x1024, .f32⟩
  | .hbm, ⟨7, _⟩ => ⟨S1x1024, .f32⟩
  | .hbm, ⟨8, _⟩ => ⟨S8x1x6144, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S_, .f32⟩
  | .hbm, ⟨16, _⟩ => ⟨S8x1x1024, .f32⟩
  | .hbm, ⟨17, _⟩ => ⟨S8x1x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S1024x5632, .f32⟩
  | .hbm, ⟨23, _⟩ => ⟨S3x5632, .f32⟩
  | .hbm, ⟨24, _⟩ => ⟨S5632, .f32⟩
  | .hbm, ⟨25, _⟩ => ⟨S2816x1024, .f32⟩
  | .hbm, ⟨26, _⟩ => ⟨S8x2048x5632, .f32⟩
  | .hbm, ⟨27, _⟩ => ⟨S_, .i32⟩
  | .hbm, ⟨28, _⟩ => ⟨S_, .f32⟩
  | .hbm, ⟨29, _⟩ => ⟨S8x2050x5632, .f32⟩
  | .hbm, ⟨30, _⟩ => ⟨S8x2048x5632, .f32⟩
  | .hbm, ⟨31, _⟩ => ⟨S1x5632, .f32⟩
  | .hbm, ⟨32, _⟩ => ⟨S5632, .f32⟩
  | .hbm, ⟨33, _⟩ => ⟨S1x1x5632, .f32⟩
  | .hbm, ⟨34, _⟩ => ⟨S8x2048x5632, .f32⟩
  | .hbm, ⟨35, _⟩ => ⟨S8x2048x5632, .f32⟩
  | .hbm, ⟨36, _⟩ => ⟨S8x2048x5632, .f32⟩
  | .hbm, ⟨37, _⟩ => ⟨S1x5632, .f32⟩
  | .hbm, ⟨38, _⟩ => ⟨S5632, .f32⟩
  | .hbm, ⟨39, _⟩ => ⟨S1x1x5632, .f32⟩
  | .hbm, ⟨40, _⟩ => ⟨S8x2048x5632, .f32⟩
  | .hbm, ⟨41, _⟩ => ⟨S8x2048x5632, .f32⟩
  | .hbm, ⟨42, _⟩ => ⟨S8x2048x5632, .f32⟩
  | .hbm, ⟨43, _⟩ => ⟨S8x2048x5632, .f32⟩
  | .hbm, ⟨44, _⟩ => ⟨S1x5632, .f32⟩
  | .hbm, ⟨45, _⟩ => ⟨S5632, .f32⟩
  | .hbm, ⟨46, _⟩ => ⟨S1x1x5632, .f32⟩
  | .hbm, ⟨47, _⟩ => ⟨S8x2048x5632, .f32⟩
  | .hbm, ⟨48, _⟩ => ⟨S8x2048x5632, .f32⟩
  | .hbm, ⟨49, _⟩ => ⟨S8x2048x5632, .f32⟩
  | .hbm, ⟨50, _⟩ => ⟨S1x1x5632, .f32⟩
  | .hbm, ⟨51, _⟩ => ⟨S8x2048x5632, .f32⟩
  | .hbm, ⟨52, _⟩ => ⟨S8x2048x5632, .f32⟩
  | .hbm, ⟨53, _⟩ => ⟨S8x2048x2816, .f32⟩
  | .hbm, ⟨54, _⟩ => ⟨S8x2048x2816, .f32⟩
  | .hbm, ⟨55, _⟩ => ⟨S8x2048x2816, .f32⟩
  | .hbm, ⟨56, _⟩ => ⟨S8x2048x2816, .f32⟩
  | .hbm, ⟨57, _⟩ => ⟨S_, .f32⟩
  | .hbm, ⟨58, _⟩ => ⟨S8x2048x2816, .f32⟩
  | .hbm, ⟨59, _⟩ => ⟨S8x2048x2816, .f32⟩
  | .hbm, ⟨60, _⟩ => ⟨S_, .f32⟩
  | .hbm, ⟨61, _⟩ => ⟨S8x2048x2816, .f32⟩
  | .hbm, ⟨62, _⟩ => ⟨S8x2048x2816, .f32⟩
  | .hbm, ⟨63, _⟩ => ⟨S8x2048x2816, .f32⟩
  | .hbm, ⟨64, _⟩ => ⟨S8x2048x2816, .f32⟩
  | .hbm, ⟨65, _⟩ => ⟨S8x2048x1024, .f32⟩
  | .hbm, ⟨66, _⟩ => ⟨S_, .f32⟩
  | .hbm, ⟨67, _⟩ => ⟨S8x2048x1024, .f32⟩
  | .hbm, ⟨68, _⟩ => ⟨S8x2048x1024, .f32⟩
  | .hbm, ⟨69, _⟩ => ⟨S_, .f32⟩
  | .hbm, ⟨70, _⟩ => ⟨S8x1x1024, .f32⟩
  | .hbm, ⟨71, _⟩ => ⟨S8x1x1024, .f32⟩
  | .hbm, ⟨72, _⟩ => ⟨S8x2048x1024, .f32⟩
  | .hbm, ⟨73, _⟩ => ⟨S8x2048x1024, .f32⟩
  | .hbm, ⟨74, _⟩ => ⟨S8x2048x1024, .f32⟩
  | .hbm, ⟨75, _⟩ => ⟨S1024, .f32⟩
  | .hbm, ⟨76, _⟩ => ⟨S1024, .f32⟩
  | .hbm, ⟨77, _⟩ => ⟨S_, .f32⟩
  | .hbm, ⟨78, _⟩ => ⟨S8x2048, .f32⟩
  | .hbm, ⟨79, _⟩ => ⟨S8x2048x1, .f32⟩
  | .hbm, ⟨80, _⟩ => ⟨S_, .f32⟩
  | .hbm, ⟨81, _⟩ => ⟨S8x2048x1, .f32⟩
  | .hbm, ⟨82, _⟩ => ⟨S8x2048x1, .f32⟩
  | .hbm, ⟨83, _⟩ => ⟨S8x2048x1024, .f32⟩
  | .hbm, ⟨84, _⟩ => ⟨S8x2048x1024, .f32⟩
  | .hbm, ⟨85, _⟩ => ⟨S8x2048x1024, .f32⟩
  | .hbm, ⟨86, _⟩ => ⟨S_, .f32⟩
  | .hbm, ⟨87, _⟩ => ⟨S8x2048, .f32⟩
  | .hbm, ⟨88, _⟩ => ⟨S8x2048x1, .f32⟩
  | .hbm, ⟨89, _⟩ => ⟨S_, .f32⟩
  | .hbm, ⟨90, _⟩ => ⟨S8x2048x1, .f32⟩
  | .hbm, ⟨91, _⟩ => ⟨S8x2048x1, .f32⟩
  | .hbm, ⟨92, _⟩ => ⟨S8x2048x1024, .f32⟩
  | .hbm, ⟨93, _⟩ => ⟨S8x2048x1024, .f32⟩
  | .hbm, ⟨94, _⟩ => ⟨S_, .f32⟩
  | .hbm, ⟨95, _⟩ => ⟨S8x2048x1, .f32⟩
  | .hbm, ⟨96, _⟩ => ⟨S8x2048x1, .f32⟩
  | .hbm, ⟨97, _⟩ => ⟨S8x2048x1, .f32⟩
  | .hbm, ⟨98, _⟩ => ⟨S8x2048x1024, .f32⟩
  | .hbm, ⟨99, _⟩ => ⟨S8x2048x1024, .f32⟩
  | .hbm, ⟨100, _⟩ => ⟨S1x1x1024, .f32⟩
  | .hbm, ⟨101, _⟩ => ⟨S8x2048x1024, .f32⟩
  | .hbm, ⟨102, _⟩ => ⟨S8x2048x1024, .f32⟩
  | .hbm, ⟨103, _⟩ => ⟨S1x1x1024, .f32⟩
  | .hbm, ⟨104, _⟩ => ⟨S8x2048x1024, .f32⟩
  | .hbm, ⟨105, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_0 : Ref sig .tc := ⟨.hbm, 66, rfl⟩
abbrev main_v47 : Ref sig .tc := ⟨.hbm, 67, rfl⟩
abbrev main_v48 : Ref sig .tc := ⟨.hbm, 68, rfl⟩
abbrev main_cst_1 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_2 : Ref sig .tc := ⟨.hbm, 77, rfl⟩
abbrev main_v56 : Ref sig .tc := ⟨.hbm, 78, rfl⟩
abbrev main_v57 : Ref sig .tc := ⟨.hbm, 79, rfl⟩
abbrev main_cst_3 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_4 : Ref sig .tc := ⟨.hbm, 86, rfl⟩
abbrev main_v63 : Ref sig .tc := ⟨.hbm, 87, rfl⟩
abbrev main_v64 : Ref sig .tc := ⟨.hbm, 88, rfl⟩
abbrev main_cst_5 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_6 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]
-- ==== OutProj.lean ====
abbrev S8x2048x512 : Shape := ⟨3, ![8, 2048, 512]⟩
abbrev S8x2048x1024 : Shape := ⟨3, ![8, 2048, 1024]⟩
abbrev S8x6144 : Shape := ⟨2, ![8, 6144]⟩
abbrev S1x1536x1024 : Shape := ⟨3, ![1, 1536, 1024]⟩
abbrev S1x1024 : Shape := ⟨2, ![1, 1024]⟩
abbrev S8x6x1024 : Shape := ⟨3, ![8, 6, 1024]⟩
abbrev S1536x1024 : Shape := ⟨2, ![1536, 1024]⟩
abbrev S1024 : Shape := ⟨1, ![1024]⟩
abbrev S1x2048x512 : Shape := ⟨3, ![1, 2048, 512]⟩
abbrev S1x2048x1024 : Shape := ⟨3, ![1, 2048, 1024]⟩
abbrev S1x6x1024 : Shape := ⟨3, ![1, 6, 1024]⟩
abbrev S1x1x1024 : Shape := ⟨3, ![1, 1, 1024]⟩
abbrev S1x256x512 : Shape := ⟨3, ![1, 256, 512]⟩
abbrev S256x512 : Shape := ⟨2, ![256, 512]⟩
abbrev S512x1024 : Shape := ⟨2, ![512, 1024]⟩
abbrev S256x1024 : Shape := ⟨2, ![256, 1024]⟩
abbrev S1x256x1024 : Shape := ⟨3, ![1, 256, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 17
  | .vmem => 13
  | .smem => 0
  | _ => 0

abbrev bufTy : (tb : Table) → Fin (tcTables nBuf tb) → BufTy
  | .hbm, ⟨0, _⟩ => ⟨S8x2048x512, .f32⟩
  | .hbm, ⟨1, _⟩ => ⟨S8x2048x1024, .f32⟩
  | .hbm, ⟨2, _⟩ => ⟨S8x2048x1024, .f32⟩
  | .hbm, ⟨3, _⟩ => ⟨S8x6144, .f32⟩
  | .hbm, ⟨4, _⟩ => ⟨S1x1536x1024, .f32⟩
  | .hbm, ⟨5, _⟩ => ⟨S1x1024, .f32⟩
  | .hbm, ⟨6, _⟩ => ⟨S1x1024, .f32⟩
  | .hbm, ⟨7, _⟩ => ⟨S8x6x1024, .f32⟩
  | .hbm, ⟨8, _⟩ => ⟨S8x2048x512, .bf16⟩
  | .hbm, ⟨9, _⟩ => ⟨S8x2048x1024, .bf16⟩
  | .hbm, ⟨10, _⟩ => ⟨S1536x1024, .f32⟩
  | .hbm, ⟨11, _⟩ => ⟨S1536x1024, .bf16⟩
  | .hbm, ⟨12, _⟩ => ⟨S1024, .f32⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S8x2048x1024, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .f32⟩
  | .local _ .vmem, ⟨5, _⟩ => ⟨S1x2048x1024, .f32⟩
  | .local _ .vmem, ⟨6, _⟩ => ⟨S1x6x1024, .f32⟩
  | .local _ .vmem, ⟨7, _⟩ => ⟨S1x6x1024, .f32⟩
  | .local _ .vmem, ⟨8, _⟩ => ⟨S1536x1024, .bf16⟩
  | .local _ .vmem, ⟨9, _⟩ => ⟨S1x1024, .f32⟩
  | .local _ .vmem, ⟨10, _⟩ => ⟨S1x1024, .f32⟩
  | .local _ .vmem, ⟨11, _⟩ => ⟨S1x2048x1024, .f32⟩
  | .local _ .vmem, ⟨12, _⟩ => ⟨S1x2048x1024, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutProjRefIdeal.lean ====
abbrev S8x2048x512 : Shape := ⟨3, ![8, 2048, 512]⟩
abbrev S8x2048x1024 : Shape := ⟨3, ![8, 2048, 1024]⟩
abbrev S8x6144 : Shape := ⟨2, ![8, 6144]⟩
abbrev S1x1536x1024 : Shape := ⟨3, ![1, 1536, 1024]⟩
abbrev S1x1024 : Shape := ⟨2, ![1, 1024]⟩
abbrev S8x1x6144 : Shape := ⟨3, ![8, 1, 6144]⟩
abbrev S8x1x1024 : Shape := ⟨3, ![8, 1, 1024]⟩
abbrev S8x2048x1536 : Shape := ⟨3, ![8, 2048, 1536]⟩
abbrev S1536x1024 : Shape := ⟨2, ![1536, 1024]⟩
abbrev S_ : Shape := ⟨0, ![]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x1024, .f32⟩
  | .hbm, ⟨2, _⟩ => ⟨S8x2048x1024, .f32⟩
  | .hbm, ⟨3, _⟩ => ⟨S8x6144, .f32⟩
  | .hbm, ⟨4, _⟩ => ⟨S1x1536x1024, .f32⟩
  | .hbm, ⟨5, _⟩ => ⟨S1x1024, .f32⟩
  | .hbm, ⟨6, _⟩ => ⟨S1x1024, .f32⟩
  | .hbm, ⟨7, _⟩ => ⟨S8x1x6144, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x2048x1536, .f32⟩
  | .hbm, ⟨15, _⟩ => ⟨S1536x1024, .f32⟩
  | .hbm, ⟨16, _⟩ => ⟨S8x2048x1024, .f32⟩
  | .hbm, ⟨17, _⟩ => ⟨S_, .f32⟩
  | .hbm, ⟨18, _⟩ => ⟨S8x2048x1024, .f32⟩
  | .hbm, ⟨19, _⟩ => ⟨S8x2048x1024, .f32⟩
  | .hbm, ⟨20, _⟩ => ⟨S_, .f32⟩
  | .hbm, ⟨21, _⟩ => ⟨S8x1x1024, .f32⟩
  | .hbm, ⟨22, _⟩ => ⟨S8x1x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1024, .f32⟩
  | .hbm, ⟨44, _⟩ => ⟨S8x2048x1024, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S8x2048x1, .f32⟩
  | .hbm, ⟨49, _⟩ => ⟨S8x2048x1024, .f32⟩
  | .hbm, ⟨50, _⟩ => ⟨S8x2048x1024, .f32⟩
  | .hbm, ⟨51, _⟩ => ⟨S1x1x1024, .f32⟩
  | .hbm, ⟨52, _⟩ => ⟨S8x2048x1024, .f32⟩
  | .hbm, ⟨53, _⟩ => ⟨S8x2048x1024, .f32⟩
  | .hbm, ⟨54, _⟩ => ⟨S1x1x1024, .f32⟩
  | .hbm, ⟨55, _⟩ => ⟨S8x2048x1024, .f32⟩
  | .hbm, ⟨56, _⟩ => ⟨S8x2048x1024, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Proof.Norm.lean ====
/- Layer normalisation of one row of 1024 numbers, as a function of the row, and the reference's
   operations over a whole array read at an index as that function. -/
module

public import proofs.«01_k».proof.Proof.Gen.OutProjRefIdeal.Run
public import Idealize.ShloMosaic.Lib.Pointwise

@[expose] public section

set_option maxRecDepth 16384

noncomputable section

open Idealize.ShloMosaic Idealize.ShloMosaic.TcCoe Idealize.SL.Sem

namespace Cert.Norm

/-- Layer normalisation of the row `r` at lane `d`: centre, divide by the root of the variance plus the
    epsilon, scale by `g` and shift by `b`. -/
def row (r : Fin 1024 → EReal) (g b : EReal) (d : Fin 1024) : EReal :=
  (r d - Ideal.div (∑ k, r k) (Ideal.ofBits .f32 0x44800000#32))
    * Ideal.rsqrt (Ideal.div (∑ k, (r k - Ideal.div (∑ k, r k) (Ideal.ofBits .f32 0x44800000#32))
        * (r k - Ideal.div (∑ k, r k) (Ideal.ofBits .f32 0x44800000#32))) (Ideal.ofBits .f32 0x44800000#32)
      + Ideal.ofBits .f32 0x3727C5AC#32) * g + b

section Host
open Cert.OutProjRefIdeal Cert.OutProjRefIdeal.Gen

/-- The row means of an array, as the reference computes them. -/
def meanH (x : FVec Ideal S8x2048x1024 .f32) : FVec Ideal S8x2048x1 .f32 :=
  Host.divf (broadcastInDim S8x2048x1 ![0, 1] bcast_S8x2048_S8x2048x1_0_1
      (Host.reduceAdd x (constant S_ .f32 0x00000000#32) reducesTo_S8x2048x1024_S8x2048_d2 h_S_))
    (broadcastInDim S8x2048x1 ![] bcast_S_S8x2048x1 (constant S_ .f32 0x44800000#32))

/-- The array less its row means. -/
def centreH (x : FVec Ideal S8x2048x1024 .f32) : FVec Ideal S8x2048x1024 .f32 :=
  subf x (broadcastInDim S8x2048x1024 ![0, 1, 2] bcast_S8x2048x1_S8x2048x1024_0_1_2 (meanH x))

/-- The reference's layer normalisation of an array along its last axis. -/
def lnH (x : FVec Ideal S8x2048x1024 .f32) (g b : FVec Ideal S1x1024 .f32) : FVec Ideal S8x2048x1024 .f32 :=
  addf (mulf (mulf (centreH x) (broadcastInDim S8x2048x1024 ![0, 1, 2] bcast_S8x2048x1_S8x2048x1024_0_1_2
      (Host.rsqrt (addf (meanH (mulf (centreH x) (centreH x)))
        (broadcastInDim S8x2048x1 ![] bcast_S_S8x2048x1 (constant S_ .f32 0x3727C5AC#32))))))
      (broadcastInDim S8x2048x1024 ![0, 1, 2] bcast_S1x1x1024_S8x2048x1024_0_1_2
        (broadcastInDim S1x1x1024 ![2] bcast_S1024_S1x1x1024_2 (shapeCast S1024 g shapeCasts_S1x1024_S1024))))
    (broadcastInDim S8x2048x1024 ![0, 1, 2] bcast_S1x1x1024_S8x2048x1024_0_1_2
      (broadcastInDim S1x1x1024 ![2] bcast_S1024_S1x1x1024_2 (shapeCast S1024 b shapeCasts_S1x1024_S1024)))

theorem lnH_at (x : FVec Ideal S8x2048x1024 .f32) (g b : FVec Ideal S1x1024 .f32) (i : Fin 8) (s : Fin 2048) (d : Fin 1024) :
    lnH x g b (ix3 i s d) = row (fun k => x (ix3 i s k)) (g (ix2 0 d)) (b (ix2 0 d)) d := by
  pointwise [lnH, centreH, meanH, row]

end Host
end Cert.Norm
end
-- ==== Proof.Mixer.lean ====
/- The output projection with its residual and layer normalisation: the result array of the call is the
   reference's array. -/
module

public import proofs.«01_k».proof.Proof.Norm
public import proofs.«01_k».proof.Proof.Gen.OutProjIdeal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Mixer

open Cert.Norm

section Host
open Cert.OutProjRefIdeal Cert.OutProjRefIdeal.Gen

/-- The mixer's residual sum before its normalisation. -/
def mixH (a0 : FVec Ideal S8x2048x512 .f32) (a1 : FVec Ideal S8x2048x1024 .f32) (a2 : FVec Ideal S8x2048x1024 .f32)
    (a3 : FVec Ideal S8x6144 .f32) (a4 : FVec Ideal S1x1536x1024 .f32) : FVec Ideal S8x2048x1024 .f32 :=
  addf (mulf (broadcastInDim S8x2048x1024 ![] bcast_S_S8x2048x1024 (constant S_ .f32 0x3F9837F0#32)) a2)
    (mulf (broadcastInDim S8x2048x1024 ![0, 1, 2] bcast_S8x1x1024_S8x2048x1024_0_1_2
        (addf (broadcastInDim S8x1x1024 ![] bcast_S_S8x1x1024 (constant S_ .f32 0x3F800000#32))
          (extractStridedSlice S8x1x1024 ![0, 0, 2048] (broadcastInDim S8x1x6144 ![0, 2] bcast_S8x6144_S8x1x6144_0_2 a3)
            slices_S8x1x6144_S8x1x1024_0_0_2048)))
      (Host.dotGeneral dot_S8x2048x1536_S1536x1024_S8x2048x1024_2_0_01_1_n_n none
        (concatenate S8x2048x1536 2 [⟨S8x2048x512, a0⟩, ⟨S8x2048x1024, a1⟩] concatenates_S8x2048x512_S8x2048x1024_S8x2048x1536_d2)
        (shapeCast S1536x1024 a4 shapeCasts_S1x1536x1024_S1536x1024)))

theorem res_eq (m : (ℓ : Loc nD τ sig) → Buf (Elt Ideal) ℓ) (c : Dev nD) :
    Value.res_main_v42 m c = lnH (mixH (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)))
      (m ((c.tc : Thread nD τ).loc main_arg5)) (m ((c.tc : Thread nD τ).loc main_arg6)) := rfl

/-- One entry of the residual sum: the scaled stream plus the gated output projection, its contraction in the two parts
    of the concatenated operand. -/
def mix (x gate : EReal) (oa wa : Fin 512 → EReal) (y wy : Fin 1024 → EReal) : EReal :=
  Ideal.ofBits .f32 0x3F9837F0#32 * x + (1 + gate) * (∑ k, oa k * wa k + ∑ k, y k * wy k)

theorem mixH_at (a0 : FVec Ideal S8x2048x512 .f32) (a1 : FVec Ideal S8x2048x1024 .f32) (a2 : FVec Ideal S8x2048x1024 .f32)
    (a3 : FVec Ideal S8x6144 .f32) (a4 : FVec Ideal S1x1536x1024 .f32) (i : Fin 8) (s : Fin 2048) (d : Fin 1024) :
    mixH a0 a1 a2 a3 a4 (ix3 i s d) = mix (a2 (ix3 i s d)) (a3 (ix2 i ⟨2048 + d.val, by omega⟩))
      (fun k => a0 (ix3 i s k)) (fun k => a4 (ix3 0 ⟨k.val, by omega⟩ d))
      (fun k => a1 (ix3 i s k)) (fun k => a4 (ix3 0 ⟨512 + k.val, by omega⟩ d)) := by
  pointwise [mixH, mix]

end Host

section Kernel
open Cert.OutProjIdeal Cert.OutProjIdeal.Gen

/-- The first row part's output from the blocks it loads, at an index. -/
theorem part_at (md : FVec Ideal S1x1x1024 .f32) (oa : FVec Ideal S1x256x512 .bf16) (wa : FVec Ideal S512x1024 .bf16)
   (y : FVec Ideal S1x256x1024 .bf16) (wy : FVec Ideal S1024x1024 .bf16) (x : FVec Ideal S1x256x1024 .f32)
   (g b : FVec Ideal S1x1024 .f32) (r : Fin 256) (d : Fin 1024) :
   k0_pay6 (F := Ideal) (k0_pay3 g) (k0_pay4 b) (k0_pay5 md oa wa y wy x) (ix3 0 r d)
    = row (fun d => mix (x (ix3 0 r d)) (md (ix3 0 0 d)) (fun k => oa (ix3 0 r k)) (fun k => wa (ix2 k d))
        (fun k => y (ix3 0 r k)) (fun k => wy (ix2 k d))) (g (ix2 0 d)) (b (ix2 0 d)) d := by
  pointwise [k0_pay6, k0_pay3, k0_pay4, k0_pay5, k0_pay2, row, mix]

/-- A row part's output is the reference's array at the place it is stored, given that the blocks it loads are the arguments
    there. -/
theorem core (md : FVec Ideal S1x1x1024 .f32) (oa : FVec Ideal S1x256x512 .bf16) (wa : FVec Ideal S512x1024 .bf16)
   (y : FVec Ideal S1x256x1024 .bf16) (wy : FVec Ideal S1024x1024 .bf16) (x : FVec Ideal S1x256x1024 .f32)
   (g b : FVec Ideal S1x1024 .f32)
   (a0 : FVec Ideal S8x2048x512 .f32) (a1 : FVec Ideal S8x2048x1024 .f32) (a2 : FVec Ideal S8x2048x1024 .f32)
    (a3 : FVec Ideal S8x6144 .f32) (a4 : FVec Ideal S1x1536x1024 .f32) (a5 a6 : FVec Ideal S1x1024 .f32)
   (z : S1x256x1024.Idx) (j : S8x2048x1024.Idx) (hd : (j 2).val = (z 2).val)
   (hmd : ∀ k : Fin 1024, md (ix3 0 0 k) = a3 (ix2 (j 0) ⟨2048 + k.val, by omega⟩))
   (hoa : ∀ k : Fin 512, oa (ix3 0 (z 1) k) = a0 (ix3 (j 0) (j 1) k))
   (hwa : ∀ (k : Fin 512) (d : Fin 1024), wa (ix2 k d) = a4 (ix3 0 ⟨k.val, by omega⟩ d))
   (hy : ∀ k : Fin 1024, y (ix3 0 (z 1) k) = a1 (ix3 (j 0) (j 1) k))
   (hwy : ∀ (k : Fin 1024) (d : Fin 1024), wy (ix2 k d) = a4 (ix3 0 ⟨512 + k.val, by omega⟩ d))
   (hx : ∀ k : Fin 1024, x (ix3 0 (z 1) k) = a2 (ix3 (j 0) (j 1) k))
   (hg : ∀ k : Fin 1024, g (ix2 0 k) = a5 (ix2 0 k)) (hb : ∀ k : Fin 1024, b (ix2 0 k) = a6 (ix2 0 k)) :
   k0_pay6 (F := Ideal) (k0_pay3 g) (k0_pay4 b) (k0_pay5 md oa wa y wy x) z = lnH (mixH a0 a1 a2 a3 a4) a5 a6 j := by
  idx_vars z
  idx_vars j
  obtain rfl : z0 = 0 := Subsingleton.elim _ _
  obtain rfl : j2 = z2 := Fin.ext hd
  rw [lnH_at]
  refine (part_at md oa wa y wy x g b z1 j2).trans ?_
  simp only [mixH_at]
  have e1 : ∀ k : Fin 512, oa (ix3 0 z1 k) = a0 (ix3 j0 j1 k) := hoa
  have e2 : ∀ k : Fin 1024, y (ix3 0 z1 k) = a1 (ix3 j0 j1 k) := hy
  have e3 : ∀ k : Fin 1024, x (ix3 0 z1 k) = a2 (ix3 j0 j1 k) := hx
  have e4 : ∀ k : Fin 1024, md (ix3 0 0 k) = a3 (ix2 j0 ⟨2048 + k.val, by omega⟩) := hmd
  simp only [e1, e2, e3, e4, hwa, hwy, hg, hb]

end Kernel

section Final
open Cert.OutProjIdeal Cert.OutProjIdeal.Gen
open Idealize.ShloMosaic.Pipeline (Dat)

variable (m : (ℓ : Loc nD τ sig) → Buf (Elt Ideal) ℓ)

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![0, 0] ∧ win0_5.index t = ![0, 0] ∧ win0_6.index t = ![0, 0]
    ∧ win0_7.index t = ![t.val, 0, 0] :=
  (by decide +kernel : ∀ t : Fin grid0.N, _)

theorem b0 (c : Dev nD) (t : Fin cfg0.N) (i : Fin 8) (hi : i.val = t.val) (s s' : Fin 2048) (hs : s'.val = s.val) (k : Fin 512) :
    iblk m c 0 t (ix3 0 s k) = m ((c.tc : Thread nD τ).loc main_arg0) (ix3 i s' k) := by
  blk_point [iblk, V, idx t]

theorem b1 (c : Dev nD) (t : Fin cfg0.N) (i : Fin 8) (hi : i.val = t.val) (s s' : Fin 2048) (hs : s'.val = s.val) (k : Fin 1024) :
    iblk m c 1 t (ix3 0 s k) = m ((c.tc : Thread nD τ).loc main_arg1) (ix3 i s' k) := by
  blk_point [iblk, V, idx t]

theorem b2 (c : Dev nD) (t : Fin cfg0.N) (i : Fin 8) (hi : i.val = t.val) (s s' : Fin 2048) (hs : s'.val = s.val) (k : Fin 1024) :
    iblk m c 2 t (ix3 0 s k) = m ((c.tc : Thread nD τ).loc main_arg2) (ix3 i s' k) := by
  blk_point [iblk, V, idx t]

theorem b3 (c : Dev nD) (t : Fin cfg0.N) (i : Fin 8) (hi : i.val = t.val) (k : Fin 1024) :
    iblk m c 3 t (ix3 0 2 k) = m ((c.tc : Thread nD τ).loc main_arg3) (ix2 i ⟨2048 + k.val, by omega⟩) := by
  blk_point [iblk, V, idx t]

theorem b4 (c : Dev nD) (t : Fin cfg0.N) (k : Fin 1536) (d : Fin 1024) :
    iblk m c 4 t (ix2 k d) = m ((c.tc : Thread nD τ).loc main_arg4) (ix3 0 k d) := by
  blk_point [iblk, V, idx t]

theorem b5 (c : Dev nD) (t : Fin cfg0.N) (d : Fin 1024) :
    iblk m c 5 t (ix2 0 d) = m ((c.tc : Thread nD τ).loc main_arg5) (ix2 0 d) := by
  blk_point [iblk, V, idx t]

theorem b6 (c : Dev nD) (t : Fin cfg0.N) (d : Fin 1024) :
    iblk m c 6 t (ix2 0 d) = m ((c.tc : Thread nD τ).loc main_arg6) (ix2 0 d) := by
  blk_point [iblk, V, idx t]

set_option maxHeartbeats 1600000 in
theorem point (c : Dev nD) (t : Fin cfg0.N) (y : S1x2048x1024.Idx) :
    out0_7 (iblk m c 0 t) (iblk m c 1 t) (iblk m c 2 t) (iblk m c 3 t) (iblk m c 4 t) (iblk m c 5 t) (iblk m c 6 t) y
    = lnH (mixH (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)))
      (m ((c.tc : Thread nD τ).loc main_arg5)) (m ((c.tc : Thread nD τ).loc main_arg6)) (((cfg0.win 7).blk t).view.emb y) := by
  have e0 : ((((cfg0.win 7).blk t).view.emb y) 0 : ℕ) = t.val := by
    have : (y 0).val < 1 := (y 0).isLt
    blk_simp [idx t] <;> (try omega)
  have e1 : ((((cfg0.win 7).blk t).view.emb y) 1 : ℕ) = (y 1).val := by blk_simp [idx t] <;> (try omega)
  have e2 : ((((cfg0.win 7).blk t).view.emb y) 2 : ℕ) = (y 2).val := by blk_simp [idx t] <;> (try omega)
  canon_tiles x h
  · refine core (View.ld (iblk m c 3 t) r0_0) (View.ld (iblk m c 0 t) r0_18) (View.ld (iblk m c 4 t) r0_2) (View.ld (iblk m c 1 t) r0_19)
      (View.ld (iblk m c 4 t) r0_4) (View.ld (iblk m c 2 t) r0_19) (View.ld (iblk m c 5 t) r0_5) (View.ld (iblk m c 6 t) r0_5) _ _ _ _ _ _ _ x _ (e2.trans h2)
      (fun k => ?_) (fun k => ?_) (fun k d => ?_) (fun k => ?_) (fun k d => ?_) (fun k => ?_) (fun k => ?_) (fun k => ?_)
    all_goals pointwise
    · exact b3 m c t _ e0 k
    · exact b0 m c t _ e0 _ _ (e1.trans h1) k
    · exact b4 m c t _ d
    · exact b1 m c t _ e0 _ _ (e1.trans h1) k
    · exact b4 m c t _ d
    · exact b2 m c t _ e0 _ _ (e1.trans h1) k
    · exact b5 m c t k
    · exact b6 m c t k
  · refine core (View.ld (iblk m c 3 t) r0_0) (View.ld (iblk m c 0 t) r0_16) (View.ld (iblk m c 4 t) r0_2) (View.ld (iblk m c 1 t) r0_17)
      (View.ld (iblk m c 4 t) r0_4) (View.ld (iblk m c 2 t) r0_17) (View.ld (iblk m c 5 t) r0_5) (View.ld (iblk m c 6 t) r0_5) _ _ _ _ _ _ _ x _ (e2.trans h2)
      (fun k => ?_) (fun k => ?_) (fun k d => ?_) (fun k => ?_) (fun k d => ?_) (fun k => ?_) (fun k => ?_) (fun k => ?_)
    all_goals pointwise
    · exact b3 m c t _ e0 k
    · exact b0 m c t _ e0 _ _ (e1.trans h1) k
    · exact b4 m c t _ d
    · exact b1 m c t _ e0 _ _ (e1.trans h1) k
    · exact b4 m c t _ d
    · exact b2 m c t _ e0 _ _ (e1.trans h1) k
    · exact b5 m c t k
    · exact b6 m c t k
  · refine core (View.ld (iblk m c 3 t) r0_0) (View.ld (iblk m c 0 t) r0_14) (View.ld (iblk m c 4 t) r0_2) (View.ld (iblk m c 1 t) r0_15)
      (View.ld (iblk m c 4 t) r0_4) (View.ld (iblk m c 2 t) r0_15) (View.ld (iblk m c 5 t) r0_5) (View.ld (iblk m c 6 t) r0_5) _ _ _ _ _ _ _ x _ (e2.trans h2)
      (fun k => ?_) (fun k => ?_) (fun k d => ?_) (fun k => ?_) (fun k d => ?_) (fun k => ?_) (fun k => ?_) (fun k => ?_)
    all_goals pointwise
    · exact b3 m c t _ e0 k
    · exact b0 m c t _ e0 _ _ (e1.trans h1) k
    · exact b4 m c t _ d
    · exact b1 m c t _ e0 _ _ (e1.trans h1) k
    · exact b4 m c t _ d
    · exact b2 m c t _ e0 _ _ (e1.trans h1) k
    · exact b5 m c t k
    · exact b6 m c t k
  · refine core (View.ld (iblk m c 3 t) r0_0) (View.ld (iblk m c 0 t) r0_12) (View.ld (iblk m c 4 t) r0_2) (View.ld (iblk m c 1 t) r0_13)
      (View.ld (iblk m c 4 t) r0_4) (View.ld (iblk m c 2 t) r0_13) (View.ld (iblk m c 5 t) r0_5) (View.ld (iblk m c 6 t) r0_5) _ _ _ _ _ _ _ x _ (e2.trans h2)
      (fun k => ?_) (fun k => ?_) (fun k d => ?_) (fun k => ?_) (fun k d => ?_) (fun k => ?_) (fun k => ?_) (fun k => ?_)
    all_goals pointwise
    · exact b3 m c t _ e0 k
    · exact b0 m c t _ e0 _ _ (e1.trans h1) k
    · exact b4 m c t _ d
    · exact b1 m c t _ e0 _ _ (e1.trans h1) k
    · exact b4 m c t _ d
    · exact b2 m c t _ e0 _ _ (e1.trans h1) k
    · exact b5 m c t k
    · exact b6 m c t k
  · refine core (View.ld (iblk m c 3 t) r0_0) (View.ld (iblk m c 0 t) r0_10) (View.ld (iblk m c 4 t) r0_2) (View.ld (iblk m c 1 t) r0_11)
      (View.ld (iblk m c 4 t) r0_4) (View.ld (iblk m c 2 t) r0_11) (View.ld (iblk m c 5 t) r0_5) (View.ld (iblk m c 6 t) r0_5) _ _ _ _ _ _ _ x _ (e2.trans h2)
      (fun k => ?_) (fun k => ?_) (fun k d => ?_) (fun k => ?_) (fun k d => ?_) (fun k => ?_) (fun k => ?_) (fun k => ?_)
    all_goals pointwise
    · exact b3 m c t _ e0 k
    · exact b0 m c t _ e0 _ _ (e1.trans h1) k
    · exact b4 m c t _ d
    · exact b1 m c t _ e0 _ _ (e1.trans h1) k
    · exact b4 m c t _ d
    · exact b2 m c t _ e0 _ _ (e1.trans h1) k
    · exact b5 m c t k
    · exact b6 m c t k
  · refine core (View.ld (iblk m c 3 t) r0_0) (View.ld (iblk m c 0 t) r0_8) (View.ld (iblk m c 4 t) r0_2) (View.ld (iblk m c 1 t) r0_9)
      (View.ld (iblk m c 4 t) r0_4) (View.ld (iblk m c 2 t) r0_9) (View.ld (iblk m c 5 t) r0_5) (View.ld (iblk m c 6 t) r0_5) _ _ _ _ _ _ _ x _ (e2.trans h2)
      (fun k => ?_) (fun k => ?_) (fun k d => ?_) (fun k => ?_) (fun k d => ?_) (fun k => ?_) (fun k => ?_) (fun k => ?_)
    all_goals pointwise
    · exact b3 m c t _ e0 k
    · exact b0 m c t _ e0 _ _ (e1.trans h1) k
    · exact b4 m c t _ d
    · exact b1 m c t _ e0 _ _ (e1.trans h1) k
    · exact b4 m c t _ d
    · exact b2 m c t _ e0 _ _ (e1.trans h1) k
    · exact b5 m c t k
    · exact b6 m c t k
  · refine core (View.ld (iblk m c 3 t) r0_0) (View.ld (iblk m c 0 t) r0_6) (View.ld (iblk m c 4 t) r0_2) (View.ld (iblk m c 1 t) r0_7)
      (View.ld (iblk m c 4 t) r0_4) (View.ld (iblk m c 2 t) r0_7) (View.ld (iblk m c 5 t) r0_5) (View.ld (iblk m c 6 t) r0_5) _ _ _ _ _ _ _ x _ (e2.trans h2)
      (fun k => ?_) (fun k => ?_) (fun k d => ?_) (fun k => ?_) (fun k d => ?_) (fun k => ?_) (fun k => ?_) (fun k => ?_)
    all_goals pointwise
    · exact b3 m c t _ e0 k
    · exact b0 m c t _ e0 _ _ (e1.trans h1) k
    · exact b4 m c t _ d
    · exact b1 m c t _ e0 _ _ (e1.trans h1) k
    · exact b4 m c t _ d
    · exact b2 m c t _ e0 _ _ (e1.trans h1) k
    · exact b5 m c t k
    · exact b6 m c t k
  · refine core (View.ld (iblk m c 3 t) r0_0) (View.ld (iblk m c 0 t) r0_1) (View.ld (iblk m c 4 t) r0_2) (View.ld (iblk m c 1 t) r0_3)
      (View.ld (iblk m c 4 t) r0_4) (View.ld (iblk m c 2 t) r0_3) (View.ld (iblk m c 5 t) r0_5) (View.ld (iblk m c 6 t) r0_5) _ _ _ _ _ _ _ x _ (e2.trans h2)
      (fun k => ?_) (fun k => ?_) (fun k d => ?_) (fun k => ?_) (fun k d => ?_) (fun k => ?_) (fun k => ?_) (fun k => ?_)
    all_goals pointwise
    · exact b3 m c t _ e0 k
    · exact b0 m c t _ e0 _ _ (e1.trans h1) k
    · exact b4 m c t _ d
    · exact b1 m c t _ e0 _ _ (e1.trans h1) k
    · exact b4 m c t _ d
    · exact b2 m c t _ e0 _ _ (e1.trans h1) k
    · exact b5 m c t k
    · exact b6 m c t k

/-- The call's result array is the reference's. -/
theorem final (c : Dev nD) : (dats m 0 c).arrAt 7 (cfgs 0).N
    = lnH (mixH (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)))
      (m ((c.tc : Thread nD τ).loc main_arg5)) (m ((c.tc : Thread nD τ).loc main_arg6)) := by
  refine (dats m 0 c).arrAt_eq_of_covers 7 _ (by decide +kernel) fun t hf y => ?_
  blk_simp
  rw [after0_7]
  exact point m c t y

end Final
end Cert.Mixer
end
-- ==== Proof.FfnBlock.lean ====
/- The gated block: the reference's array as a chain of host functions of its arguments, and the
   numbers of one row (the rows before it in the convolution, the gated unit, the normalisation). -/
module

public import proofs.«01_k».proof.Proof.Norm
public import proofs.«01_k».proof.Proof.Gen.FfnIdeal.Value
public import proofs.«01_k».proof.Proof.Gen.FfnRefIdeal.Run
public import Idealize.ShloMosaic.Lib.Pipeline.ReadBack
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.FfnBlock

section Host
open Cert.FfnRefIdeal Cert.FfnRefIdeal.Gen

/-- One modulation vector of the six, by its lane offset's slice, one row per batch entry. -/
def modH (o : ℕ) (h : S8x1x6144.Slices ![0, 0, o] S8x1x1024) (a1 : FVec Ideal S8x6144 .f32) : FVec Ideal S8x1x1024 .f32 :=
  extractStridedSlice S8x1x1024 ![0, 0, o] (broadcastInDim S8x1x6144 ![0, 2] bcast_S8x6144_S8x1x6144_0_2 a1) h

/-- One plus a modulation vector. -/
def oneH (v : FVec Ideal S8x1x1024 .f32) : FVec Ideal S8x1x1024 .f32 :=
  addf (broadcastInDim S8x1x1024 ![] bcast_S_S8x1x1024 (constant S_ .f32 0x3F800000#32)) v

/-- The modulated input of the gated block, projected up. -/
def upH (a0 : FVec Ideal S8x2048x1024 .f32) (a1 : FVec Ideal S8x6144 .f32) (a2 : FVec Ideal S1x1024x5632 .f32) :
    FVec Ideal S8x2048x5632 .f32 :=
  Host.dotGeneral dot_S8x2048x1024_S1024x5632_S8x2048x5632_2_0_01_1_n_n none
    (addf (mulf a0 (broadcastInDim S8x2048x1024 ![0, 1, 2] bcast_S8x1x1024_S8x2048x1024_0_1_2
        (oneH (modH 4096 slices_S8x1x6144_S8x1x1024_0_0_4096 a1))))
      (broadcastInDim S8x2048x1024 ![0, 1, 2] bcast_S8x1x1024_S8x2048x1024_0_1_2 (modH 3072 slices_S8x1x6144_S8x1x1024_0_0_3072 a1)))
    (shapeCast S1024x5632 a2 shapeCasts_S1x1024x5632_S1024x5632)

/-- Two zero rows before each sequence. -/
def padH (u : FVec Ideal S8x2048x5632 .f32) : FVec Ideal S8x2050x5632 .f32 :=
  pad S8x2050x5632 ![0, 2, 0] ![0, 0, 0] ![0, 0, 0] u (sitofp .f32 (constantI S_ 32 0#32)) pads_S8x2048x5632_S8x2050x5632_000_200_000 h_S_

/-- One row of the convolution's weights, spread over the array. -/
def tapH (o : ℕ) (h : S3x5632.Slices ![o, 0] S1x5632) (a3 : FVec Ideal S1x3x5632 .f32) : FVec Ideal S8x2048x5632 .f32 :=
  broadcastInDim S8x2048x5632 ![0, 1, 2] bcast_S1x1x5632_S8x2048x5632_0_1_2
    (broadcastInDim S1x1x5632 ![2] bcast_S5632_S1x1x5632_2
      (shapeCast S5632 (extractStridedSlice S1x5632 ![o, 0] (shapeCast S3x5632 a3 shapeCasts_S1x3x5632_S3x5632) h) shapeCasts_S1x5632_S5632))

/-- The depthwise causal convolution of three taps, with its bias. -/
def convH (u : FVec Ideal S8x2048x5632 .f32) (a3 : FVec Ideal S1x3x5632 .f32) (a4 : FVec Ideal S1x5632 .f32) : FVec Ideal S8x2048x5632 .f32 :=
  addf (addf (addf
      (mulf (extractStridedSlice S8x2048x5632 ![0, 0, 0] (padH u) slices_S8x2050x5632_S8x2048x5632_0_0_0) (tapH 0 slices_S3x5632_S1x5632_0_0 a3))
      (mulf (extractStridedSlice S8x2048x5632 ![0, 1, 0] (padH u) slices_S8x2050x5632_S8x2048x5632_0_1_0) (tapH 1 slices_S3x5632_S1x5632_1_0 a3)))
      (mulf (extractStridedSlice S8x2048x5632 ![0, 2, 0] (padH u) slices_S8x2050x5632_S8x2048x5632_0_2_0) (tapH 2 slices_S3x5632_S1x5632_2_0 a3)))
    (broadcastInDim S8x2048x5632 ![0, 1, 2] bcast_S1x1x5632_S8x2048x5632_0_1_2
      (broadcastInDim S1x1x5632 ![2] bcast_S5632_S1x1x5632_2 (shapeCast S5632 a4 shapeCasts_S1x5632_S5632)))

/-- The sigmoid-weighted unit of the gate half. -/
def siluH (g : FVec Ideal S8x2048x2816 .f32) : FVec Ideal S8x2048x2816 .f32 :=
  mulf g (Host.divf (broadcastInDim S8x2048x2816 ![] bcast_S_S8x2048x2816 (constant S_ .f32 0x3F800000#32))
    (addf (broadcastInDim S8x2048x2816 ![] bcast_S_S8x2048x2816 (constant S_ .f32 0x3F800000#32)) (Host.exp (Host.negf g))))

/-- The gated product of the two halves. -/
def gateH (v : FVec Ideal S8x2048x5632 .f32) : FVec Ideal S8x2048x2816 .f32 :=
  mulf (siluH (extractStridedSlice S8x2048x2816 ![0, 0, 0] v slices_S8x2048x5632_S8x2048x2816_0_0_0))
    (extractStridedSlice S8x2048x2816 ![0, 0, 2816] v slices_S8x2048x5632_S8x2048x2816_0_0_2816)

/-- The block's residual sum before its normalisation. -/
def sumH (act : FVec Ideal S8x2048x2816 .f32) (a0 : FVec Ideal S8x2048x1024 .f32) (a1 : FVec Ideal S8x6144 .f32)
    (a5 : FVec Ideal S1x2816x1024 .f32) : FVec Ideal S8x2048x1024 .f32 :=
  addf (mulf (broadcastInDim S8x2048x1024 ![] bcast_S_S8x2048x1024 (constant S_ .f32 0x3F9837F0#32)) a0)
    (mulf (broadcastInDim S8x2048x1024 ![0, 1, 2] bcast_S8x1x1024_S8x2048x1024_0_1_2
        (oneH (modH 5120 slices_S8x1x6144_S8x1x1024_0_0_5120 a1)))
      (Host.dotGeneral dot_S8x2048x2816_S2816x1024_S8x2048x1024_2_0_01_1_n_n none act
        (shapeCast S2816x1024 a5 shapeCasts_S1x2816x1024_S2816x1024)))

/-- The gated block over its arguments. -/
def ffnH (a0 : FVec Ideal S8x2048x1024 .f32) (a1 : FVec Ideal S8x6144 .f32) (a2 : FVec Ideal S1x1024x5632 .f32)
    (a3 : FVec Ideal S1x3x5632 .f32) (a4 : FVec Ideal S1x5632 .f32) (a5 : FVec Ideal S1x2816x1024 .f32)
    (a6 a7 : FVec Ideal S1x1024 .f32) : FVec Ideal S8x2048x1024 .f32 :=
  Norm.lnH (sumH (gateH (convH (upH a0 a1 a2) a3 a4)) a0 a1 a5) a6 a7

theorem res_eq (m : (ℓ : Loc nD τ sig) → Buf (Elt Ideal) ℓ) (c : Dev nD) :
    Value.res_main_v79 m c = ffnH (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := rfl

theorem upH_at (a0 : FVec Ideal S8x2048x1024 .f32) (a1 : FVec Ideal S8x6144 .f32) (a2 : FVec Ideal S1x1024x5632 .f32)
    (i : Fin 8) (s : Fin 2048) (n : Fin 5632) :
    upH a0 a1 a2 (ix3 i s n) = ∑ k : Fin 1024, (a0 (ix3 i s k) * (1 + a1 (ix2 i ⟨4096 + k.val, by omega⟩))
      + a1 (ix2 i ⟨3072 + k.val, by omega⟩)) * a2 (ix3 0 k n) := by
  pointwise [upH, oneH, modH]

/-- A sequence's value two places before a place, zero before its beginning. -/
def prev (u : FVec Ideal S8x2048x5632 .f32) (i : Fin 8) (n : Fin 5632) (p : ℕ) : EReal :=
  if h : 2 ≤ p ∧ p - 2 < 2048 then u (ix3 i ⟨p - 2, h.2⟩ n) else 0

theorem convH_at (u : FVec Ideal S8x2048x5632 .f32) (a3 : FVec Ideal S1x3x5632 .f32) (a4 : FVec Ideal S1x5632 .f32)
    (i : Fin 8) (s : Fin 2048) (n : Fin 5632) :
    convH u a3 a4 (ix3 i s n) = prev u i n s.val * a3 (ix3 0 0 n) + prev u i n (1 + s.val) * a3 (ix3 0 1 n)
      + u (ix3 i s n) * a3 (ix3 0 2 n) + a4 (ix2 0 n) := by
  have hz : (FloatOps.sitofp FTy.f32 0#32 : Ideal .f32) = (0 : EReal) := by
    show ((((0#32 : BitVec 32).toInt : ℝ)) : EReal) = 0
    simp
  pointwise [convH, tapH, padH, prev, hz]

theorem gateH_at (v : FVec Ideal S8x2048x5632 .f32) (i : Fin 8) (s : Fin 2048) (n : Fin 2816) :
    gateH v (ix3 i s n) = v (ix3 i s ⟨n.val, by omega⟩) * Ideal.div 1 (1 + Ideal.exp (-v (ix3 i s ⟨n.val, by omega⟩)))
      * v (ix3 i s ⟨2816 + n.val, by omega⟩) := by
  pointwise [gateH, siluH]

/-- The residual sum at one place, over the gated row. -/
def res (x g : EReal) (act w : Fin 2816 → EReal) : EReal :=
  Ideal.ofBits .f32 0x3F9837F0#32 * x + (1 + g) * ∑ k, act k * w k

theorem sumH_at (act : FVec Ideal S8x2048x2816 .f32) (a0 : FVec Ideal S8x2048x1024 .f32) (a1 : FVec Ideal S8x6144 .f32)
    (a5 : FVec Ideal S1x2816x1024 .f32) (i : Fin 8) (s : Fin 2048) (n : Fin 1024) :
    sumH act a0 a1 a5 (ix3 i s n) = res (a0 (ix3 i s n)) (a1 (ix2 i ⟨5120 + n.val, by omega⟩)) (fun k => act (ix3 i s k))
      (fun k => a5 (ix3 0 k n)) := by
  pointwise [sumH, oneH, modH, res]

end Host

section Kernel
open Cert.FfnIdeal Cert.FfnIdeal.Gen

/-- The chunk's convolution at an index: three rotated products, read through the rotation. -/
theorem conv_at (h : FVec Ideal S1024x1024 .bf16) (w : FVec Ideal S1024x256 .bf16) (halo : FVec Ideal S8x256 .f32)
    (cw : FVec Ideal S3x256 .f32) (cb : FVec Ideal S1x256 .f32) (r : Fin 1024) (n : Fin 256) (R : EReal)
    (hR : ((cw (ix2 0 n) * if h_1 : 6 + r.val < 8 then halo (ix2 ⟨6 + r.val, h_1⟩ n)
            else ∑ x : Fin 1024, h (ix2 ⟨6 + r.val - 8, by omega⟩ x) * w (ix2 x n)) +
          cw (ix2 1 n) * if h_1 : 7 + r.val < 8 then halo (ix2 ⟨7 + r.val, h_1⟩ n)
            else ∑ x : Fin 1024, h (ix2 ⟨7 + r.val - 8, by omega⟩ x) * w (ix2 x n)) +
        cw (ix2 2 n) * ∑ x, h (ix2 r x) * w (ix2 x n) + cb (ix2 0 n) = R) :
    k0_pay7 (F := Ideal) (k0_pay5 h w halo) cw cb (ix2 r n) = R := by
  have e1 : ((8 + r.val + 1032 - 1) % 1032 + 1032 - 1) % 1032 = 6 + r.val := by omega
  have e2 : (8 + r.val + 1032 - 1) % 1032 = 7 + r.val := by omega
  have e3 : (7 + r.val + 1032 - 1) % 1032 = 6 + r.val := by omega
  refine Eq.trans ?_ hR
  clear hR
  pointwise [k0_pay7, k0_pay5, k0_pay4]
  simp only [e1, e2, e3]

/-- One chunk's convolution, from its projected rows and the carried rows before them. -/
theorem conv_core (h : FVec Ideal S1024x1024 .bf16) (w : FVec Ideal S1024x256 .bf16) (halo : FVec Ideal S8x256 .f32)
    (cw : FVec Ideal S3x256 .f32) (cb : FVec Ideal S1x256 .f32)
    (u : FVec Ideal FfnRefIdeal.S8x2048x5632 .f32) (a3 : FVec Ideal S1x3x5632 .f32) (a4 : FVec Ideal S1x5632 .f32)
    (r : Fin 1024) (n : Fin 256) (i : Fin 8) (s0 : ℕ) (hs : s0 + 1024 ≤ 2048) (N : Fin 5632)
    (hu : ∀ q : Fin 1024, ∑ x : Fin 1024, h (ix2 q x) * w (ix2 x n) = u (ix3 i ⟨s0 + q.val, by omega⟩ N))
    (hh : ∀ q : Fin 8, 6 ≤ q.val → halo (ix2 q n) = prev u i N (s0 + q.val - 6))
    (hw : ∀ k : Fin 3, cw (ix2 k n) = a3 (ix3 0 k N)) (hb : cb (ix2 0 n) = a4 (ix2 0 N)) :
    k0_pay7 (F := Ideal) (k0_pay5 h w halo) cw cb (ix2 r n) = convH u a3 a4 (ix3 i ⟨s0 + r.val, by omega⟩ N) := by
  rw [convH_at]
  have p1 : (if h_1 : 6 + r.val < 8 then halo (ix2 ⟨6 + r.val, h_1⟩ n)
      else ∑ x : Fin 1024, h (ix2 ⟨6 + r.val - 8, by omega⟩ x) * w (ix2 x n)) = prev u i N (s0 + r.val) := by
    split_ifs with hc
    · rw [hh ⟨6 + r.val, hc⟩ (by simp)]
      congr 1
      simp; omega
    · rw [hu ⟨6 + r.val - 8, by omega⟩, prev, dif_pos (by omega)]
      congr 2
      exact Fin.ext (by simp; omega)
  have p2 : (if h_1 : 7 + r.val < 8 then halo (ix2 ⟨7 + r.val, h_1⟩ n)
      else ∑ x : Fin 1024, h (ix2 ⟨7 + r.val - 8, by omega⟩ x) * w (ix2 x n)) = prev u i N (1 + (s0 + r.val)) := by
    split_ifs with hc
    · rw [hh ⟨7 + r.val, hc⟩ (by show 6 ≤ 7 + r.val; omega)]
      congr 1
      simp; omega
    · rw [hu ⟨7 + r.val - 8, by omega⟩, prev, dif_pos (by omega)]
      congr 2
      exact Fin.ext (by simp; omega)
  refine conv_at h w halo cw cb r n _ ?_
  rw [p1, p2, hu r, hb, hw 0, hw 1, hw 2]
  rw [mul_comm (a3 (ix3 0 0 N)), mul_comm (a3 (ix3 0 1 N)), mul_comm (a3 (ix3 0 2 N))]

/-- The gated unit of two chunks at an index. -/
theorem act_at (g v : FVec Ideal S1024x256 .f32) (r : Fin 1024) (n : Fin 256) : k0_pay25 (F := Ideal) g v (ix2 r n)
    = g (ix2 r n) * Ideal.div 1 (1 + Ideal.exp (-g (ix2 r n))) * v (ix2 r n) := by
  pointwise [k0_pay25]
  simp only [zero_sub]

/-- A chunk pair's gated product is the reference's at its place. -/
theorem act_core (h : FVec Ideal S1024x1024 .bf16) (w w' : FVec Ideal S1024x256 .bf16) (halo halo' : FVec Ideal S8x256 .f32)
    (cw cw' : FVec Ideal S3x256 .f32) (cb cb' : FVec Ideal S1x256 .f32)
    (u : FVec Ideal FfnRefIdeal.S8x2048x5632 .f32) (a3 : FVec Ideal S1x3x5632 .f32) (a4 : FVec Ideal S1x5632 .f32)
    (z : S1024x256.Idx) (i : Fin 8) (s0 : ℕ) (hs : s0 + 1024 ≤ 2048) (r : Fin 1024) (hr : r.val = (z 0).val) (N : Fin 2816)
    (hu : ∀ q : Fin 1024, ∑ x : Fin 1024, h (ix2 q x) * w (ix2 x (z 1)) = u (ix3 i ⟨s0 + q.val, by omega⟩ ⟨N.val, by omega⟩))
    (hh : ∀ q : Fin 8, 6 ≤ q.val → halo (ix2 q (z 1)) = prev u i ⟨N.val, by omega⟩ (s0 + q.val - 6))
    (hw : ∀ k : Fin 3, cw (ix2 k (z 1)) = a3 (ix3 0 k ⟨N.val, by omega⟩)) (hb : cb (ix2 0 (z 1)) = a4 (ix2 0 ⟨N.val, by omega⟩))
    (hu' : ∀ q : Fin 1024, ∑ x : Fin 1024, h (ix2 q x) * w' (ix2 x (z 1)) = u (ix3 i ⟨s0 + q.val, by omega⟩ ⟨2816 + N.val, by omega⟩))
    (hh' : ∀ q : Fin 8, 6 ≤ q.val → halo' (ix2 q (z 1)) = prev u i ⟨2816 + N.val, by omega⟩ (s0 + q.val - 6))
    (hw' : ∀ k : Fin 3, cw' (ix2 k (z 1)) = a3 (ix3 0 k ⟨2816 + N.val, by omega⟩)) (hb' : cb' (ix2 0 (z 1)) = a4 (ix2 0 ⟨2816 + N.val, by omega⟩)) :
    k0_pay25 (F := Ideal) (k0_pay7 (k0_pay5 h w halo) cw cb) (k0_pay7 (k0_pay5 h w' halo') cw' cb') z
      = gateH (convH u a3 a4) (ix3 i ⟨s0 + r.val, by omega⟩ N) := by
  idx_vars z
  obtain rfl : r = z0 := Fin.ext hr
  rw [gateH_at]
  refine (act_at _ _ r z1).trans ?_
  rw [conv_core h w halo cw cb u a3 a4 r z1 i s0 hs _ hu hh hw hb, conv_core h w' halo' cw' cb' u a3 a4 r z1 i s0 hs _ hu' hh' hw' hb']

/-- The block's output from its gated rows. -/
theorem out_core (x : FVec Ideal S1x1024x1024 .f32) (act : FVec Ideal S1024x2816 .bf16) (wd : FVec Ideal S2816x1024 .bf16)
    (gt : FVec Ideal S1x1x1024 .f32) (g b : FVec Ideal S1x1024 .f32)
    (v : FVec Ideal FfnRefIdeal.S8x2048x2816 .f32) (a0 : FVec Ideal S8x2048x1024 .f32) (a1 : FVec Ideal S8x6144 .f32)
    (a5 : FVec Ideal S1x2816x1024 .f32) (a6 a7 : FVec Ideal S1x1024 .f32)
    (z : S1x1024x1024.Idx) (j : S8x2048x1024.Idx) (hd : (j 2).val = (z 2).val)
    (hx : ∀ k : Fin 1024, x (ix3 0 (z 1) k) = a0 (ix3 (j 0) (j 1) k))
    (hv : ∀ k : Fin 2816, act (ix2 (z 1) k) = v (ix3 (j 0) (j 1) k))
    (hwd : ∀ (k : Fin 2816) (d : Fin 1024), wd (ix2 k d) = a5 (ix3 0 k d))
    (hgt : ∀ k : Fin 1024, gt (ix3 0 0 k) = a1 (ix2 (j 0) ⟨5120 + k.val, by omega⟩))
    (hg : ∀ k : Fin 1024, g (ix2 0 k) = a6 (ix2 0 k)) (hb : ∀ k : Fin 1024, b (ix2 0 k) = a7 (ix2 0 k)) :
    k0_pay105 (F := Ideal) (k0_pay2 x) act wd gt g b z = Norm.lnH (sumH v a0 a1 a5) a6 a7 j := by
  idx_vars z
  idx_vars j
  obtain rfl : z0 = 0 := Subsingleton.elim _ _
  obtain rfl : j2 = z2 := Fin.ext hd
  rw [Norm.lnH_at]
  have e : k0_pay105 (F := Ideal) (k0_pay2 x) act wd gt g b (ix3 0 z1 j2)
      = Norm.row (fun d => res (x (ix3 0 z1 d)) (gt (ix3 0 0 d)) (fun k => act (ix2 z1 k)) (fun k => wd (ix2 k d))) (g (ix2 0 j2)) (b (ix2 0 j2)) j2 := by
    pointwise [k0_pay105, k0_pay2, Norm.row, res]
  refine e.trans ?_
  simp only [sumH_at]
  have e1 : ∀ k : Fin 2816, act (ix2 z1 k) = v (ix3 j0 j1 k) := hv
  have e3 : ∀ k : Fin 1024, x (ix3 0 z1 k) = a0 (ix3 j0 j1 k) := hx
  have e4 : ∀ k : Fin 1024, gt (ix3 0 0 k) = a1 (ix2 j0 ⟨5120 + k.val, by omega⟩) := hgt
  simp only [e1, e3, e4, hwd, hg, hb]

/-- The carried rows a chunk leaves: the last eight of its projection. -/
theorem halo_at (h : FVec Ideal S1024x1024 .bf16) (w : FVec Ideal S1024x256 .bf16) (q : Fin 8) (n : Fin 256) :
    k0_pay6 (F := Ideal) h w (ix2 q n) = ∑ x : Fin 1024, h (ix2 ⟨1016 + q.val, by omega⟩ x) * w (ix2 x n) := by
  pointwise [k0_pay6, k0_pay4]

/-- The modulated rows. -/
theorem mod_at (sh sc : FVec Ideal S1x1x1024 .f32) (x : FVec Ideal S1x1024x1024 .f32) (r : Fin 1024) (k : Fin 1024) :
    k0_pay3 (F := Ideal) sh sc x (ix2 r k) = x (ix3 0 r k) * (1 + sc (ix3 0 0 k)) + sh (ix3 0 0 k) := by
  pointwise [k0_pay3, k0_pay2]

end Kernel

end Cert.FfnBlock
end
-- ==== Proof.FfnPieces.lean ====
/- The gated block: one chunk of columns of the gated unit, and one piece of the kept rows, as numbers of the
   arrays that the tile loads. -/
module

public import proofs.«01_k».proof.Proof.FfnBlock
public import proofs.«01_k».proof.Proof.Gen.FfnIdeal.Value
public import proofs.«01_k».proof.Proof.Gen.FfnRefIdeal.Run
public import Idealize.ShloMosaic.Lib.Pipeline.ReadBack
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.FfnBlock

section Final
open Cert.FfnIdeal Cert.FfnIdeal.Gen
open Idealize.ShloMosaic.Pipeline (Dat)

variable (m : (ℓ : Loc nD τ sig) → Buf (Elt Ideal) ℓ)

theorem idx : ∀ t : Fin cfg0.N, win0_0.index t = ![t.val / 2, t.val % 2, 0] ∧ win0_1.index t = ![t.val / 2, 0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![t.val / 2, t.val % 2, 0] :=
  (by decide +kernel : ∀ t : Fin grid0.N, _)

theorem b0 (c : Dev nD) (t : Fin cfg0.N) (i : Fin 8) (hi : i.val = t.val / 2) (r : Fin 1024) (s : Fin 2048)
    (hs : s.val = t.val % 2 * 1024 + r.val) (k : Fin 1024) :
    iblk m c 0 t (ix3 0 r k) = m ((c.tc : Thread nD τ).loc main_arg0) (ix3 i s k) := by
  blk_point [iblk, V, idx t]

theorem b1 (c : Dev nD) (t : Fin cfg0.N) (i : Fin 8) (hi : i.val = t.val / 2) (j : Fin 6) (k : Fin 1024) (n : Fin 6144) (hn : n.val = j.val * 1024 + k.val) :
    iblk m c 1 t (ix3 0 j k) = m ((c.tc : Thread nD τ).loc main_arg1) (ix2 i n) := by
  blk_point [iblk, V, idx t]

theorem b2 (c : Dev nD) (t : Fin cfg0.N) (k : Fin 1024) (n : Fin 5632) :
    iblk m c 2 t (ix2 k n) = m ((c.tc : Thread nD τ).loc main_arg2) (ix3 0 k n) := by
  blk_point [iblk, V, idx t]

theorem b3 (c : Dev nD) (t : Fin cfg0.N) (k : Fin 3) (n : Fin 5632) :
    iblk m c 3 t (ix2 k n) = m ((c.tc : Thread nD τ).loc main_arg3) (ix3 0 k n) := by
  blk_point [iblk, V, idx t]

theorem b4 (c : Dev nD) (t : Fin cfg0.N) (n : Fin 5632) :
    iblk m c 4 t (ix2 0 n) = m ((c.tc : Thread nD τ).loc main_arg4) (ix2 0 n) := by
  blk_point [iblk, V, idx t]

theorem b5 (c : Dev nD) (t : Fin cfg0.N) (k : Fin 2816) (d : Fin 1024) :
    iblk m c 5 t (ix2 k d) = m ((c.tc : Thread nD τ).loc main_arg5) (ix3 0 k d) := by
  blk_point [iblk, V, idx t]

theorem b6 (c : Dev nD) (t : Fin cfg0.N) (d : Fin 1024) :
    iblk m c 6 t (ix2 0 d) = m ((c.tc : Thread nD τ).loc main_arg6) (ix2 0 d) := by
  blk_point [iblk, V, idx t]

theorem b7 (c : Dev nD) (t : Fin cfg0.N) (d : Fin 1024) :
    iblk m c 7 t (ix2 0 d) = m ((c.tc : Thread nD τ).loc main_arg7) (ix2 0 d) := by
  blk_point [iblk, V, idx t]

/-- The reference's projection over the arguments in memory. -/
def U (c : Dev nD) : FVec Ideal FfnRefIdeal.S8x2048x5632 .f32 :=
  upH (m ((c.tc : Thread nD τ).loc main_arg0)) (m ((c.tc : Thread nD τ).loc main_arg1)) (m ((c.tc : Thread nD τ).loc main_arg2))

/-- The modulated rows of a point's block. -/
def hb (c : Dev nD) (t : Fin cfg0.N) : FVec Ideal S1024x1024 .bf16 :=
  k0_pay3 (View.ld (iblk m c 1 t) (Rect.unit ![0, 3, 0] ![1, 1, 1024] inb_S1x6x1024_S1x1x1024_0_3_0))
    (View.ld (iblk m c 1 t) (Rect.unit ![0, 4, 0] ![1, 1, 1024] inb_S1x6x1024_S1x1x1024_0_4_0)) (iblk m c 0 t)

/-- The modulated input at a place. -/
def hmod (a0 : FVec Ideal FfnRefIdeal.S8x2048x1024 .f32) (a1 : FVec Ideal FfnRefIdeal.S8x6144 .f32) (i : Fin 8) (s : Fin 2048) (k : Fin 1024) : EReal :=
  a0 (ix3 i s k) * (1 + a1 (ix2 i ⟨4096 + k.val, by omega⟩)) + a1 (ix2 i ⟨3072 + k.val, by omega⟩)

theorem hb_at (c : Dev nD) (t : Fin cfg0.N) (i : Fin 8) (hi : i.val = t.val / 2) (r : Fin 1024) (s : Fin 2048)
    (hs : s.val = t.val % 2 * 1024 + r.val) (k : Fin 1024) :
    hb m c t (ix2 r k) = hmod (m ((c.tc : Thread nD τ).loc main_arg0)) (m ((c.tc : Thread nD τ).loc main_arg1)) i s k := by
  have e3 : View.ld (iblk m c 1 t) (Rect.unit ![0, 3, 0] ![1, 1, 1024] inb_S1x6x1024_S1x1x1024_0_3_0) (ix3 0 0 k)
      = m ((c.tc : Thread nD τ).loc main_arg1) (ix2 i ⟨3072 + k.val, by omega⟩) := by
    pointwise
    exact b1 m c t i hi 3 k _ rfl
  have e4 : View.ld (iblk m c 1 t) (Rect.unit ![0, 4, 0] ![1, 1, 1024] inb_S1x6x1024_S1x1x1024_0_4_0) (ix3 0 0 k)
      = m ((c.tc : Thread nD τ).loc main_arg1) (ix2 i ⟨4096 + k.val, by omega⟩) := by
    pointwise
    exact b1 m c t i hi 4 k _ rfl
  refine (mod_at _ _ _ r k).trans ?_
  rw [e3, e4, b0 m c t i hi r s hs k]
  rfl

/-- The point's rows projected by one column of the up weights are the reference's projection there. -/
theorem up_blk (c : Dev nD) (t : Fin cfg0.N) (i : Fin 8) (hi : i.val = t.val / 2) (w : FVec Ideal S1024x256 .bf16) (n : Fin 256) (N : Fin 5632)
    (hw : ∀ k : Fin 1024, w (ix2 k n) = m ((c.tc : Thread nD τ).loc main_arg2) (ix3 0 k N)) (r : Fin 1024) (s : Fin 2048)
    (hs : s.val = t.val % 2 * 1024 + r.val) :
    ∑ x : Fin 1024, hb m c t (ix2 r x) * w (ix2 x n) = U m c (ix3 i s N) := by
  rw [U, upH_at]
  refine Finset.sum_congr rfl fun k _ => ?_
  rw [hb_at m c t i hi r s hs k, hw k]
  rfl

theorem prev_neg (u : FVec Ideal FfnRefIdeal.S8x2048x5632 .f32) (i : Fin 8) (n : Fin 5632) (p : ℕ) (h : p < 2) : prev u i n p = 0 :=
  dif_neg (by omega)

theorem prev_pos (u : FVec Ideal FfnRefIdeal.S8x2048x5632 .f32) (i : Fin 8) (n : Fin 5632) (p : ℕ) (s : Fin 2048) (h : p = s.val + 2) :
    prev u i n p = u (ix3 i s n) := by
  subst h
  exact (dif_pos ⟨by omega, by have := s.isLt; omega⟩).trans (congrArg u (by congr 1))

/-- A read of the whole scratch after its stores, at an index: what the stores leave there. -/
theorem readCov_at {sig : RefSig} {κ : Kind} {sp : Space} {R C : ℕ} {e : EltTy} {h : ∀ a, (![0, 0] : Fin 2 → ℕ) a + (⟨2, ![R, C]⟩ : Shape).size a ≤ (⟨2, ![R, C]⟩ : Shape).size a}
    (v : View sig κ sp (⟨2, ![R, C]⟩ : Shape) e) (L : List (View.Piece (Elt Ideal) (⟨2, ![R, C]⟩ : Shape) e)) (j : (⟨2, ![R, C]⟩ : Shape).Idx) (x : Elt Ideal e)
    (H : ∀ q : (⟨2, ![R, C]⟩ : Shape).Idx, (q 0).val = (j 0).val → (q 1).val = (j 1).val → View.canon L q = x) :
    v.readCov L (Rect.unit ![0, 0] (⟨2, ![R, C]⟩ : Shape).size h).toLoadRect j = x := by
  rw [View.readCov_eq_canon']
  exact H _ (show 0 + 1 * (j 0).val = (j 0).val by omega) (show 0 + 1 * (j 1).val = (j 1).val by omega)

theorem last2 {R C : ℕ} (X : (⟨2, ![R, C]⟩ : Shape).Idx → EReal) (r : Fin R) (a b : Fin C) (h : b.val = a.val) : X (ix2 r a) = X (ix2 r b) := by
  rw [Fin.ext h]

theorem last3 {Q R C : ℕ} (X : (⟨3, ![Q, R, C]⟩ : Shape).Idx → EReal) (q : Fin Q) (r : Fin R) (a b : Fin C) (h : b.val = a.val) :
    X (ix3 q r a) = X (ix3 q r b) := by
  rw [Fin.ext h]

theorem ld_at {R C C' : ℕ} (X : (⟨2, ![R, C]⟩ : Shape).Idx → EReal) (o : ℕ)
    (h : ∀ a, (![0, o] : Fin 2 → ℕ) a + (⟨2, ![R, C']⟩ : Shape).size a ≤ (⟨2, ![R, C]⟩ : Shape).size a)
    (r : Fin R) (n : Fin C') :
    View.ld (Val := fun _ => EReal) (e' := .f32) X (Rect.unit ![0, o] (⟨2, ![R, C']⟩ : Shape).size h) (ix2 r n) = X (ix2 r ⟨o + n.val, by have := h 1; simp at this; omega⟩) := by
  refine congrArg X (funext fun a => Fin.ext ?_)
  fin_cases a
  · show 0 + 1 * r.val = r.val
    omega
  · show o + 1 * n.val = o + n.val
    omega

/-- A chunk's loads, at a column offset: the weights, the carried rows, the convolution's taps and bias. -/
theorem act_piece (c : Dev nD) (t : Fin cfg0.N) (i : Fin 8) (hi : i.val = t.val / 2) (P : Vec Ideal S8x5632 .f32)
    (hP : ∀ (q : Fin 8) (n : Fin 5632), 6 ≤ q.val → P (ix2 q n) = prev (U m c) i n (t.val % 2 * 1024 + q.val - 6))
    (o o' : ℕ) (h2 : ∀ a, (![0, o] : Fin 2 → ℕ) a + S1024x256.size a ≤ S1024x5632.size a) (hP8 : ∀ a, (![0, o] : Fin 2 → ℕ) a + S8x256.size a ≤ S8x5632.size a)
    (h3 : ∀ a, (![0, o] : Fin 2 → ℕ) a + S3x256.size a ≤ S3x5632.size a) (h4 : ∀ a, (![0, o] : Fin 2 → ℕ) a + S1x256.size a ≤ S1x5632.size a)
    (h2' : ∀ a, (![0, o'] : Fin 2 → ℕ) a + S1024x256.size a ≤ S1024x5632.size a) (hP8' : ∀ a, (![0, o'] : Fin 2 → ℕ) a + S8x256.size a ≤ S8x5632.size a)
    (h3' : ∀ a, (![0, o'] : Fin 2 → ℕ) a + S3x256.size a ≤ S3x5632.size a) (h4' : ∀ a, (![0, o'] : Fin 2 → ℕ) a + S1x256.size a ≤ S1x5632.size a)
    (ho : o + 256 ≤ 2816) (ho' : o' = 2816 + o)
    (z : S1024x256.Idx) (j0 : Fin 8) (j1 : Fin 2048) (k : Fin 2816) (e0 : j0.val = t.val / 2) (e1 : j1.val = t.val % 2 * 1024 + (z 0).val) (e2 : k.val = o + (z 1).val) :
    k0_pay25 (F := Ideal)
      (k0_pay7 (k0_pay5 (hb m c t) (View.ld (iblk m c 2 t) (Rect.unit ![0, o] S1024x256.size h2)) (View.ld P (Rect.unit ![0, o] S8x256.size hP8)))
        (View.ld (iblk m c 3 t) (Rect.unit ![0, o] S3x256.size h3)) (View.ld (iblk m c 4 t) (Rect.unit ![0, o] S1x256.size h4)))
      (k0_pay7 (k0_pay5 (hb m c t) (View.ld (iblk m c 2 t) (Rect.unit ![0, o'] S1024x256.size h2')) (View.ld P (Rect.unit ![0, o'] S8x256.size hP8')))
        (View.ld (iblk m c 3 t) (Rect.unit ![0, o'] S3x256.size h3')) (View.ld (iblk m c 4 t) (Rect.unit ![0, o'] S1x256.size h4'))) z
      = gateH (convH (U m c) (m ((c.tc : Thread nD τ).loc main_arg3)) (m ((c.tc : Thread nD τ).loc main_arg4))) (ix3 j0 j1 k) := by
  obtain rfl : j0 = i := Fin.ext (e0.trans hi.symm)
  have h2m : t.val % 2 < 2 := Nat.mod_lt _ (by decide)
  have z0 : (z 0).val < 1024 := (z 0).isLt
  have z1 : (z 1).val < 256 := (z 1).isLt
  have ej : j1 = ⟨t.val % 2 * 1024 + (z 0).val, by omega⟩ := Fin.ext e1
  subst ho'
  rw [ej]
  refine act_core _ _ _ _ _ _ _ _ _ (U m c) _ _ z j0 (t.val % 2 * 1024) (by omega) (z 0) rfl k ?_ ?_ ?_ ?_ ?_ ?_ ?_ ?_
  · intro q
    refine up_blk m c t j0 hi _ _ _ (fun k' => ?_) q _ rfl
    exact (ld_at (iblk m c 2 t) (o) h2 k' (z 1)).trans ((b2 m c t k' _).trans (last3 _ _ _ _ _ (e2)))
  · intro q hq
    refine (ld_at P (o) hP8 q (z 1)).trans ((hP q _ hq).trans ?_)
    congr 1
    exact Fin.ext (e2).symm
  · intro q
    exact (ld_at (iblk m c 3 t) (o) h3 q (z 1)).trans ((b3 m c t q _).trans (last3 _ _ _ _ _ (e2)))
  · exact (ld_at (iblk m c 4 t) (o) h4 0 (z 1)).trans ((b4 m c t _).trans (last2 _ _ _ _ (e2)))
  · intro q
    refine up_blk m c t j0 hi _ _ _ (fun k' => ?_) q _ rfl
    exact (ld_at (iblk m c 2 t) (2816 + o) h2' k' (z 1)).trans ((b2 m c t k' _).trans (last3 _ _ _ _ _ (show 2816 + k.val = 2816 + o + (z 1).val by omega)))
  · intro q hq
    refine (ld_at P (2816 + o) hP8' q (z 1)).trans ((hP q _ hq).trans ?_)
    congr 1
    exact Fin.ext (show 2816 + k.val = 2816 + o + (z 1).val by omega).symm
  · intro q
    exact (ld_at (iblk m c 3 t) (2816 + o) h3' q (z 1)).trans ((b3 m c t q _).trans (last3 _ _ _ _ _ (show 2816 + k.val = 2816 + o + (z 1).val by omega)))
  · exact (ld_at (iblk m c 4 t) (2816 + o) h4' 0 (z 1)).trans ((b4 m c t _).trans (last2 _ _ _ _ (show 2816 + k.val = 2816 + o + (z 1).val by omega)))

/-- A chunk's carried rows are the reference's projection of the block's last eight rows. -/
theorem halo_piece (c : Dev nD) (t : Fin cfg0.N) (i : Fin 8) (hi : i.val = t.val / 2) (o : ℕ) (ho : o + 256 ≤ 5632)
    (h2 : ∀ a, (![0, o] : Fin 2 → ℕ) a + S1024x256.size a ≤ S1024x5632.size a) (hP8 : ∀ a, (![0, o] : Fin 2 → ℕ) a + S8x256.size a ≤ S8x5632.size a)
    (s : Fin 8 → Fin 2048) (hs : ∀ q, (s q).val = t.val % 2 * 1024 + 1016 + q.val) (z : S8x256.Idx) :
    k0_pay6 (F := Ideal) (hb m c t) (View.ld (iblk m c 2 t) (Rect.unit ![0, o] S1024x256.size h2)) z
      = (fun y : S8x5632.Idx => U m c (ix3 i (s (y 0)) (y 1))) ((Rect.unit (s := S8x5632) ![0, o] S8x256.size hP8).emb z) := by
  idx_vars z
  refine (halo_at _ _ z0 z1).trans ?_
  have e0 : ((Rect.unit (s := S8x5632) ![0, o] S8x256.size hP8).emb (ix2 z0 z1)) 0 = z0 := Fin.ext (show 0 + 1 * z0.val = z0.val by omega)
  have e1 : ((Rect.unit (s := S8x5632) ![0, o] S8x256.size hP8).emb (ix2 z0 z1)) 1 = (⟨o + z1.val, by omega⟩ : Fin 5632) :=
    Fin.ext (show o + 1 * z1.val = o + z1.val by omega)
  simp only [e0, e1]
  exact up_blk m c t i hi _ z1 _ (fun k => (ld_at (iblk m c 2 t) o h2 k z1).trans (b2 m c t k _)) _ _ ((hs z0).trans (by simp; omega))

end Final
end Cert.FfnBlock
end
-- ==== Proof.FfnChunks.lean ====
/- The gated unit's chunks are one computation, split at different places of the program. -/
module

public import proofs.«01_k».proof.Proof.Gen.FfnIdeal.Value
public import proofs.«01_k».proof.Proof.Gen.FfnRefIdeal.Run
public import Idealize.ShloMosaic.Lib.Pipeline.ReadBack
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.FfnBlock

open Cert.FfnIdeal Cert.FfnIdeal.Gen

theorem act10 (h : FVec Ideal S1024x1024 .bf16) (w w' : FVec Ideal S1024x256 .bf16) (p p' : FVec Ideal S8x256 .f32)
    (cw cw' : FVec Ideal S3x256 .f32) (cb cb' : FVec Ideal S1x256 .f32) :
    k0_pay104 (k0_pay100 h w p cw cb) h (k0_pay101 w') p' cw' cb'
      = k0_pay25 (F := Ideal) (k0_pay7 (k0_pay5 h w p) cw cb) (k0_pay7 (k0_pay5 h w' p') cw' cb') := rfl

theorem act9 (h : FVec Ideal S1024x1024 .bf16) (w w' : FVec Ideal S1024x256 .bf16) (p p' : FVec Ideal S8x256 .f32)
    (cw cw' : FVec Ideal S3x256 .f32) (cb cb' : FVec Ideal S1x256 .f32) :
    k0_pay97 (k0_pay96 (k0_pay92 h w p cw) (k0_pay93 cb) h w' p' cw' cb')
      = k0_pay25 (F := Ideal) (k0_pay7 (k0_pay5 h w p) cw cb) (k0_pay7 (k0_pay5 h w' p') cw' cb') := rfl

theorem act8 (h : FVec Ideal S1024x1024 .bf16) (w w' : FVec Ideal S1024x256 .bf16) (p p' : FVec Ideal S8x256 .f32)
    (cw cw' : FVec Ideal S3x256 .f32) (cb cb' : FVec Ideal S1x256 .f32) :
    k0_pay89 (k0_pay84 (k0_pay80 h w p) (k0_pay82 cw) (k0_pay83 h w p cw) cb) (k0_pay87 h w' p' cw' cb') (k0_pay88 (k0_pay80 h w p) (k0_pay82 cw) (k0_pay83 h w p cw) cb)
      = k0_pay25 (F := Ideal) (k0_pay7 (k0_pay5 h w p) cw cb) (k0_pay7 (k0_pay5 h w' p') cw' cb') := rfl

theorem act7 (h : FVec Ideal S1024x1024 .bf16) (w w' : FVec Ideal S1024x256 .bf16) (p p' : FVec Ideal S8x256 .f32)
    (cw cw' : FVec Ideal S3x256 .f32) (cb cb' : FVec Ideal S1x256 .f32) :
    k0_pay78 (k0_pay74 (k0_pay70 h w p) (k0_pay72 cw) (k0_pay73 cw) cb) (k0_pay77 h w' p' cw') cb'
      = k0_pay25 (F := Ideal) (k0_pay7 (k0_pay5 h w p) cw cb) (k0_pay7 (k0_pay5 h w' p') cw' cb') := rfl

theorem act6 (h : FVec Ideal S1024x1024 .bf16) (w w' : FVec Ideal S1024x256 .bf16) (p p' : FVec Ideal S8x256 .f32)
    (cw cw' : FVec Ideal S3x256 .f32) (cb cb' : FVec Ideal S1x256 .f32) :
    k0_pay68 (k0_pay61 (k0_pay58 h w p) cw cb) (k0_pay63 h w' p') (k0_pay65 cw') (k0_pay66 h w' p' cw') (k0_pay67 cw') cb'
      = k0_pay25 (F := Ideal) (k0_pay7 (k0_pay5 h w p) cw cb) (k0_pay7 (k0_pay5 h w' p') cw' cb') := rfl

theorem act5 (h : FVec Ideal S1024x1024 .bf16) (w w' : FVec Ideal S1024x256 .bf16) (p p' : FVec Ideal S8x256 .f32)
    (cw cw' : FVec Ideal S3x256 .f32) (cb cb' : FVec Ideal S1x256 .f32) :
    k0_pay56 (k0_pay52 h (k0_pay49 w) (constant S1024x256 FTy.f32 0#32) p cw cb) (k0_pay54 h w' p') cw' cb'
      = k0_pay25 (F := Ideal) (k0_pay7 (k0_pay5 h w p) cw cb) (k0_pay7 (k0_pay5 h w' p') cw' cb') := rfl

theorem act4 (h : FVec Ideal S1024x1024 .bf16) (w w' : FVec Ideal S1024x256 .bf16) (p p' : FVec Ideal S8x256 .f32)
    (cw cw' : FVec Ideal S3x256 .f32) (cb cb' : FVec Ideal S1x256 .f32) :
    k0_pay48 (k0_pay44 h w p cw cb) (k0_pay46 h w' p') cw' cb'
      = k0_pay25 (F := Ideal) (k0_pay7 (k0_pay5 h w p) cw cb) (k0_pay7 (k0_pay5 h w' p') cw' cb') := rfl

theorem act3 (h : FVec Ideal S1024x1024 .bf16) (w w' : FVec Ideal S1024x256 .bf16) (p p' : FVec Ideal S8x256 .f32)
    (cw cw' : FVec Ideal S3x256 .f32) (cb cb' : FVec Ideal S1x256 .f32) :
    k0_pay41 (k0_pay38 h w p cw cb) h w' p' cw' cb'
      = k0_pay25 (F := Ideal) (k0_pay7 (k0_pay5 h w p) cw cb) (k0_pay7 (k0_pay5 h w' p') cw' cb') := rfl

theorem act2 (h : FVec Ideal S1024x1024 .bf16) (w w' : FVec Ideal S1024x256 .bf16) (p p' : FVec Ideal S8x256 .f32)
    (cw cw' : FVec Ideal S3x256 .f32) (cb cb' : FVec Ideal S1x256 .f32) :
    k0_pay35 (k0_pay29 (k0_pay28 h w p cw) cb) (k0_pay32 h w' p' cw' cb') (k0_pay33 (k0_pay28 h w p cw) cb) k0_pay34
      = k0_pay25 (F := Ideal) (k0_pay7 (k0_pay5 h w p) cw cb) (k0_pay7 (k0_pay5 h w' p') cw' cb') := rfl

theorem act1 (h : FVec Ideal S1024x1024 .bf16) (w w' : FVec Ideal S1024x256 .bf16) (p p' : FVec Ideal S8x256 .f32)
    (cw cw' : FVec Ideal S3x256 .f32) (cb cb' : FVec Ideal S1x256 .f32) :
    k0_pay25 (k0_pay21 (k0_pay16 h w p) (k0_pay18 cw) (k0_pay19 h w p cw) (k0_pay20 h w p cw) cb) (k0_pay24 h w' p' cw' cb')
      = k0_pay25 (F := Ideal) (k0_pay7 (k0_pay5 h w p) cw cb) (k0_pay7 (k0_pay5 h w' p') cw' cb') := rfl

theorem act0 (h : FVec Ideal S1024x1024 .bf16) (w w' : FVec Ideal S1024x256 .bf16) (p p' : FVec Ideal S8x256 .f32)
    (cw cw' : FVec Ideal S3x256 .f32) (cb cb' : FVec Ideal S1x256 .f32) :
    k0_pay14 (k0_pay7 (k0_pay5 h w p) cw cb) (k0_pay9 h w' p') (k0_pay12 h w' p' cw') (k0_pay13 cw') cb'
      = k0_pay25 (F := Ideal) (k0_pay7 (k0_pay5 h w p) cw cb) (k0_pay7 (k0_pay5 h w' p') cw' cb') := rfl

theorem halo5376 (h : FVec Ideal S1024x1024 .bf16) (w : FVec Ideal S1024x256 .bf16) :
    k0_pay103 h (k0_pay101 w) = k0_pay6 (F := Ideal) h w := rfl

theorem halo2560 (h : FVec Ideal S1024x1024 .bf16) (w : FVec Ideal S1024x256 .bf16) :
    k0_pay99 h w = k0_pay6 (F := Ideal) h w := rfl

theorem halo5120 (h : FVec Ideal S1024x1024 .bf16) (w : FVec Ideal S1024x256 .bf16) :
    k0_pay95 h w = k0_pay6 (F := Ideal) h w := rfl

theorem halo2304 (h : FVec Ideal S1024x1024 .bf16) (w : FVec Ideal S1024x256 .bf16) :
    k0_pay91 h w = k0_pay6 (F := Ideal) h w := rfl

theorem halo4864 (h : FVec Ideal S1024x1024 .bf16) (w : FVec Ideal S1024x256 .bf16) :
    k0_pay86 h w = k0_pay6 (F := Ideal) h w := rfl

theorem halo2048 (h : FVec Ideal S1024x1024 .bf16) (w : FVec Ideal S1024x256 .bf16) :
    k0_pay81 h w = k0_pay6 (F := Ideal) h w := rfl

theorem halo4608 (h : FVec Ideal S1024x1024 .bf16) (w : FVec Ideal S1024x256 .bf16) :
    k0_pay76 h w = k0_pay6 (F := Ideal) h w := rfl

theorem halo1792 (h : FVec Ideal S1024x1024 .bf16) (w : FVec Ideal S1024x256 .bf16) :
    k0_pay71 h w = k0_pay6 (F := Ideal) h w := rfl

theorem halo4352 (h : FVec Ideal S1024x1024 .bf16) (w : FVec Ideal S1024x256 .bf16) :
    k0_pay64 h w = k0_pay6 (F := Ideal) h w := rfl

theorem halo1536 (h : FVec Ideal S1024x1024 .bf16) (w : FVec Ideal S1024x256 .bf16) :
    k0_pay60 (k0_pay59 h w) = k0_pay6 (F := Ideal) h w := rfl

theorem halo4096 (h : FVec Ideal S1024x1024 .bf16) (w : FVec Ideal S1024x256 .bf16) :
    k0_pay55 h w = k0_pay6 (F := Ideal) h w := rfl

theorem halo1280 (h : FVec Ideal S1024x1024 .bf16) (w : FVec Ideal S1024x256 .bf16) :
    k0_pay51 h (k0_pay49 w) (constant S1024x256 FTy.f32 0#32) = k0_pay6 (F := Ideal) h w := rfl

theorem halo3840 (h : FVec Ideal S1024x1024 .bf16) (w : FVec Ideal S1024x256 .bf16) :
    k0_pay47 (k0_pay45 h w) = k0_pay6 (F := Ideal) h w := rfl

theorem halo1024 (h : FVec Ideal S1024x1024 .bf16) (w : FVec Ideal S1024x256 .bf16) :
    k0_pay43 h w = k0_pay6 (F := Ideal) h w := rfl

theorem halo3584 (h : FVec Ideal S1024x1024 .bf16) (w : FVec Ideal S1024x256 .bf16) :
    k0_pay40 h w = k0_pay6 (F := Ideal) h w := rfl

theorem halo768 (h : FVec Ideal S1024x1024 .bf16) (w : FVec Ideal S1024x256 .bf16) :
    k0_pay37 h w = k0_pay6 (F := Ideal) h w := rfl

theorem halo3328 (h : FVec Ideal S1024x1024 .bf16) (w : FVec Ideal S1024x256 .bf16) :
    k0_pay31 h w = k0_pay6 (F := Ideal) h w := rfl

theorem halo512 (h : FVec Ideal S1024x1024 .bf16) (w : FVec Ideal S1024x256 .bf16) :
    k0_pay27 h w = k0_pay6 (F := Ideal) h w := rfl

theorem halo3072 (h : FVec Ideal S1024x1024 .bf16) (w : FVec Ideal S1024x256 .bf16) :
    k0_pay23 h w = k0_pay6 (F := Ideal) h w := rfl

theorem halo256 (h : FVec Ideal S1024x1024 .bf16) (w : FVec Ideal S1024x256 .bf16) :
    k0_pay17 h w = k0_pay6 (F := Ideal) h w := rfl

theorem halo2816 (h : FVec Ideal S1024x1024 .bf16) (w : FVec Ideal S1024x256 .bf16) :
    k0_pay10 h w = k0_pay6 (F := Ideal) h w := rfl

theorem halo0 (h : FVec Ideal S1024x1024 .bf16) (w : FVec Ideal S1024x256 .bf16) :
    k0_pay6 h w = k0_pay6 (F := Ideal) h w := rfl

end Cert.FfnBlock
end
-- ==== Proof.FfnPointA.lean ====
/- The gated block at the first tile of a sequence, where the rows before the tile are zero. -/
module

public import proofs.«01_k».proof.Proof.FfnPieces
public import proofs.«01_k».proof.Proof.FfnChunks
public import proofs.«01_k».proof.Proof.Gen.FfnIdeal.Value
public import proofs.«01_k».proof.Proof.Gen.FfnRefIdeal.Run
public import Idealize.ShloMosaic.Lib.Pipeline.ReadBack
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.FfnBlock

section Final
open Cert.FfnIdeal Cert.FfnIdeal.Gen
open Idealize.ShloMosaic.Pipeline (Dat)

variable (m : (ℓ : Loc nD τ sig) → Buf (Elt Ideal) ℓ)

set_option maxHeartbeats 4000000 in
theorem pointA (c : Dev nD) (t : Fin cfg0.N) (hc : t.val % 2 = 0) (y : S1x1024x1024.Idx) :
    (outsAt0 m c t.val t.isLt).1 y = ffnH (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (((cfg0.win 8).blk t).view.emb y) := by
  have q0 : ((((cfg0.win 8).blk t).view.emb y) 0 : ℕ) = t.val / 2 := by
    have : (y 0).val < 1 := (y 0).isLt
    blk_simp [idx t] <;> (try omega)
  have q1 : ((((cfg0.win 8).blk t).view.emb y) 1 : ℕ) = t.val % 2 * 1024 + (y 1).val := by blk_simp [idx t] <;> (try omega)
  have q2 : ((((cfg0.win 8).blk t).view.emb y) 2 : ℕ) = (y 2).val := by blk_simp [idx t] <;> (try omega)
  generalize ((cfg0.win 8).blk t).view.emb y = j at q0 q1 q2 ⊢
  have gP : ∀ (q : Fin 8) (n : Fin 5632), 6 ≤ q.val → k0_pay1 (F := Ideal) (ix2 q n) = prev (U m c) (j 0) n (t.val % 2 * 1024 + q.val - 6) := by
    intro q n hq
    have := q.isLt
    refine Eq.trans ?_ (prev_neg _ _ _ _ (by omega)).symm
    pointwise [k0_pay1]
  rw [outsAt0_A m c t hc]
  frame_open
  simp (disch := decide) only [↓ View.readCov_skip, ↓ View.readCov_cons_toLoadRect, ↓ View.readCov_fill]
  frame_out
  refine out_core _ _ _ _ _ _ (gateH (convH (U m c) (m ((c.tc : Thread nD τ).loc main_arg3)) (m ((c.tc : Thread nD τ).loc main_arg4)))) _ _ _ _ _ y j q2
    (fun k => ?_) (fun k => ?_) (fun k d => b5 m c t k d) (fun k => ?_) (fun k => b6 m c t k) (fun k => b7 m c t k)
  · exact b0 m c t _ q0 (y 1) _ q1 k
  · refine readCov_at _ _ _ _ (fun q w0' w1' => ?_)
    have w0 : (q 0).val = (y 1).val := w0'
    have w1 : (q 1).val = k.val := w1'
    clear w0' w1'
    canon_tiles x h
    · refine (congrFun (act10 _ _ _ _ _ _ _ _ _) x).trans ?_
      exact act_piece m c t (j 0) q0 (k0_pay1 (F := Ideal)) gP 2560 5376 inb_S1024x5632_S1024x256_0_2560 inb_S8x5632_S8x256_0_2560 inb_S3x5632_S3x256_0_2560 inb_S1x5632_S1x256_0_2560 inb_S1024x5632_S1024x256_0_5376 inb_S8x5632_S8x256_0_5376 inb_S3x5632_S3x256_0_5376 inb_S1x5632_S1x256_0_5376 (by decide) (by decide) x (j 0) (j 1) k q0 (by omega) (by omega)
    · refine (congrFun (act9 _ _ _ _ _ _ _ _ _) x).trans ?_
      exact act_piece m c t (j 0) q0 (k0_pay1 (F := Ideal)) gP 2304 5120 inb_S1024x5632_S1024x256_0_2304 inb_S8x5632_S8x256_0_2304 inb_S3x5632_S3x256_0_2304 inb_S1x5632_S1x256_0_2304 inb_S1024x5632_S1024x256_0_5120 inb_S8x5632_S8x256_0_5120 inb_S3x5632_S3x256_0_5120 inb_S1x5632_S1x256_0_5120 (by decide) (by decide) x (j 0) (j 1) k q0 (by omega) (by omega)
    · refine (congrFun (act8 _ _ _ _ _ _ _ _ _) x).trans ?_
      exact act_piece m c t (j 0) q0 (k0_pay1 (F := Ideal)) gP 2048 4864 inb_S1024x5632_S1024x256_0_2048 inb_S8x5632_S8x256_0_2048 inb_S3x5632_S3x256_0_2048 inb_S1x5632_S1x256_0_2048 inb_S1024x5632_S1024x256_0_4864 inb_S8x5632_S8x256_0_4864 inb_S3x5632_S3x256_0_4864 inb_S1x5632_S1x256_0_4864 (by decide) (by decide) x (j 0) (j 1) k q0 (by omega) (by omega)
    · refine (congrFun (act7 _ _ _ _ _ _ _ _ _) x).trans ?_
      exact act_piece m c t (j 0) q0 (k0_pay1 (F := Ideal)) gP 1792 4608 inb_S1024x5632_S1024x256_0_1792 inb_S8x5632_S8x256_0_1792 inb_S3x5632_S3x256_0_1792 inb_S1x5632_S1x256_0_1792 inb_S1024x5632_S1024x256_0_4608 inb_S8x5632_S8x256_0_4608 inb_S3x5632_S3x256_0_4608 inb_S1x5632_S1x256_0_4608 (by decide) (by decide) x (j 0) (j 1) k q0 (by omega) (by omega)
    · refine (congrFun (act6 _ _ _ _ _ _ _ _ _) x).trans ?_
      exact act_piece m c t (j 0) q0 (k0_pay1 (F := Ideal)) gP 1536 4352 inb_S1024x5632_S1024x256_0_1536 inb_S8x5632_S8x256_0_1536 inb_S3x5632_S3x256_0_1536 inb_S1x5632_S1x256_0_1536 inb_S1024x5632_S1024x256_0_4352 inb_S8x5632_S8x256_0_4352 inb_S3x5632_S3x256_0_4352 inb_S1x5632_S1x256_0_4352 (by decide) (by decide) x (j 0) (j 1) k q0 (by omega) (by omega)
    · refine (congrFun (act5 _ _ _ _ _ _ _ _ _) x).trans ?_
      exact act_piece m c t (j 0) q0 (k0_pay1 (F := Ideal)) gP 1280 4096 inb_S1024x5632_S1024x256_0_1280 inb_S8x5632_S8x256_0_1280 inb_S3x5632_S3x256_0_1280 inb_S1x5632_S1x256_0_1280 inb_S1024x5632_S1024x256_0_4096 inb_S8x5632_S8x256_0_4096 inb_S3x5632_S3x256_0_4096 inb_S1x5632_S1x256_0_4096 (by decide) (by decide) x (j 0) (j 1) k q0 (by omega) (by omega)
    · refine (congrFun (act4 _ _ _ _ _ _ _ _ _) x).trans ?_
      exact act_piece m c t (j 0) q0 (k0_pay1 (F := Ideal)) gP 1024 3840 inb_S1024x5632_S1024x256_0_1024 inb_S8x5632_S8x256_0_1024 inb_S3x5632_S3x256_0_1024 inb_S1x5632_S1x256_0_1024 inb_S1024x5632_S1024x256_0_3840 inb_S8x5632_S8x256_0_3840 inb_S3x5632_S3x256_0_3840 inb_S1x5632_S1x256_0_3840 (by decide) (by decide) x (j 0) (j 1) k q0 (by omega) (by omega)
    · refine (congrFun (act3 _ _ _ _ _ _ _ _ _) x).trans ?_
      exact act_piece m c t (j 0) q0 (k0_pay1 (F := Ideal)) gP 768 3584 inb_S1024x5632_S1024x256_0_768 inb_S8x5632_S8x256_0_768 inb_S3x5632_S3x256_0_768 inb_S1x5632_S1x256_0_768 inb_S1024x5632_S1024x256_0_3584 inb_S8x5632_S8x256_0_3584 inb_S3x5632_S3x256_0_3584 inb_S1x5632_S1x256_0_3584 (by decide) (by decide) x (j 0) (j 1) k q0 (by omega) (by omega)
    · refine (congrFun (act2 _ _ _ _ _ _ _ _ _) x).trans ?_
      exact act_piece m c t (j 0) q0 (k0_pay1 (F := Ideal)) gP 512 3328 inb_S1024x5632_S1024x256_0_512 inb_S8x5632_S8x256_0_512 inb_S3x5632_S3x256_0_512 inb_S1x5632_S1x256_0_512 inb_S1024x5632_S1024x256_0_3328 inb_S8x5632_S8x256_0_3328 inb_S3x5632_S3x256_0_3328 inb_S1x5632_S1x256_0_3328 (by decide) (by decide) x (j 0) (j 1) k q0 (by omega) (by omega)
    · refine (congrFun (act1 _ _ _ _ _ _ _ _ _) x).trans ?_
      exact act_piece m c t (j 0) q0 (k0_pay1 (F := Ideal)) gP 256 3072 inb_S1024x5632_S1024x256_0_256 inb_S8x5632_S8x256_0_256 inb_S3x5632_S3x256_0_256 inb_S1x5632_S1x256_0_256 inb_S1024x5632_S1024x256_0_3072 inb_S8x5632_S8x256_0_3072 inb_S3x5632_S3x256_0_3072 inb_S1x5632_S1x256_0_3072 (by decide) (by decide) x (j 0) (j 1) k q0 (by omega) (by omega)
    · refine (congrFun (act0 _ _ _ _ _ _ _ _ _) x).trans ?_
      exact act_piece m c t (j 0) q0 (k0_pay1 (F := Ideal)) gP 0 2816 inb_S1024x5632_S1024x256_0_0 inb_S8x5632_S8x256_0_0 inb_S3x5632_S3x256_0_0 inb_S1x5632_S1x256_0_0 inb_S1024x5632_S1024x256_0_2816 inb_S8x5632_S8x256_0_2816 inb_S3x5632_S3x256_0_2816 inb_S1x5632_S1x256_0_2816 (by decide) (by decide) x (j 0) (j 1) k q0 (by omega) (by omega)
  · refine Eq.trans ?_ (b1 m c t _ q0 5 k _ rfl)
    pointwise

end Final
end Cert.FfnBlock
end
-- ==== Proof.FfnHalo.lean ====
/- The gated block: the last rows of a tile that the kernel keeps for the next one, chunk by chunk. -/
module

public import proofs.«01_k».proof.Proof.FfnPieces
public import proofs.«01_k».proof.Proof.FfnChunks
public import proofs.«01_k».proof.Proof.Gen.FfnIdeal.Value
public import proofs.«01_k».proof.Proof.Gen.FfnRefIdeal.Run
public import Idealize.ShloMosaic.Lib.Pipeline.ReadBack
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.FfnBlock

section Final
open Cert.FfnIdeal Cert.FfnIdeal.Gen
open Idealize.ShloMosaic.Pipeline (Dat)

variable (m : (ℓ : Loc nD τ sig) → Buf (Elt Ideal) ℓ)

set_option maxHeartbeats 4000000 in
/-- The carried rows a sequence's first point leaves. -/
theorem haloA (c : Dev nD) (t : Fin cfg0.N) (h : t.val % 2 = 0) (i : Fin 8) (hi : i.val = t.val / 2) (s : Fin 8 → Fin 2048)
    (hs : ∀ q, (s q).val = t.val % 2 * 1024 + 1016 + q.val) (y : S8x5632.Idx) :
    (outsAt0 m c t.val t.isLt).2 y = U m c (ix3 i (s (y 0)) (y 1)) := by
  rw [outsAt0_A m c t h]
  frame_open
  simp (disch := decide) only [↓ View.readCov_skip, ↓ View.readCov_cons_toLoadRect, ↓ View.readCov_fill]
  frame_out
  refine View.canon_append_of_piecesOf (Val := Elt Ideal) (e := .f32) (fun y : S8x5632.Idx => U m c (ix3 i (s (y 0)) (y 1))) [_] [_, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, trivial⟩ y ?_
  · intro x
    exact (congrFun (halo5376 _ _) x).trans (halo_piece m c t i hi 5376 (by decide) inb_S1024x5632_S1024x256_0_5376 inb_S8x5632_S8x256_0_5376 s hs x)
  · intro x
    exact (congrFun (halo2560 _ _) x).trans (halo_piece m c t i hi 2560 (by decide) inb_S1024x5632_S1024x256_0_2560 inb_S8x5632_S8x256_0_2560 s hs x)
  · intro x
    exact (congrFun (halo5120 _ _) x).trans (halo_piece m c t i hi 5120 (by decide) inb_S1024x5632_S1024x256_0_5120 inb_S8x5632_S8x256_0_5120 s hs x)
  · intro x
    exact (congrFun (halo2304 _ _) x).trans (halo_piece m c t i hi 2304 (by decide) inb_S1024x5632_S1024x256_0_2304 inb_S8x5632_S8x256_0_2304 s hs x)
  · intro x
    exact (congrFun (halo4864 _ _) x).trans (halo_piece m c t i hi 4864 (by decide) inb_S1024x5632_S1024x256_0_4864 inb_S8x5632_S8x256_0_4864 s hs x)
  · intro x
    exact (congrFun (halo2048 _ _) x).trans (halo_piece m c t i hi 2048 (by decide) inb_S1024x5632_S1024x256_0_2048 inb_S8x5632_S8x256_0_2048 s hs x)
  · intro x
    exact (congrFun (halo4608 _ _) x).trans (halo_piece m c t i hi 4608 (by decide) inb_S1024x5632_S1024x256_0_4608 inb_S8x5632_S8x256_0_4608 s hs x)
  · intro x
    exact (congrFun (halo1792 _ _) x).trans (halo_piece m c t i hi 1792 (by decide) inb_S1024x5632_S1024x256_0_1792 inb_S8x5632_S8x256_0_1792 s hs x)
  · intro x
    exact (congrFun (halo4352 _ _) x).trans (halo_piece m c t i hi 4352 (by decide) inb_S1024x5632_S1024x256_0_4352 inb_S8x5632_S8x256_0_4352 s hs x)
  · intro x
    exact (congrFun (halo1536 _ _) x).trans (halo_piece m c t i hi 1536 (by decide) inb_S1024x5632_S1024x256_0_1536 inb_S8x5632_S8x256_0_1536 s hs x)
  · intro x
    exact (congrFun (halo4096 _ _) x).trans (halo_piece m c t i hi 4096 (by decide) inb_S1024x5632_S1024x256_0_4096 inb_S8x5632_S8x256_0_4096 s hs x)
  · intro x
    exact (congrFun (halo1280 _ _) x).trans (halo_piece m c t i hi 1280 (by decide) inb_S1024x5632_S1024x256_0_1280 inb_S8x5632_S8x256_0_1280 s hs x)
  · intro x
    exact (congrFun (halo3840 _ _) x).trans (halo_piece m c t i hi 3840 (by decide) inb_S1024x5632_S1024x256_0_3840 inb_S8x5632_S8x256_0_3840 s hs x)
  · intro x
    exact (congrFun (halo1024 _ _) x).trans (halo_piece m c t i hi 1024 (by decide) inb_S1024x5632_S1024x256_0_1024 inb_S8x5632_S8x256_0_1024 s hs x)
  · intro x
    exact (congrFun (halo3584 _ _) x).trans (halo_piece m c t i hi 3584 (by decide) inb_S1024x5632_S1024x256_0_3584 inb_S8x5632_S8x256_0_3584 s hs x)
  · intro x
    exact (congrFun (halo768 _ _) x).trans (halo_piece m c t i hi 768 (by decide) inb_S1024x5632_S1024x256_0_768 inb_S8x5632_S8x256_0_768 s hs x)
  · intro x
    exact (congrFun (halo3328 _ _) x).trans (halo_piece m c t i hi 3328 (by decide) inb_S1024x5632_S1024x256_0_3328 inb_S8x5632_S8x256_0_3328 s hs x)
  · intro x
    exact (congrFun (halo512 _ _) x).trans (halo_piece m c t i hi 512 (by decide) inb_S1024x5632_S1024x256_0_512 inb_S8x5632_S8x256_0_512 s hs x)
  · intro x
    exact (congrFun (halo3072 _ _) x).trans (halo_piece m c t i hi 3072 (by decide) inb_S1024x5632_S1024x256_0_3072 inb_S8x5632_S8x256_0_3072 s hs x)
  · intro x
    exact (congrFun (halo256 _ _) x).trans (halo_piece m c t i hi 256 (by decide) inb_S1024x5632_S1024x256_0_256 inb_S8x5632_S8x256_0_256 s hs x)
  · intro x
    exact (congrFun (halo2816 _ _) x).trans (halo_piece m c t i hi 2816 (by decide) inb_S1024x5632_S1024x256_0_2816 inb_S8x5632_S8x256_0_2816 s hs x)
  · intro x
    exact (congrFun (halo0 _ _) x).trans (halo_piece m c t i hi 0 (by decide) inb_S1024x5632_S1024x256_0_0 inb_S8x5632_S8x256_0_0 s hs x)
  · exact View.cover_of_tiledL _ ![8, 256] (by sl_kernel_rfl) y

end Final
end Cert.FfnBlock
end
-- ==== Proof.FfnPointB.lean ====
/- The gated block at a later tile of a sequence, where the rows before the tile are the kept ones. -/
module

public import proofs.«01_k».proof.Proof.FfnHalo
public import proofs.«01_k».proof.Proof.Gen.FfnIdeal.Value
public import proofs.«01_k».proof.Proof.Gen.FfnRefIdeal.Run
public import Idealize.ShloMosaic.Lib.Pipeline.ReadBack
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.FfnBlock

section Final
open Cert.FfnIdeal Cert.FfnIdeal.Gen
open Idealize.ShloMosaic.Pipeline (Dat)

variable (m : (ℓ : Loc nD τ sig) → Buf (Elt Ideal) ℓ)

set_option maxHeartbeats 4000000 in
theorem pointB (c : Dev nD) (t : Fin cfg0.N) (hc : ¬ t.val % 2 = 0) (y : S1x1024x1024.Idx) :
    (outsAt0 m c t.val t.isLt).1 y = ffnH (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (((cfg0.win 8).blk t).view.emb y) := by
  have q0 : ((((cfg0.win 8).blk t).view.emb y) 0 : ℕ) = t.val / 2 := by
    have : (y 0).val < 1 := (y 0).isLt
    blk_simp [idx t] <;> (try omega)
  have q1 : ((((cfg0.win 8).blk t).view.emb y) 1 : ℕ) = t.val % 2 * 1024 + (y 1).val := by blk_simp [idx t] <;> (try omega)
  have q2 : ((((cfg0.win 8).blk t).view.emb y) 2 : ℕ) = (y 2).val := by blk_simp [idx t] <;> (try omega)
  generalize ((cfg0.win 8).blk t).view.emb y = j at q0 q1 q2 ⊢
  have gP : ∀ (q : Fin 8) (n : Fin 5632), 6 ≤ q.val → (outsAt0 m c (t.val - 1) (by have := t.isLt; omega)).2 (ix2 q n)
      = prev (U m c) (j 0) n (t.val % 2 * 1024 + q.val - 6) := by
    intro q n hq
    have ht : t.val % 2 = 1 := by omega
    have := q.isLt
    refine (haloA m c ⟨t.val - 1, by have := t.isLt; omega⟩ (by show (t.val - 1) % 2 = 0; omega) (j 0) (by show (j 0).val = (t.val - 1) / 2; omega)
      (fun q => ⟨1016 + q.val, by omega⟩) (fun q => by show 1016 + q.val = (t.val - 1) % 2 * 1024 + 1016 + q.val; omega) (ix2 q n)).trans ?_
    exact (prev_pos _ _ _ _ ⟨1016 + q.val, by omega⟩ (by show _ = 1016 + q.val + 2; omega)).symm
  rw [outsAt0_B m c t hc]
  frame_open
  simp (disch := decide) only [↓ View.readCov_skip, ↓ View.readCov_cons_toLoadRect, ↓ View.readCov_fill]
  frame_out
  simp only [read_unread_whole]
  generalize (outsAt0 m c (t.val - 1) _).2 = P at gP ⊢
  refine out_core _ _ _ _ _ _ (gateH (convH (U m c) (m ((c.tc : Thread nD τ).loc main_arg3)) (m ((c.tc : Thread nD τ).loc main_arg4)))) _ _ _ _ _ y j q2
    (fun k => ?_) (fun k => ?_) (fun k d => b5 m c t k d) (fun k => ?_) (fun k => b6 m c t k) (fun k => b7 m c t k)
  · exact b0 m c t _ q0 (y 1) _ q1 k
  · refine readCov_at _ _ _ _ (fun q w0' w1' => ?_)
    have w0 : (q 0).val = (y 1).val := w0'
    have w1 : (q 1).val = k.val := w1'
    clear w0' w1'
    canon_tiles x h
    · refine (congrFun (act10 _ _ _ _ _ _ _ _ _) x).trans ?_
      exact act_piece m c t (j 0) q0 P gP 2560 5376 inb_S1024x5632_S1024x256_0_2560 inb_S8x5632_S8x256_0_2560 inb_S3x5632_S3x256_0_2560 inb_S1x5632_S1x256_0_2560 inb_S1024x5632_S1024x256_0_5376 inb_S8x5632_S8x256_0_5376 inb_S3x5632_S3x256_0_5376 inb_S1x5632_S1x256_0_5376 (by decide) (by decide) x (j 0) (j 1) k q0 (by omega) (by omega)
    · refine (congrFun (act9 _ _ _ _ _ _ _ _ _) x).trans ?_
      exact act_piece m c t (j 0) q0 P gP 2304 5120 inb_S1024x5632_S1024x256_0_2304 inb_S8x5632_S8x256_0_2304 inb_S3x5632_S3x256_0_2304 inb_S1x5632_S1x256_0_2304 inb_S1024x5632_S1024x256_0_5120 inb_S8x5632_S8x256_0_5120 inb_S3x5632_S3x256_0_5120 inb_S1x5632_S1x256_0_5120 (by decide) (by decide) x (j 0) (j 1) k q0 (by omega) (by omega)
    · refine (congrFun (act8 _ _ _ _ _ _ _ _ _) x).trans ?_
      exact act_piece m c t (j 0) q0 P gP 2048 4864 inb_S1024x5632_S1024x256_0_2048 inb_S8x5632_S8x256_0_2048 inb_S3x5632_S3x256_0_2048 inb_S1x5632_S1x256_0_2048 inb_S1024x5632_S1024x256_0_4864 inb_S8x5632_S8x256_0_4864 inb_S3x5632_S3x256_0_4864 inb_S1x5632_S1x256_0_4864 (by decide) (by decide) x (j 0) (j 1) k q0 (by omega) (by omega)
    · refine (congrFun (act7 _ _ _ _ _ _ _ _ _) x).trans ?_
      exact act_piece m c t (j 0) q0 P gP 1792 4608 inb_S1024x5632_S1024x256_0_1792 inb_S8x5632_S8x256_0_1792 inb_S3x5632_S3x256_0_1792 inb_S1x5632_S1x256_0_1792 inb_S1024x5632_S1024x256_0_4608 inb_S8x5632_S8x256_0_4608 inb_S3x5632_S3x256_0_4608 inb_S1x5632_S1x256_0_4608 (by decide) (by decide) x (j 0) (j 1) k q0 (by omega) (by omega)
    · refine (congrFun (act6 _ _ _ _ _ _ _ _ _) x).trans ?_
      exact act_piece m c t (j 0) q0 P gP 1536 4352 inb_S1024x5632_S1024x256_0_1536 inb_S8x5632_S8x256_0_1536 inb_S3x5632_S3x256_0_1536 inb_S1x5632_S1x256_0_1536 inb_S1024x5632_S1024x256_0_4352 inb_S8x5632_S8x256_0_4352 inb_S3x5632_S3x256_0_4352 inb_S1x5632_S1x256_0_4352 (by decide) (by decide) x (j 0) (j 1) k q0 (by omega) (by omega)
    · refine (congrFun (act5 _ _ _ _ _ _ _ _ _) x).trans ?_
      exact act_piece m c t (j 0) q0 P gP 1280 4096 inb_S1024x5632_S1024x256_0_1280 inb_S8x5632_S8x256_0_1280 inb_S3x5632_S3x256_0_1280 inb_S1x5632_S1x256_0_1280 inb_S1024x5632_S1024x256_0_4096 inb_S8x5632_S8x256_0_4096 inb_S3x5632_S3x256_0_4096 inb_S1x5632_S1x256_0_4096 (by decide) (by decide) x (j 0) (j 1) k q0 (by omega) (by omega)
    · refine (congrFun (act4 _ _ _ _ _ _ _ _ _) x).trans ?_
      exact act_piece m c t (j 0) q0 P gP 1024 3840 inb_S1024x5632_S1024x256_0_1024 inb_S8x5632_S8x256_0_1024 inb_S3x5632_S3x256_0_1024 inb_S1x5632_S1x256_0_1024 inb_S1024x5632_S1024x256_0_3840 inb_S8x5632_S8x256_0_3840 inb_S3x5632_S3x256_0_3840 inb_S1x5632_S1x256_0_3840 (by decide) (by decide) x (j 0) (j 1) k q0 (by omega) (by omega)
    · refine (congrFun (act3 _ _ _ _ _ _ _ _ _) x).trans ?_
      exact act_piece m c t (j 0) q0 P gP 768 3584 inb_S1024x5632_S1024x256_0_768 inb_S8x5632_S8x256_0_768 inb_S3x5632_S3x256_0_768 inb_S1x5632_S1x256_0_768 inb_S1024x5632_S1024x256_0_3584 inb_S8x5632_S8x256_0_3584 inb_S3x5632_S3x256_0_3584 inb_S1x5632_S1x256_0_3584 (by decide) (by decide) x (j 0) (j 1) k q0 (by omega) (by omega)
    · refine (congrFun (act2 _ _ _ _ _ _ _ _ _) x).trans ?_
      exact act_piece m c t (j 0) q0 P gP 512 3328 inb_S1024x5632_S1024x256_0_512 inb_S8x5632_S8x256_0_512 inb_S3x5632_S3x256_0_512 inb_S1x5632_S1x256_0_512 inb_S1024x5632_S1024x256_0_3328 inb_S8x5632_S8x256_0_3328 inb_S3x5632_S3x256_0_3328 inb_S1x5632_S1x256_0_3328 (by decide) (by decide) x (j 0) (j 1) k q0 (by omega) (by omega)
    · refine (congrFun (act1 _ _ _ _ _ _ _ _ _) x).trans ?_
      exact act_piece m c t (j 0) q0 P gP 256 3072 inb_S1024x5632_S1024x256_0_256 inb_S8x5632_S8x256_0_256 inb_S3x5632_S3x256_0_256 inb_S1x5632_S1x256_0_256 inb_S1024x5632_S1024x256_0_3072 inb_S8x5632_S8x256_0_3072 inb_S3x5632_S3x256_0_3072 inb_S1x5632_S1x256_0_3072 (by decide) (by decide) x (j 0) (j 1) k q0 (by omega) (by omega)
    · refine (congrFun (act0 _ _ _ _ _ _ _ _ _) x).trans ?_
      exact act_piece m c t (j 0) q0 P gP 0 2816 inb_S1024x5632_S1024x256_0_0 inb_S8x5632_S8x256_0_0 inb_S3x5632_S3x256_0_0 inb_S1x5632_S1x256_0_0 inb_S1024x5632_S1024x256_0_2816 inb_S8x5632_S8x256_0_2816 inb_S3x5632_S3x256_0_2816 inb_S1x5632_S1x256_0_2816 (by decide) (by decide) x (j 0) (j 1) k q0 (by omega) (by omega)
  · refine Eq.trans ?_ (b1 m c t _ q0 5 k _ rfl)
    pointwise

end Final
end Cert.FfnBlock
end
-- ==== Proof.FfnFinal.lean ====
/- The gated block: the array that the call leaves is the reference's array, index by index. -/
module

public import proofs.«01_k».proof.Proof.FfnPointA
public import proofs.«01_k».proof.Proof.FfnPointB
public import proofs.«01_k».proof.Proof.Gen.FfnIdeal.Value
public import proofs.«01_k».proof.Proof.Gen.FfnRefIdeal.Run
public import Idealize.ShloMosaic.Lib.Pipeline.ReadBack
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.FfnBlock

section Final
open Cert.FfnIdeal Cert.FfnIdeal.Gen
open Idealize.ShloMosaic.Pipeline (Dat)

variable (m : (ℓ : Loc nD τ sig) → Buf (Elt Ideal) ℓ)

/-- The call's result array is the reference's. -/
theorem final (c : Dev nD) : (dats m 0 c).arrAt 8 (cfgs 0).N
    = ffnH (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  refine (dats m 0 c).arrAt_eq_of_covers 8 _ (by decide +kernel) fun t hf y => ?_
  blk_simp
  rw [after0_8]
  by_cases hc : t.val % 2 = 0
  · exact pointA m c t hc y
  · exact pointB m c t hc y

end Final
end Cert.FfnBlock
end
-- ==== Proof.SsdMath.lean ====
/- The selective recurrence, one chunk of one group at a time: its numbers, and the identities by which
   the kernel's base-two exponentials and split running sums are the plain ones. -/
module

public import Idealize.ShloMosaic.Lib.Pointwise

@[expose] public section

noncomputable section

open Idealize.ShloMosaic

namespace Cert.Ssd

/-- What one chunk of one group reads: the input rows, the two projections, the raw step sizes with
    their bias, the logarithms of the decay rates, the output gate, the skip and the norm's weights. -/
structure Chunk where
  x : Fin 256 → Fin 512 → EReal
  b : Fin 256 → Fin 128 → EReal
  c : Fin 256 → Fin 128 → EReal
  dr : Fin 256 → Fin 8 → EReal
  db : Fin 8 → EReal
  al : Fin 8 → EReal
  z : Fin 256 → Fin 512 → EReal
  d : Fin 512 → EReal
  w : Fin 512 → EReal

/-- The softplus function. -/
def sp (x : EReal) : EReal := max x 0 + Ideal.log1p (Ideal.exp (-max x (-x)))

/-- The head of a lane. -/
def hd (q : Fin 512) : Fin 8 := ⟨q.val / 64, by omega⟩

/-- The step size. -/
def Chunk.dt (u : Chunk) (l : Fin 256) (h : Fin 8) : EReal := sp (u.dr l h + u.db h)

/-- The log decay of a step. -/
def Chunk.da (u : Chunk) (l : Fin 256) (h : Fin 8) : EReal := u.dt l h * -Ideal.exp (u.al h)

/-- The log decay from the chunk's beginning. -/
def Chunk.cs (u : Chunk) (l : Fin 256) (h : Fin 8) : EReal := ∑ j : Fin 256, if j ≤ l then u.da j h else 0

/-- The log decay over the whole chunk. -/
def Chunk.cl (u : Chunk) (h : Fin 8) : EReal := u.cs ⟨255, by omega⟩ h

/-- The input times its step size. -/
def Chunk.xd (u : Chunk) (l : Fin 256) (q : Fin 512) : EReal := u.x l q * u.dt l (hd q)

/-- The decay from one row to a later one, zero backwards. -/
def Chunk.lm (u : Chunk) (h : Fin 8) (l s : Fin 256) : EReal := Ideal.exp (if s ≤ l then u.cs l h - u.cs s h else ⊥)

/-- The chunk's own contribution. -/
def Chunk.yd (u : Chunk) (l : Fin 256) (q : Fin 512) : EReal :=
  ∑ s : Fin 256, u.xd s q * ((∑ n : Fin 128, u.c l n * u.b s n) * u.lm (hd q) l s)

/-- The state after the chunk. -/
def Chunk.step (u : Chunk) (S : Fin 128 → Fin 512 → EReal) (n : Fin 128) (q : Fin 512) : EReal :=
  S n q * Ideal.exp (u.cl (hd q)) + ∑ l : Fin 256, (u.xd l q * Ideal.exp (u.cl (hd q) - u.cs l (hd q))) * u.b l n

/-- The state's contribution. -/
def Chunk.yo (u : Chunk) (S : Fin 128 → Fin 512 → EReal) (l : Fin 256) (q : Fin 512) : EReal :=
  (∑ n : Fin 128, S n q * u.c l n) * Ideal.exp (u.cs l (hd q))

/-- The gated sum. -/
def Chunk.y (u : Chunk) (S : Fin 128 → Fin 512 → EReal) (l : Fin 256) (q : Fin 512) : EReal :=
  (u.yd l q + u.yo S l q + u.x l q * u.d q) * u.z l q

/-- The normalised row. -/
def Chunk.out (u : Chunk) (S : Fin 128 → Fin 512 → EReal) (l : Fin 256) (q : Fin 512) : EReal :=
  u.y S l q * Ideal.rsqrt (Ideal.div (∑ k : Fin 512, u.y S l k * u.y S l k) (Ideal.ofBits .f32 0x44000000#32)
    + Ideal.ofBits .f32 0x3727C5AC#32) * u.w q

/-! ## The step sizes are not negative, so the log decays are never plus infinity -/

theorem exp_nonneg (x : EReal) : 0 ≤ Ideal.exp x := by
  induction x using EReal.rec with
  | bot => exact le_refl (0 : EReal)
  | top => exact le_top
  | coe r => rw [Ideal.exp_coe]; exact_mod_cast (Real.exp_pos r).le

theorem log1p_nonneg (x : EReal) (hx : 0 ≤ x) : 0 ≤ Ideal.log1p x := by
  unfold Ideal.log1p
  induction x using EReal.rec with
  | bot => simp at hx
  | top => exact le_top
  | coe r =>
    have hr : 0 ≤ r := by exact_mod_cast hx
    have e : (1 : EReal) + (r : EReal) = ((1 + r : ℝ) : EReal) := by push_cast; rfl
    rw [e, Ideal.log_coe, if_neg (by linarith)]
    exact_mod_cast Real.log_nonneg (by linarith)

theorem sp_nonneg (x : EReal) : 0 ≤ sp x :=
  add_nonneg (le_max_right _ _) (log1p_nonneg _ (exp_nonneg _))

/-! ## Base two -/

/-- The factor to base two. -/
def lg : ℝ := (Real.log 2)⁻¹

theorem lg_pos : 0 < lg := inv_pos.mpr (Real.log_pos (by norm_num))

theorem exp2_mul (x : EReal) : Ideal.exp2 ((lg : EReal) * x) = Ideal.exp x := by
  induction x using EReal.rec with
  | bot => rw [EReal.coe_mul_bot_of_pos lg_pos]; rfl
  | top => rw [EReal.coe_mul_top_of_pos lg_pos]; rfl
  | coe r =>
    rw [← EReal.coe_mul, Ideal.exp2_coe, Ideal.exp_coe]
    congr 1
    show (2 : ℝ) ^ (lg * r) = _
    rw [Real.rpow_def_of_pos (by norm_num)]
    congr 1
    have : Real.log 2 ≠ 0 := (Real.log_pos (by norm_num)).ne'
    unfold lg
    field_simp

theorem lg_sub (x y : EReal) : (lg : EReal) * x - lg * y = lg * (x - y) := by
  have hp := lg_pos
  induction x using EReal.rec <;> induction y using EReal.rec <;>
    simp only [EReal.coe_mul_bot_of_pos hp, EReal.coe_mul_top_of_pos hp, ← EReal.coe_mul, ← EReal.coe_sub, sub_eq_add_neg,
      EReal.neg_bot, EReal.neg_top, ← EReal.coe_neg, ← EReal.coe_add, EReal.bot_add, EReal.add_bot, EReal.top_add_coe, EReal.coe_add_top,
      EReal.top_add_top]
  congr 1
  ring

theorem lg_add (x y : EReal) : (lg : EReal) * (x + y) = lg * x + lg * y := by
  have hp := lg_pos
  induction x using EReal.rec <;> induction y using EReal.rec <;>
    simp only [EReal.coe_mul_bot_of_pos hp, EReal.coe_mul_top_of_pos hp, ← EReal.coe_mul, ← EReal.coe_add, EReal.bot_add, EReal.add_bot,
      EReal.top_add_coe, EReal.coe_add_top, EReal.top_add_top]
  congr 1
  ring

theorem lg_sum {ι : Type} (s : Finset ι) (f : ι → EReal) : (lg : EReal) * ∑ j ∈ s, f j = ∑ j ∈ s, (lg : EReal) * f j := by
  classical
  induction s using Finset.induction_on with
  | empty => simp
  | insert a s ha ih => rw [Finset.sum_insert ha, Finset.sum_insert ha, lg_add, ih]

/-! ## The split of a term in three -/

/-- The two remainders of a term add nothing to it. -/
theorem split3 (x : EReal) (hx : x ≠ ⊤) : ((x - x) - (x - x)) + (x - x) + x = x := by
  induction x using EReal.rec with
  | bot => simp
  | top => exact absurd rfl hx
  | coe r => norm_cast; simp

/-- The three masked sums, each of a part of the terms, are the masked sum of the terms. -/
theorem split_sum (t : Fin 256 → EReal) (f : Fin 256 → EReal) (l : Fin 256) (ht : ∀ j, t j = if j ≤ l then 1 else 0)
    (hf : ∀ j, f j ≠ ⊤) :
    (∑ j, t j * ((f j - f j) - (f j - f j))) + (∑ j, t j * (f j - f j)) + ∑ j, t j * f j = ∑ j, if j ≤ l then f j else 0 := by
  rw [← Finset.sum_add_distrib, ← Finset.sum_add_distrib]
  refine Finset.sum_congr rfl fun j _ => ?_
  rw [ht j]
  split_ifs
  · rw [one_mul, one_mul, one_mul, split3 _ (hf j)]
  · rw [zero_mul, zero_mul, zero_mul, add_zero, add_zero]

theorem ne_top_of_nonpos {x : EReal} (h : x ≤ 0) : x ≠ ⊤ := fun e => by rw [e] at h; simp at h

theorem neg_nonpos {x : EReal} (h : 0 ≤ x) : -x ≤ 0 := by
  have := EReal.neg_le_neg_iff.mpr h
  rwa [neg_zero] at this

theorem Chunk.lgda_ne_top (u : Chunk) (l : Fin 256) (h : Fin 8) : (lg : EReal) * u.da l h ≠ ⊤ := by
  refine ne_top_of_nonpos ?_
  have e : u.da l h = -(u.dt l h * Ideal.exp (u.al h)) := mul_neg _ _
  rw [e, mul_neg]
  exact neg_nonpos (mul_nonneg (by exact_mod_cast lg_pos.le) (mul_nonneg (sp_nonneg _) (exp_nonneg _)))

/-- The running sum to base two, from its three parts. -/
theorem Chunk.cs_split (u : Chunk) (t : Fin 256 → EReal) (f : Fin 256 → EReal) (l : Fin 256) (h : Fin 8)
    (ht : ∀ j, t j = if j ≤ l then 1 else 0) (hf : ∀ j, f j = (lg : EReal) * u.da j h) :
    (∑ j, t j * ((f j - f j) - (f j - f j))) + (∑ j, t j * (f j - f j)) + ∑ j, t j * f j = (lg : EReal) * u.cs l h := by
  rw [split_sum t f l ht (fun j => by rw [hf]; exact u.lgda_ne_top j h), Chunk.cs, lg_sum]
  refine Finset.sum_congr rfl fun j _ => ?_
  split_ifs
  · exact hf j
  · rw [mul_zero]

theorem Chunk.lm_eq (u : Chunk) (h : Fin 8) (l s : Fin 256) :
    Ideal.exp2 (if s ≤ l then (lg : EReal) * u.cs l h - lg * u.cs s h else ⊥) = u.lm h l s := by
  unfold Chunk.lm
  split_ifs
  · rw [lg_sub, exp2_mul]
  · rfl

end Cert.Ssd
end
-- ==== Proof.SsdRef.lean ====
/- The selective recurrence: the reference's array, place by place, as the chunks' numbers. -/
module

public import proofs.«01_k».proof.Proof.SsdMath
public import proofs.«01_k».proof.Proof.Gen.ReferenceIdeal.Run
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Ssd

section Host
open Cert.ReferenceIdeal Cert.ReferenceIdeal.Gen

/-- The raw step sizes with their bias. -/
def rawH (a2 : FVec Ideal S8x2048x16 .f32) (a4 : FVec Ideal S1x16 .f32) : FVec Ideal S8x2048x16 .f32 :=
  addf a2 (broadcastInDim S8x2048x16 ![0, 1, 2] bcast_S1x1x16_S8x2048x16_0_1_2 (broadcastInDim S1x1x16 ![2] bcast_S16_S1x1x16_2 (shapeCast _ a4 shapeCasts_S1x16_S16)))

/-- The raw step sizes less zero. -/
def rawZH (r : FVec Ideal S8x2048x16 .f32) : FVec Ideal S8x2048x16 .f32 :=
  subf r (broadcastInDim S8x2048x16 ![] bcast_S_S8x2048x16 (constant S_ .f32 0x00000000#32))

/-- The step sizes: the softplus of the raw ones. -/
def dtH (r : FVec Ideal S8x2048x16 .f32) : FVec Ideal S8x2048x16 .f32 :=
  select (cmpf .une (rawZH r) (rawZH r)) (addf r (broadcastInDim S8x2048x16 ![] bcast_S_S8x2048x16 (constant S_ .f32 0x00000000#32))) (addf (maximumf r (broadcastInDim S8x2048x16 ![] bcast_S_S8x2048x16 (constant S_ .f32 0x00000000#32))) (Host.log1p (Host.exp (Host.negf (Host.absf (rawZH r))))))

theorem dt_eq (V0 : Valuation τ sig (Elt Ideal)) : Value.res_main_v13 V0 = dtH (rawH (V0 (Proc.devRef .tc main_arg2)) (V0 (Proc.devRef .tc main_arg4))) := rfl

theorem dtH_at (a2 : FVec Ideal S8x2048x16 .f32) (a4 : FVec Ideal S1x16 .f32) (i : Fin 8) (s : Fin 2048) (h : Fin 16) :
    dtH (rawH a2 a4) (ix3 i s h) = sp (a2 (ix3 i s h) + a4 (ix2 0 h)) := by
  pointwise [dtH, rawZH, rawH, sp]
  rw [if_neg (fun h => h rfl)]
  rfl

/-- The log decays, sequence by head, chunk and row. -/
def daH (dt : FVec Ideal S8x2048x16 .f32) (a5 : FVec Ideal S1x16 .f32) : FVec Ideal S8x16x8x256 .f32 :=
  transpose S8x16x8x256 [0, 3, 1, 2] (shapeCast _ (mulf dt (broadcastInDim S8x2048x16 ![0, 1, 2] bcast_S1x1x16_S8x2048x16_0_1_2 (broadcastInDim S1x1x16 ![2] bcast_S16_S1x1x16_2 (Host.negf (Host.exp (shapeCast _ a5 shapeCasts_S1x16_S16)))))) shapeCasts_S8x2048x16_S8x8x256x16) transposes_S8x8x256x16_S8x16x8x256_0_3_1_2

/-- The row of a sequence that a chunk's row is. -/
def sq (k : Fin 8) (l : Fin 256) : Fin 2048 := ⟨k.val * 256 + l.val, by omega⟩

theorem daH_at (dt : FVec Ideal S8x2048x16 .f32) (a5 : FVec Ideal S1x16 .f32) (i : Fin 8) (h : Fin 16) (k : Fin 8) (l : Fin 256) :
    daH dt a5 (ix4 i h k l) = dt (ix3 i (sq k l) h) * -Ideal.exp (a5 (ix2 0 h)) := by
  pointwise [daH, sq]

/-- The head that a group's lane belongs to. -/
def hq (g : Fin 2) (q : Fin 512) : Fin 16 := ⟨g.val * 8 + q.val / 64, by omega⟩

/-- A lane's place within its head. -/
def lp (q : Fin 512) : Fin 64 := ⟨q.val % 64, by omega⟩

/-- The lane of the whole width that a group's lane is. -/
def gl (g : Fin 2) (q : Fin 512) : Fin 1024 := ⟨g.val * 512 + q.val, by omega⟩

/-- The running sums along a chunk. -/
def csH (x : FVec Ideal S8x16x8x256 .f32) : FVec Ideal S8x16x8x256 .f32 :=
  Host.reduceWindowAdd ![1, 1, 1, 256] ![1, 1, 1, 1] ![0, 0, 0, 255] ![0, 0, 0, 0] x (broadcastInDim S_ ![] bcast_S_S_ (constant S_ .f32 0x00000000#32)) reduceWindows_S8x16x8x256_S8x16x8x256_w1s1p0_0_w1s1p0_0_w1s1p0_0_w256s1p255_0 h_S_

theorem foldl_add {N : Nat} (g : Fin N → EReal) (L : List (Fin N)) (a : EReal) : L.foldl (fun acc n => acc + g n) a = a + (L.map g).sum := by
  induction L generalizing a with
  | nil => simp
  | cons n L ih => rw [List.foldl_cons, ih, List.map_cons, List.sum_cons, add_assoc]

/-- A window of one by one by one by 256 places, by its last coordinate. -/
def winE : (⟨4, ![1, 1, 1, 256]⟩ : Shape).Idx ≃ Fin 256 where
  toFun w := w 3
  invFun n := ix4 0 0 0 n
  left_inv w := by
    refine Eq.trans ?_ (eq_ix4 w).symm
    have h0 : w 0 = (0 : Fin 1) := Subsingleton.elim (α := Fin 1) _ _
    have h1 : w 1 = (0 : Fin 1) := Subsingleton.elim (α := Fin 1) _ _
    have h2 : w 2 = (0 : Fin 1) := Subsingleton.elim (α := Fin 1) _ _
    rw [h0, h1, h2]
  right_inv n := rfl

/-- The rotation that brings a window's places onto the rows up to the `l`th, then those after it. -/
def rotE (l : Fin 256) : Fin 256 ≃ Fin 256 where
  toFun n := ⟨(l.val + n.val + 1) % 256, Nat.mod_lt _ (by norm_num)⟩
  invFun j := ⟨(j.val + 255 - l.val) % 256, Nat.mod_lt _ (by norm_num)⟩
  left_inv n := Fin.ext (by show ((l.val + n.val + 1) % 256 + 255 - l.val) % 256 = n.val; omega)
  right_inv j := Fin.ext (by show (l.val + (j.val + 255 - l.val) % 256 + 1) % 256 = j.val; omega)

theorem csH_at (x : FVec Ideal S8x16x8x256 .f32) (i : Fin 8) (h : Fin 16) (k : Fin 8) (l : Fin 256) :
    csH x (ix4 i h k l) = ∑ j : Fin 256, if j ≤ l then x (ix4 i h k j) else 0 := by
  have hz : (broadcastInDim S_ ![] bcast_S_S_ (constant (F := Ideal) S_ .f32 0x00000000#32)) (Shape.Idx.first h_S_) = (0 : EReal) := by
    rw [show Shape.Idx.first h_S_ = ix0 from funext fun a => a.elim0]
    pointwise
  unfold csH
  change Host.reduceWindow (fun a b : EReal => a + b) ![1, 1, 1, 256] ![1, 1, 1, 1] ![0, 0, 0, 255] ![0, 0, 0, 0] x
    (broadcastInDim S_ ![] bcast_S_S_ (constant (F := Ideal) S_ .f32 0x00000000#32)) reduceWindows_S8x16x8x256_S8x16x8x256_w1s1p0_0_w1s1p0_0_w1s1p0_0_w256s1p255_0 h_S_ (ix4 i h k l) = _
  unfold Host.reduceWindow
  rw [hz]
  dsimp only
  rw [foldl_add, zero_add, ← Fin.sum_univ_def]
  refine Fintype.sum_equiv (((⟨4, ![1, 1, 1, 256]⟩ : Shape).rowMajor.symm.trans winE).trans (rotE l)) _ _ fun n => ?_
  show _ = if rotE l (((⟨4, ![1, 1, 1, 256]⟩ : Shape).rowMajor.symm n) 3) ≤ l then
    x (ix4 i h k (rotE l (((⟨4, ![1, 1, 1, 256]⟩ : Shape).rowMajor.symm n) 3))) else 0
  have w0 : ((⟨4, ![1, 1, 1, 256]⟩ : Shape).rowMajor.symm n 0).val = 0 := Nat.lt_one_iff.mp ((⟨4, ![1, 1, 1, 256]⟩ : Shape).rowMajor.symm n 0).isLt
  have w1 : ((⟨4, ![1, 1, 1, 256]⟩ : Shape).rowMajor.symm n 1).val = 0 := Nat.lt_one_iff.mp ((⟨4, ![1, 1, 1, 256]⟩ : Shape).rowMajor.symm n 1).isLt
  have w2 : ((⟨4, ![1, 1, 1, 256]⟩ : Shape).rowMajor.symm n 2).val = 0 := Nat.lt_one_iff.mp ((⟨4, ![1, 1, 1, 256]⟩ : Shape).rowMajor.symm n 2).isLt
  have w3 : ((⟨4, ![1, 1, 1, 256]⟩ : Shape).rowMajor.symm n 3).val < 256 := ((⟨4, ![1, 1, 1, 256]⟩ : Shape).rowMajor.symm n 3).isLt
  have hr : (rotE l ((⟨4, ![1, 1, 1, 256]⟩ : Shape).rowMajor.symm n 3)).val = (l.val + ((⟨4, ![1, 1, 1, 256]⟩ : Shape).rowMajor.symm n 3).val + 1) % 256 := rfl
  have hle : rotE l ((⟨4, ![1, 1, 1, 256]⟩ : Shape).rowMajor.symm n 3) ≤ l ↔ 255 ≤ l.val + ((⟨4, ![1, 1, 1, 256]⟩ : Shape).rowMajor.symm n 3).val := by
    show (rotE l ((⟨4, ![1, 1, 1, 256]⟩ : Shape).rowMajor.symm n 3)).val ≤ l.val ↔ _
    rw [hr]; omega
  by_cases hc : 255 ≤ l.val + ((⟨4, ![1, 1, 1, 256]⟩ : Shape).rowMajor.symm n 3).val
  · rw [if_pos (hle.mpr hc)]
    refine (dif_pos ?_).trans (congrArg x (funext fun a => Fin.ext ?_))
    · intro a
      match a with
      | ⟨0, _⟩ => show 0 ≤ i.val * 1 + ((⟨4, ![1, 1, 1, 256]⟩ : Shape).rowMajor.symm n 0).val ∧ i.val * 1 + ((⟨4, ![1, 1, 1, 256]⟩ : Shape).rowMajor.symm n 0).val - 0 < 8; omega
      | ⟨1, _⟩ => show 0 ≤ h.val * 1 + ((⟨4, ![1, 1, 1, 256]⟩ : Shape).rowMajor.symm n 1).val ∧ h.val * 1 + ((⟨4, ![1, 1, 1, 256]⟩ : Shape).rowMajor.symm n 1).val - 0 < 16; omega
      | ⟨2, _⟩ => show 0 ≤ k.val * 1 + ((⟨4, ![1, 1, 1, 256]⟩ : Shape).rowMajor.symm n 2).val ∧ k.val * 1 + ((⟨4, ![1, 1, 1, 256]⟩ : Shape).rowMajor.symm n 2).val - 0 < 8; omega
      | ⟨3, _⟩ => show 255 ≤ l.val * 1 + ((⟨4, ![1, 1, 1, 256]⟩ : Shape).rowMajor.symm n 3).val ∧ l.val * 1 + ((⟨4, ![1, 1, 1, 256]⟩ : Shape).rowMajor.symm n 3).val - 255 < 256; omega
    · match a with
      | ⟨0, _⟩ => show i.val * 1 + ((⟨4, ![1, 1, 1, 256]⟩ : Shape).rowMajor.symm n 0).val - 0 = i.val; omega
      | ⟨1, _⟩ => show h.val * 1 + ((⟨4, ![1, 1, 1, 256]⟩ : Shape).rowMajor.symm n 1).val - 0 = h.val; omega
      | ⟨2, _⟩ => show k.val * 1 + ((⟨4, ![1, 1, 1, 256]⟩ : Shape).rowMajor.symm n 2).val - 0 = k.val; omega
      | ⟨3, _⟩ => show l.val * 1 + ((⟨4, ![1, 1, 1, 256]⟩ : Shape).rowMajor.symm n 3).val - 255 = (rotE l ((⟨4, ![1, 1, 1, 256]⟩ : Shape).rowMajor.symm n 3)).val; omega
  · rw [if_neg (fun hh => hc (hle.mp hh))]
    refine dif_neg fun hh => hc ?_
    have h3 : 255 ≤ l.val * 1 + ((⟨4, ![1, 1, 1, 256]⟩ : Shape).rowMajor.symm n 3).val := (hh 3).1
    omega

/-- The inputs times their step sizes. -/
def xH (a0 : FVec Ideal S8x2048x1024 .f32) (dt : FVec Ideal S8x2048x16 .f32) : FVec Ideal S8x8x256x16x64 .f32 :=
  shapeCast _ (mulf (shapeCast S8x2048x16x64 a0 shapeCasts_S8x2048x1024_S8x2048x16x64) (broadcastInDim S8x2048x16x64 ![0, 1, 2, 3] bcast_S8x2048x16x1_S8x2048x16x64_0_1_2_3 (broadcastInDim S8x2048x16x1 ![0, 1, 2] bcast_S8x2048x16_S8x2048x16x1_0_1_2 dt))) shapeCasts_S8x2048x16x64_S8x8x256x16x64

/-- One half of the joint projection, from its lane offset's slice, repeated over each group's heads. -/
def bcH (o : ℕ) (hs : S8x2048x512.Slices ![0, 0, o] S8x2048x256) (a1 : FVec Ideal S8x2048x512 .f32) : FVec Ideal S8x8x256x16x128 .f32 :=
  shapeCast _ (shapeCast _ (broadcastInDim S8x2048x2x8x128 ![0, 1, 2, 4] bcast_S8x2048x2x128_S8x2048x2x8x128_0_1_2_4 (shapeCast _ (extractStridedSlice S8x2048x256 ![0, 0, o] a1 hs) shapeCasts_S8x2048x256_S8x2048x2x128)) shapeCasts_S8x2048x2x8x128_S8x2048x16x128) shapeCasts_S8x2048x16x128_S8x8x256x16x128

/-- The running sums at a chunk's last row. -/
def lastH (cs : FVec Ideal S8x16x8x256 .f32) : FVec Ideal S8x16x8x1 .f32 :=
  extractStridedSlice S8x16x8x1 ![0, 0, 0, 255] cs slices_S8x16x8x256_S8x16x8x1_0_0_0_255

/-- Each chunk's contribution to the state. -/
def statesH (x : FVec Ideal S8x8x256x16x64 .f32) (b : FVec Ideal S8x8x256x16x128 .f32) (cs : FVec Ideal S8x16x8x256 .f32) : FVec Ideal S8x8x16x64x128 .f32 :=
  Host.dotGeneral dot_S8x8x256x16x64_S8x8x256x16x128_S8x8x16x64x128_2_2_4_4_013_013 none (mulf x (broadcastInDim S8x8x256x16x64 ![0, 1, 2, 3, 4] bcast_S8x8x256x16x1_S8x8x256x16x64_0_1_2_3_4 (broadcastInDim S8x8x256x16x1 ![0, 1, 2, 3] bcast_S8x8x256x16_S8x8x256x16x1_0_1_2_3 (transpose S8x8x256x16 [0, 2, 3, 1] (Host.exp (subf (broadcastInDim S8x16x8x256 ![0, 1, 2, 3] bcast_S8x16x8x1_S8x16x8x256_0_1_2_3 (lastH cs)) cs)) transposes_S8x16x8x256_S8x8x256x16_0_2_3_1)))) b

/-- Each chunk's whole decay. -/
def decayH (cs : FVec Ideal S8x16x8x256 .f32) : FVec Ideal S8x16x8 .f32 :=
  Host.exp (shapeCast _ (lastH cs) shapeCasts_S8x16x8x1_S8x16x8)

/-- The state after one more chunk. -/
def carryH (o : ℕ) (h1 : S8x16x8.Slices ![0, 0, o] S8x16x1) (h2 : S8x8x16x64x128.Slices ![0, o, 0, 0, 0] S8x1x16x64x128)
    (dec : FVec Ideal S8x16x8 .f32) (st : FVec Ideal S8x8x16x64x128 .f32) (S : FVec Ideal S8x16x64x128 .f32) : FVec Ideal S8x16x64x128 .f32 :=
  addf (mulf S (broadcastInDim S8x16x64x128 ![0, 1, 2, 3] bcast_S8x16x1x1_S8x16x64x128_0_1_2_3 (broadcastInDim S8x16x1x1 ![0, 1] bcast_S8x16_S8x16x1x1_0_1 (shapeCast _ (extractStridedSlice S8x16x1 ![0, 0, o] dec h1) shapeCasts_S8x16x1_S8x16)))) (shapeCast _ (extractStridedSlice S8x1x16x64x128 ![0, o, 0, 0, 0] st h2) shapeCasts_S8x1x16x64x128_S8x16x64x128)

theorem xH_at (a0 : FVec Ideal S8x2048x1024 .f32) (dt : FVec Ideal S8x2048x16 .f32) (i k : Fin 8) (l : Fin 256) (h : Fin 16) (p : Fin 64) :
    xH a0 dt (ix5 i k l h p) = a0 (ix3 i (sq k l) ⟨h.val * 64 + p.val, by omega⟩) * dt (ix3 i (sq k l) h) := by
  pointwise [xH, sq]

theorem bH_at (a1 : FVec Ideal S8x2048x512 .f32) (i k : Fin 8) (l : Fin 256) (h : Fin 16) (n : Fin 128) :
    bcH 0 slices_S8x2048x512_S8x2048x256_0_0_0 a1 (ix5 i k l h n) = a1 (ix3 i (sq k l) ⟨h.val / 8 * 128 + n.val, by omega⟩) := by
  pointwise [bcH, sq]

theorem cH_at (a1 : FVec Ideal S8x2048x512 .f32) (i k : Fin 8) (l : Fin 256) (h : Fin 16) (n : Fin 128) :
    bcH 256 slices_S8x2048x512_S8x2048x256_0_0_256 a1 (ix5 i k l h n) = a1 (ix3 i (sq k l) ⟨256 + (h.val / 8 * 128 + n.val), by omega⟩) := by
  pointwise [bcH, sq]

theorem statesH_at (x : FVec Ideal S8x8x256x16x64 .f32) (b : FVec Ideal S8x8x256x16x128 .f32) (cs : FVec Ideal S8x16x8x256 .f32)
    (i k : Fin 8) (h : Fin 16) (p : Fin 64) (n : Fin 128) : statesH x b cs (ix5 i k h p n)
      = ∑ l : Fin 256, (x (ix5 i k l h p) * Ideal.exp (cs (ix4 i h k ⟨255, by omega⟩) - cs (ix4 i h k l))) * b (ix5 i k l h n) := by
  pointwise [statesH, lastH]

theorem decayH_at (cs : FVec Ideal S8x16x8x256 .f32) (i : Fin 8) (h : Fin 16) (k : Fin 8) :
    decayH cs (ix3 i h k) = Ideal.exp (cs (ix4 i h k ⟨255, by omega⟩)) := by
  pointwise [decayH, lastH]

theorem carryH_at (o : ℕ) (ho : o < 8) (h1 : S8x16x8.Slices ![0, 0, o] S8x16x1) (h2 : S8x8x16x64x128.Slices ![0, o, 0, 0, 0] S8x1x16x64x128)
    (dec : FVec Ideal S8x16x8 .f32) (st : FVec Ideal S8x8x16x64x128 .f32) (S : FVec Ideal S8x16x64x128 .f32)
    (i : Fin 8) (h : Fin 16) (p : Fin 64) (n : Fin 128) : carryH o h1 h2 dec st S (ix4 i h p n)
      = S (ix4 i h p n) * dec (ix3 i h ⟨o, ho⟩) + st (ix5 i ⟨o, ho⟩ h p n) := by
  pointwise [carryH]

/-- The rows at or before each row. -/
def maskH : IVec S256x256 1 :=
  select (cmpi .sge (addi (iotaInDim S256x256 32 0) (broadcastInDim S256x256 ![] bcast_S_S256x256 (constantI S_ 32 0#32))) (iotaInDim S256x256 32 1)) (broadcastInDim S256x256 ![] bcast_S_S256x256 (constantI S_ 1 1#1)) (broadcastInDim S256x256 ![] bcast_S_S256x256 (constantI S_ 1 0#1))

/-- The decay between two rows of a chunk. -/
def lmH (cs : FVec Ideal S8x16x8x256 .f32) : FVec Ideal S8x16x8x256x256 .f32 :=
  Host.exp (select (broadcastInDim S8x16x8x256x256 ![3, 4] bcast_S256x256_S8x16x8x256x256_3_4 maskH) (subf (broadcastInDim S8x16x8x256x256 ![0, 1, 2, 3, 4] bcast_S8x16x8x256x1_S8x16x8x256x256_0_1_2_3_4 (broadcastInDim S8x16x8x256x1 ![0, 1, 2, 3] bcast_S8x16x8x256_S8x16x8x256x1_0_1_2_3 cs)) (broadcastInDim S8x16x8x256x256 ![0, 1, 2, 3, 4] bcast_S8x16x8x1x256_S8x16x8x256x256_0_1_2_3_4 (broadcastInDim S8x16x8x1x256 ![0, 1, 2, 4] bcast_S8x16x8x256_S8x16x8x1x256_0_1_2_4 cs))) (broadcastInDim S8x16x8x256x256 ![] bcast_S_S8x16x8x256x256 (id (constant S_ .f32 0xFF800000#32))))

/-- Each chunk's own contribution. -/
def diagH (x : FVec Ideal S8x8x256x16x64 .f32) (b c : FVec Ideal S8x8x256x16x128 .f32) (cs : FVec Ideal S8x16x8x256 .f32) : FVec Ideal S8x8x256x16x64 .f32 :=
  transpose S8x8x256x16x64 [0, 1, 4, 2, 3] (Host.dotGeneral dot_S8x8x256x16x64_S8x16x8x256x256_S8x8x16x64x256_2_4_4_3_013_021 none x (mulf (Host.dotGeneral dot_S8x8x256x16x128_S8x8x256x16x128_S8x16x8x256x256_4_4_2_2_031_031 none c b) (lmH cs))) transposes_S8x8x16x64x256_S8x8x256x16x64_0_1_4_2_3

/-- The states before the eight chunks. -/
def stackH (f0 f1 f2 f3 f4 f5 f6 f7 : FVec Ideal S8x16x64x128 .f32) : FVec Ideal S8x8x16x64x128 .f32 :=
  concatenate S8x8x16x64x128 1 [⟨S8x1x16x64x128, broadcastInDim S8x1x16x64x128 ![0, 2, 3, 4] bcast_S8x16x64x128_S8x1x16x64x128_0_2_3_4 f0⟩, ⟨S8x1x16x64x128, broadcastInDim S8x1x16x64x128 ![0, 2, 3, 4] bcast_S8x16x64x128_S8x1x16x64x128_0_2_3_4 f1⟩, ⟨S8x1x16x64x128, broadcastInDim S8x1x16x64x128 ![0, 2, 3, 4] bcast_S8x16x64x128_S8x1x16x64x128_0_2_3_4 f2⟩, ⟨S8x1x16x64x128, broadcastInDim S8x1x16x64x128 ![0, 2, 3, 4] bcast_S8x16x64x128_S8x1x16x64x128_0_2_3_4 f3⟩, ⟨S8x1x16x64x128, broadcastInDim S8x1x16x64x128 ![0, 2, 3, 4] bcast_S8x16x64x128_S8x1x16x64x128_0_2_3_4 f4⟩, ⟨S8x1x16x64x128, broadcastInDim S8x1x16x64x128 ![0, 2, 3, 4] bcast_S8x16x64x128_S8x1x16x64x128_0_2_3_4 f5⟩, ⟨S8x1x16x64x128, broadcastInDim S8x1x16x64x128 ![0, 2, 3, 4] bcast_S8x16x64x128_S8x1x16x64x128_0_2_3_4 f6⟩, ⟨S8x1x16x64x128, broadcastInDim S8x1x16x64x128 ![0, 2, 3, 4] bcast_S8x16x64x128_S8x1x16x64x128_0_2_3_4 f7⟩] concatenates_S8x1x16x64x128_S8x1x16x64x128_S8x1x16x64x128_S8x1x16x64x128_S8x1x16x64x128_S8x1x16x64x128_S8x1x16x64x128_S8x1x16x64x128_S8x8x16x64x128_d1

/-- The contribution of the state before each chunk. -/
def offH (st : FVec Ideal S8x8x16x64x128 .f32) (c : FVec Ideal S8x8x256x16x128 .f32) (cs : FVec Ideal S8x16x8x256 .f32) : FVec Ideal S8x8x256x16x64 .f32 :=
  mulf (transpose S8x8x256x16x64 [0, 1, 4, 2, 3] (Host.dotGeneral dot_S8x8x16x64x128_S8x8x256x16x128_S8x8x16x64x256_4_4_3_2_012_013 none st c) transposes_S8x8x16x64x256_S8x8x256x16x64_0_1_4_2_3) (broadcastInDim S8x8x256x16x64 ![0, 1, 2, 3, 4] bcast_S8x8x256x16x1_S8x8x256x16x64_0_1_2_3_4 (broadcastInDim S8x8x256x16x1 ![0, 1, 2, 3] bcast_S8x8x256x16_S8x8x256x16x1_0_1_2_3 (transpose S8x8x256x16 [0, 2, 3, 1] (Host.exp cs) transposes_S8x16x8x256_S8x8x256x16_0_2_3_1)))

/-- The gated sum of the contributions and the skip, by group. -/
def yH (yd yo : FVec Ideal S8x8x256x16x64 .f32) (a0 : FVec Ideal S8x2048x1024 .f32) (a3 : FVec Ideal S8x2048x1024 .f32) (a6 : FVec Ideal S1x16 .f32) : FVec Ideal S8x2048x2x512 .f32 :=
  shapeCast _ (mulf (shapeCast S8x2048x1024 (addf (shapeCast S8x2048x16x64 (addf yd yo) shapeCasts_S8x8x256x16x64_S8x2048x16x64) (mulf (shapeCast S8x2048x16x64 a0 shapeCasts_S8x2048x1024_S8x2048x16x64) (broadcastInDim S8x2048x16x64 ![0, 1, 2, 3] bcast_S1x1x16x1_S8x2048x16x64_0_1_2_3 (broadcastInDim S1x1x16x1 ![2, 3] bcast_S16x1_S1x1x16x1_2_3 (broadcastInDim S16x1 ![0] bcast_S16_S16x1_0 (shapeCast S16 a6 shapeCasts_S1x16_S16)))))) shapeCasts_S8x2048x16x64_S8x2048x1024) a3) shapeCasts_S8x2048x1024_S8x2048x2x512

/-- The normalised rows. -/
def outH (y : FVec Ideal S8x2048x2x512 .f32) (a7 : FVec Ideal S1x1024 .f32) : FVec Ideal S8x2048x1024 .bf16 :=
  truncf .bf16 (mulf (shapeCast S8x2048x1024 (mulf y (broadcastInDim S8x2048x2x512 ![0, 1, 2, 3] bcast_S8x2048x2x1_S8x2048x2x512_0_1_2_3 (Host.rsqrt (addf (Host.divf (broadcastInDim S8x2048x2x1 ![0, 1, 2] bcast_S8x2048x2_S8x2048x2x1_0_1_2 (Host.reduceAdd (mulf y y) (constant S_ .f32 0x00000000#32) reducesTo_S8x2048x2x512_S8x2048x2_d3 h_S_)) (broadcastInDim S8x2048x2x1 ![] bcast_S_S8x2048x2x1 (constant S_ .f32 0x44000000#32))) (broadcastInDim S8x2048x2x1 ![] bcast_S_S8x2048x2x1 (constant S_ .f32 0x3727C5AC#32)))))) shapeCasts_S8x2048x2x512_S8x2048x1024) (broadcastInDim S8x2048x1024 ![0, 1, 2] bcast_S1x1x1024_S8x2048x1024_0_1_2 (broadcastInDim S1x1x1024 ![2] bcast_S1024_S1x1x1024_2 (shapeCast S1024 a7 shapeCasts_S1x1024_S1024)))) bitsLt_bf16_f32

/-- The mask's comparison of two rows. -/
theorem ge_word (l s : Fin 256) : IntOp.cmpi .sge (BitVec.ofNat 32 l.val) (BitVec.ofNat 32 s.val) = if s ≤ l then 1#1 else 0#1 := by
  rw [Idealize.ShloMosaic.WordCmp.cmpi_sge_ofNat (by have := l.isLt; omega) (by have := s.isLt; omega)]
  by_cases h : s.val ≤ l.val
  · rw [decide_eq_true h, if_pos (show s ≤ l from h)]; rfl
  · rw [decide_eq_false h, if_neg (show ¬ s ≤ l from h)]; rfl

theorem lmH_at (cs : FVec Ideal S8x16x8x256 .f32) (i : Fin 8) (h : Fin 16) (k : Fin 8) (l s : Fin 256) :
    lmH cs (ix5 i h k l s) = Ideal.exp (if s ≤ l then cs (ix4 i h k l) - cs (ix4 i h k s) else ⊥) := by
  have hb : id (constant (F := Ideal) S_ .f32 0xFF800000#32) ix0 = (⊥ : EReal) := by
    show Ideal.ofBits .f32 0xFF800000#32 = (⊥ : EReal)
    simp [Ideal.ofBits, Ideal.ieee]
  have ha : IntOp.addi (BitVec.ofNat 32 l.val) 0#32 = BitVec.ofNat 32 l.val := BitVec.add_zero _
  have hw := ge_word l s
  pointwise [lmH, maskH]
  rw [hb, ha, hw]
  split_ifs <;> rfl

theorem diagH_at (x : FVec Ideal S8x8x256x16x64 .f32) (b c : FVec Ideal S8x8x256x16x128 .f32) (cs : FVec Ideal S8x16x8x256 .f32)
    (i k : Fin 8) (l : Fin 256) (h : Fin 16) (p : Fin 64) : diagH x b c cs (ix5 i k l h p)
      = ∑ s : Fin 256, x (ix5 i k s h p) * ((∑ n : Fin 128, c (ix5 i k l h n) * b (ix5 i k s h n)) * lmH cs (ix5 i h k l s)) := by
  pointwise [diagH]

theorem stackH_at (f0 f1 f2 f3 f4 f5 f6 f7 : FVec Ideal S8x16x64x128 .f32) (i k : Fin 8) (h : Fin 16) (p : Fin 64) (n : Fin 128) :
    stackH f0 f1 f2 f3 f4 f5 f6 f7 (ix5 i k h p n) = ![f0, f1, f2, f3, f4, f5, f6, f7] k (ix4 i h p n) := by
  obtain ⟨kv, hk⟩ := k
  interval_cases kv <;> · pointwise [stackH] <;> rfl

theorem offH_at (st : FVec Ideal S8x8x16x64x128 .f32) (c : FVec Ideal S8x8x256x16x128 .f32) (cs : FVec Ideal S8x16x8x256 .f32)
    (i k : Fin 8) (l : Fin 256) (h : Fin 16) (p : Fin 64) : offH st c cs (ix5 i k l h p)
      = (∑ n : Fin 128, st (ix5 i k h p n) * c (ix5 i k l h n)) * Ideal.exp (cs (ix4 i h k l)) := by
  pointwise [offH]

theorem yH_at (yd yo : FVec Ideal S8x8x256x16x64 .f32) (a0 : FVec Ideal S8x2048x1024 .f32) (a3 : FVec Ideal S8x2048x1024 .f32) (a6 : FVec Ideal S1x16 .f32)
    (i k : Fin 8) (l : Fin 256) (g : Fin 2) (q : Fin 512) : yH yd yo a0 a3 a6 (ix4 i (sq k l) g q)
      = (yd (ix5 i k l (hq g q) (lp q)) + yo (ix5 i k l (hq g q) (lp q))
        + a0 (ix3 i (sq k l) (gl g q)) * a6 (ix2 0 (hq g q)))
        * a3 (ix3 i (sq k l) (gl g q)) := by
  have e1 : (g.val * 512 + q.val) / 64 = g.val * 8 + q.val / 64 := by omega
  have e2 : (g.val * 512 + q.val) % 64 = q.val % 64 := by omega
  have e3 : (g.val * 8 + q.val / 64) * 64 + q.val % 64 = g.val * 512 + q.val := by omega
  pointwise [yH, sq, hq, lp, gl]
  simp only [e1, e2, e3]

theorem outH_at (y : FVec Ideal S8x2048x2x512 .f32) (a7 : FVec Ideal S1x1024 .f32) (i : Fin 8) (s : Fin 2048) (g : Fin 2) (q : Fin 512) :
    outH y a7 (ix3 i s (gl g q))
      = y (ix4 i s g q) * Ideal.rsqrt (Ideal.div (∑ k : Fin 512, y (ix4 i s g k) * y (ix4 i s g k)) (Ideal.ofBits .f32 0x44000000#32)
        + Ideal.ofBits .f32 0x3727C5AC#32) * a7 (ix2 0 (gl g q)) := by
  pointwise [outH, gl]

/-- The states' chain: nothing, then one more chunk at a time. -/
def S1 (dec : FVec Ideal S8x16x8 .f32) (st : FVec Ideal S8x8x16x64x128 .f32) : FVec Ideal S8x16x64x128 .f32 :=
  carryH 0 slices_S8x16x8_S8x16x1_0_0_0 slices_S8x8x16x64x128_S8x1x16x64x128_0_0_0_0_0 dec st (broadcastInDim S8x16x64x128 ![] bcast_S_S8x16x64x128 (constant S_ .f32 0x00000000#32))
def S2 (dec : FVec Ideal S8x16x8 .f32) (st : FVec Ideal S8x8x16x64x128 .f32) : FVec Ideal S8x16x64x128 .f32 :=
  carryH 1 slices_S8x16x8_S8x16x1_0_0_1 slices_S8x8x16x64x128_S8x1x16x64x128_0_1_0_0_0 dec st (S1 dec st)
def S3 (dec : FVec Ideal S8x16x8 .f32) (st : FVec Ideal S8x8x16x64x128 .f32) : FVec Ideal S8x16x64x128 .f32 :=
  carryH 2 slices_S8x16x8_S8x16x1_0_0_2 slices_S8x8x16x64x128_S8x1x16x64x128_0_2_0_0_0 dec st (S2 dec st)
def S4 (dec : FVec Ideal S8x16x8 .f32) (st : FVec Ideal S8x8x16x64x128 .f32) : FVec Ideal S8x16x64x128 .f32 :=
  carryH 3 slices_S8x16x8_S8x16x1_0_0_3 slices_S8x8x16x64x128_S8x1x16x64x128_0_3_0_0_0 dec st (S3 dec st)
def S5 (dec : FVec Ideal S8x16x8 .f32) (st : FVec Ideal S8x8x16x64x128 .f32) : FVec Ideal S8x16x64x128 .f32 :=
  carryH 4 slices_S8x16x8_S8x16x1_0_0_4 slices_S8x8x16x64x128_S8x1x16x64x128_0_4_0_0_0 dec st (S4 dec st)
def S6 (dec : FVec Ideal S8x16x8 .f32) (st : FVec Ideal S8x8x16x64x128 .f32) : FVec Ideal S8x16x64x128 .f32 :=
  carryH 5 slices_S8x16x8_S8x16x1_0_0_5 slices_S8x8x16x64x128_S8x1x16x64x128_0_5_0_0_0 dec st (S5 dec st)
def S7 (dec : FVec Ideal S8x16x8 .f32) (st : FVec Ideal S8x8x16x64x128 .f32) : FVec Ideal S8x16x64x128 .f32 :=
  carryH 6 slices_S8x16x8_S8x16x1_0_0_6 slices_S8x8x16x64x128_S8x1x16x64x128_0_6_0_0_0 dec st (S6 dec st)

/-- The states before the eight chunks, stacked. -/
def prevH (dec : FVec Ideal S8x16x8 .f32) (st : FVec Ideal S8x8x16x64x128 .f32) : FVec Ideal S8x8x16x64x128 .f32 :=
  stackH (broadcastInDim S8x16x64x128 ![] bcast_S_S8x16x64x128 (constant S_ .f32 0x00000000#32)) (S1 dec st) (S2 dec st) (S3 dec st) (S4 dec st) (S5 dec st) (S6 dec st) (S7 dec st)

/-- The gated sum, over the step sizes, the running sums, the inputs and the two projections. -/
def midH (x : FVec Ideal S8x8x256x16x64 .f32) (b c : FVec Ideal S8x8x256x16x128 .f32) (cs : FVec Ideal S8x16x8x256 .f32)
    (a0 a3 : FVec Ideal S8x2048x1024 .f32) (a6 : FVec Ideal S1x16 .f32) : FVec Ideal S8x2048x2x512 .f32 :=
  yH (diagH x b c cs) (offH (prevH (decayH cs) (statesH x b cs)) c cs) a0 a3 a6

/-- The recurrence's rows over its arguments. -/
def ssdH (a0 : FVec Ideal S8x2048x1024 .f32) (a1 : FVec Ideal S8x2048x512 .f32) (a2 : FVec Ideal S8x2048x16 .f32) (a3 : FVec Ideal S8x2048x1024 .f32)
    (a4 a5 a6 : FVec Ideal S1x16 .f32) (a7 : FVec Ideal S1x1024 .f32) : FVec Ideal S8x2048x1024 .bf16 :=
  outH (midH (xH a0 (dtH (rawH a2 a4))) (bcH 0 slices_S8x2048x512_S8x2048x256_0_0_0 a1) (bcH 256 slices_S8x2048x512_S8x2048x256_0_0_256 a1)
    (csH (daH (dtH (rawH a2 a4)) a5)) a0 a3 a6) a7

set_option maxHeartbeats 1000000 in
theorem mid_eq (V0 : Valuation τ sig (Elt Ideal)) : Value.res_main_v146 V0 = midH
    (xH (V0 (Proc.devRef .tc main_arg0)) (dtH (rawH (V0 (Proc.devRef .tc main_arg2)) (V0 (Proc.devRef .tc main_arg4)))))
    (bcH 0 slices_S8x2048x512_S8x2048x256_0_0_0 (V0 (Proc.devRef .tc main_arg1))) (bcH 256 slices_S8x2048x512_S8x2048x256_0_0_256 (V0 (Proc.devRef .tc main_arg1)))
    (csH (daH (dtH (rawH (V0 (Proc.devRef .tc main_arg2)) (V0 (Proc.devRef .tc main_arg4)))) (V0 (Proc.devRef .tc main_arg5))))
    (V0 (Proc.devRef .tc main_arg0)) (V0 (Proc.devRef .tc main_arg3)) (V0 (Proc.devRef .tc main_arg6)) := rfl

/-! ## The reference in the chunks' numbers -/

/-- What a chunk of a group reads, of the launch's arguments. -/
def chunkOf (a0 : FVec Ideal S8x2048x1024 .f32) (a1 : FVec Ideal S8x2048x512 .f32) (a2 : FVec Ideal S8x2048x16 .f32) (a3 : FVec Ideal S8x2048x1024 .f32)
    (a4 a5 a6 : FVec Ideal S1x16 .f32) (a7 : FVec Ideal S1x1024 .f32) (i : Fin 8) (g : Fin 2) (k : Fin 8) : Chunk where
  x l q := a0 (ix3 i (sq k l) (gl g q))
  b l n := a1 (ix3 i (sq k l) ⟨g.val * 128 + n.val, by omega⟩)
  c l n := a1 (ix3 i (sq k l) ⟨256 + (g.val * 128 + n.val), by omega⟩)
  dr l h := a2 (ix3 i (sq k l) ⟨g.val * 8 + h.val, by omega⟩)
  db h := a4 (ix2 0 ⟨g.val * 8 + h.val, by omega⟩)
  al h := a5 (ix2 0 ⟨g.val * 8 + h.val, by omega⟩)
  z l q := a3 (ix3 i (sq k l) (gl g q))
  d q := a6 (ix2 0 (hq g q))
  w q := a7 (ix2 0 (gl g q))

/-- The state before each chunk. -/
def St (u : Fin 8 → Chunk) : ℕ → Fin 128 → Fin 512 → EReal
  | 0 => fun _ _ => 0
  | k + 1 => if h : k < 8 then (u ⟨k, h⟩).step (St u k) else fun _ _ => 0

section At
variable (a0 : FVec Ideal S8x2048x1024 .f32) (a1 : FVec Ideal S8x2048x512 .f32) (a2 : FVec Ideal S8x2048x16 .f32) (a3 : FVec Ideal S8x2048x1024 .f32)
    (a4 a5 a6 : FVec Ideal S1x16 .f32) (a7 : FVec Ideal S1x1024 .f32)

theorem hd_hq (g : Fin 2) (q : Fin 512) : (⟨g.val * 8 + (hd q).val, by have := (hd q).isLt; omega⟩ : Fin 16) = hq g q := rfl

theorem dtq_at (i : Fin 8) (g : Fin 2) (k : Fin 8) (l : Fin 256) (q : Fin 512) :
    dtH (rawH a2 a4) (ix3 i (sq k l) (hq g q)) = (chunkOf a0 a1 a2 a3 a4 a5 a6 a7 i g k).dt l (hd q) :=
  dtH_at a2 a4 i (sq k l) (hq g q)

theorem csq_at (i : Fin 8) (g : Fin 2) (k : Fin 8) (l : Fin 256) (q : Fin 512) :
    csH (daH (dtH (rawH a2 a4)) a5) (ix4 i (hq g q) k l) = (chunkOf a0 a1 a2 a3 a4 a5 a6 a7 i g k).cs l (hd q) := by
  rw [csH_at]
  refine Finset.sum_congr rfl fun j _ => ?_
  split_ifs
  · rw [daH_at, dtq_at a0 a1 a2 a3 a4 a5 a6 a7]; rfl
  · rfl

theorem xq_at (i : Fin 8) (g : Fin 2) (k : Fin 8) (l : Fin 256) (q : Fin 512) :
    xH a0 (dtH (rawH a2 a4)) (ix5 i k l (hq g q) (lp q)) = (chunkOf a0 a1 a2 a3 a4 a5 a6 a7 i g k).xd l q := by
  rw [xH_at, dtq_at a0 a1 a2 a3 a4 a5 a6 a7]
  have e : (⟨(hq g q).val * 64 + (lp q).val, by have := (hq g q).isLt; have := (lp q).isLt; omega⟩ : Fin 1024) = gl g q :=
    Fin.ext (by show (g.val * 8 + q.val / 64) * 64 + q.val % 64 = g.val * 512 + q.val; omega)
  rw [e]; rfl

theorem bq_at (i : Fin 8) (g : Fin 2) (k : Fin 8) (l : Fin 256) (q : Fin 512) (n : Fin 128) :
    bcH 0 slices_S8x2048x512_S8x2048x256_0_0_0 a1 (ix5 i k l (hq g q) n) = (chunkOf a0 a1 a2 a3 a4 a5 a6 a7 i g k).b l n := by
  rw [bH_at]
  have e : (⟨(hq g q).val / 8 * 128 + n.val, by have := (hq g q).isLt; omega⟩ : Fin 512) = ⟨g.val * 128 + n.val, by omega⟩ :=
    Fin.ext (by show (g.val * 8 + q.val / 64) / 8 * 128 + n.val = g.val * 128 + n.val; omega)
  rw [e]; rfl

theorem cq_at (i : Fin 8) (g : Fin 2) (k : Fin 8) (l : Fin 256) (q : Fin 512) (n : Fin 128) :
    bcH 256 slices_S8x2048x512_S8x2048x256_0_0_256 a1 (ix5 i k l (hq g q) n) = (chunkOf a0 a1 a2 a3 a4 a5 a6 a7 i g k).c l n := by
  rw [cH_at]
  have e : (⟨256 + ((hq g q).val / 8 * 128 + n.val), by have := (hq g q).isLt; omega⟩ : Fin 512) = ⟨256 + (g.val * 128 + n.val), by omega⟩ :=
    Fin.ext (by show 256 + ((g.val * 8 + q.val / 64) / 8 * 128 + n.val) = 256 + (g.val * 128 + n.val); omega)
  rw [e]; rfl

theorem stq_at (i : Fin 8) (g : Fin 2) (k : Fin 8) (q : Fin 512) (n : Fin 128) :
    statesH (xH a0 (dtH (rawH a2 a4))) (bcH 0 slices_S8x2048x512_S8x2048x256_0_0_0 a1) (csH (daH (dtH (rawH a2 a4)) a5)) (ix5 i k (hq g q) (lp q) n)
      = ∑ l : Fin 256, ((chunkOf a0 a1 a2 a3 a4 a5 a6 a7 i g k).xd l q * Ideal.exp ((chunkOf a0 a1 a2 a3 a4 a5 a6 a7 i g k).cl (hd q) - (chunkOf a0 a1 a2 a3 a4 a5 a6 a7 i g k).cs l (hd q)))
        * (chunkOf a0 a1 a2 a3 a4 a5 a6 a7 i g k).b l n := by
  rw [statesH_at]
  refine Finset.sum_congr rfl fun l _ => ?_
  rw [xq_at a0 a1 a2 a3 a4 a5 a6 a7, csq_at a0 a1 a2 a3 a4 a5 a6 a7, csq_at a0 a1 a2 a3 a4 a5 a6 a7, bq_at a0 a1 a2 a3 a4 a5 a6 a7]
  rfl

theorem deq_at (i : Fin 8) (g : Fin 2) (k : Fin 8) (q : Fin 512) :
    decayH (csH (daH (dtH (rawH a2 a4)) a5)) (ix3 i (hq g q) k) = Ideal.exp ((chunkOf a0 a1 a2 a3 a4 a5 a6 a7 i g k).cl (hd q)) := by
  rw [decayH_at, csq_at a0 a1 a2 a3 a4 a5 a6 a7]
  rfl

theorem carryq_at (o : ℕ) (ho : o < 8) (h1 : S8x16x8.Slices ![0, 0, o] S8x16x1) (h2 : S8x8x16x64x128.Slices ![0, o, 0, 0, 0] S8x1x16x64x128)
    (S : FVec Ideal S8x16x64x128 .f32) (i : Fin 8) (g : Fin 2) (q : Fin 512) (n : Fin 128)
    (hS : S (ix4 i (hq g q) (lp q) n) = St (chunkOf a0 a1 a2 a3 a4 a5 a6 a7 i g) o n q) :
    carryH o h1 h2 (decayH (csH (daH (dtH (rawH a2 a4)) a5))) (statesH (xH a0 (dtH (rawH a2 a4))) (bcH 0 slices_S8x2048x512_S8x2048x256_0_0_0 a1) (csH (daH (dtH (rawH a2 a4)) a5))) S
      (ix4 i (hq g q) (lp q) n) = St (chunkOf a0 a1 a2 a3 a4 a5 a6 a7 i g) (o + 1) n q := by
  rw [carryH_at o ho, hS, deq_at a0 a1 a2 a3 a4 a5 a6 a7, stq_at a0 a1 a2 a3 a4 a5 a6 a7]
  show _ = (if h : o < 8 then (chunkOf a0 a1 a2 a3 a4 a5 a6 a7 i g ⟨o, h⟩).step (St (chunkOf a0 a1 a2 a3 a4 a5 a6 a7 i g) o) else fun _ _ => 0) n q
  rw [dif_pos ho]
  rfl

theorem prevq_at (i k : Fin 8) (g : Fin 2) (q : Fin 512) (n : Fin 128) :
    prevH (decayH (csH (daH (dtH (rawH a2 a4)) a5))) (statesH (xH a0 (dtH (rawH a2 a4))) (bcH 0 slices_S8x2048x512_S8x2048x256_0_0_0 a1) (csH (daH (dtH (rawH a2 a4)) a5)))
      (ix5 i k (hq g q) (lp q) n) = St (chunkOf a0 a1 a2 a3 a4 a5 a6 a7 i g) k.val n q := by
  unfold prevH
  rw [stackH_at]
  have s0 : broadcastInDim S8x16x64x128 ![] bcast_S_S8x16x64x128 (constant (F := Ideal) S_ .f32 0x00000000#32) (ix4 i (hq g q) (lp q) n)
      = St (chunkOf a0 a1 a2 a3 a4 a5 a6 a7 i g) 0 n q := by
    show _ = (0 : EReal)
    pointwise
  have s1 := carryq_at a0 a1 a2 a3 a4 a5 a6 a7 0 (by omega) slices_S8x16x8_S8x16x1_0_0_0 slices_S8x8x16x64x128_S8x1x16x64x128_0_0_0_0_0 _ i g q n s0
  have s2 := carryq_at a0 a1 a2 a3 a4 a5 a6 a7 1 (by omega) slices_S8x16x8_S8x16x1_0_0_1 slices_S8x8x16x64x128_S8x1x16x64x128_0_1_0_0_0 _ i g q n s1
  have s3 := carryq_at a0 a1 a2 a3 a4 a5 a6 a7 2 (by omega) slices_S8x16x8_S8x16x1_0_0_2 slices_S8x8x16x64x128_S8x1x16x64x128_0_2_0_0_0 _ i g q n s2
  have s4 := carryq_at a0 a1 a2 a3 a4 a5 a6 a7 3 (by omega) slices_S8x16x8_S8x16x1_0_0_3 slices_S8x8x16x64x128_S8x1x16x64x128_0_3_0_0_0 _ i g q n s3
  have s5 := carryq_at a0 a1 a2 a3 a4 a5 a6 a7 4 (by omega) slices_S8x16x8_S8x16x1_0_0_4 slices_S8x8x16x64x128_S8x1x16x64x128_0_4_0_0_0 _ i g q n s4
  have s6 := carryq_at a0 a1 a2 a3 a4 a5 a6 a7 5 (by omega) slices_S8x16x8_S8x16x1_0_0_5 slices_S8x8x16x64x128_S8x1x16x64x128_0_5_0_0_0 _ i g q n s5
  have s7 := carryq_at a0 a1 a2 a3 a4 a5 a6 a7 6 (by omega) slices_S8x16x8_S8x16x1_0_0_6 slices_S8x8x16x64x128_S8x1x16x64x128_0_6_0_0_0 _ i g q n s6
  obtain ⟨kv, hk⟩ := k
  interval_cases kv
  · exact s0
  · exact s1
  · exact s2
  · exact s3
  · exact s4
  · exact s5
  · exact s6
  · exact s7

theorem midq_at (i k : Fin 8) (l : Fin 256) (g : Fin 2) (q : Fin 512) :
    midH (xH a0 (dtH (rawH a2 a4))) (bcH 0 slices_S8x2048x512_S8x2048x256_0_0_0 a1) (bcH 256 slices_S8x2048x512_S8x2048x256_0_0_256 a1)
      (csH (daH (dtH (rawH a2 a4)) a5)) a0 a3 a6 (ix4 i (sq k l) g q)
      = (chunkOf a0 a1 a2 a3 a4 a5 a6 a7 i g k).y (St (chunkOf a0 a1 a2 a3 a4 a5 a6 a7 i g) k.val) l q := by
  unfold midH
  rw [yH_at, diagH_at, offH_at]
  have e1 : (∑ s : Fin 256, xH a0 (dtH (rawH a2 a4)) (ix5 i k s (hq g q) (lp q)) * ((∑ n : Fin 128, bcH 256 slices_S8x2048x512_S8x2048x256_0_0_256 a1 (ix5 i k l (hq g q) n)
      * bcH 0 slices_S8x2048x512_S8x2048x256_0_0_0 a1 (ix5 i k s (hq g q) n)) * lmH (csH (daH (dtH (rawH a2 a4)) a5)) (ix5 i (hq g q) k l s)))
      = (chunkOf a0 a1 a2 a3 a4 a5 a6 a7 i g k).yd l q := by
    refine Finset.sum_congr rfl fun s _ => ?_
    rw [xq_at a0 a1 a2 a3 a4 a5 a6 a7, lmH_at, csq_at a0 a1 a2 a3 a4 a5 a6 a7, csq_at a0 a1 a2 a3 a4 a5 a6 a7]
    have e : (∑ n : Fin 128, bcH 256 slices_S8x2048x512_S8x2048x256_0_0_256 a1 (ix5 i k l (hq g q) n)
      * bcH 0 slices_S8x2048x512_S8x2048x256_0_0_0 a1 (ix5 i k s (hq g q) n)) = ∑ n : Fin 128, (chunkOf a0 a1 a2 a3 a4 a5 a6 a7 i g k).c l n * (chunkOf a0 a1 a2 a3 a4 a5 a6 a7 i g k).b s n :=
      Finset.sum_congr rfl fun n _ => by rw [cq_at a0 a1 a2 a3 a4 a5 a6 a7, bq_at a0 a1 a2 a3 a4 a5 a6 a7]
    rw [e]
    rfl
  have e2 : (∑ n : Fin 128, prevH (decayH (csH (daH (dtH (rawH a2 a4)) a5))) (statesH (xH a0 (dtH (rawH a2 a4))) (bcH 0 slices_S8x2048x512_S8x2048x256_0_0_0 a1) (csH (daH (dtH (rawH a2 a4)) a5)))
      (ix5 i k (hq g q) (lp q) n) * bcH 256 slices_S8x2048x512_S8x2048x256_0_0_256 a1 (ix5 i k l (hq g q) n))
      = ∑ n : Fin 128, St (chunkOf a0 a1 a2 a3 a4 a5 a6 a7 i g) k.val n q * (chunkOf a0 a1 a2 a3 a4 a5 a6 a7 i g k).c l n :=
    Finset.sum_congr rfl fun n _ => by rw [prevq_at, cq_at a0 a1 a2 a3 a4 a5 a6 a7]
  rw [e1, e2, csq_at a0 a1 a2 a3 a4 a5 a6 a7]
  rfl

/-- The reference's array, place by place. -/
theorem ssdH_at (i k : Fin 8) (l : Fin 256) (g : Fin 2) (q : Fin 512) : ssdH a0 a1 a2 a3 a4 a5 a6 a7 (ix3 i (sq k l) (gl g q))
    = (chunkOf a0 a1 a2 a3 a4 a5 a6 a7 i g k).out (St (chunkOf a0 a1 a2 a3 a4 a5 a6 a7 i g) k.val) l q := by
  unfold ssdH
  rw [outH_at, midq_at a0 a1 a2 a3 a4 a5 a6 a7]
  simp only [midq_at a0 a1 a2 a3 a4 a5 a6 a7]
  rfl

end At

end Host
end Cert.Ssd
end
-- ==== Proof.SsdKer.lean ====
/- The selective recurrence: the kernel's arithmetic for one chunk of one group, as the chunk's numbers. -/
module

public import proofs.«01_k».proof.Proof.SsdRef
public import proofs.«01_k».proof.Proof.Gen.KernelIdeal.Value
public import Idealize.ShloMosaic.Lib.Pipeline.ReadBack
public import Idealize.ShloMosaic.Lib.Pointwise
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem

namespace Cert.SsdKer

open Cert.Ssd
open Cert.KernelIdeal Cert.KernelIdeal.Gen

theorem lg_named : (Named.named (F := Ideal) (φ := .f32) κ "log2e" 0x3FB8AA3B#32 : EReal) = (lg : EReal) :=
  rfl

/-- The loaded pieces hold a chunk's numbers. -/
structure Loads (u : Chunk) (v10 : Vec Ideal S1x256x512 .f32) (v12 v14 : Vec Ideal S1x256x128 .bf16) (v16 : Vec Ideal S1x256x128 .f32)
    (v18 v30 : Vec Ideal S1x128 .f32) : Prop where
  x : ∀ l q, v10 (ix3 0 l q) = u.x l q
  b : ∀ l n, v12 (ix3 0 l n) = u.b l n
  c : ∀ l n, v14 (ix3 0 l n) = u.c l n
  dr : ∀ l (h : Fin 8) (h' : Fin 128), h'.val = h.val → v16 (ix3 0 l h') = u.dr l h
  db : ∀ (h : Fin 8) (h' : Fin 128), h'.val = h.val → v18 (ix2 0 h') = u.db h
  al : ∀ (h : Fin 8) (h' : Fin 128), h'.val = h.val → v30 (ix2 0 h') = u.al h

section
variable {u : Chunk} {v10 : Vec Ideal S1x256x512 .f32} {v12 v14 : Vec Ideal S1x256x128 .bf16} {v16 : Vec Ideal S1x256x128 .f32}
    {v18 v30 : Vec Ideal S1x128 .f32} (H : Loads u v10 v12 v14 v16 v18 v30)
include H

theorem dt_at (l : Fin 256) (h : Fin 8) (h' : Fin 128) (e : h'.val = h.val) : k0_pay9 (F := Ideal) v16 v18 (ix2 l h') = u.dt l h := by
  unfold Chunk.dt
  rw [← H.dr l h h' e, ← H.db h h' e]
  pointwise [k0_pay9, sp, zero_sub]
  rfl

theorem al_at (h : Fin 8) (h' : Fin 128) (e : h'.val = h.val) : k0_pay10 (F := Ideal) v30 (ix2 0 h') = Ideal.exp (u.al h) := by
  rw [← H.al h h' e]
  pointwise [k0_pay10]

end

theorem tri_at (l s : Fin 256) : k0_pay4 (ix2 l s) = if s ≤ l then 1#1 else 0#1 := by
  rw [← ge_word]
  pointwise [k0_pay4]

theorem trif_at (l s : Fin 256) : k0_pay5 (F := Ideal) (ix2 l s) = if s ≤ l then 1 else 0 := by
  have := tri_at l s
  pointwise [k0_pay5, this]
  split_ifs <;> rfl

/-- The running sums' term. -/
def term (v29 : FVec Ideal S256x128 .f32) (v32 v33 : FVec Ideal S1x128 .f32) (h : Fin 128) (j : Fin 256) : EReal :=
  v29 (ix2 j h) * ((v33 (ix2 0 h) - v32 (ix2 0 h)) * (lg : EReal))

theorem cs_gen (v9 : FVec Ideal S256x256 .bf16) (v29 : FVec Ideal S256x128 .f32) (v32 v33 : FVec Ideal S1x128 .f32) (l : Fin 256) (h : Fin 128) :
    k0_pay12 (F := Ideal) v9 v29 v32 v33 (ix2 l h) =
      (∑ j : Fin 256, v9 (ix2 l j) * ((term v29 v32 v33 h j - term v29 v32 v33 h j) - (term v29 v32 v33 h j - term v29 v32 v33 h j)))
        + (∑ j : Fin 256, v9 (ix2 l j) * (term v29 v32 v33 h j - term v29 v32 v33 h j)) + ∑ j : Fin 256, v9 (ix2 l j) * term v29 v32 v33 h j := by
  have e := lg_named
  pointwise [k0_pay12, term, e]
  have h1 : ¬ 256 + h.val < 128 := by omega
  have h2 : ¬ 256 + h.val - 128 < 128 := by omega
  have h3 : (⟨256 + h.val - 128 - 128, by omega⟩ : Fin 128) = h := Fin.ext (by show 256 + h.val - 128 - 128 = h.val; omega)
  simp only [dif_neg h1, dif_neg h2, h3]

def sel2 (a b : FVec Ideal S256x1 .f32) : FVec Ideal S256x128 .f32 :=
  select k0_pay16 (broadcastTo S256x128 (shapeCast S256x1 a shapeCasts_S256x1_S256x1) broadcasts_S256x1_S256x128)
    (broadcastTo S256x128 (shapeCast S256x1 b shapeCasts_S256x1_S256x1) broadcasts_S256x1_S256x128)

theorem half_at (l : Fin 256) (r : Fin 128) : k0_pay16 (ix2 l r) = if r.val < 64 then 1#1 else 0#1 := by
  pointwise [k0_pay16]
  exact (by decide +kernel : ∀ r : Fin 128, IntOp.cmpi .slt (BitVec.ofNat 32 r.val) 64#32 = if r.val < 64 then 1#1 else 0#1) r

theorem sx (p : Fin 4) : S256x512.Slices ![0, 128 * p.val] S256x128 := by
  fin_cases p
  exacts [slices_S256x512_o0_0_S256x128, slices_S256x512_o0_128_S256x128, slices_S256x512_o0_256_S256x128, slices_S256x512_o0_384_S256x128]
theorem s0 (p : Fin 4) : S256x128.Slices ![0, 2 * p.val] S256x1 := by
  fin_cases p
  exacts [slices_S256x128_o0_0_S256x1, slices_S256x128_o0_2_S256x1, slices_S256x128_o0_4_S256x1, slices_S256x128_o0_6_S256x1]
theorem s1 (p : Fin 4) : S256x128.Slices ![0, 2 * p.val + 1] S256x1 := by
  fin_cases p
  exacts [slices_S256x128_o0_1_S256x1, slices_S256x128_o0_3_S256x1, slices_S256x128_o0_5_S256x1, slices_S256x128_o0_7_S256x1]
theorem t0 (p : Fin 4) : S128x256.Slices ![2 * p.val, 0] S1x256 := by
  fin_cases p
  exacts [slices_S128x256_o0_0_S1x256, slices_S128x256_o2_0_S1x256, slices_S128x256_o4_0_S1x256, slices_S128x256_o6_0_S1x256]
theorem t1 (p : Fin 4) : S128x256.Slices ![2 * p.val + 1, 0] S1x256 := by
  fin_cases p
  exacts [slices_S128x256_o1_0_S1x256, slices_S128x256_o3_0_S1x256, slices_S128x256_o5_0_S1x256, slices_S128x256_o7_0_S1x256]
theorem c0 (p : Fin 4) : S1x128.Slices ![0, 2 * p.val] S1x1 := by
  fin_cases p
  exacts [slices_S1x128_o0_0_S1x1, slices_S1x128_o0_2_S1x1, slices_S1x128_o0_4_S1x1, slices_S1x128_o0_6_S1x1]
theorem c1 (p : Fin 4) : S1x128.Slices ![0, 2 * p.val + 1] S1x1 := by
  fin_cases p
  exacts [slices_S1x128_o0_1_S1x1, slices_S1x128_o0_3_S1x1, slices_S1x128_o0_5_S1x1, slices_S1x128_o0_7_S1x1]

theorem sx_at (p : Fin 4) (v : FVec Ideal S256x512 .f32) (l : Fin 256) (r : Fin 128) (q : Fin 512) (hq : q.val = 128 * p.val + r.val) :
    extractStridedSlice S256x128 ![0, 128 * p.val] v (sx p) (ix2 l r) = v (ix2 l q) := by
  have e : q = ⟨128 * p.val + r.val, by omega⟩ := Fin.ext hq
  rw [e]
  pointwise []
theorem s0_at (p : Fin 4) (v : FVec Ideal S256x128 .f32) (l : Fin 256) (h : Fin 128) (hq : h.val = 2 * p.val) :
    extractStridedSlice S256x1 ![0, 2 * p.val] v (s0 p) (ix2 l 0) = v (ix2 l h) := by
  have e : h = ⟨2 * p.val, by omega⟩ := Fin.ext hq
  rw [e]
  pointwise []
theorem s1_at (p : Fin 4) (v : FVec Ideal S256x128 .f32) (l : Fin 256) (h : Fin 128) (hq : h.val = 2 * p.val + 1) :
    extractStridedSlice S256x1 ![0, 2 * p.val + 1] v (s1 p) (ix2 l 0) = v (ix2 l h) := by
  have e : h = ⟨2 * p.val + 1, by omega⟩ := Fin.ext hq
  rw [e]
  pointwise []
theorem t0_at (p : Fin 4) (v : FVec Ideal S128x256 .f32) (l : Fin 256) (h : Fin 128) (hq : h.val = 2 * p.val) :
    extractStridedSlice S1x256 ![2 * p.val, 0] v (t0 p) (ix2 0 l) = v (ix2 h l) := by
  have e : h = ⟨2 * p.val, by omega⟩ := Fin.ext hq
  rw [e]
  pointwise []
theorem t1_at (p : Fin 4) (v : FVec Ideal S128x256 .f32) (l : Fin 256) (h : Fin 128) (hq : h.val = 2 * p.val + 1) :
    extractStridedSlice S1x256 ![2 * p.val + 1, 0] v (t1 p) (ix2 0 l) = v (ix2 h l) := by
  have e : h = ⟨2 * p.val + 1, by omega⟩ := Fin.ext hq
  rw [e]
  pointwise []
theorem c0_at (p : Fin 4) (v : FVec Ideal S1x128 .f32) (h : Fin 128) (hq : h.val = 2 * p.val) :
    extractStridedSlice S1x1 ![0, 2 * p.val] v (c0 p) (ix2 0 0) = v (ix2 0 h) := by
  have e : h = ⟨2 * p.val, by omega⟩ := Fin.ext hq
  rw [e]
  pointwise []
theorem c1_at (p : Fin 4) (v : FVec Ideal S1x128 .f32) (h : Fin 128) (hq : h.val = 2 * p.val + 1) :
    extractStridedSlice S1x1 ![0, 2 * p.val + 1] v (c1 p) (ix2 0 0) = v (ix2 0 h) := by
  have e : h = ⟨2 * p.val + 1, by omega⟩ := Fin.ext hq
  rw [e]
  pointwise []

theorem sel2_at (a b : FVec Ideal S256x1 .f32) (l : Fin 256) (r : Fin 128) :
    sel2 a b (ix2 l r) = if r.val < 64 then a (ix2 l 0) else b (ix2 l 0) := by
  have := half_at l r
  pointwise [sel2, this]
  split_ifs <;> rfl

section
variable (v10 : Vec Ideal S1x256x512 .f32) (v12 v14 : Vec Ideal S1x256x128 .bf16) (v16 : Vec Ideal S1x256x128 .f32)
    (v18 v30 : Vec Ideal S1x128 .f32) (p : Fin 4)

def csF : FVec Ideal S256x128 .f32 := k0_pay12 (F := Ideal) k0_pay5 (k0_pay9 v16 v18) (k0_pay10 v30) k0_pay11
def csTF : FVec Ideal S128x256 .f32 := k0_pay13 (F := Ideal) k0_pay5 (k0_pay9 v16 v18) (k0_pay10 v30) k0_pay11
def csLF : FVec Ideal S1x128 .f32 := k0_pay14 (F := Ideal) k0_pay5 (k0_pay9 v16 v18) (k0_pay10 v30) k0_pay11

def cspF : FVec Ideal S256x128 .f32 :=
  sel2 (extractStridedSlice S256x1 ![0, 2 * p.val] (csF v16 v18 v30) (s0 p)) (extractStridedSlice S256x1 ![0, 2 * p.val + 1] (csF v16 v18 v30) (s1 p))

def xdtF : FVec Ideal S256x128 .f32 :=
  mulf (extractStridedSlice S256x128 ![0, 128 * p.val] (k0_pay6 v10) (sx p))
    (sel2 (extractStridedSlice S256x1 ![0, 2 * p.val] (k0_pay9 v16 v18) (s0 p)) (extractStridedSlice S256x1 ![0, 2 * p.val + 1] (k0_pay9 v16 v18) (s1 p)))

def cslF : FVec Ideal S1x128 .f32 :=
  select (extractStridedSlice S1x128 ![0, 0] k0_pay16 slices_S256x128_o0_0_S1x128)
    (broadcastTo S1x128 (shapeCast S1x1 (extractStridedSlice S1x1 ![0, 2 * p.val] (csLF v16 v18 v30) (c0 p)) shapeCasts_S1x1_S1x1) broadcasts_S1x1_S1x128)
    (broadcastTo S1x128 (shapeCast S1x1 (extractStridedSlice S1x1 ![0, 2 * p.val + 1] (csLF v16 v18 v30) (c1 p)) shapeCasts_S1x1_S1x1) broadcasts_S1x1_S1x128)

def xdecF : FVec Ideal S256x128 .bf16 :=
  truncf .bf16 (mulf (xdtF v10 v16 v18 p) (exp2 (subf (broadcastTo S256x128 (cslF v16 v18 v30 p) broadcasts_S1x128_S256x128) (cspF v16 v18 v30 p)))) bitsLt_bf16_f32

def xdecW : Vec Ideal S1x1x256x128 .bf16 :=
  shapeCast S1x1x256x128 (shapeCast S1x256x128 (xdecF v10 v16 v18 v30 p) shapeCasts_S256x128_S1x256x128) shapeCasts_S1x256x128_S1x1x256x128

def hmat (cb : FVec Ideal S256x256 .f32) (a : FVec Ideal S256x1 .f32) (b : FVec Ideal S1x256 .f32) : FVec Ideal S256x256 .bf16 :=
  truncf .bf16 (mulf cb (exp2 (select k0_pay4 (subf (broadcastTo S256x256 a broadcasts_S256x1_S256x256) (broadcastTo S256x256 b broadcasts_S1x256_S256x256))
    (broadcast S256x256 (Scalar.ofBits .f32 0xFF800000#32))))) bitsLt_bf16_f32

def ydF : FVec Ideal S1x256x128 .f32 :=
  shapeCast S1x256x128 (select k0_pay16
    (matmul dot_S256x256_S256x128_S256x128_1_0_0_1_n_n none
      (hmat (k0_pay15 (k0_pay7 v12) (k0_pay8 v14)) (extractStridedSlice S256x1 ![0, 2 * p.val] (csF v16 v18 v30) (s0 p))
        (extractStridedSlice S1x256 ![2 * p.val, 0] (csTF v16 v18 v30) (t0 p)))
      (truncf .bf16 (xdtF v10 v16 v18 p) bitsLt_bf16_f32) (constant S256x128 .f32 0x00000000#32))
    (matmul dot_S256x256_S256x128_S256x128_1_0_0_1_n_n none
      (hmat (k0_pay15 (k0_pay7 v12) (k0_pay8 v14)) (extractStridedSlice S256x1 ![0, 2 * p.val + 1] (csF v16 v18 v30) (s1 p))
        (extractStridedSlice S1x256 ![2 * p.val + 1, 0] (csTF v16 v18 v30) (t1 p)))
      (truncf .bf16 (xdtF v10 v16 v18 p) bitsLt_bf16_f32) (constant S256x128 .f32 0x00000000#32))) shapeCasts_S256x128_S1x256x128

def stF (S : Vec Ideal S1x128x512 .f32) (X : Vec Ideal S1x256x512 .bf16) : FVec Ideal S1x128x512 .f32 :=
  k0_pay64 (F := Ideal) (k0_pay61 (exp2 (cslF v16 v18 v30 0)) (exp2 (cslF v16 v18 v30 1)) (exp2 (cslF v16 v18 v30 2)) (exp2 (cslF v16 v18 v30 3)) S)
    (k0_pay62 (k0_pay7 v12)) (k0_pay63 X) (constant S128x512 .f32 0x00000000#32)

def outF (S : Vec Ideal S1x128x512 .f32) (D : Vec Ideal S1x256x512 .f32) (z : Vec Ideal S1x256x512 .f32) (dk nw : Vec Ideal S1x512 .f32) :
    FVec Ideal S1x256x512 .bf16 :=
  k0_pay65 (F := Ideal) (k0_pay60 (k0_pay6 v10) (k0_pay8 v14) (exp2 (cspF v16 v18 v30 0)) (exp2 (cspF v16 v18 v30 1)) (exp2 (cspF v16 v18 v30 2))
    (exp2 (cspF v16 v18 v30 3)) S D dk) z nw

end

section
variable {u : Chunk} {v10 : Vec Ideal S1x256x512 .f32} {v12 v14 : Vec Ideal S1x256x128 .bf16} {v16 : Vec Ideal S1x256x128 .f32}
    {v18 v30 : Vec Ideal S1x128 .f32} (H : Loads u v10 v12 v14 v16 v18 v30)
include H

theorem cs_at (l : Fin 256) (h : Fin 8) (h' : Fin 128) (e : h'.val = h.val) : csF v16 v18 v30 (ix2 l h') = (lg : EReal) * u.cs l h := by
  unfold csF
  rw [cs_gen]
  refine u.cs_split (fun j => k0_pay5 (F := Ideal) (ix2 l j)) (fun j => term (k0_pay9 v16 v18) (k0_pay10 v30) k0_pay11 h' j) l h (fun j => trif_at l j) (fun j => ?_)
  show term (k0_pay9 v16 v18) (k0_pay10 v30) k0_pay11 h' j = _
  unfold term Chunk.da
  rw [dt_at H j h h' e, al_at H h h' e]
  have z : k0_pay11 (F := Ideal) (ix2 0 h') = 0 := by pointwise [k0_pay11]
  rw [z, zero_sub, ← mul_assoc, mul_comm]

theorem csT_at (l : Fin 256) (h : Fin 8) (h' : Fin 128) (e : h'.val = h.val) : csTF v16 v18 v30 (ix2 h' l) = (lg : EReal) * u.cs l h := by
  rw [← cs_at H l h h' e]
  pointwise [csTF, k0_pay13, csF]

theorem csL_at (h : Fin 8) (h' : Fin 128) (e : h'.val = h.val) : csLF v16 v18 v30 (ix2 0 h') = (lg : EReal) * u.cl h := by
  unfold Chunk.cl
  rw [← cs_at H ⟨255, by omega⟩ h h' e]
  pointwise [csLF, k0_pay14, csF]

theorem csp_at (p : Fin 4) (l : Fin 256) (r : Fin 128) (q : Fin 512) (hq : q.val = 128 * p.val + r.val) :
    cspF v16 v18 v30 p (ix2 l r) = (lg : EReal) * u.cs l (hd q) := by
  unfold cspF
  rw [sel2_at]
  split_ifs with hr
  · rw [s0_at p _ l ⟨2 * p.val, by omega⟩ rfl]
    exact cs_at H l _ _ (by show 2 * p.val = q.val / 64; omega)
  · rw [s1_at p _ l ⟨2 * p.val + 1, by omega⟩ rfl]
    exact cs_at H l _ _ (by show 2 * p.val + 1 = q.val / 64; omega)

theorem xdt_at (p : Fin 4) (l : Fin 256) (r : Fin 128) (q : Fin 512) (hq : q.val = 128 * p.val + r.val) :
    xdtF v10 v16 v18 p (ix2 l r) = u.xd l q := by
  have e : extractStridedSlice S256x128 ![0, 128 * p.val] (k0_pay6 (F := Ideal) v10) (sx p) (ix2 l r) = u.x l q := by
    rw [sx_at p _ l r q hq, ← H.x]
    pointwise [k0_pay6]
  have e' : sel2 (extractStridedSlice S256x1 ![0, 2 * p.val] (k0_pay9 v16 v18) (s0 p)) (extractStridedSlice S256x1 ![0, 2 * p.val + 1] (k0_pay9 v16 v18) (s1 p)) (ix2 l r)
      = u.dt l (hd q) := by
    rw [sel2_at]
    split_ifs with hr
    · rw [s0_at p _ l ⟨2 * p.val, by omega⟩ rfl]
      exact dt_at H l _ _ (by show 2 * p.val = q.val / 64; omega)
    · rw [s1_at p _ l ⟨2 * p.val + 1, by omega⟩ rfl]
      exact dt_at H l _ _ (by show 2 * p.val + 1 = q.val / 64; omega)
  unfold Chunk.xd
  rw [← e, ← e']
  rfl

theorem csl_at (p : Fin 4) (r : Fin 128) (q : Fin 512) (hq : q.val = 128 * p.val + r.val) :
    cslF v16 v18 v30 p (ix2 0 r) = (lg : EReal) * u.cl (hd q) := by
  have h0 := half_at 0 r
  have e0 := c0_at p (csLF v16 v18 v30) ⟨2 * p.val, by omega⟩ rfl
  have e1 := c1_at p (csLF v16 v18 v30) ⟨2 * p.val + 1, by omega⟩ rfl
  generalize hA : extractStridedSlice S1x1 ![0, 2 * p.val] (csLF v16 v18 v30) (c0 p) = A at e0
  generalize hB : extractStridedSlice S1x1 ![0, 2 * p.val + 1] (csLF v16 v18 v30) (c1 p) = B at e1
  have e2 : cslF v16 v18 v30 p (ix2 0 r) = if r.val < 64 then A (ix2 0 0) else B (ix2 0 0) := by
    unfold cslF
    rw [hA, hB]
    pointwise [h0]
    split_ifs <;> rfl
  rw [e2, e0, e1]
  split_ifs with hr
  · exact csL_at H _ _ (by show 2 * p.val = q.val / 64; omega)
  · exact csL_at H _ _ (by show 2 * p.val + 1 = q.val / 64; omega)

theorem xdec_at (p : Fin 4) (l : Fin 256) (r : Fin 128) (q : Fin 512) (hq : q.val = 128 * p.val + r.val) :
    xdecW v10 v16 v18 v30 p (ix4 0 0 l r) = u.xd l q * Ideal.exp (u.cl (hd q) - u.cs l (hd q)) := by
  rw [← exp2_mul, ← lg_sub, ← csl_at H p r q hq, ← csp_at H p l r q hq, ← xdt_at H p l r q hq]
  pointwise [xdecW, xdecF]
  rfl

theorem cb_at (l s : Fin 256) : k0_pay15 (F := Ideal) (k0_pay7 v12) (k0_pay8 v14) (ix2 l s) = ∑ n : Fin 128, u.c l n * u.b s n := by
  simp only [← H.b, ← H.c]
  pointwise [k0_pay15, k0_pay7, k0_pay8]

theorem hmat_at (a : FVec Ideal S256x1 .f32) (b : FVec Ideal S1x256 .f32) (h : Fin 8) (ha : ∀ l, a (ix2 l 0) = (lg : EReal) * u.cs l h)
    (hb : ∀ l, b (ix2 0 l) = (lg : EReal) * u.cs l h) (l s : Fin 256) :
    hmat (k0_pay15 (k0_pay7 v12) (k0_pay8 v14)) a b (ix2 l s) = (∑ n : Fin 128, u.c l n * u.b s n) * u.lm h l s := by
  rw [← cb_at H l s, ← u.lm_eq, ← ha, ← hb]
  have t := tri_at l s
  have w : (Scalar.ofBits .f32 0xFF800000#32 : Ideal .f32) = (⊥ : EReal) := by
    show Ideal.ofBits .f32 0xFF800000#32 = ⊥
    simp [Ideal.ofBits, Ideal.ieee]
  generalize k0_pay15 (F := Ideal) (k0_pay7 v12) (k0_pay8 v14) = cb
  unfold hmat
  rw [w]
  pointwise [t]
  split_ifs <;> rfl

theorem yd_at (p : Fin 4) (l : Fin 256) (r : Fin 128) (q : Fin 512) (hq : q.val = 128 * p.val + r.val) :
    ydF v10 v12 v14 v16 v18 v30 p (ix3 0 l r) = u.yd l q := by
  have h0 := half_at l r
  have e0 := hmat_at H (extractStridedSlice S256x1 ![0, 2 * p.val] (csF v16 v18 v30) (s0 p)) (extractStridedSlice S1x256 ![2 * p.val, 0] (csTF v16 v18 v30) (t0 p))
    ⟨2 * p.val, by omega⟩ (fun l => (s0_at p _ l ⟨2 * p.val, by omega⟩ rfl).trans (cs_at H l _ _ rfl)) (fun l => (t0_at p _ l ⟨2 * p.val, by omega⟩ rfl).trans (csT_at H l _ _ rfl))
  have e1 := hmat_at H (extractStridedSlice S256x1 ![0, 2 * p.val + 1] (csF v16 v18 v30) (s1 p)) (extractStridedSlice S1x256 ![2 * p.val + 1, 0] (csTF v16 v18 v30) (t1 p))
    ⟨2 * p.val + 1, by omega⟩ (fun l => (s1_at p _ l ⟨2 * p.val + 1, by omega⟩ rfl).trans (cs_at H l _ _ rfl)) (fun l => (t1_at p _ l ⟨2 * p.val + 1, by omega⟩ rfl).trans (csT_at H l _ _ rfl))
  have ex : ∀ s, xdtF v10 v16 v18 p (ix2 s r) = u.xd s q := fun s => xdt_at H p s r q hq
  unfold ydF
  generalize hmat (k0_pay15 (k0_pay7 v12) (k0_pay8 v14)) (extractStridedSlice S256x1 ![0, 2 * p.val] (csF v16 v18 v30) (s0 p)) (extractStridedSlice S1x256 ![2 * p.val, 0] (csTF v16 v18 v30) (t0 p)) = M0 at e0 ⊢
  generalize hmat (k0_pay15 (k0_pay7 v12) (k0_pay8 v14)) (extractStridedSlice S256x1 ![0, 2 * p.val + 1] (csF v16 v18 v30) (s1 p)) (extractStridedSlice S1x256 ![2 * p.val + 1, 0] (csTF v16 v18 v30) (t1 p)) = M1 at e1 ⊢
  generalize xdtF v10 v16 v18 p = xd at ex ⊢
  have e2 : u.yd l q = if r.val < 64 then ∑ s, M0 (ix2 l s) * xd (ix2 s r) else ∑ s, M1 (ix2 l s) * xd (ix2 s r) := by
    unfold Chunk.yd
    split_ifs with hr
    · have : hd q = ⟨2 * p.val, by omega⟩ := Fin.ext (by show q.val / 64 = 2 * p.val; omega)
      refine Finset.sum_congr rfl fun s _ => ?_
      rw [e0, ex, this, mul_comm]
    · have : hd q = ⟨2 * p.val + 1, by omega⟩ := Fin.ext (by show q.val / 64 = 2 * p.val + 1; omega)
      refine Finset.sum_congr rfl fun s _ => ?_
      rw [e1, ex, this, mul_comm]
  rw [e2]
  clear e0 e1 ex e2
  pointwise [h0]
  split_ifs <;> rfl

theorem st_at (S : Vec Ideal S1x128x512 .f32) (X : Vec Ideal S1x256x512 .bf16) (T : Fin 128 → Fin 512 → EReal)
    (hS : ∀ n q, S (ix3 0 n q) = T n q) (hX : ∀ l q, X (ix3 0 l q) = u.xd l q * Ideal.exp (u.cl (hd q) - u.cs l (hd q))) (n : Fin 128) (q : Fin 512) :
    stF v12 v16 v18 v30 S X (ix3 0 n q) = u.step T n q := by
  have e : ∀ (p : Fin 4) (r : Fin 128) (q : Fin 512) (hq : q.val = 128 * p.val + r.val), Ideal.exp2 (cslF v16 v18 v30 p (ix2 0 r)) = Ideal.exp (u.cl (hd q)) :=
    fun p r q hq => by rw [csl_at H p r q hq, exp2_mul]
  unfold Chunk.step stF
  simp only [← hS, ← hX, ← H.b]
  have e0 := e 0
  have e1 := e 1
  have e2 := e 2
  have e3 := e 3
  generalize cslF v16 v18 v30 0 = w0 at e0 ⊢
  generalize cslF v16 v18 v30 1 = w1 at e1 ⊢
  generalize cslF v16 v18 v30 2 = w2 at e2 ⊢
  generalize cslF v16 v18 v30 3 = w3 at e3 ⊢
  clear e
  pointwise [k0_pay64, k0_pay61, k0_pay62, k0_pay63, k0_pay7, k0_pay59]
  refine congrArg₂ (fun a b => a + b) (congrArg₂ (fun a b => a * b) rfl ?_) (Finset.sum_congr rfl fun x _ => mul_comm _ _)
  by_cases a0 : q.val < 128
  · rw [dif_pos a0]
    exact e0 _ q (by show q.val = 128 * 0 + q.val; omega)
  rw [dif_neg a0]
  by_cases a1 : q.val - 128 < 128
  · rw [dif_pos a1]
    exact e1 _ q (by show q.val = 128 * 1 + (q.val - 128); omega)
  rw [dif_neg a1]
  by_cases a2 : q.val - 128 - 128 < 128
  · rw [dif_pos a2]
    exact e2 _ q (by show q.val = 128 * 2 + (q.val - 128 - 128); omega)
  rw [dif_neg a2]
  exact e3 _ q (by show q.val = 128 * 3 + (q.val - 128 - 128 - 128); omega)

theorem out_at (S : Vec Ideal S1x128x512 .f32) (D z : Vec Ideal S1x256x512 .f32) (dk nw : Vec Ideal S1x512 .f32) (T : Fin 128 → Fin 512 → EReal)
    (hS : ∀ n q, S (ix3 0 n q) = T n q) (hD : ∀ l q, D (ix3 0 l q) = u.yd l q) (hz : ∀ l q, z (ix3 0 l q) = u.z l q)
    (hdk : ∀ q, dk (ix2 0 q) = u.d q) (hw : ∀ q, nw (ix2 0 q) = u.w q) (l : Fin 256) (q : Fin 512) :
    outF v10 v14 v16 v18 v30 S D z dk nw (ix3 0 l q) = u.out T l q := by
  have e : ∀ (p : Fin 4) (r : Fin 128) (q : Fin 512) (hq : q.val = 128 * p.val + r.val), Ideal.exp2 (cspF v16 v18 v30 p (ix2 l r)) = Ideal.exp (u.cs l (hd q)) :=
    fun p r q hq => by rw [csp_at H p l r q hq, exp2_mul]
  have y : ∀ q, k0_pay60 (F := Ideal) (k0_pay6 v10) (k0_pay8 v14) (exp2 (cspF v16 v18 v30 0)) (exp2 (cspF v16 v18 v30 1)) (exp2 (cspF v16 v18 v30 2))
      (exp2 (cspF v16 v18 v30 3)) S D dk (ix2 l q) = u.yd l q + u.yo T l q + u.x l q * u.d q := by
    intro q
    unfold Chunk.yo
    simp only [← hS, ← hD, ← H.x, ← hdk, ← H.c]
    have e0 := e 0
    have e1 := e 1
    have e2 := e 2
    have e3 := e 3
    generalize cspF v16 v18 v30 0 = w0 at e0 ⊢
    generalize cspF v16 v18 v30 1 = w1 at e1 ⊢
    generalize cspF v16 v18 v30 2 = w2 at e2 ⊢
    generalize cspF v16 v18 v30 3 = w3 at e3 ⊢
    clear e
    pointwise [k0_pay60, k0_pay6, k0_pay8, k0_pay59]
    refine congrArg₂ (fun a b => a + b) (congrArg₂ (fun a b => a + b) rfl ?_) rfl
    rw [mul_comm]
    refine congrArg₂ (fun a b => a * b) (Finset.sum_congr rfl fun x _ => mul_comm _ _) ?_
    by_cases a0 : q.val < 128
    · rw [dif_pos a0]
      exact e0 _ q (by show q.val = 128 * 0 + q.val; omega)
    rw [dif_neg a0]
    by_cases a1 : q.val - 128 < 128
    · rw [dif_pos a1]
      exact e1 _ q (by show q.val = 128 * 1 + (q.val - 128); omega)
    rw [dif_neg a1]
    by_cases a2 : q.val - 128 - 128 < 128
    · rw [dif_pos a2]
      exact e2 _ q (by show q.val = 128 * 2 + (q.val - 128 - 128); omega)
    rw [dif_neg a2]
    exact e3 _ q (by show q.val = 128 * 3 + (q.val - 128 - 128 - 128); omega)
  unfold outF Chunk.out Chunk.y
  simp only [← hz, ← hw, ← y]
  generalize k0_pay60 (F := Ideal) (k0_pay6 v10) (k0_pay8 v14) (exp2 (cspF v16 v18 v30 0)) (exp2 (cspF v16 v18 v30 1)) (exp2 (cspF v16 v18 v30 2))
      (exp2 (cspF v16 v18 v30 3)) S D dk = Y
  pointwise [k0_pay65]

end

end Cert.SsdKer
end
-- ==== Proof.SsdRead.lean ====
/- Reading back four neighbouring pieces of a scratch buffer. -/
module

public import proofs.«01_k».proof.Proof.Gen.KernelIdeal.Value
public import Idealize.ShloMosaic.Lib.Pipeline.ReadBack
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.SsdKer

open Cert.KernelIdeal Cert.KernelIdeal.Gen

/-- At a place that one of the last four pieces holds, where each of them holds `T`, the contents are `T`. -/
theorem canon4 {s : Shape} {e : EltTy} (r3 r2 r1 r0 : Rect s) (w3 : r3.shape.Idx → Elt Ideal e) (w2 : r2.shape.Idx → Elt Ideal e)
    (w1 : r1.shape.Idx → Elt Ideal e) (w0 : r0.shape.Idx → Elt Ideal e) (L : List (View.Piece (Elt Ideal) s e)) (y : s.Idx) (T : Elt Ideal e)
    (h3 : ∀ x, r3.emb x = y → w3 x = T) (h2 : ∀ x, r2.emb x = y → w2 x = T) (h1 : ∀ x, r1.emb x = y → w1 x = T) (h0 : ∀ x, r0.emb x = y → w0 x = T)
    (hc : y ∈ r3.set ∨ y ∈ r2.set ∨ y ∈ r1.set ∨ y ∈ r0.set) :
    View.canon (⟨r3, w3⟩ :: ⟨r2, w2⟩ :: ⟨r1, w1⟩ :: ⟨r0, w0⟩ :: L) y = T := by
  have step : ∀ (r : Rect s) (w : r.shape.Idx → Elt Ideal e) (L : List (View.Piece (Elt Ideal) s e)), (∀ x, r.emb x = y → w x = T) →
      (y ∈ r.set ∨ View.canon L y = T) → View.canon (⟨r, w⟩ :: L) y = T := by
    intro r w L h hc
    by_cases hm : y ∈ r.set
    · obtain ⟨x, hx⟩ : ∃ x, r.emb x = y := r.exists_idx_of_mem hm
      have := View.canon_cons_emb r w L x
      rw [hx] at this
      rw [this, h x hx]
    · rw [View.canon_cons_of_not_mem ⟨r, w⟩ L hm]
      exact hc.resolve_left hm
  refine step _ _ _ h3 ?_
  rcases hc with hc | hc | hc | hc
  · exact .inl hc
  · exact .inr (step _ _ _ h2 (.inl hc))
  · exact .inr (step _ _ _ h2 (.inr (step _ _ _ h1 (.inl hc))))
  · exact .inr (step _ _ _ h2 (.inr (step _ _ _ h1 (.inr (step _ _ _ h0 (.inl hc))))))

theorem inK (K : Fin 4) : ∀ a, (![K.val, 0, 0, 0] : Fin 4 → ℕ) a + S1x2x256x512.size a ≤ S4x2x256x512.size a
  | 0 => by show K.val + 1 ≤ 4; omega
  | 1 => by show 0 + 2 ≤ 2; omega
  | 2 => by show 0 + 256 ≤ 256; omega
  | 3 => by show 0 + 512 ≤ 512; omega
theorem inG (g : Fin 2) : ∀ a, (![g.val, 0, 0] : Fin 3 → ℕ) a + S1x256x512.size a ≤ S2x256x512.size a
  | 0 => by show g.val + 1 ≤ 2; omega
  | 1 => by show 0 + 256 ≤ 256; omega
  | 2 => by show 0 + 512 ≤ 512; omega
theorem inP (g : Fin 2) (o : ℕ) (h : o + 128 ≤ 512) : ∀ a, (![g.val, 0, o] : Fin 3 → ℕ) a + S1x256x128.size a ≤ S2x256x512.size a
  | 0 => by show g.val + 1 ≤ 2; omega
  | 1 => by show 0 + 256 ≤ 256; omega
  | 2 => by show o + 128 ≤ 512; omega
theorem inX (K : Fin 4) (g : Fin 2) (o : ℕ) (h : o + 128 ≤ 512) : ∀ a, (![K.val, g.val, 0, o] : Fin 4 → ℕ) a + S1x1x256x128.size a ≤ S4x2x256x512.size a
  | 0 => by show K.val + 1 ≤ 4; omega
  | 1 => by show g.val + 1 ≤ 2; omega
  | 2 => by show 0 + 256 ≤ 256; omega
  | 3 => by show o + 128 ≤ 512; omega
theorem liftA : ∀ i : Fin 3, (![1, 2, 256, 512] : Fin 4 → ℕ) i.succ = (![2, 256, 512] : Fin 3 → ℕ) i
  | 0 => rfl
  | 1 => rfl
  | 2 => rfl
abbrev krect (K : Fin 4) : Rect S4x2x256x512 := Rect.unit (s := S4x2x256x512) ![K.val, 0, 0, 0] S1x2x256x512.size (inK K)
abbrev grect (g : Fin 2) : Rect S2x256x512 := Rect.unit (s := S2x256x512) ![g.val, 0, 0] S1x256x512.size (inG g)

/-- The box of one group of one chunk, as the group's rectangle within the chunk's. -/
abbrev gbox (K : Fin 4) (g : Fin 2) : LoadRect S4x2x256x512 :=
  (krect K).withinL (LoadRect.consLift (n := 3) (d := ![2, 256, 512]) (grect g).toLoadRect ![1, 2, 256, 512] rfl liftA) (fun _ => rfl)

theorem hhK (K : Fin 4) (g : Fin 2) : (grect g).toLoadRect.shape.numel = (gbox K g).shape.numel :=
  LoadRect.numel_consLift (n := 3) (d := ![2, 256, 512]) (grect g).toLoadRect ![1, 2, 256, 512] rfl liftA

theorem box_at (K : Fin 4) (g : Fin 2)
    (hh : (grect g).toLoadRect.shape.numel = (gbox K g).shape.numel) (l : Fin 256) (q : Fin 512) :
    (gbox K g).idx (Shape.reshapeEquiv hh (ix3 0 l q)) = ix4 K g l q := by
  have e : Shape.reshapeEquiv hh (ix3 0 l q) = Fin.cons ⟨0, Nat.one_pos⟩ (ix3 0 l q) := Shape.reshapeEquiv_cons_one (d := S1x256x512.size) hh (ix3 0 l q)
  rw [e]
  funext i
  apply Fin.ext
  match i with
  | 0 => show K.val + 0 + 1 * 0 = K.val; omega
  | 1 => show 0 + g.val + 1 * 0 = g.val; omega
  | 2 => show 0 + 0 + 1 * l.val = l.val; omega
  | 3 => show 0 + 0 + 1 * q.val = q.val; omega

abbrev xrect (K : Fin 4) (g : Fin 2) (o : ℕ) (h : o + 128 ≤ 512) : Rect S4x2x256x512 := Rect.unit (s := S4x2x256x512) ![K.val, g.val, 0, o] S1x1x256x128.size (inX K g o h)

theorem xrect_emb (K : Fin 4) (g : Fin 2) (o : ℕ) (h : o + 128 ≤ 512) (l : Fin 256) (q : Fin 512) (x) (e : (xrect K g o h).emb x = ix4 K g l q) :
    ∃ r : Fin 128, q.val = o + r.val ∧ x = ix4 0 0 l r := by
  have e2 := congrArg Fin.val (congrFun e 2)
  have e3 := congrArg Fin.val (congrFun e 3)
  change 0 + 1 * (x 2).val = l.val at e2
  change o + 1 * (x 3).val = q.val at e3
  refine ⟨x 3, by omega, ?_⟩
  funext i
  apply Fin.ext
  match i with
  | 0 => have := (x 0).isLt; change (x 0).val < 1 at this; show (x 0).val = 0; omega
  | 1 => have := (x 1).isLt; change (x 1).val < 1 at this; show (x 1).val = 0; omega
  | 2 => show (x 2).val = l.val; omega
  | 3 => rfl

theorem xrect_mem (K : Fin 4) (g : Fin 2) (o : ℕ) (h : o + 128 ≤ 512) (l : Fin 256) (q : Fin 512) (h1 : o ≤ q.val) (h2 : q.val < o + 128) : ix4 K g l q ∈ (xrect K g o h).set := by
  refine Rect.mem_set_unit.mpr fun i => ?_
  match i with
  | 0 => exact ⟨le_refl _, Nat.lt_succ_self _⟩
  | 1 => exact ⟨le_refl _, Nat.lt_succ_self _⟩
  | 2 => exact ⟨Nat.zero_le _, by show l.val < 0 + 256; omega⟩
  | 3 => exact ⟨h1, h2⟩

theorem X_of {κ} {sp} (K : Fin 4) (g : Fin 2) (v : View sig κ sp S4x2x256x512 .bf16) (h3 : 384 + 128 ≤ 512) (h2 : 256 + 128 ≤ 512) (h1 : 128 + 128 ≤ 512) (h0 : 0 + 128 ≤ 512) (w3 w2 w1 w0 : Vec Ideal S1x1x256x128 .bf16)
    (L : List (View.Piece (Elt Ideal) S4x2x256x512 .bf16))
    (hh : (grect g).toLoadRect.shape.numel = (gbox K g).shape.numel)
    (f : Fin 256 → Fin 512 → EReal)
    (H3 : ∀ l (r : Fin 128) (q : Fin 512), q.val = 128 * (3 : Fin 4).val + r.val → w3 (ix4 0 0 l r) = f l q)
    (H2 : ∀ l (r : Fin 128) (q : Fin 512), q.val = 128 * (2 : Fin 4).val + r.val → w2 (ix4 0 0 l r) = f l q)
    (H1 : ∀ l (r : Fin 128) (q : Fin 512), q.val = 128 * (1 : Fin 4).val + r.val → w1 (ix4 0 0 l r) = f l q)
    (H0 : ∀ l (r : Fin 128) (q : Fin 512), q.val = 128 * (0 : Fin 4).val + r.val → w0 (ix4 0 0 l r) = f l q) (l : Fin 256) (q : Fin 512) :
    (LoadRect.valAlong hh (v.readCov (Val := Elt Ideal) (⟨xrect K g 384 h3, w3⟩ :: ⟨xrect K g 256 h2, w2⟩ :: ⟨xrect K g 128 h1, w1⟩ :: ⟨xrect K g 0 h0, w0⟩ :: L) (gbox K g)) :
      S1x256x512.Idx → EReal) (ix3 0 l q) = f l q := by
  show v.readCov (Val := Elt Ideal) _ (gbox K g) (Shape.reshapeEquiv hh (ix3 0 l q)) = _
  rw [View.readCov_eq_canon']
  show View.canon _ ((gbox K g).idx (Shape.reshapeEquiv hh (ix3 0 l q))) = _
  rw [box_at]
  refine canon4 _ _ _ _ _ _ _ _ _ _ _ (fun x e => ?_) (fun x e => ?_) (fun x e => ?_) (fun x e => ?_) ?_
  · obtain ⟨r, e', rfl⟩ := xrect_emb K g _ h3 l q x e; exact H3 l r q e'
  · obtain ⟨r, e', rfl⟩ := xrect_emb K g _ h2 l q x e; exact H2 l r q e'
  · obtain ⟨r, e', rfl⟩ := xrect_emb K g _ h1 l q x e; exact H1 l r q e'
  · obtain ⟨r, e', rfl⟩ := xrect_emb K g _ h0 l q x e; exact H0 l r q e'
  · by_cases c1 : q.val < 128
    · exact .inr (.inr (.inr (xrect_mem K g 0 h0 l q (by omega) (by omega))))
    by_cases c2 : q.val < 256
    · exact .inr (.inr (.inl (xrect_mem K g 128 h1 l q (by omega) (by omega))))
    by_cases c3 : q.val < 384
    · exact .inr (.inl (xrect_mem K g 256 h2 l q (by omega) (by omega)))
    · exact .inl (xrect_mem K g 384 h3 l q (by omega) (by omega))

abbrev prect (g : Fin 2) (o : ℕ) (h : o + 128 ≤ 512) : Rect S2x256x512 := Rect.unit (s := S2x256x512) ![g.val, 0, o] S1x256x128.size (inP g o h)

abbrev drect (K : Fin 4) (g : Fin 2) (o : ℕ) (h : o + 128 ≤ 512) : Rect S4x2x256x512 :=
  (krect K).within (Rect.consLift (n := 3) (d := ![2, 256, 512]) (prect g o h) ![1, 2, 256, 512] rfl liftA) (fun _ => rfl)

abbrev dpay (K : Fin 4) (g : Fin 2) (o : ℕ) (h : o + 128 ≤ 512) (w : Vec Ideal S1x256x128 .f32) : (drect K g o h).shape.Idx → Elt Ideal .f32 :=
  Rect.payAlong (r := prect g o h) (R := drect K g o h) (Rect.numel_consLift (n := 3) (d := ![2, 256, 512]) (prect g o h) ![1, 2, 256, 512] rfl liftA) w

theorem drect_emb (K : Fin 4) (g : Fin 2) (o : ℕ) (h : o + 128 ≤ 512)
    (w : Vec Ideal S1x256x128 .f32) (l : Fin 256) (q : Fin 512) (x) (e : (drect K g o h).emb x = ix4 K g l q) :
    ∃ r : Fin 128, q.val = o + r.val ∧ dpay K g o h w x = w (ix3 0 l r) := by
  have e2 := congrArg Fin.val (congrFun e 2)
  have e3 := congrArg Fin.val (congrFun e 3)
  change 0 + 0 + 1 * (x 2).val = l.val at e2
  change 0 + o + 1 * (x 3).val = q.val at e3
  refine ⟨x 3, by omega, ?_⟩
  refine Rect.payAlong_consLift (n := 3) (d := ![2, 256, 512]) (prect g o h) ![1, 2, 256, 512] rfl liftA w _ x (ix3 0 l (x 3)) fun i => ?_
  match i with
  | 0 => have := (x 1).isLt; change (x 1).val < 1 at this; show 0 = (x 1).val; omega
  | 1 => show l.val = (x 2).val; omega
  | 2 => rfl

theorem drect_mem (K : Fin 4) (g : Fin 2) (o : ℕ) (h : o + 128 ≤ 512) (l : Fin 256) (q : Fin 512) (h1 : o ≤ q.val) (h2 : q.val < o + 128) :
    ix4 K g l q ∈ (drect K g o h).set := by
  refine (LoadRect.mem_set _).mpr fun i => ?_
  match i with
  | 0 => exact ⟨0, Nat.one_pos, by show K.val = K.val + 0 + 1 * 0; omega⟩
  | 1 => exact ⟨0, Nat.one_pos, by show g.val = 0 + g.val + 1 * 0; omega⟩
  | 2 => exact ⟨l.val, l.isLt, by show l.val = 0 + 0 + 1 * l.val; omega⟩
  | 3 => exact ⟨q.val - o, by show q.val - o < 128; omega, by show q.val = 0 + o + 1 * (q.val - o); omega⟩

theorem D_of {κ} {sp} (K : Fin 4) (g : Fin 2) (v : View sig κ sp S4x2x256x512 .f32) (h3 : 384 + 128 ≤ 512) (h2 : 256 + 128 ≤ 512) (h1 : 128 + 128 ≤ 512) (h0 : 0 + 128 ≤ 512) (w3 w2 w1 w0 : Vec Ideal S1x256x128 .f32)
    (L : List (View.Piece (Elt Ideal) S4x2x256x512 .f32))
    (hh : (grect g).toLoadRect.shape.numel = (gbox K g).shape.numel)
    (f : Fin 256 → Fin 512 → EReal)
    (H3 : ∀ l (r : Fin 128) (q : Fin 512), q.val = 128 * (3 : Fin 4).val + r.val → w3 (ix3 0 l r) = f l q)
    (H2 : ∀ l (r : Fin 128) (q : Fin 512), q.val = 128 * (2 : Fin 4).val + r.val → w2 (ix3 0 l r) = f l q)
    (H1 : ∀ l (r : Fin 128) (q : Fin 512), q.val = 128 * (1 : Fin 4).val + r.val → w1 (ix3 0 l r) = f l q)
    (H0 : ∀ l (r : Fin 128) (q : Fin 512), q.val = 128 * (0 : Fin 4).val + r.val → w0 (ix3 0 l r) = f l q) (l : Fin 256) (q : Fin 512) :
    (LoadRect.valAlong hh (v.readCov (Val := Elt Ideal) (⟨drect K g 384 h3, dpay K g 384 h3 w3⟩ :: ⟨drect K g 256 h2, dpay K g 256 h2 w2⟩
      :: ⟨drect K g 128 h1, dpay K g 128 h1 w1⟩ :: ⟨drect K g 0 h0, dpay K g 0 h0 w0⟩ :: L) (gbox K g)) :
      S1x256x512.Idx → EReal) (ix3 0 l q) = f l q := by
  show v.readCov (Val := Elt Ideal) _ (gbox K g) (Shape.reshapeEquiv hh (ix3 0 l q)) = _
  rw [View.readCov_eq_canon']
  show View.canon _ ((gbox K g).idx (Shape.reshapeEquiv hh (ix3 0 l q))) = _
  rw [box_at]
  refine canon4 _ _ _ _ _ _ _ _ _ _ _ (fun x e => ?_) (fun x e => ?_) (fun x e => ?_) (fun x e => ?_) ?_
  · obtain ⟨r, e1, e'⟩ := drect_emb K g _ h3 w3 l q x e; exact e'.trans (H3 l r q e1)
  · obtain ⟨r, e1, e'⟩ := drect_emb K g _ h2 w2 l q x e; exact e'.trans (H2 l r q e1)
  · obtain ⟨r, e1, e'⟩ := drect_emb K g _ h1 w1 l q x e; exact e'.trans (H1 l r q e1)
  · obtain ⟨r, e1, e'⟩ := drect_emb K g _ h0 w0 l q x e; exact e'.trans (H0 l r q e1)
  · by_cases c1 : q.val < 128
    · exact .inr (.inr (.inr (drect_mem K g 0 h0 l q (by omega) (by omega))))
    by_cases c2 : q.val < 256
    · exact .inr (.inr (.inl (drect_mem K g 128 h1 l q (by omega) (by omega))))
    by_cases c3 : q.val < 384
    · exact .inr (.inl (drect_mem K g 256 h2 l q (by omega) (by omega)))
    · exact .inl (drect_mem K g 384 h3 l q (by omega) (by omega))

end Cert.SsdKer
end
-- ==== Proof.SsdLoads.lean ====
/- The selective recurrence: what one chunk of one group loads of a point's blocks. -/
module

public import proofs.«01_k».proof.Proof.SsdKer
public import proofs.«01_k».proof.Proof.SsdRead

@[expose] public section

set_option maxRecDepth 16384

noncomputable section

open Idealize.ShloMosaic Idealize.ShloMosaic.TcCoe Idealize.SL.Sem

namespace Cert.SsdKer

open Cert.Ssd
open Cert.KernelIdeal Cert.KernelIdeal.Gen

theorem inRow {n o w : ℕ} (K : Fin 4) (h : o + w ≤ n) :
    ∀ a, (![0, 256 * K.val, o] : Fin 3 → ℕ) a + (![1, 256, w] : Fin 3 → ℕ) a ≤ (![1, 1024, n] : Fin 3 → ℕ) a
  | 0 => by show 0 + 1 ≤ 1; omega
  | 1 => by show 256 * K.val + 256 ≤ 1024; omega
  | 2 => h

theorem inLane {n o w : ℕ} (h : o + w ≤ n) : ∀ a, (![0, o] : Fin 2 → ℕ) a + (![1, w] : Fin 2 → ℕ) a ≤ (![1, n] : Fin 2 → ℕ) a
  | 0 => by show 0 + 1 ≤ 1; omega
  | 1 => h

section
variable {e : EltTy}

/-- Rows of a chunk, 512 columns of a group. -/
def ldX (a : Memref sig .tc .vmem S1x1024x1024 e) (ha : a.IsWhole) (x : Vec Ideal S1x1024x1024 e) (K : Fin 4) (g : Fin 2) : Vec Ideal S1x256x512 e :=
  View.readAt (Elt Ideal) a.view (Rect.unit (s := S1x1024x1024) ![0, 256 * K.val, 512 * g.val] S1x256x512.size (inRow K (by omega))).toLoadRect (ha.unread x)

def ldB (a : Memref sig .tc .vmem S1x1024x512 e) (ha : a.IsWhole) (x : Vec Ideal S1x1024x512 e) (K : Fin 4) (g : Fin 2) : Vec Ideal S1x256x128 e :=
  View.readAt (Elt Ideal) a.view (Rect.unit (s := S1x1024x512) ![0, 256 * K.val, 128 * g.val] S1x256x128.size (inRow K (by omega))).toLoadRect (ha.unread x)

def ldC (a : Memref sig .tc .vmem S1x1024x512 e) (ha : a.IsWhole) (x : Vec Ideal S1x1024x512 e) (K : Fin 4) (g : Fin 2) : Vec Ideal S1x256x128 e :=
  View.readAt (Elt Ideal) a.view (Rect.unit (s := S1x1024x512) ![0, 256 * K.val, 256 + 128 * g.val] S1x256x128.size (inRow K (by omega))).toLoadRect (ha.unread x)

def ldT (a : Memref sig .tc .vmem S1x1024x256 e) (ha : a.IsWhole) (x : Vec Ideal S1x1024x256 e) (K : Fin 4) (g : Fin 2) : Vec Ideal S1x256x128 e :=
  View.readAt (Elt Ideal) a.view (Rect.unit (s := S1x1024x256) ![0, 256 * K.val, 128 * g.val] S1x256x128.size (inRow K (by omega))).toLoadRect (ha.unread x)

def ldH (a : Memref sig .tc .vmem S1x256 e) (ha : a.IsWhole) (x : Vec Ideal S1x256 e) (g : Fin 2) : Vec Ideal S1x128 e :=
  View.readAt (Elt Ideal) a.view (Rect.unit (s := S1x256) ![0, 128 * g.val] S1x128.size (inLane (by omega))).toLoadRect (ha.unread x)

def ldW (a : Memref sig .tc .vmem S1x1024 e) (ha : a.IsWhole) (x : Vec Ideal S1x1024 e) (g : Fin 2) : Vec Ideal S1x512 e :=
  View.readAt (Elt Ideal) a.view (Rect.unit (s := S1x1024) ![0, 512 * g.val] S1x512.size (inLane (by omega))).toLoadRect (ha.unread x)

theorem ldX_at (a : Memref sig .tc .vmem S1x1024x1024 e) (ha : a.IsWhole) (x : Vec Ideal S1x1024x1024 e) (K : Fin 4) (g : Fin 2) (l : Fin 256) (q : Fin 512) :
    ldX a ha x K g (ix3 0 l q) = x (ix3 0 ⟨256 * K.val + l.val, by omega⟩ ⟨512 * g.val + q.val, by omega⟩) := by
  unfold ldX
  rw [View.readAt_eq_ld, ha.read_unread]
  exact View.ld_unit_apply_of _ _ _ _ _ _ fun i => match i with
    | 0 => rfl
    | 1 => rfl
    | 2 => rfl

theorem ldB_at (a : Memref sig .tc .vmem S1x1024x512 e) (ha : a.IsWhole) (x : Vec Ideal S1x1024x512 e) (K : Fin 4) (g : Fin 2) (l : Fin 256) (q : Fin 128) :
    ldB a ha x K g (ix3 0 l q) = x (ix3 0 ⟨256 * K.val + l.val, by omega⟩ ⟨128 * g.val + q.val, by omega⟩) := by
  unfold ldB
  rw [View.readAt_eq_ld, ha.read_unread]
  exact View.ld_unit_apply_of _ _ _ _ _ _ fun i => match i with
    | 0 => rfl
    | 1 => rfl
    | 2 => rfl

theorem ldC_at (a : Memref sig .tc .vmem S1x1024x512 e) (ha : a.IsWhole) (x : Vec Ideal S1x1024x512 e) (K : Fin 4) (g : Fin 2) (l : Fin 256) (q : Fin 128) :
    ldC a ha x K g (ix3 0 l q) = x (ix3 0 ⟨256 * K.val + l.val, by omega⟩ ⟨256 + 128 * g.val + q.val, by omega⟩) := by
  unfold ldC
  rw [View.readAt_eq_ld, ha.read_unread]
  exact View.ld_unit_apply_of _ _ _ _ _ _ fun i => match i with
    | 0 => rfl
    | 1 => rfl
    | 2 => rfl

theorem ldT_at (a : Memref sig .tc .vmem S1x1024x256 e) (ha : a.IsWhole) (x : Vec Ideal S1x1024x256 e) (K : Fin 4) (g : Fin 2) (l : Fin 256) (q : Fin 128) :
    ldT a ha x K g (ix3 0 l q) = x (ix3 0 ⟨256 * K.val + l.val, by omega⟩ ⟨128 * g.val + q.val, by omega⟩) := by
  unfold ldT
  rw [View.readAt_eq_ld, ha.read_unread]
  exact View.ld_unit_apply_of _ _ _ _ _ _ fun i => match i with
    | 0 => rfl
    | 1 => rfl
    | 2 => rfl

theorem ldH_at (a : Memref sig .tc .vmem S1x256 e) (ha : a.IsWhole) (x : Vec Ideal S1x256 e) (g : Fin 2) (q : Fin 128) :
    ldH a ha x g (ix2 0 q) = x (ix2 0 ⟨128 * g.val + q.val, by omega⟩) := by
  unfold ldH
  rw [View.readAt_eq_ld, ha.read_unread]
  exact View.ld_unit_apply_of _ _ _ _ _ _ fun i => match i with
    | 0 => rfl
    | 1 => rfl

theorem ldW_at (a : Memref sig .tc .vmem S1x1024 e) (ha : a.IsWhole) (x : Vec Ideal S1x1024 e) (g : Fin 2) (q : Fin 512) :
    ldW a ha x g (ix2 0 q) = x (ix2 0 ⟨512 * g.val + q.val, by omega⟩) := by
  unfold ldW
  rw [View.readAt_eq_ld, ha.read_unread]
  exact View.ld_unit_apply_of _ _ _ _ _ _ fun i => match i with
    | 0 => rfl
    | 1 => rfl

end

section
variable (x0 : Vec Ideal S1x1024x1024 .f32) (x1 : Vec Ideal S1x1024x512 .bf16) (x2 : Vec Ideal S1x1024x256 .f32) (x3 : Vec Ideal S1x1024x1024 .f32) (x4 : Vec Ideal S1x256 .f32) (x5 : Vec Ideal S1x256 .f32) (x6 : Vec Ideal S1x1024 .f32) (x7 : Vec Ideal S1x1024 .f32)

/-- One chunk of one group of a point's blocks. -/
def kc (g : Fin 2) (K : Fin 4) : Chunk where
  x l q := x0 (ix3 0 ⟨256 * K.val + l.val, by omega⟩ ⟨512 * g.val + q.val, by omega⟩)
  b l n := x1 (ix3 0 ⟨256 * K.val + l.val, by omega⟩ ⟨128 * g.val + n.val, by omega⟩)
  c l n := x1 (ix3 0 ⟨256 * K.val + l.val, by omega⟩ ⟨256 + 128 * g.val + n.val, by omega⟩)
  dr l h := x2 (ix3 0 ⟨256 * K.val + l.val, by omega⟩ ⟨128 * g.val + h.val, by omega⟩)
  db h := x4 (ix2 0 ⟨128 * g.val + h.val, by omega⟩)
  al h := x5 (ix2 0 ⟨128 * g.val + h.val, by omega⟩)
  z l q := x3 (ix3 0 ⟨256 * K.val + l.val, by omega⟩ ⟨512 * g.val + q.val, by omega⟩)
  d q := x6 (ix2 0 ⟨512 * g.val + q.val, by omega⟩)
  w q := x7 (ix2 0 ⟨512 * g.val + q.val, by omega⟩)

theorem loads (arg2 : Memref sig .tc .vmem S1x1024x1024 .f32) (harg2 : arg2.IsWhole) (arg3 : Memref sig .tc .vmem S1x1024x512 .bf16) (harg3 : arg3.IsWhole) (arg4 : Memref sig .tc .vmem S1x1024x256 .f32) (harg4 : arg4.IsWhole)
    (arg6 : Memref sig .tc .vmem S1x256 .f32) (harg6 : arg6.IsWhole) (arg7 : Memref sig .tc .vmem S1x256 .f32) (harg7 : arg7.IsWhole) (K : Fin 4) (g : Fin 2) :
    Loads (kc x0 x1 x2 x3 x4 x5 x6 x7 g K) (ldX arg2 harg2 x0 K g) (ldB arg3 harg3 x1 K g) (ldC arg3 harg3 x1 K g) (ldT arg4 harg4 x2 K g) (ldH arg6 harg6 x4 g) (ldH arg7 harg7 x5 g) where
  x l q := ldX_at _ _ _ _ _ l q
  b l n := ldB_at _ _ _ _ _ l n
  c l n := ldC_at _ _ _ _ _ l n
  dr l h h' e := (ldT_at _ _ _ _ _ l h').trans (congrArg (fun k => x2 (ix3 0 ⟨256 * K.val + l.val, by omega⟩ k)) (Fin.ext (congrArg (fun n => 128 * g.val + n) e)))
  db h h' e := (ldH_at _ _ _ _ h').trans (congrArg (fun k => x4 (ix2 0 k)) (Fin.ext (congrArg (fun n => 128 * g.val + n) e)))
  al h h' e := (ldH_at _ _ _ _ h').trans (congrArg (fun k => x5 (ix2 0 k)) (Fin.ext (congrArg (fun n => 128 * g.val + n) e)))

end

/-- The state after `k` chunks of a point. -/
def run (u : Fin 4 → Chunk) (S : Fin 128 → Fin 512 → EReal) : ℕ → Fin 128 → Fin 512 → EReal
  | 0 => S
  | k + 1 => if h : k < 4 then (u ⟨k, h⟩).step (run u S k) else run u S k

end Cert.SsdKer
end
-- ==== Proof.SsdState.lean ====
/- The selective recurrence: the state. -/
module

public import proofs.«01_k».proof.Proof.SsdLoads

@[expose] public section

set_option maxRecDepth 16384

noncomputable section

open Idealize.ShloMosaic Idealize.ShloMosaic.TcCoe Idealize.SL.Sem

namespace Cert.SsdKer

open Cert.Ssd
open Cert.KernelIdeal Cert.KernelIdeal.Gen

theorem run_succ (u : Fin 4 → Chunk) (S : Fin 128 → Fin 512 → EReal) (K : Fin 4) : run u S (K.val + 1) = (u K).step (run u S K.val) := by
  show (if h : K.val < 4 then (u ⟨K.val, h⟩).step (run u S K.val) else run u S K.val) = _
  rw [dif_pos K.isLt]

theorem inS (g : Fin 2) : ∀ a, (![g.val, 0, 0] : Fin 3 → ℕ) a + S1x128x512.size a ≤ S2x128x512.size a
  | 0 => by show g.val + 1 ≤ 2; omega
  | 1 => by show 0 + 128 ≤ 128; omega
  | 2 => by show 0 + 512 ≤ 512; omega

theorem st0 (arg11 : Memref sig .tc .vmem S2x128x512 .f32) (harg11 : arg11.IsWhole) (xs0 : Vec Ideal S2x128x512 .f32) (g : Fin 2) (h : _) (n : Fin 128) (q : Fin 512) :
    (View.readAt (Elt Ideal) arg11.view (Rect.unit (s := S2x128x512) ![g.val, 0, 0] S1x128x512.size h).toLoadRect (harg11.unread xs0) : S1x128x512.Idx → EReal) (ix3 0 n q) = xs0 (ix3 g n q) := by
  rw [View.readAt_eq_ld, harg11.read_unread]
  exact View.ld_unit_apply_of _ _ _ _ _ _ fun i => match i with
    | 0 => rfl
    | 1 => by show n.val = 0 + n.val; omega
    | 2 => by show q.val = 0 + q.val; omega

theorem zero_at (x : S2x128x512.Idx) : (k0_pay3 (F := Ideal) : S2x128x512.Idx → EReal) x = 0 := by
  have e : x = ix3 (x 0) (x 1) (x 2) := funext fun a => match a with
    | 0 => rfl
    | 1 => rfl
    | 2 => rfl
  rw [e]
  pointwise [k0_pay3]

end Cert.SsdKer
end
-- ==== Proof.SsdPick.lean ====
/- The selective recurrence: reading one chunk's piece. -/
module

public import proofs.«01_k».proof.Proof.SsdState

@[expose] public section

set_option maxRecDepth 16384

noncomputable section

open Idealize.ShloMosaic Idealize.ShloMosaic.TcCoe Idealize.SL.Sem

namespace Cert.SsdKer

open Cert.Ssd
open Cert.KernelIdeal Cert.KernelIdeal.Gen

theorem inO (K : Fin 4) (g : Fin 2) : ∀ a, (![0, 256 * K.val, 512 * g.val] : Fin 3 → ℕ) a + S1x256x512.size a ≤ S1x1024x1024.size a
  | 0 => by show 0 + 1 ≤ 1; omega
  | 1 => by show 256 * K.val + 256 ≤ 1024; omega
  | 2 => by show 512 * g.val + 512 ≤ 1024; omega

/-- The rectangle of one chunk and group in a point's output. -/
abbrev orect (K : Fin 4) (g : Fin 2) : Rect S1x1024x1024 := Rect.unit ![0, 256 * K.val, 512 * g.val] S1x256x512.size (inO K g)

/-- The rectangle of one group in the carried state. -/
abbrev srect (g : Fin 2) : Rect S2x128x512 := Rect.unit ![g.val, 0, 0] S1x128x512.size (inS g)

theorem out_pick (L : List (View.Piece (Elt Ideal) S1x1024x1024 .bf16)) (K : Fin 4) (g : Fin 2) (w : Vec Ideal S1x256x512 .bf16)
    (h : VO0_8.readCov (Val := Elt Ideal) L (orect K g).toLoadRect = w) (l : Fin 256) (q : Fin 512) :
    View.canon (Val := Elt Ideal) L (ix3 0 ⟨256 * K.val + l.val, by omega⟩ ⟨512 * g.val + q.val, by omega⟩) = w (ix3 0 l q) := by
  rw [← h, View.readCov_eq_canon']
  refine congrArg (View.canon (Val := Elt Ideal) L) (funext fun a => Fin.ext ?_)
  match a with
  | 0 => rfl
  | 1 => show 256 * K.val + l.val = 256 * K.val + 1 * l.val; omega
  | 2 => show 512 * g.val + q.val = 512 * g.val + 1 * q.val; omega

theorem state_pick (L : List (View.Piece (Elt Ideal) S2x128x512 .f32)) (g : Fin 2) (w : Vec Ideal S1x128x512 .f32)
    (h : VS0_0.readCov (Val := Elt Ideal) L (srect g).toLoadRect = w) (n : Fin 128) (q : Fin 512) :
    View.canon (Val := Elt Ideal) L (ix3 g n q) = w (ix3 0 n q) := by
  rw [← h, View.readCov_eq_canon']
  refine congrArg (View.canon (Val := Elt Ideal) L) (funext fun a => Fin.ext ?_)
  match a with
  | 0 => show g.val = g.val + 1 * 0; omega
  | 1 => show n.val = 0 + 1 * n.val; omega
  | 2 => show q.val = 0 + 1 * q.val; omega

end Cert.SsdKer
end
-- ==== Proof.SsdEqA.lean ====
/- The selective recurrence: the run's values for one chunk, case A. -/
module

public import proofs.«01_k».proof.Proof.SsdLoads

@[expose] public section

set_option maxRecDepth 16384

noncomputable section

open Idealize.ShloMosaic Idealize.ShloMosaic.TcCoe Idealize.SL.Sem

namespace Cert.SsdKer

open Cert.Ssd
open Cert.KernelIdeal Cert.KernelIdeal.Gen

section
variable (c : Dev nD) (arg2 : Memref sig .tc .vmem S1x1024x1024 .f32) (harg2 : arg2.IsWhole) (arg3 : Memref sig .tc .vmem S1x1024x512 .bf16) (harg3 : arg3.IsWhole) (arg4 : Memref sig .tc .vmem S1x1024x256 .f32) (harg4 : arg4.IsWhole) (arg5 : Memref sig .tc .vmem S1x1024x1024 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1024 .f32) (harg8 : arg8.IsWhole) (arg9 : Memref sig .tc .vmem S1x1024 .f32) (harg9 : arg9.IsWhole)
    (arg11 : Memref sig .tc .vmem S2x128x512 .f32) (harg11 : arg11.IsWhole) (arg12 : Memref sig .tc .vmem S4x2x256x512 .bf16) (arg13 : Memref sig .tc .vmem S4x2x256x512 .f32)
    (x0 : Vec Ideal S1x1024x1024 .f32) (x1 : Vec Ideal S1x1024x512 .bf16) (x2 : Vec Ideal S1x1024x256 .f32) (x3 : Vec Ideal S1x1024x1024 .f32) (x4 : Vec Ideal S1x256 .f32) (x5 : Vec Ideal S1x256 .f32) (x6 : Vec Ideal S1x1024 .f32) (x7 : Vec Ideal S1x1024 .f32) (xs0 : Vec Ideal S2x128x512 .f32)

theorem eqXA0 : (LoadRect.valAlong (hhK 0 0) (kernelRun0_A.sl.v343 (F := Ideal) c arg2 harg2 arg4 harg4 arg6 harg6 arg7 harg7 arg12 x0 x2 x4 x5) : S1x256x512.Idx → EReal) =
    LoadRect.valAlong (hhK 0 0) (arg12.view.readCov (Val := Elt Ideal) (⟨xrect 0 0 384 (by omega), xdecW (ldX arg2 harg2 x0 0 0) (ldT arg4 harg4 x2 0 0) (ldH arg6 harg6 x4 0) (ldH arg7 harg7 x5 0) 3⟩ :: ⟨xrect 0 0 256 (by omega), xdecW (ldX arg2 harg2 x0 0 0) (ldT arg4 harg4 x2 0 0) (ldH arg6 harg6 x4 0) (ldH arg7 harg7 x5 0) 2⟩ :: ⟨xrect 0 0 128 (by omega), xdecW (ldX arg2 harg2 x0 0 0) (ldT arg4 harg4 x2 0 0) (ldH arg6 harg6 x4 0) (ldH arg7 harg7 x5 0) 1⟩ :: ⟨xrect 0 0 0 (by omega), xdecW (ldX arg2 harg2 x0 0 0) (ldT arg4 harg4 x2 0 0) (ldH arg6 harg6 x4 0) (ldH arg7 harg7 x5 0) 0⟩ :: []) (gbox 0 0)) := by
  sl_kernel_rfl

theorem eqDA0 : (LoadRect.valAlong (hhK 0 0) (kernelRun0_A.sl.v325 (F := Ideal) c arg2 harg2 arg3 harg3 arg4 harg4 arg6 harg6 arg7 harg7 arg13 x0 x1 x2 x4 x5) : S1x256x512.Idx → EReal) =
    LoadRect.valAlong (hhK 0 0) (arg13.view.readCov (Val := Elt Ideal) (⟨drect 0 0 384 (by omega), dpay 0 0 384 (by omega) (ydF (ldX arg2 harg2 x0 0 0) (ldB arg3 harg3 x1 0 0) (ldC arg3 harg3 x1 0 0) (ldT arg4 harg4 x2 0 0) (ldH arg6 harg6 x4 0) (ldH arg7 harg7 x5 0) 3)⟩ :: ⟨drect 0 0 256 (by omega), dpay 0 0 256 (by omega) (ydF (ldX arg2 harg2 x0 0 0) (ldB arg3 harg3 x1 0 0) (ldC arg3 harg3 x1 0 0) (ldT arg4 harg4 x2 0 0) (ldH arg6 harg6 x4 0) (ldH arg7 harg7 x5 0) 2)⟩ :: ⟨drect 0 0 128 (by omega), dpay 0 0 128 (by omega) (ydF (ldX arg2 harg2 x0 0 0) (ldB arg3 harg3 x1 0 0) (ldC arg3 harg3 x1 0 0) (ldT arg4 harg4 x2 0 0) (ldH arg6 harg6 x4 0) (ldH arg7 harg7 x5 0) 1)⟩ :: ⟨drect 0 0 0 (by omega), dpay 0 0 0 (by omega) (ydF (ldX arg2 harg2 x0 0 0) (ldB arg3 harg3 x1 0 0) (ldC arg3 harg3 x1 0 0) (ldT arg4 harg4 x2 0 0) (ldH arg6 harg6 x4 0) (ldH arg7 harg7 x5 0) 0)⟩ :: []) (gbox 0 0)) := by
  sl_kernel_rfl

theorem eqTA0 : (kernelRun0_A.sl.v349 (F := Ideal) c arg2 harg2 arg3 harg3 arg4 harg4 arg6 harg6 arg7 harg7 arg11 arg12 x0 x1 x2 x4 x5) = stF (ldB arg3 harg3 x1 0 0) (ldT arg4 harg4 x2 0 0) (ldH arg6 harg6 x4 0) (ldH arg7 harg7 x5 0) (kernelRun0_A.sl.v321 (F := Ideal) c arg11) (LoadRect.valAlong (hhK 0 0) (kernelRun0_A.sl.v343 (F := Ideal) c arg2 harg2 arg4 harg4 arg6 harg6 arg7 harg7 arg12 x0 x2 x4 x5)) := by
  sl_kernel_rfl

theorem eqOA0 : (kernelRun0_A.sl.v370 (F := Ideal) c arg2 harg2 arg3 harg3 arg4 harg4 arg5 harg5 arg6 harg6 arg7 harg7 arg8 harg8 arg9 harg9 arg11 arg13 x0 x1 x2 x3 x4 x5 x6 x7) = outF (ldX arg2 harg2 x0 0 0) (ldC arg3 harg3 x1 0 0) (ldT arg4 harg4 x2 0 0) (ldH arg6 harg6 x4 0) (ldH arg7 harg7 x5 0) (kernelRun0_A.sl.v321 (F := Ideal) c arg11) (LoadRect.valAlong (hhK 0 0) (kernelRun0_A.sl.v325 (F := Ideal) c arg2 harg2 arg3 harg3 arg4 harg4 arg6 harg6 arg7 harg7 arg13 x0 x1 x2 x4 x5)) (ldX arg5 harg5 x3 0 0) (ldW arg8 harg8 x6 0) (ldW arg9 harg9 x7 0) := by
  sl_kernel_rfl

theorem eqXA1 : (LoadRect.valAlong (hhK 0 1) (kernelRun0_A.sl.v704 (F := Ideal) c arg2 harg2 arg4 harg4 arg6 harg6 arg7 harg7 arg12 x0 x2 x4 x5) : S1x256x512.Idx → EReal) =
    LoadRect.valAlong (hhK 0 1) (arg12.view.readCov (Val := Elt Ideal) (⟨xrect 0 1 384 (by omega), xdecW (ldX arg2 harg2 x0 0 1) (ldT arg4 harg4 x2 0 1) (ldH arg6 harg6 x4 1) (ldH arg7 harg7 x5 1) 3⟩ :: ⟨xrect 0 1 256 (by omega), xdecW (ldX arg2 harg2 x0 0 1) (ldT arg4 harg4 x2 0 1) (ldH arg6 harg6 x4 1) (ldH arg7 harg7 x5 1) 2⟩ :: ⟨xrect 0 1 128 (by omega), xdecW (ldX arg2 harg2 x0 0 1) (ldT arg4 harg4 x2 0 1) (ldH arg6 harg6 x4 1) (ldH arg7 harg7 x5 1) 1⟩ :: ⟨xrect 0 1 0 (by omega), xdecW (ldX arg2 harg2 x0 0 1) (ldT arg4 harg4 x2 0 1) (ldH arg6 harg6 x4 1) (ldH arg7 harg7 x5 1) 0⟩ :: (kernelRun0_A.sl.HS1_4 (F := Ideal) c arg2 harg2 arg4 harg4 arg6 harg6 arg7 harg7 x0 x2 x4 x5)) (gbox 0 1)) := by
  sl_kernel_rfl

theorem eqDA1 : (LoadRect.valAlong (hhK 0 1) (kernelRun0_A.sl.v686 (F := Ideal) c arg2 harg2 arg3 harg3 arg4 harg4 arg6 harg6 arg7 harg7 arg13 x0 x1 x2 x4 x5) : S1x256x512.Idx → EReal) =
    LoadRect.valAlong (hhK 0 1) (arg13.view.readCov (Val := Elt Ideal) (⟨drect 0 1 384 (by omega), dpay 0 1 384 (by omega) (ydF (ldX arg2 harg2 x0 0 1) (ldB arg3 harg3 x1 0 1) (ldC arg3 harg3 x1 0 1) (ldT arg4 harg4 x2 0 1) (ldH arg6 harg6 x4 1) (ldH arg7 harg7 x5 1) 3)⟩ :: ⟨drect 0 1 256 (by omega), dpay 0 1 256 (by omega) (ydF (ldX arg2 harg2 x0 0 1) (ldB arg3 harg3 x1 0 1) (ldC arg3 harg3 x1 0 1) (ldT arg4 harg4 x2 0 1) (ldH arg6 harg6 x4 1) (ldH arg7 harg7 x5 1) 2)⟩ :: ⟨drect 0 1 128 (by omega), dpay 0 1 128 (by omega) (ydF (ldX arg2 harg2 x0 0 1) (ldB arg3 harg3 x1 0 1) (ldC arg3 harg3 x1 0 1) (ldT arg4 harg4 x2 0 1) (ldH arg6 harg6 x4 1) (ldH arg7 harg7 x5 1) 1)⟩ :: ⟨drect 0 1 0 (by omega), dpay 0 1 0 (by omega) (ydF (ldX arg2 harg2 x0 0 1) (ldB arg3 harg3 x1 0 1) (ldC arg3 harg3 x1 0 1) (ldT arg4 harg4 x2 0 1) (ldH arg6 harg6 x4 1) (ldH arg7 harg7 x5 1) 0)⟩ :: (kernelRun0_A.sl.HS2_4 (F := Ideal) c arg2 harg2 arg3 harg3 arg4 harg4 arg6 harg6 arg7 harg7 x0 x1 x2 x4 x5)) (gbox 0 1)) := by
  sl_kernel_rfl

theorem eqTA1 : (kernelRun0_A.sl.v710 (F := Ideal) c arg2 harg2 arg3 harg3 arg4 harg4 arg6 harg6 arg7 harg7 arg11 arg12 x0 x1 x2 x4 x5) = stF (ldB arg3 harg3 x1 0 1) (ldT arg4 harg4 x2 0 1) (ldH arg6 harg6 x4 1) (ldH arg7 harg7 x5 1) (kernelRun0_A.sl.v682 (F := Ideal) c arg2 harg2 arg3 harg3 arg4 harg4 arg6 harg6 arg7 harg7 arg11 arg12 x0 x1 x2 x4 x5) (LoadRect.valAlong (hhK 0 1) (kernelRun0_A.sl.v704 (F := Ideal) c arg2 harg2 arg4 harg4 arg6 harg6 arg7 harg7 arg12 x0 x2 x4 x5)) := by
  sl_kernel_rfl

theorem eqOA1 : (k0_pay125 (F := Ideal) (kernelRun0_A.sl.v728 (F := Ideal) c arg2 harg2 arg3 harg3 arg4 harg4 arg5 harg5 arg6 harg6 arg7 harg7 arg8 harg8 arg9 harg9 arg11 arg12 arg13 x0 x1 x2 x3 x4 x5 x6 x7)) = outF (ldX arg2 harg2 x0 0 1) (ldC arg3 harg3 x1 0 1) (ldT arg4 harg4 x2 0 1) (ldH arg6 harg6 x4 1) (ldH arg7 harg7 x5 1) (kernelRun0_A.sl.v682 (F := Ideal) c arg2 harg2 arg3 harg3 arg4 harg4 arg6 harg6 arg7 harg7 arg11 arg12 x0 x1 x2 x4 x5) (LoadRect.valAlong (hhK 0 1) (kernelRun0_A.sl.v686 (F := Ideal) c arg2 harg2 arg3 harg3 arg4 harg4 arg6 harg6 arg7 harg7 arg13 x0 x1 x2 x4 x5)) (ldX arg5 harg5 x3 0 1) (ldW arg8 harg8 x6 1) (ldW arg9 harg9 x7 1) := by
  sl_kernel_rfl

theorem eqXA2 : (LoadRect.valAlong (hhK 1 0) (kernelRun0_A.sl.v1065 (F := Ideal) c arg2 harg2 arg4 harg4 arg6 harg6 arg7 harg7 arg12 x0 x2 x4 x5) : S1x256x512.Idx → EReal) =
    LoadRect.valAlong (hhK 1 0) (arg12.view.readCov (Val := Elt Ideal) (⟨xrect 1 0 384 (by omega), xdecW (ldX arg2 harg2 x0 1 0) (ldT arg4 harg4 x2 1 0) (ldH arg6 harg6 x4 0) (ldH arg7 harg7 x5 0) 3⟩ :: ⟨xrect 1 0 256 (by omega), xdecW (ldX arg2 harg2 x0 1 0) (ldT arg4 harg4 x2 1 0) (ldH arg6 harg6 x4 0) (ldH arg7 harg7 x5 0) 2⟩ :: ⟨xrect 1 0 128 (by omega), xdecW (ldX arg2 harg2 x0 1 0) (ldT arg4 harg4 x2 1 0) (ldH arg6 harg6 x4 0) (ldH arg7 harg7 x5 0) 1⟩ :: ⟨xrect 1 0 0 (by omega), xdecW (ldX arg2 harg2 x0 1 0) (ldT arg4 harg4 x2 1 0) (ldH arg6 harg6 x4 0) (ldH arg7 harg7 x5 0) 0⟩ :: (kernelRun0_A.sl.HS1_8 (F := Ideal) c arg2 harg2 arg4 harg4 arg6 harg6 arg7 harg7 x0 x2 x4 x5)) (gbox 1 0)) := by
  sl_kernel_rfl

theorem eqDA2 : (LoadRect.valAlong (hhK 1 0) (kernelRun0_A.sl.v1047 (F := Ideal) c arg2 harg2 arg3 harg3 arg4 harg4 arg6 harg6 arg7 harg7 arg13 x0 x1 x2 x4 x5) : S1x256x512.Idx → EReal) =
    LoadRect.valAlong (hhK 1 0) (arg13.view.readCov (Val := Elt Ideal) (⟨drect 1 0 384 (by omega), dpay 1 0 384 (by omega) (ydF (ldX arg2 harg2 x0 1 0) (ldB arg3 harg3 x1 1 0) (ldC arg3 harg3 x1 1 0) (ldT arg4 harg4 x2 1 0) (ldH arg6 harg6 x4 0) (ldH arg7 harg7 x5 0) 3)⟩ :: ⟨drect 1 0 256 (by omega), dpay 1 0 256 (by omega) (ydF (ldX arg2 harg2 x0 1 0) (ldB arg3 harg3 x1 1 0) (ldC arg3 harg3 x1 1 0) (ldT arg4 harg4 x2 1 0) (ldH arg6 harg6 x4 0) (ldH arg7 harg7 x5 0) 2)⟩ :: ⟨drect 1 0 128 (by omega), dpay 1 0 128 (by omega) (ydF (ldX arg2 harg2 x0 1 0) (ldB arg3 harg3 x1 1 0) (ldC arg3 harg3 x1 1 0) (ldT arg4 harg4 x2 1 0) (ldH arg6 harg6 x4 0) (ldH arg7 harg7 x5 0) 1)⟩ :: ⟨drect 1 0 0 (by omega), dpay 1 0 0 (by omega) (ydF (ldX arg2 harg2 x0 1 0) (ldB arg3 harg3 x1 1 0) (ldC arg3 harg3 x1 1 0) (ldT arg4 harg4 x2 1 0) (ldH arg6 harg6 x4 0) (ldH arg7 harg7 x5 0) 0)⟩ :: (kernelRun0_A.sl.HS2_8 (F := Ideal) c arg2 harg2 arg3 harg3 arg4 harg4 arg6 harg6 arg7 harg7 x0 x1 x2 x4 x5)) (gbox 1 0)) := by
  sl_kernel_rfl

theorem eqTA2 : (kernelRun0_A.sl.v1071 (F := Ideal) c arg2 harg2 arg3 harg3 arg4 harg4 arg6 harg6 arg7 harg7 arg11 arg12 x0 x1 x2 x4 x5) = stF (ldB arg3 harg3 x1 1 0) (ldT arg4 harg4 x2 1 0) (ldH arg6 harg6 x4 0) (ldH arg7 harg7 x5 0) (kernelRun0_A.sl.v1043 (F := Ideal) c arg2 harg2 arg3 harg3 arg4 harg4 arg6 harg6 arg7 harg7 arg11 arg12 x0 x1 x2 x4 x5) (LoadRect.valAlong (hhK 1 0) (kernelRun0_A.sl.v1065 (F := Ideal) c arg2 harg2 arg4 harg4 arg6 harg6 arg7 harg7 arg12 x0 x2 x4 x5)) := by
  sl_kernel_rfl

theorem eqOA2 : (kernelRun0_A.sl.v1092 (F := Ideal) c arg2 harg2 arg3 harg3 arg4 harg4 arg5 harg5 arg6 harg6 arg7 harg7 arg8 harg8 arg9 harg9 arg11 arg12 arg13 x0 x1 x2 x3 x4 x5 x6 x7) = outF (ldX arg2 harg2 x0 1 0) (ldC arg3 harg3 x1 1 0) (ldT arg4 harg4 x2 1 0) (ldH arg6 harg6 x4 0) (ldH arg7 harg7 x5 0) (kernelRun0_A.sl.v1043 (F := Ideal) c arg2 harg2 arg3 harg3 arg4 harg4 arg6 harg6 arg7 harg7 arg11 arg12 x0 x1 x2 x4 x5) (LoadRect.valAlong (hhK 1 0) (kernelRun0_A.sl.v1047 (F := Ideal) c arg2 harg2 arg3 harg3 arg4 harg4 arg6 harg6 arg7 harg7 arg13 x0 x1 x2 x4 x5)) (ldX arg5 harg5 x3 1 0) (ldW arg8 harg8 x6 0) (ldW arg9 harg9 x7 0) := by
  sl_kernel_rfl

theorem eqXA3 : (LoadRect.valAlong (hhK 1 1) (kernelRun0_A.sl.v1426 (F := Ideal) c arg2 harg2 arg4 harg4 arg6 harg6 arg7 harg7 arg12 x0 x2 x4 x5) : S1x256x512.Idx → EReal) =
    LoadRect.valAlong (hhK 1 1) (arg12.view.readCov (Val := Elt Ideal) (⟨xrect 1 1 384 (by omega), xdecW (ldX arg2 harg2 x0 1 1) (ldT arg4 harg4 x2 1 1) (ldH arg6 harg6 x4 1) (ldH arg7 harg7 x5 1) 3⟩ :: ⟨xrect 1 1 256 (by omega), xdecW (ldX arg2 harg2 x0 1 1) (ldT arg4 harg4 x2 1 1) (ldH arg6 harg6 x4 1) (ldH arg7 harg7 x5 1) 2⟩ :: ⟨xrect 1 1 128 (by omega), xdecW (ldX arg2 harg2 x0 1 1) (ldT arg4 harg4 x2 1 1) (ldH arg6 harg6 x4 1) (ldH arg7 harg7 x5 1) 1⟩ :: ⟨xrect 1 1 0 (by omega), xdecW (ldX arg2 harg2 x0 1 1) (ldT arg4 harg4 x2 1 1) (ldH arg6 harg6 x4 1) (ldH arg7 harg7 x5 1) 0⟩ :: (kernelRun0_A.sl.HS1_12 (F := Ideal) c arg2 harg2 arg4 harg4 arg6 harg6 arg7 harg7 x0 x2 x4 x5)) (gbox 1 1)) := by
  sl_kernel_rfl

theorem eqDA3 : (LoadRect.valAlong (hhK 1 1) (kernelRun0_A.sl.v1408 (F := Ideal) c arg2 harg2 arg3 harg3 arg4 harg4 arg6 harg6 arg7 harg7 arg13 x0 x1 x2 x4 x5) : S1x256x512.Idx → EReal) =
    LoadRect.valAlong (hhK 1 1) (arg13.view.readCov (Val := Elt Ideal) (⟨drect 1 1 384 (by omega), dpay 1 1 384 (by omega) (ydF (ldX arg2 harg2 x0 1 1) (ldB arg3 harg3 x1 1 1) (ldC arg3 harg3 x1 1 1) (ldT arg4 harg4 x2 1 1) (ldH arg6 harg6 x4 1) (ldH arg7 harg7 x5 1) 3)⟩ :: ⟨drect 1 1 256 (by omega), dpay 1 1 256 (by omega) (ydF (ldX arg2 harg2 x0 1 1) (ldB arg3 harg3 x1 1 1) (ldC arg3 harg3 x1 1 1) (ldT arg4 harg4 x2 1 1) (ldH arg6 harg6 x4 1) (ldH arg7 harg7 x5 1) 2)⟩ :: ⟨drect 1 1 128 (by omega), dpay 1 1 128 (by omega) (ydF (ldX arg2 harg2 x0 1 1) (ldB arg3 harg3 x1 1 1) (ldC arg3 harg3 x1 1 1) (ldT arg4 harg4 x2 1 1) (ldH arg6 harg6 x4 1) (ldH arg7 harg7 x5 1) 1)⟩ :: ⟨drect 1 1 0 (by omega), dpay 1 1 0 (by omega) (ydF (ldX arg2 harg2 x0 1 1) (ldB arg3 harg3 x1 1 1) (ldC arg3 harg3 x1 1 1) (ldT arg4 harg4 x2 1 1) (ldH arg6 harg6 x4 1) (ldH arg7 harg7 x5 1) 0)⟩ :: (kernelRun0_A.sl.HS2_12 (F := Ideal) c arg2 harg2 arg3 harg3 arg4 harg4 arg6 harg6 arg7 harg7 x0 x1 x2 x4 x5)) (gbox 1 1)) := by
  sl_kernel_rfl

theorem eqTA3 : (kernelRun0_A.sl.v1432 (F := Ideal) c arg2 harg2 arg3 harg3 arg4 harg4 arg6 harg6 arg7 harg7 arg11 arg12 x0 x1 x2 x4 x5) = stF (ldB arg3 harg3 x1 1 1) (ldT arg4 harg4 x2 1 1) (ldH arg6 harg6 x4 1) (ldH arg7 harg7 x5 1) (kernelRun0_A.sl.v1404 (F := Ideal) c arg2 harg2 arg3 harg3 arg4 harg4 arg6 harg6 arg7 harg7 arg11 arg12 x0 x1 x2 x4 x5) (LoadRect.valAlong (hhK 1 1) (kernelRun0_A.sl.v1426 (F := Ideal) c arg2 harg2 arg4 harg4 arg6 harg6 arg7 harg7 arg12 x0 x2 x4 x5)) := by
  sl_kernel_rfl

theorem eqOA3 : (kernelRun0_A.sl.v1453 (F := Ideal) c arg2 harg2 arg3 harg3 arg4 harg4 arg5 harg5 arg6 harg6 arg7 harg7 arg8 harg8 arg9 harg9 arg11 arg12 arg13 x0 x1 x2 x3 x4 x5 x6 x7) = outF (ldX arg2 harg2 x0 1 1) (ldC arg3 harg3 x1 1 1) (ldT arg4 harg4 x2 1 1) (ldH arg6 harg6 x4 1) (ldH arg7 harg7 x5 1) (kernelRun0_A.sl.v1404 (F := Ideal) c arg2 harg2 arg3 harg3 arg4 harg4 arg6 harg6 arg7 harg7 arg11 arg12 x0 x1 x2 x4 x5) (LoadRect.valAlong (hhK 1 1) (kernelRun0_A.sl.v1408 (F := Ideal) c arg2 harg2 arg3 harg3 arg4 harg4 arg6 harg6 arg7 harg7 arg13 x0 x1 x2 x4 x5)) (ldX arg5 harg5 x3 1 1) (ldW arg8 harg8 x6 1) (ldW arg9 harg9 x7 1) := by
  sl_kernel_rfl

theorem eqXA4 : (LoadRect.valAlong (hhK 2 0) (kernelRun0_A.sl.v1787 (F := Ideal) c arg2 harg2 arg4 harg4 arg6 harg6 arg7 harg7 arg12 x0 x2 x4 x5) : S1x256x512.Idx → EReal) =
    LoadRect.valAlong (hhK 2 0) (arg12.view.readCov (Val := Elt Ideal) (⟨xrect 2 0 384 (by omega), xdecW (ldX arg2 harg2 x0 2 0) (ldT arg4 harg4 x2 2 0) (ldH arg6 harg6 x4 0) (ldH arg7 harg7 x5 0) 3⟩ :: ⟨xrect 2 0 256 (by omega), xdecW (ldX arg2 harg2 x0 2 0) (ldT arg4 harg4 x2 2 0) (ldH arg6 harg6 x4 0) (ldH arg7 harg7 x5 0) 2⟩ :: ⟨xrect 2 0 128 (by omega), xdecW (ldX arg2 harg2 x0 2 0) (ldT arg4 harg4 x2 2 0) (ldH arg6 harg6 x4 0) (ldH arg7 harg7 x5 0) 1⟩ :: ⟨xrect 2 0 0 (by omega), xdecW (ldX arg2 harg2 x0 2 0) (ldT arg4 harg4 x2 2 0) (ldH arg6 harg6 x4 0) (ldH arg7 harg7 x5 0) 0⟩ :: (kernelRun0_A.sl.HS1_16 (F := Ideal) c arg2 harg2 arg4 harg4 arg6 harg6 arg7 harg7 x0 x2 x4 x5)) (gbox 2 0)) := by
  sl_kernel_rfl

theorem eqDA4 : (LoadRect.valAlong (hhK 2 0) (kernelRun0_A.sl.v1769 (F := Ideal) c arg2 harg2 arg3 harg3 arg4 harg4 arg6 harg6 arg7 harg7 arg13 x0 x1 x2 x4 x5) : S1x256x512.Idx → EReal) =
    LoadRect.valAlong (hhK 2 0) (arg13.view.readCov (Val := Elt Ideal) (⟨drect 2 0 384 (by omega), dpay 2 0 384 (by omega) (ydF (ldX arg2 harg2 x0 2 0) (ldB arg3 harg3 x1 2 0) (ldC arg3 harg3 x1 2 0) (ldT arg4 harg4 x2 2 0) (ldH arg6 harg6 x4 0) (ldH arg7 harg7 x5 0) 3)⟩ :: ⟨drect 2 0 256 (by omega), dpay 2 0 256 (by omega) (ydF (ldX arg2 harg2 x0 2 0) (ldB arg3 harg3 x1 2 0) (ldC arg3 harg3 x1 2 0) (ldT arg4 harg4 x2 2 0) (ldH arg6 harg6 x4 0) (ldH arg7 harg7 x5 0) 2)⟩ :: ⟨drect 2 0 128 (by omega), dpay 2 0 128 (by omega) (ydF (ldX arg2 harg2 x0 2 0) (ldB arg3 harg3 x1 2 0) (ldC arg3 harg3 x1 2 0) (ldT arg4 harg4 x2 2 0) (ldH arg6 harg6 x4 0) (ldH arg7 harg7 x5 0) 1)⟩ :: ⟨drect 2 0 0 (by omega), dpay 2 0 0 (by omega) (ydF (ldX arg2 harg2 x0 2 0) (ldB arg3 harg3 x1 2 0) (ldC arg3 harg3 x1 2 0) (ldT arg4 harg4 x2 2 0) (ldH arg6 harg6 x4 0) (ldH arg7 harg7 x5 0) 0)⟩ :: (kernelRun0_A.sl.HS2_16 (F := Ideal) c arg2 harg2 arg3 harg3 arg4 harg4 arg6 harg6 arg7 harg7 x0 x1 x2 x4 x5)) (gbox 2 0)) := by
  sl_kernel_rfl

theorem eqTA4 : (kernelRun0_A.sl.v1793 (F := Ideal) c arg2 harg2 arg3 harg3 arg4 harg4 arg6 harg6 arg7 harg7 arg11 arg12 x0 x1 x2 x4 x5) = stF (ldB arg3 harg3 x1 2 0) (ldT arg4 harg4 x2 2 0) (ldH arg6 harg6 x4 0) (ldH arg7 harg7 x5 0) (kernelRun0_A.sl.v1765 (F := Ideal) c arg2 harg2 arg3 harg3 arg4 harg4 arg6 harg6 arg7 harg7 arg11 arg12 x0 x1 x2 x4 x5) (LoadRect.valAlong (hhK 2 0) (kernelRun0_A.sl.v1787 (F := Ideal) c arg2 harg2 arg4 harg4 arg6 harg6 arg7 harg7 arg12 x0 x2 x4 x5)) := by
  sl_kernel_rfl

theorem eqOA4 : (kernelRun0_A.sl.v1814 (F := Ideal) c arg2 harg2 arg3 harg3 arg4 harg4 arg5 harg5 arg6 harg6 arg7 harg7 arg8 harg8 arg9 harg9 arg11 arg12 arg13 x0 x1 x2 x3 x4 x5 x6 x7) = outF (ldX arg2 harg2 x0 2 0) (ldC arg3 harg3 x1 2 0) (ldT arg4 harg4 x2 2 0) (ldH arg6 harg6 x4 0) (ldH arg7 harg7 x5 0) (kernelRun0_A.sl.v1765 (F := Ideal) c arg2 harg2 arg3 harg3 arg4 harg4 arg6 harg6 arg7 harg7 arg11 arg12 x0 x1 x2 x4 x5) (LoadRect.valAlong (hhK 2 0) (kernelRun0_A.sl.v1769 (F := Ideal) c arg2 harg2 arg3 harg3 arg4 harg4 arg6 harg6 arg7 harg7 arg13 x0 x1 x2 x4 x5)) (ldX arg5 harg5 x3 2 0) (ldW arg8 harg8 x6 0) (ldW arg9 harg9 x7 0) := by
  sl_kernel_rfl

theorem eqXA5 : (LoadRect.valAlong (hhK 2 1) (kernelRun0_A.sl.v2148 (F := Ideal) c arg2 harg2 arg4 harg4 arg6 harg6 arg7 harg7 arg12 x0 x2 x4 x5) : S1x256x512.Idx → EReal) =
    LoadRect.valAlong (hhK 2 1) (arg12.view.readCov (Val := Elt Ideal) (⟨xrect 2 1 384 (by omega), xdecW (ldX arg2 harg2 x0 2 1) (ldT arg4 harg4 x2 2 1) (ldH arg6 harg6 x4 1) (ldH arg7 harg7 x5 1) 3⟩ :: ⟨xrect 2 1 256 (by omega), xdecW (ldX arg2 harg2 x0 2 1) (ldT arg4 harg4 x2 2 1) (ldH arg6 harg6 x4 1) (ldH arg7 harg7 x5 1) 2⟩ :: ⟨xrect 2 1 128 (by omega), xdecW (ldX arg2 harg2 x0 2 1) (ldT arg4 harg4 x2 2 1) (ldH arg6 harg6 x4 1) (ldH arg7 harg7 x5 1) 1⟩ :: ⟨xrect 2 1 0 (by omega), xdecW (ldX arg2 harg2 x0 2 1) (ldT arg4 harg4 x2 2 1) (ldH arg6 harg6 x4 1) (ldH arg7 harg7 x5 1) 0⟩ :: (kernelRun0_A.sl.HS1_20 (F := Ideal) c arg2 harg2 arg4 harg4 arg6 harg6 arg7 harg7 x0 x2 x4 x5)) (gbox 2 1)) := by
  sl_kernel_rfl

theorem eqDA5 : (LoadRect.valAlong (hhK 2 1) (kernelRun0_A.sl.v2130 (F := Ideal) c arg2 harg2 arg3 harg3 arg4 harg4 arg6 harg6 arg7 harg7 arg13 x0 x1 x2 x4 x5) : S1x256x512.Idx → EReal) =
    LoadRect.valAlong (hhK 2 1) (arg13.view.readCov (Val := Elt Ideal) (⟨drect 2 1 384 (by omega), dpay 2 1 384 (by omega) (ydF (ldX arg2 harg2 x0 2 1) (ldB arg3 harg3 x1 2 1) (ldC arg3 harg3 x1 2 1) (ldT arg4 harg4 x2 2 1) (ldH arg6 harg6 x4 1) (ldH arg7 harg7 x5 1) 3)⟩ :: ⟨drect 2 1 256 (by omega), dpay 2 1 256 (by omega) (ydF (ldX arg2 harg2 x0 2 1) (ldB arg3 harg3 x1 2 1) (ldC arg3 harg3 x1 2 1) (ldT arg4 harg4 x2 2 1) (ldH arg6 harg6 x4 1) (ldH arg7 harg7 x5 1) 2)⟩ :: ⟨drect 2 1 128 (by omega), dpay 2 1 128 (by omega) (ydF (ldX arg2 harg2 x0 2 1) (ldB arg3 harg3 x1 2 1) (ldC arg3 harg3 x1 2 1) (ldT arg4 harg4 x2 2 1) (ldH arg6 harg6 x4 1) (ldH arg7 harg7 x5 1) 1)⟩ :: ⟨drect 2 1 0 (by omega), dpay 2 1 0 (by omega) (ydF (ldX arg2 harg2 x0 2 1) (ldB arg3 harg3 x1 2 1) (ldC arg3 harg3 x1 2 1) (ldT arg4 harg4 x2 2 1) (ldH arg6 harg6 x4 1) (ldH arg7 harg7 x5 1) 0)⟩ :: (kernelRun0_A.sl.HS2_20 (F := Ideal) c arg2 harg2 arg3 harg3 arg4 harg4 arg6 harg6 arg7 harg7 x0 x1 x2 x4 x5)) (gbox 2 1)) := by
  sl_kernel_rfl

theorem eqTA5 : (kernelRun0_A.sl.v2154 (F := Ideal) c arg2 harg2 arg3 harg3 arg4 harg4 arg6 harg6 arg7 harg7 arg11 arg12 x0 x1 x2 x4 x5) = stF (ldB arg3 harg3 x1 2 1) (ldT arg4 harg4 x2 2 1) (ldH arg6 harg6 x4 1) (ldH arg7 harg7 x5 1) (kernelRun0_A.sl.v2126 (F := Ideal) c arg2 harg2 arg3 harg3 arg4 harg4 arg6 harg6 arg7 harg7 arg11 arg12 x0 x1 x2 x4 x5) (LoadRect.valAlong (hhK 2 1) (kernelRun0_A.sl.v2148 (F := Ideal) c arg2 harg2 arg4 harg4 arg6 harg6 arg7 harg7 arg12 x0 x2 x4 x5)) := by
  sl_kernel_rfl

theorem eqOA5 : (kernelRun0_A.sl.v2175 (F := Ideal) c arg2 harg2 arg3 harg3 arg4 harg4 arg5 harg5 arg6 harg6 arg7 harg7 arg8 harg8 arg9 harg9 arg11 arg12 arg13 x0 x1 x2 x3 x4 x5 x6 x7) = outF (ldX arg2 harg2 x0 2 1) (ldC arg3 harg3 x1 2 1) (ldT arg4 harg4 x2 2 1) (ldH arg6 harg6 x4 1) (ldH arg7 harg7 x5 1) (kernelRun0_A.sl.v2126 (F := Ideal) c arg2 harg2 arg3 harg3 arg4 harg4 arg6 harg6 arg7 harg7 arg11 arg12 x0 x1 x2 x4 x5) (LoadRect.valAlong (hhK 2 1) (kernelRun0_A.sl.v2130 (F := Ideal) c arg2 harg2 arg3 harg3 arg4 harg4 arg6 harg6 arg7 harg7 arg13 x0 x1 x2 x4 x5)) (ldX arg5 harg5 x3 2 1) (ldW arg8 harg8 x6 1) (ldW arg9 harg9 x7 1) := by
  sl_kernel_rfl

theorem eqXA6 : (LoadRect.valAlong (hhK 3 0) (kernelRun0_A.sl.v2509 (F := Ideal) c arg2 harg2 arg4 harg4 arg6 harg6 arg7 harg7 arg12 x0 x2 x4 x5) : S1x256x512.Idx → EReal) =
    LoadRect.valAlong (hhK 3 0) (arg12.view.readCov (Val := Elt Ideal) (⟨xrect 3 0 384 (by omega), xdecW (ldX arg2 harg2 x0 3 0) (ldT arg4 harg4 x2 3 0) (ldH arg6 harg6 x4 0) (ldH arg7 harg7 x5 0) 3⟩ :: ⟨xrect 3 0 256 (by omega), xdecW (ldX arg2 harg2 x0 3 0) (ldT arg4 harg4 x2 3 0) (ldH arg6 harg6 x4 0) (ldH arg7 harg7 x5 0) 2⟩ :: ⟨xrect 3 0 128 (by omega), xdecW (ldX arg2 harg2 x0 3 0) (ldT arg4 harg4 x2 3 0) (ldH arg6 harg6 x4 0) (ldH arg7 harg7 x5 0) 1⟩ :: ⟨xrect 3 0 0 (by omega), xdecW (ldX arg2 harg2 x0 3 0) (ldT arg4 harg4 x2 3 0) (ldH arg6 harg6 x4 0) (ldH arg7 harg7 x5 0) 0⟩ :: (kernelRun0_A.sl.HS1_24 (F := Ideal) c arg2 harg2 arg4 harg4 arg6 harg6 arg7 harg7 x0 x2 x4 x5)) (gbox 3 0)) := by
  sl_kernel_rfl

theorem eqDA6 : (LoadRect.valAlong (hhK 3 0) (kernelRun0_A.sl.v2491 (F := Ideal) c arg2 harg2 arg3 harg3 arg4 harg4 arg6 harg6 arg7 harg7 arg13 x0 x1 x2 x4 x5) : S1x256x512.Idx → EReal) =
    LoadRect.valAlong (hhK 3 0) (arg13.view.readCov (Val := Elt Ideal) (⟨drect 3 0 384 (by omega), dpay 3 0 384 (by omega) (ydF (ldX arg2 harg2 x0 3 0) (ldB arg3 harg3 x1 3 0) (ldC arg3 harg3 x1 3 0) (ldT arg4 harg4 x2 3 0) (ldH arg6 harg6 x4 0) (ldH arg7 harg7 x5 0) 3)⟩ :: ⟨drect 3 0 256 (by omega), dpay 3 0 256 (by omega) (ydF (ldX arg2 harg2 x0 3 0) (ldB arg3 harg3 x1 3 0) (ldC arg3 harg3 x1 3 0) (ldT arg4 harg4 x2 3 0) (ldH arg6 harg6 x4 0) (ldH arg7 harg7 x5 0) 2)⟩ :: ⟨drect 3 0 128 (by omega), dpay 3 0 128 (by omega) (ydF (ldX arg2 harg2 x0 3 0) (ldB arg3 harg3 x1 3 0) (ldC arg3 harg3 x1 3 0) (ldT arg4 harg4 x2 3 0) (ldH arg6 harg6 x4 0) (ldH arg7 harg7 x5 0) 1)⟩ :: ⟨drect 3 0 0 (by omega), dpay 3 0 0 (by omega) (ydF (ldX arg2 harg2 x0 3 0) (ldB arg3 harg3 x1 3 0) (ldC arg3 harg3 x1 3 0) (ldT arg4 harg4 x2 3 0) (ldH arg6 harg6 x4 0) (ldH arg7 harg7 x5 0) 0)⟩ :: (kernelRun0_A.sl.HS2_24 (F := Ideal) c arg2 harg2 arg3 harg3 arg4 harg4 arg6 harg6 arg7 harg7 x0 x1 x2 x4 x5)) (gbox 3 0)) := by
  sl_kernel_rfl

theorem eqTA6 : (kernelRun0_A.sl.v2515 (F := Ideal) c arg2 harg2 arg3 harg3 arg4 harg4 arg6 harg6 arg7 harg7 arg11 arg12 x0 x1 x2 x4 x5) = stF (ldB arg3 harg3 x1 3 0) (ldT arg4 harg4 x2 3 0) (ldH arg6 harg6 x4 0) (ldH arg7 harg7 x5 0) (kernelRun0_A.sl.v2487 (F := Ideal) c arg2 harg2 arg3 harg3 arg4 harg4 arg6 harg6 arg7 harg7 arg11 arg12 x0 x1 x2 x4 x5) (LoadRect.valAlong (hhK 3 0) (kernelRun0_A.sl.v2509 (F := Ideal) c arg2 harg2 arg4 harg4 arg6 harg6 arg7 harg7 arg12 x0 x2 x4 x5)) := by
  sl_kernel_rfl

theorem eqOA6 : (k0_pay395 (F := Ideal) (kernelRun0_A.sl.v2528 (F := Ideal) c arg2 harg2 arg3 harg3 arg4 harg4 arg5 harg5 arg6 harg6 arg7 harg7 arg8 harg8 arg11 arg12 arg13 x0 x1 x2 x3 x4 x5 x6) (ldW arg9 harg9 x7 0)) = outF (ldX arg2 harg2 x0 3 0) (ldC arg3 harg3 x1 3 0) (ldT arg4 harg4 x2 3 0) (ldH arg6 harg6 x4 0) (ldH arg7 harg7 x5 0) (kernelRun0_A.sl.v2487 (F := Ideal) c arg2 harg2 arg3 harg3 arg4 harg4 arg6 harg6 arg7 harg7 arg11 arg12 x0 x1 x2 x4 x5) (LoadRect.valAlong (hhK 3 0) (kernelRun0_A.sl.v2491 (F := Ideal) c arg2 harg2 arg3 harg3 arg4 harg4 arg6 harg6 arg7 harg7 arg13 x0 x1 x2 x4 x5)) (ldX arg5 harg5 x3 3 0) (ldW arg8 harg8 x6 0) (ldW arg9 harg9 x7 0) := by
  sl_kernel_rfl

theorem eqXA7 : (LoadRect.valAlong (hhK 3 1) (kernelRun0_A.sl.v2870 (F := Ideal) c arg2 harg2 arg4 harg4 arg6 harg6 arg7 harg7 arg12 x0 x2 x4 x5) : S1x256x512.Idx → EReal) =
    LoadRect.valAlong (hhK 3 1) (arg12.view.readCov (Val := Elt Ideal) (⟨xrect 3 1 384 (by omega), xdecW (ldX arg2 harg2 x0 3 1) (ldT arg4 harg4 x2 3 1) (ldH arg6 harg6 x4 1) (ldH arg7 harg7 x5 1) 3⟩ :: ⟨xrect 3 1 256 (by omega), xdecW (ldX arg2 harg2 x0 3 1) (ldT arg4 harg4 x2 3 1) (ldH arg6 harg6 x4 1) (ldH arg7 harg7 x5 1) 2⟩ :: ⟨xrect 3 1 128 (by omega), xdecW (ldX arg2 harg2 x0 3 1) (ldT arg4 harg4 x2 3 1) (ldH arg6 harg6 x4 1) (ldH arg7 harg7 x5 1) 1⟩ :: ⟨xrect 3 1 0 (by omega), xdecW (ldX arg2 harg2 x0 3 1) (ldT arg4 harg4 x2 3 1) (ldH arg6 harg6 x4 1) (ldH arg7 harg7 x5 1) 0⟩ :: (kernelRun0_A.sl.HS1_28 (F := Ideal) c arg2 harg2 arg4 harg4 arg6 harg6 arg7 harg7 x0 x2 x4 x5)) (gbox 3 1)) := by
  sl_kernel_rfl

theorem eqDA7 : (LoadRect.valAlong (hhK 3 1) (kernelRun0_A.sl.v2852 (F := Ideal) c arg2 harg2 arg3 harg3 arg4 harg4 arg6 harg6 arg7 harg7 arg13 x0 x1 x2 x4 x5) : S1x256x512.Idx → EReal) =
    LoadRect.valAlong (hhK 3 1) (arg13.view.readCov (Val := Elt Ideal) (⟨drect 3 1 384 (by omega), dpay 3 1 384 (by omega) (ydF (ldX arg2 harg2 x0 3 1) (ldB arg3 harg3 x1 3 1) (ldC arg3 harg3 x1 3 1) (ldT arg4 harg4 x2 3 1) (ldH arg6 harg6 x4 1) (ldH arg7 harg7 x5 1) 3)⟩ :: ⟨drect 3 1 256 (by omega), dpay 3 1 256 (by omega) (ydF (ldX arg2 harg2 x0 3 1) (ldB arg3 harg3 x1 3 1) (ldC arg3 harg3 x1 3 1) (ldT arg4 harg4 x2 3 1) (ldH arg6 harg6 x4 1) (ldH arg7 harg7 x5 1) 2)⟩ :: ⟨drect 3 1 128 (by omega), dpay 3 1 128 (by omega) (ydF (ldX arg2 harg2 x0 3 1) (ldB arg3 harg3 x1 3 1) (ldC arg3 harg3 x1 3 1) (ldT arg4 harg4 x2 3 1) (ldH arg6 harg6 x4 1) (ldH arg7 harg7 x5 1) 1)⟩ :: ⟨drect 3 1 0 (by omega), dpay 3 1 0 (by omega) (ydF (ldX arg2 harg2 x0 3 1) (ldB arg3 harg3 x1 3 1) (ldC arg3 harg3 x1 3 1) (ldT arg4 harg4 x2 3 1) (ldH arg6 harg6 x4 1) (ldH arg7 harg7 x5 1) 0)⟩ :: (kernelRun0_A.sl.HS2_28 (F := Ideal) c arg2 harg2 arg3 harg3 arg4 harg4 arg6 harg6 arg7 harg7 x0 x1 x2 x4 x5)) (gbox 3 1)) := by
  sl_kernel_rfl

theorem eqTA7 : (k0_pay1 (F := Ideal) (kernelRun0_A.sl.r_94 (F := Ideal) c arg2 harg2 arg3 harg3 arg4 harg4 arg6 harg6 arg7 harg7 arg11 arg12 x0 x1 x2 x4 x5)) = stF (ldB arg3 harg3 x1 3 1) (ldT arg4 harg4 x2 3 1) (ldH arg6 harg6 x4 1) (ldH arg7 harg7 x5 1) (kernelRun0_A.sl.v2848 (F := Ideal) c arg2 harg2 arg3 harg3 arg4 harg4 arg6 harg6 arg7 harg7 arg11 arg12 x0 x1 x2 x4 x5) (LoadRect.valAlong (hhK 3 1) (kernelRun0_A.sl.v2870 (F := Ideal) c arg2 harg2 arg4 harg4 arg6 harg6 arg7 harg7 arg12 x0 x2 x4 x5)) := by
  sl_kernel_rfl

theorem eqOA7 : (k0_pay2 (F := Ideal) (kernelRun0_A.sl.r_93 (F := Ideal) c arg2 harg2 arg3 harg3 arg4 harg4 arg6 harg6 arg7 harg7 arg8 harg8 arg11 arg12 arg13 x0 x1 x2 x4 x5 x6) (ldX arg5 harg5 x3 3 1) (ldW arg9 harg9 x7 1)) = outF (ldX arg2 harg2 x0 3 1) (ldC arg3 harg3 x1 3 1) (ldT arg4 harg4 x2 3 1) (ldH arg6 harg6 x4 1) (ldH arg7 harg7 x5 1) (kernelRun0_A.sl.v2848 (F := Ideal) c arg2 harg2 arg3 harg3 arg4 harg4 arg6 harg6 arg7 harg7 arg11 arg12 x0 x1 x2 x4 x5) (LoadRect.valAlong (hhK 3 1) (kernelRun0_A.sl.v2852 (F := Ideal) c arg2 harg2 arg3 harg3 arg4 harg4 arg6 harg6 arg7 harg7 arg13 x0 x1 x2 x4 x5)) (ldX arg5 harg5 x3 3 1) (ldW arg8 harg8 x6 1) (ldW arg9 harg9 x7 1) := by
  sl_kernel_rfl

end

end Cert.SsdKer
end
-- ==== Proof.SsdChainA.lean ====
/- The selective recurrence: the run's values as the mathematics of the chunks, case A. -/
module

public import proofs.«01_k».proof.Proof.SsdState
public import proofs.«01_k».proof.Proof.SsdEqA

@[expose] public section

set_option maxRecDepth 16384

noncomputable section

open Idealize.ShloMosaic Idealize.ShloMosaic.TcCoe Idealize.SL.Sem

namespace Cert.SsdKer

open Cert.Ssd
open Cert.KernelIdeal Cert.KernelIdeal.Gen

section
variable (c : Dev nD) (arg2 : Memref sig .tc .vmem S1x1024x1024 .f32) (harg2 : arg2.IsWhole) (arg3 : Memref sig .tc .vmem S1x1024x512 .bf16) (harg3 : arg3.IsWhole) (arg4 : Memref sig .tc .vmem S1x1024x256 .f32) (harg4 : arg4.IsWhole) (arg5 : Memref sig .tc .vmem S1x1024x1024 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1024 .f32) (harg8 : arg8.IsWhole) (arg9 : Memref sig .tc .vmem S1x1024 .f32) (harg9 : arg9.IsWhole)
    (arg11 : Memref sig .tc .vmem S2x128x512 .f32) (harg11 : arg11.IsWhole) (arg12 : Memref sig .tc .vmem S4x2x256x512 .bf16) (arg13 : Memref sig .tc .vmem S4x2x256x512 .f32)
    (x0 : Vec Ideal S1x1024x1024 .f32) (x1 : Vec Ideal S1x1024x512 .bf16) (x2 : Vec Ideal S1x1024x256 .f32) (x3 : Vec Ideal S1x1024x1024 .f32) (x4 : Vec Ideal S1x256 .f32) (x5 : Vec Ideal S1x256 .f32) (x6 : Vec Ideal S1x1024 .f32) (x7 : Vec Ideal S1x1024 .f32) (xs0 : Vec Ideal S2x128x512 .f32)

include c arg2 harg2 arg3 harg3 arg4 harg4 arg5 harg5 arg6 harg6 arg7 harg7 arg8 harg8 arg9 harg9 arg11 harg11 arg12 arg13 x0 x1 x2 x3 x4 x5 x6 x7 xs0

theorem xAtA0 (l : Fin 256) (q : Fin 512) : (LoadRect.valAlong (hhK 0 0) (kernelRun0_A.sl.v343 (F := Ideal) c arg2 harg2 arg4 harg4 arg6 harg6 arg7 harg7 arg12 x0 x2 x4 x5) : S1x256x512.Idx → EReal) (ix3 0 l q) = (kc x0 x1 x2 x3 x4 x5 x6 x7 0 0).xd l q * Ideal.exp ((kc x0 x1 x2 x3 x4 x5 x6 x7 0 0).cl (hd q) - (kc x0 x1 x2 x3 x4 x5 x6 x7 0 0).cs l (hd q)) := by
  rw [(eqXA0 c arg2 harg2 arg4 harg4 arg6 harg6 arg7 harg7 arg12 x0 x2 x4 x5)]
  exact X_of 0 0 _ _ _ _ _ _ _ _ _ _ _ (fun l q => (kc x0 x1 x2 x3 x4 x5 x6 x7 0 0).xd l q * Ideal.exp ((kc x0 x1 x2 x3 x4 x5 x6 x7 0 0).cl (hd q) - (kc x0 x1 x2 x3 x4 x5 x6 x7 0 0).cs l (hd q)))
    (fun l r q hq => xdec_at (loads x0 x1 x2 x3 x4 x5 x6 x7 arg2 harg2 arg3 harg3 arg4 harg4 arg6 harg6 arg7 harg7 0 0) 3 l r q hq) (fun l r q hq => xdec_at (loads x0 x1 x2 x3 x4 x5 x6 x7 arg2 harg2 arg3 harg3 arg4 harg4 arg6 harg6 arg7 harg7 0 0) 2 l r q hq) (fun l r q hq => xdec_at (loads x0 x1 x2 x3 x4 x5 x6 x7 arg2 harg2 arg3 harg3 arg4 harg4 arg6 harg6 arg7 harg7 0 0) 1 l r q hq) (fun l r q hq => xdec_at (loads x0 x1 x2 x3 x4 x5 x6 x7 arg2 harg2 arg3 harg3 arg4 harg4 arg6 harg6 arg7 harg7 0 0) 0 l r q hq) l q

theorem dAtA0 (l : Fin 256) (q : Fin 512) : (LoadRect.valAlong (hhK 0 0) (kernelRun0_A.sl.v325 (F := Ideal) c arg2 harg2 arg3 harg3 arg4 harg4 arg6 harg6 arg7 harg7 arg13 x0 x1 x2 x4 x5) : S1x256x512.Idx → EReal) (ix3 0 l q) = (kc x0 x1 x2 x3 x4 x5 x6 x7 0 0).yd l q := by
  rw [(eqDA0 c arg2 harg2 arg3 harg3 arg4 harg4 arg6 harg6 arg7 harg7 arg13 x0 x1 x2 x4 x5)]
  exact D_of 0 0 _ _ _ _ _ _ _ _ _ _ _ (fun l q => (kc x0 x1 x2 x3 x4 x5 x6 x7 0 0).yd l q)
    (fun l r q hq => yd_at (loads x0 x1 x2 x3 x4 x5 x6 x7 arg2 harg2 arg3 harg3 arg4 harg4 arg6 harg6 arg7 harg7 0 0) 3 l r q hq) (fun l r q hq => yd_at (loads x0 x1 x2 x3 x4 x5 x6 x7 arg2 harg2 arg3 harg3 arg4 harg4 arg6 harg6 arg7 harg7 0 0) 2 l r q hq) (fun l r q hq => yd_at (loads x0 x1 x2 x3 x4 x5 x6 x7 arg2 harg2 arg3 harg3 arg4 harg4 arg6 harg6 arg7 harg7 0 0) 1 l r q hq) (fun l r q hq => yd_at (loads x0 x1 x2 x3 x4 x5 x6 x7 arg2 harg2 arg3 harg3 arg4 harg4 arg6 harg6 arg7 harg7 0 0) 0 l r q hq) l q

theorem sAtA0 (n : Fin 128) (q : Fin 512) : ((kernelRun0_A.sl.v321 (F := Ideal) c arg11) : S1x128x512.Idx → EReal) (ix3 0 n q) = (run (kc x0 x1 x2 x3 x4 x5 x6 x7 0) (fun _ _ => (0 : EReal)) (Fin.val (0 : Fin 4))) n q := by
  have e : (kernelRun0_A.sl.v321 (F := Ideal) c arg11) = arg11.view.readCov (Val := Elt Ideal) [⟨Rect.unit (s := S2x128x512) ![0, 0, 0] S2x128x512.size inb_S2x128x512_S2x128x512_0_0_0, k0_pay3 (F := Ideal)⟩] (Rect.unit (s := S2x128x512) ![0, 0, 0] S1x128x512.size inb_S2x128x512_S1x128x512_0_0_0).toLoadRect := by sl_kernel_rfl
  have e2 := e.trans (View.readCov_fill _ _ _ _ _ (by decide))
  refine (congrFun e2 (ix3 0 n q)).trans ?_
  exact zero_at _

theorem tAtA0 (n : Fin 128) (q : Fin 512) : ((kernelRun0_A.sl.v349 (F := Ideal) c arg2 harg2 arg3 harg3 arg4 harg4 arg6 harg6 arg7 harg7 arg11 arg12 x0 x1 x2 x4 x5) : S1x128x512.Idx → EReal) (ix3 0 n q) = (run (kc x0 x1 x2 x3 x4 x5 x6 x7 0) (fun _ _ => (0 : EReal)) (Fin.val (0 : Fin 4) + 1)) n q := by
  rw [(eqTA0 c arg2 harg2 arg3 harg3 arg4 harg4 arg6 harg6 arg7 harg7 arg11 arg12 x0 x1 x2 x4 x5), run_succ]
  exact st_at (loads x0 x1 x2 x3 x4 x5 x6 x7 arg2 harg2 arg3 harg3 arg4 harg4 arg6 harg6 arg7 harg7 0 0) _ _ (run (kc x0 x1 x2 x3 x4 x5 x6 x7 0) (fun _ _ => (0 : EReal)) (Fin.val (0 : Fin 4))) (sAtA0 c arg2 harg2 arg3 harg3 arg4 harg4 arg5 harg5 arg6 harg6 arg7 harg7 arg8 harg8 arg9 harg9 arg11 harg11 arg12 arg13 x0 x1 x2 x3 x4 x5 x6 x7 xs0) (xAtA0 c arg2 harg2 arg3 harg3 arg4 harg4 arg5 harg5 arg6 harg6 arg7 harg7 arg8 harg8 arg9 harg9 arg11 harg11 arg12 arg13 x0 x1 x2 x3 x4 x5 x6 x7 xs0) n q

theorem oAtA0 (l : Fin 256) (q : Fin 512) : ((kernelRun0_A.sl.v370 (F := Ideal) c arg2 harg2 arg3 harg3 arg4 harg4 arg5 harg5 arg6 harg6 arg7 harg7 arg8 harg8 arg9 harg9 arg11 arg13 x0 x1 x2 x3 x4 x5 x6 x7) : S1x256x512.Idx → EReal) (ix3 0 l q) = (kc x0 x1 x2 x3 x4 x5 x6 x7 0 0).out (run (kc x0 x1 x2 x3 x4 x5 x6 x7 0) (fun _ _ => (0 : EReal)) (Fin.val (0 : Fin 4))) l q := by
  rw [(eqOA0 c arg2 harg2 arg3 harg3 arg4 harg4 arg5 harg5 arg6 harg6 arg7 harg7 arg8 harg8 arg9 harg9 arg11 arg13 x0 x1 x2 x3 x4 x5 x6 x7)]
  exact out_at (loads x0 x1 x2 x3 x4 x5 x6 x7 arg2 harg2 arg3 harg3 arg4 harg4 arg6 harg6 arg7 harg7 0 0) _ _ _ _ _ (run (kc x0 x1 x2 x3 x4 x5 x6 x7 0) (fun _ _ => (0 : EReal)) (Fin.val (0 : Fin 4))) (sAtA0 c arg2 harg2 arg3 harg3 arg4 harg4 arg5 harg5 arg6 harg6 arg7 harg7 arg8 harg8 arg9 harg9 arg11 harg11 arg12 arg13 x0 x1 x2 x3 x4 x5 x6 x7 xs0) (dAtA0 c arg2 harg2 arg3 harg3 arg4 harg4 arg5 harg5 arg6 harg6 arg7 harg7 arg8 harg8 arg9 harg9 arg11 harg11 arg12 arg13 x0 x1 x2 x3 x4 x5 x6 x7 xs0) (fun l q => ldX_at arg5 harg5 x3 0 0 l q) (ldW_at arg8 harg8 x6 0) (ldW_at arg9 harg9 x7 0) l q

theorem xAtA1 (l : Fin 256) (q : Fin 512) : (LoadRect.valAlong (hhK 0 1) (kernelRun0_A.sl.v704 (F := Ideal) c arg2 harg2 arg4 harg4 arg6 harg6 arg7 harg7 arg12 x0 x2 x4 x5) : S1x256x512.Idx → EReal) (ix3 0 l q) = (kc x0 x1 x2 x3 x4 x5 x6 x7 1 0).xd l q * Ideal.exp ((kc x0 x1 x2 x3 x4 x5 x6 x7 1 0).cl (hd q) - (kc x0 x1 x2 x3 x4 x5 x6 x7 1 0).cs l (hd q)) := by
  rw [(eqXA1 c arg2 harg2 arg4 harg4 arg6 harg6 arg7 harg7 arg12 x0 x2 x4 x5)]
  exact X_of 0 1 _ _ _ _ _ _ _ _ _ _ _ (fun l q => (kc x0 x1 x2 x3 x4 x5 x6 x7 1 0).xd l q * Ideal.exp ((kc x0 x1 x2 x3 x4 x5 x6 x7 1 0).cl (hd q) - (kc x0 x1 x2 x3 x4 x5 x6 x7 1 0).cs l (hd q)))
    (fun l r q hq => xdec_at (loads x0 x1 x2 x3 x4 x5 x6 x7 arg2 harg2 arg3 harg3 arg4 harg4 arg6 harg6 arg7 harg7 0 1) 3 l r q hq) (fun l r q hq => xdec_at (loads x0 x1 x2 x3 x4 x5 x6 x7 arg2 harg2 arg3 harg3 arg4 harg4 arg6 harg6 arg7 harg7 0 1) 2 l r q hq) (fun l r q hq => xdec_at (loads x0 x1 x2 x3 x4 x5 x6 x7 arg2 harg2 arg3 harg3 arg4 harg4 arg6 harg6 arg7 harg7 0 1) 1 l r q hq) (fun l r q hq => xdec_at (loads x0 x1 x2 x3 x4 x5 x6 x7 arg2 harg2 arg3 harg3 arg4 harg4 arg6 harg6 arg7 harg7 0 1) 0 l r q hq) l q

theorem dAtA1 (l : Fin 256) (q : Fin 512) : (LoadRect.valAlong (hhK 0 1) (kernelRun0_A.sl.v686 (F := Ideal) c arg2 harg2 arg3 harg3 arg4 harg4 arg6 harg6 arg7 harg7 arg13 x0 x1 x2 x4 x5) : S1x256x512.Idx → EReal) (ix3 0 l q) = (kc x0 x1 x2 x3 x4 x5 x6 x7 1 0).yd l q := by
  rw [(eqDA1 c arg2 harg2 arg3 harg3 arg4 harg4 arg6 harg6 arg7 harg7 arg13 x0 x1 x2 x4 x5)]
  exact D_of 0 1 _ _ _ _ _ _ _ _ _ _ _ (fun l q => (kc x0 x1 x2 x3 x4 x5 x6 x7 1 0).yd l q)
    (fun l r q hq => yd_at (loads x0 x1 x2 x3 x4 x5 x6 x7 arg2 harg2 arg3 harg3 arg4 harg4 arg6 harg6 arg7 harg7 0 1) 3 l r q hq) (fun l r q hq => yd_at (loads x0 x1 x2 x3 x4 x5 x6 x7 arg2 harg2 arg3 harg3 arg4 harg4 arg6 harg6 arg7 harg7 0 1) 2 l r q hq) (fun l r q hq => yd_at (loads x0 x1 x2 x3 x4 x5 x6 x7 arg2 harg2 arg3 harg3 arg4 harg4 arg6 harg6 arg7 harg7 0 1) 1 l r q hq) (fun l r q hq => yd_at (loads x0 x1 x2 x3 x4 x5 x6 x7 arg2 harg2 arg3 harg3 arg4 harg4 arg6 harg6 arg7 harg7 0 1) 0 l r q hq) l q

theorem sAtA1 (n : Fin 128) (q : Fin 512) : ((kernelRun0_A.sl.v682 (F := Ideal) c arg2 harg2 arg3 harg3 arg4 harg4 arg6 harg6 arg7 harg7 arg11 arg12 x0 x1 x2 x4 x5) : S1x128x512.Idx → EReal) (ix3 0 n q) = (run (kc x0 x1 x2 x3 x4 x5 x6 x7 1) (fun _ _ => (0 : EReal)) (Fin.val (0 : Fin 4))) n q := by
  have e : (kernelRun0_A.sl.v682 (F := Ideal) c arg2 harg2 arg3 harg3 arg4 harg4 arg6 harg6 arg7 harg7 arg11 arg12 x0 x1 x2 x4 x5) = arg11.view.readCov (Val := Elt Ideal) [⟨(Rect.unit (s := S2x128x512) ![0, 0, 0] S1x128x512.size inb_S2x128x512_S1x128x512_0_0_0), (kernelRun0_A.sl.v349 (F := Ideal) c arg2 harg2 arg3 harg3 arg4 harg4 arg6 harg6 arg7 harg7 arg11 arg12 x0 x1 x2 x4 x5)⟩, ⟨Rect.unit (s := S2x128x512) ![0, 0, 0] S2x128x512.size inb_S2x128x512_S2x128x512_0_0_0, k0_pay3 (F := Ideal)⟩] (Rect.unit (s := S2x128x512) ![1, 0, 0] S1x128x512.size inb_S2x128x512_S1x128x512_1_0_0).toLoadRect := by sl_kernel_rfl
  have e2 := e.trans ((View.readCov_skip _ _ _ _ _ (by decide)).trans (View.readCov_fill _ _ _ _ _ (by decide)))
  refine (congrFun e2 (ix3 0 n q)).trans ?_
  exact zero_at _

theorem tAtA1 (n : Fin 128) (q : Fin 512) : ((kernelRun0_A.sl.v710 (F := Ideal) c arg2 harg2 arg3 harg3 arg4 harg4 arg6 harg6 arg7 harg7 arg11 arg12 x0 x1 x2 x4 x5) : S1x128x512.Idx → EReal) (ix3 0 n q) = (run (kc x0 x1 x2 x3 x4 x5 x6 x7 1) (fun _ _ => (0 : EReal)) (Fin.val (0 : Fin 4) + 1)) n q := by
  rw [(eqTA1 c arg2 harg2 arg3 harg3 arg4 harg4 arg6 harg6 arg7 harg7 arg11 arg12 x0 x1 x2 x4 x5), run_succ]
  exact st_at (loads x0 x1 x2 x3 x4 x5 x6 x7 arg2 harg2 arg3 harg3 arg4 harg4 arg6 harg6 arg7 harg7 0 1) _ _ (run (kc x0 x1 x2 x3 x4 x5 x6 x7 1) (fun _ _ => (0 : EReal)) (Fin.val (0 : Fin 4))) (sAtA1 c arg2 harg2 arg3 harg3 arg4 harg4 arg5 harg5 arg6 harg6 arg7 harg7 arg8 harg8 arg9 harg9 arg11 harg11 arg12 arg13 x0 x1 x2 x3 x4 x5 x6 x7 xs0) (xAtA1 c arg2 harg2 arg3 harg3 arg4 harg4 arg5 harg5 arg6 harg6 arg7 harg7 arg8 harg8 arg9 harg9 arg11 harg11 arg12 arg13 x0 x1 x2 x3 x4 x5 x6 x7 xs0) n q

theorem oAtA1 (l : Fin 256) (q : Fin 512) : ((k0_pay125 (F := Ideal) (kernelRun0_A.sl.v728 (F := Ideal) c arg2 harg2 arg3 harg3 arg4 harg4 arg5 harg5 arg6 harg6 arg7 harg7 arg8 harg8 arg9 harg9 arg11 arg12 arg13 x0 x1 x2 x3 x4 x5 x6 x7)) : S1x256x512.Idx → EReal) (ix3 0 l q) = (kc x0 x1 x2 x3 x4 x5 x6 x7 1 0).out (run (kc x0 x1 x2 x3 x4 x5 x6 x7 1) (fun _ _ => (0 : EReal)) (Fin.val (0 : Fin 4))) l q := by
  rw [(eqOA1 c arg2 harg2 arg3 harg3 arg4 harg4 arg5 harg5 arg6 harg6 arg7 harg7 arg8 harg8 arg9 harg9 arg11 arg12 arg13 x0 x1 x2 x3 x4 x5 x6 x7)]
  exact out_at (loads x0 x1 x2 x3 x4 x5 x6 x7 arg2 harg2 arg3 harg3 arg4 harg4 arg6 harg6 arg7 harg7 0 1) _ _ _ _ _ (run (kc x0 x1 x2 x3 x4 x5 x6 x7 1) (fun _ _ => (0 : EReal)) (Fin.val (0 : Fin 4))) (sAtA1 c arg2 harg2 arg3 harg3 arg4 harg4 arg5 harg5 arg6 harg6 arg7 harg7 arg8 harg8 arg9 harg9 arg11 harg11 arg12 arg13 x0 x1 x2 x3 x4 x5 x6 x7 xs0) (dAtA1 c arg2 harg2 arg3 harg3 arg4 harg4 arg5 harg5 arg6 harg6 arg7 harg7 arg8 harg8 arg9 harg9 arg11 harg11 arg12 arg13 x0 x1 x2 x3 x4 x5 x6 x7 xs0) (fun l q => ldX_at arg5 harg5 x3 0 1 l q) (ldW_at arg8 harg8 x6 1) (ldW_at arg9 harg9 x7 1) l q

theorem xAtA2 (l : Fin 256) (q : Fin 512) : (LoadRect.valAlong (hhK 1 0) (kernelRun0_A.sl.v1065 (F := Ideal) c arg2 harg2 arg4 harg4 arg6 harg6 arg7 harg7 arg12 x0 x2 x4 x5) : S1x256x512.Idx → EReal) (ix3 0 l q) = (kc x0 x1 x2 x3 x4 x5 x6 x7 0 1).xd l q * Ideal.exp ((kc x0 x1 x2 x3 x4 x5 x6 x7 0 1).cl (hd q) - (kc x0 x1 x2 x3 x4 x5 x6 x7 0 1).cs l (hd q)) := by
  rw [(eqXA2 c arg2 harg2 arg4 harg4 arg6 harg6 arg7 harg7 arg12 x0 x2 x4 x5)]
  exact X_of 1 0 _ _ _ _ _ _ _ _ _ _ _ (fun l q => (kc x0 x1 x2 x3 x4 x5 x6 x7 0 1).xd l q * Ideal.exp ((kc x0 x1 x2 x3 x4 x5 x6 x7 0 1).cl (hd q) - (kc x0 x1 x2 x3 x4 x5 x6 x7 0 1).cs l (hd q)))
    (fun l r q hq => xdec_at (loads x0 x1 x2 x3 x4 x5 x6 x7 arg2 harg2 arg3 harg3 arg4 harg4 arg6 harg6 arg7 harg7 1 0) 3 l r q hq) (fun l r q hq => xdec_at (loads x0 x1 x2 x3 x4 x5 x6 x7 arg2 harg2 arg3 harg3 arg4 harg4 arg6 harg6 arg7 harg7 1 0) 2 l r q hq) (fun l r q hq => xdec_at (loads x0 x1 x2 x3 x4 x5 x6 x7 arg2 harg2 arg3 harg3 arg4 harg4 arg6 harg6 arg7 harg7 1 0) 1 l r q hq) (fun l r q hq => xdec_at (loads x0 x1 x2 x3 x4 x5 x6 x7 arg2 harg2 arg3 harg3 arg4 harg4 arg6 harg6 arg7 harg7 1 0) 0 l r q hq) l q

theorem dAtA2 (l : Fin 256) (q : Fin 512) : (LoadRect.valAlong (hhK 1 0) (kernelRun0_A.sl.v1047 (F := Ideal) c arg2 harg2 arg3 harg3 arg4 harg4 arg6 harg6 arg7 harg7 arg13 x0 x1 x2 x4 x5) : S1x256x512.Idx → EReal) (ix3 0 l q) = (kc x0 x1 x2 x3 x4 x5 x6 x7 0 1).yd l q := by
  rw [(eqDA2 c arg2 harg2 arg3 harg3 arg4 harg4 arg6 harg6 arg7 harg7 arg13 x0 x1 x2 x4 x5)]
  exact D_of 1 0 _ _ _ _ _ _ _ _ _ _ _ (fun l q => (kc x0 x1 x2 x3 x4 x5 x6 x7 0 1).yd l q)
    (fun l r q hq => yd_at (loads x0 x1 x2 x3 x4 x5 x6 x7 arg2 harg2 arg3 harg3 arg4 harg4 arg6 harg6 arg7 harg7 1 0) 3 l r q hq) (fun l r q hq => yd_at (loads x0 x1 x2 x3 x4 x5 x6 x7 arg2 harg2 arg3 harg3 arg4 harg4 arg6 harg6 arg7 harg7 1 0) 2 l r q hq) (fun l r q hq => yd_at (loads x0 x1 x2 x3 x4 x5 x6 x7 arg2 harg2 arg3 harg3 arg4 harg4 arg6 harg6 arg7 harg7 1 0) 1 l r q hq) (fun l r q hq => yd_at (loads x0 x1 x2 x3 x4 x5 x6 x7 arg2 harg2 arg3 harg3 arg4 harg4 arg6 harg6 arg7 harg7 1 0) 0 l r q hq) l q

theorem sAtA2 (n : Fin 128) (q : Fin 512) : ((kernelRun0_A.sl.v1043 (F := Ideal) c arg2 harg2 arg3 harg3 arg4 harg4 arg6 harg6 arg7 harg7 arg11 arg12 x0 x1 x2 x4 x5) : S1x128x512.Idx → EReal) (ix3 0 n q) = (run (kc x0 x1 x2 x3 x4 x5 x6 x7 0) (fun _ _ => (0 : EReal)) (Fin.val (1 : Fin 4))) n q := by
  have e : (kernelRun0_A.sl.v1043 (F := Ideal) c arg2 harg2 arg3 harg3 arg4 harg4 arg6 harg6 arg7 harg7 arg11 arg12 x0 x1 x2 x4 x5) = arg11.view.readCov (Val := Elt Ideal) (⟨(Rect.unit (s := S2x128x512) ![1, 0, 0] S1x128x512.size inb_S2x128x512_S1x128x512_1_0_0), (kernelRun0_A.sl.v710 (F := Ideal) c arg2 harg2 arg3 harg3 arg4 harg4 arg6 harg6 arg7 harg7 arg11 arg12 x0 x1 x2 x4 x5)⟩ :: ⟨(Rect.unit (s := S2x128x512) ![0, 0, 0] S1x128x512.size inb_S2x128x512_S1x128x512_0_0_0), (kernelRun0_A.sl.v349 (F := Ideal) c arg2 harg2 arg3 harg3 arg4 harg4 arg6 harg6 arg7 harg7 arg11 arg12 x0 x1 x2 x4 x5)⟩ :: [⟨Rect.unit (s := S2x128x512) ![0, 0, 0] S2x128x512.size inb_S2x128x512_S2x128x512_0_0_0, k0_pay3 (F := Ideal)⟩]) (Rect.unit (s := S2x128x512) ![0, 0, 0] S1x128x512.size inb_S2x128x512_S1x128x512_0_0_0).toLoadRect := by sl_kernel_rfl
  have e2 := e.trans ((View.readCov_skip _ _ _ _ _ (by decide)).trans (View.readCov_cons_toLoadRect _ _ _ _))
  exact (congrFun e2 (ix3 0 n q)).trans ((tAtA0 c arg2 harg2 arg3 harg3 arg4 harg4 arg5 harg5 arg6 harg6 arg7 harg7 arg8 harg8 arg9 harg9 arg11 harg11 arg12 arg13 x0 x1 x2 x3 x4 x5 x6 x7 xs0) n q)

theorem tAtA2 (n : Fin 128) (q : Fin 512) : ((kernelRun0_A.sl.v1071 (F := Ideal) c arg2 harg2 arg3 harg3 arg4 harg4 arg6 harg6 arg7 harg7 arg11 arg12 x0 x1 x2 x4 x5) : S1x128x512.Idx → EReal) (ix3 0 n q) = (run (kc x0 x1 x2 x3 x4 x5 x6 x7 0) (fun _ _ => (0 : EReal)) (Fin.val (1 : Fin 4) + 1)) n q := by
  rw [(eqTA2 c arg2 harg2 arg3 harg3 arg4 harg4 arg6 harg6 arg7 harg7 arg11 arg12 x0 x1 x2 x4 x5), run_succ]
  exact st_at (loads x0 x1 x2 x3 x4 x5 x6 x7 arg2 harg2 arg3 harg3 arg4 harg4 arg6 harg6 arg7 harg7 1 0) _ _ (run (kc x0 x1 x2 x3 x4 x5 x6 x7 0) (fun _ _ => (0 : EReal)) (Fin.val (1 : Fin 4))) (sAtA2 c arg2 harg2 arg3 harg3 arg4 harg4 arg5 harg5 arg6 harg6 arg7 harg7 arg8 harg8 arg9 harg9 arg11 harg11 arg12 arg13 x0 x1 x2 x3 x4 x5 x6 x7 xs0) (xAtA2 c arg2 harg2 arg3 harg3 arg4 harg4 arg5 harg5 arg6 harg6 arg7 harg7 arg8 harg8 arg9 harg9 arg11 harg11 arg12 arg13 x0 x1 x2 x3 x4 x5 x6 x7 xs0) n q

theorem oAtA2 (l : Fin 256) (q : Fin 512) : ((kernelRun0_A.sl.v1092 (F := Ideal) c arg2 harg2 arg3 harg3 arg4 harg4 arg5 harg5 arg6 harg6 arg7 harg7 arg8 harg8 arg9 harg9 arg11 arg12 arg13 x0 x1 x2 x3 x4 x5 x6 x7) : S1x256x512.Idx → EReal) (ix3 0 l q) = (kc x0 x1 x2 x3 x4 x5 x6 x7 0 1).out (run (kc x0 x1 x2 x3 x4 x5 x6 x7 0) (fun _ _ => (0 : EReal)) (Fin.val (1 : Fin 4))) l q := by
  rw [(eqOA2 c arg2 harg2 arg3 harg3 arg4 harg4 arg5 harg5 arg6 harg6 arg7 harg7 arg8 harg8 arg9 harg9 arg11 arg12 arg13 x0 x1 x2 x3 x4 x5 x6 x7)]
  exact out_at (loads x0 x1 x2 x3 x4 x5 x6 x7 arg2 harg2 arg3 harg3 arg4 harg4 arg6 harg6 arg7 harg7 1 0) _ _ _ _ _ (run (kc x0 x1 x2 x3 x4 x5 x6 x7 0) (fun _ _ => (0 : EReal)) (Fin.val (1 : Fin 4))) (sAtA2 c arg2 harg2 arg3 harg3 arg4 harg4 arg5 harg5 arg6 harg6 arg7 harg7 arg8 harg8 arg9 harg9 arg11 harg11 arg12 arg13 x0 x1 x2 x3 x4 x5 x6 x7 xs0) (dAtA2 c arg2 harg2 arg3 harg3 arg4 harg4 arg5 harg5 arg6 harg6 arg7 harg7 arg8 harg8 arg9 harg9 arg11 harg11 arg12 arg13 x0 x1 x2 x3 x4 x5 x6 x7 xs0) (fun l q => ldX_at arg5 harg5 x3 1 0 l q) (ldW_at arg8 harg8 x6 0) (ldW_at arg9 harg9 x7 0) l q

theorem xAtA3 (l : Fin 256) (q : Fin 512) : (LoadRect.valAlong (hhK 1 1) (kernelRun0_A.sl.v1426 (F := Ideal) c arg2 harg2 arg4 harg4 arg6 harg6 arg7 harg7 arg12 x0 x2 x4 x5) : S1x256x512.Idx → EReal) (ix3 0 l q) = (kc x0 x1 x2 x3 x4 x5 x6 x7 1 1).xd l q * Ideal.exp ((kc x0 x1 x2 x3 x4 x5 x6 x7 1 1).cl (hd q) - (kc x0 x1 x2 x3 x4 x5 x6 x7 1 1).cs l (hd q)) := by
  rw [(eqXA3 c arg2 harg2 arg4 harg4 arg6 harg6 arg7 harg7 arg12 x0 x2 x4 x5)]
  exact X_of 1 1 _ _ _ _ _ _ _ _ _ _ _ (fun l q => (kc x0 x1 x2 x3 x4 x5 x6 x7 1 1).xd l q * Ideal.exp ((kc x0 x1 x2 x3 x4 x5 x6 x7 1 1).cl (hd q) - (kc x0 x1 x2 x3 x4 x5 x6 x7 1 1).cs l (hd q)))
    (fun l r q hq => xdec_at (loads x0 x1 x2 x3 x4 x5 x6 x7 arg2 harg2 arg3 harg3 arg4 harg4 arg6 harg6 arg7 harg7 1 1) 3 l r q hq) (fun l r q hq => xdec_at (loads x0 x1 x2 x3 x4 x5 x6 x7 arg2 harg2 arg3 harg3 arg4 harg4 arg6 harg6 arg7 harg7 1 1) 2 l r q hq) (fun l r q hq => xdec_at (loads x0 x1 x2 x3 x4 x5 x6 x7 arg2 harg2 arg3 harg3 arg4 harg4 arg6 harg6 arg7 harg7 1 1) 1 l r q hq) (fun l r q hq => xdec_at (loads x0 x1 x2 x3 x4 x5 x6 x7 arg2 harg2 arg3 harg3 arg4 harg4 arg6 harg6 arg7 harg7 1 1) 0 l r q hq) l q

theorem dAtA3 (l : Fin 256) (q : Fin 512) : (LoadRect.valAlong (hhK 1 1) (kernelRun0_A.sl.v1408 (F := Ideal) c arg2 harg2 arg3 harg3 arg4 harg4 arg6 harg6 arg7 harg7 arg13 x0 x1 x2 x4 x5) : S1x256x512.Idx → EReal) (ix3 0 l q) = (kc x0 x1 x2 x3 x4 x5 x6 x7 1 1).yd l q := by
  rw [(eqDA3 c arg2 harg2 arg3 harg3 arg4 harg4 arg6 harg6 arg7 harg7 arg13 x0 x1 x2 x4 x5)]
  exact D_of 1 1 _ _ _ _ _ _ _ _ _ _ _ (fun l q => (kc x0 x1 x2 x3 x4 x5 x6 x7 1 1).yd l q)
    (fun l r q hq => yd_at (loads x0 x1 x2 x3 x4 x5 x6 x7 arg2 harg2 arg3 harg3 arg4 harg4 arg6 harg6 arg7 harg7 1 1) 3 l r q hq) (fun l r q hq => yd_at (loads x0 x1 x2 x3 x4 x5 x6 x7 arg2 harg2 arg3 harg3 arg4 harg4 arg6 harg6 arg7 harg7 1 1) 2 l r q hq) (fun l r q hq => yd_at (loads x0 x1 x2 x3 x4 x5 x6 x7 arg2 harg2 arg3 harg3 arg4 harg4 arg6 harg6 arg7 harg7 1 1) 1 l r q hq) (fun l r q hq => yd_at (loads x0 x1 x2 x3 x4 x5 x6 x7 arg2 harg2 arg3 harg3 arg4 harg4 arg6 harg6 arg7 harg7 1 1) 0 l r q hq) l q

theorem sAtA3 (n : Fin 128) (q : Fin 512) : ((kernelRun0_A.sl.v1404 (F := Ideal) c arg2 harg2 arg3 harg3 arg4 harg4 arg6 harg6 arg7 harg7 arg11 arg12 x0 x1 x2 x4 x5) : S1x128x512.Idx → EReal) (ix3 0 n q) = (run (kc x0 x1 x2 x3 x4 x5 x6 x7 1) (fun _ _ => (0 : EReal)) (Fin.val (1 : Fin 4))) n q := by
  have e : (kernelRun0_A.sl.v1404 (F := Ideal) c arg2 harg2 arg3 harg3 arg4 harg4 arg6 harg6 arg7 harg7 arg11 arg12 x0 x1 x2 x4 x5) = arg11.view.readCov (Val := Elt Ideal) (⟨(Rect.unit (s := S2x128x512) ![0, 0, 0] S1x128x512.size inb_S2x128x512_S1x128x512_0_0_0), (kernelRun0_A.sl.v1071 (F := Ideal) c arg2 harg2 arg3 harg3 arg4 harg4 arg6 harg6 arg7 harg7 arg11 arg12 x0 x1 x2 x4 x5)⟩ :: ⟨(Rect.unit (s := S2x128x512) ![1, 0, 0] S1x128x512.size inb_S2x128x512_S1x128x512_1_0_0), (kernelRun0_A.sl.v710 (F := Ideal) c arg2 harg2 arg3 harg3 arg4 harg4 arg6 harg6 arg7 harg7 arg11 arg12 x0 x1 x2 x4 x5)⟩ :: (kernelRun0_A.sl.HS0_2 (F := Ideal) c arg2 harg2 arg3 harg3 arg4 harg4 arg6 harg6 arg7 harg7 arg11 arg12 x0 x1 x2 x4 x5)) (Rect.unit (s := S2x128x512) ![1, 0, 0] S1x128x512.size inb_S2x128x512_S1x128x512_1_0_0).toLoadRect := by sl_kernel_rfl
  have e2 := e.trans ((View.readCov_skip _ _ _ _ _ (by decide)).trans (View.readCov_cons_toLoadRect _ _ _ _))
  exact (congrFun e2 (ix3 0 n q)).trans ((tAtA1 c arg2 harg2 arg3 harg3 arg4 harg4 arg5 harg5 arg6 harg6 arg7 harg7 arg8 harg8 arg9 harg9 arg11 harg11 arg12 arg13 x0 x1 x2 x3 x4 x5 x6 x7 xs0) n q)

theorem tAtA3 (n : Fin 128) (q : Fin 512) : ((kernelRun0_A.sl.v1432 (F := Ideal) c arg2 harg2 arg3 harg3 arg4 harg4 arg6 harg6 arg7 harg7 arg11 arg12 x0 x1 x2 x4 x5) : S1x128x512.Idx → EReal) (ix3 0 n q) = (run (kc x0 x1 x2 x3 x4 x5 x6 x7 1) (fun _ _ => (0 : EReal)) (Fin.val (1 : Fin 4) + 1)) n q := by
  rw [(eqTA3 c arg2 harg2 arg3 harg3 arg4 harg4 arg6 harg6 arg7 harg7 arg11 arg12 x0 x1 x2 x4 x5), run_succ]
  exact st_at (loads x0 x1 x2 x3 x4 x5 x6 x7 arg2 harg2 arg3 harg3 arg4 harg4 arg6 harg6 arg7 harg7 1 1) _ _ (run (kc x0 x1 x2 x3 x4 x5 x6 x7 1) (fun _ _ => (0 : EReal)) (Fin.val (1 : Fin 4))) (sAtA3 c arg2 harg2 arg3 harg3 arg4 harg4 arg5 harg5 arg6 harg6 arg7 harg7 arg8 harg8 arg9 harg9 arg11 harg11 arg12 arg13 x0 x1 x2 x3 x4 x5 x6 x7 xs0) (xAtA3 c arg2 harg2 arg3 harg3 arg4 harg4 arg5 harg5 arg6 harg6 arg7 harg7 arg8 harg8 arg9 harg9 arg11 harg11 arg12 arg13 x0 x1 x2 x3 x4 x5 x6 x7 xs0) n q

theorem oAtA3 (l : Fin 256) (q : Fin 512) : ((kernelRun0_A.sl.v1453 (F := Ideal) c arg2 harg2 arg3 harg3 arg4 harg4 arg5 harg5 arg6 harg6 arg7 harg7 arg8 harg8 arg9 harg9 arg11 arg12 arg13 x0 x1 x2 x3 x4 x5 x6 x7) : S1x256x512.Idx → EReal) (ix3 0 l q) = (kc x0 x1 x2 x3 x4 x5 x6 x7 1 1).out (run (kc x0 x1 x2 x3 x4 x5 x6 x7 1) (fun _ _ => (0 : EReal)) (Fin.val (1 : Fin 4))) l q := by
  rw [(eqOA3 c arg2 harg2 arg3 harg3 arg4 harg4 arg5 harg5 arg6 harg6 arg7 harg7 arg8 harg8 arg9 harg9 arg11 arg12 arg13 x0 x1 x2 x3 x4 x5 x6 x7)]
  exact out_at (loads x0 x1 x2 x3 x4 x5 x6 x7 arg2 harg2 arg3 harg3 arg4 harg4 arg6 harg6 arg7 harg7 1 1) _ _ _ _ _ (run (kc x0 x1 x2 x3 x4 x5 x6 x7 1) (fun _ _ => (0 : EReal)) (Fin.val (1 : Fin 4))) (sAtA3 c arg2 harg2 arg3 harg3 arg4 harg4 arg5 harg5 arg6 harg6 arg7 harg7 arg8 harg8 arg9 harg9 arg11 harg11 arg12 arg13 x0 x1 x2 x3 x4 x5 x6 x7 xs0) (dAtA3 c arg2 harg2 arg3 harg3 arg4 harg4 arg5 harg5 arg6 harg6 arg7 harg7 arg8 harg8 arg9 harg9 arg11 harg11 arg12 arg13 x0 x1 x2 x3 x4 x5 x6 x7 xs0) (fun l q => ldX_at arg5 harg5 x3 1 1 l q) (ldW_at arg8 harg8 x6 1) (ldW_at arg9 harg9 x7 1) l q

theorem xAtA4 (l : Fin 256) (q : Fin 512) : (LoadRect.valAlong (hhK 2 0) (kernelRun0_A.sl.v1787 (F := Ideal) c arg2 harg2 arg4 harg4 arg6 harg6 arg7 harg7 arg12 x0 x2 x4 x5) : S1x256x512.Idx → EReal) (ix3 0 l q) = (kc x0 x1 x2 x3 x4 x5 x6 x7 0 2).xd l q * Ideal.exp ((kc x0 x1 x2 x3 x4 x5 x6 x7 0 2).cl (hd q) - (kc x0 x1 x2 x3 x4 x5 x6 x7 0 2).cs l (hd q)) := by
  rw [(eqXA4 c arg2 harg2 arg4 harg4 arg6 harg6 arg7 harg7 arg12 x0 x2 x4 x5)]
  exact X_of 2 0 _ _ _ _ _ _ _ _ _ _ _ (fun l q => (kc x0 x1 x2 x3 x4 x5 x6 x7 0 2).xd l q * Ideal.exp ((kc x0 x1 x2 x3 x4 x5 x6 x7 0 2).cl (hd q) - (kc x0 x1 x2 x3 x4 x5 x6 x7 0 2).cs l (hd q)))
    (fun l r q hq => xdec_at (loads x0 x1 x2 x3 x4 x5 x6 x7 arg2 harg2 arg3 harg3 arg4 harg4 arg6 harg6 arg7 harg7 2 0) 3 l r q hq) (fun l r q hq => xdec_at (loads x0 x1 x2 x3 x4 x5 x6 x7 arg2 harg2 arg3 harg3 arg4 harg4 arg6 harg6 arg7 harg7 2 0) 2 l r q hq) (fun l r q hq => xdec_at (loads x0 x1 x2 x3 x4 x5 x6 x7 arg2 harg2 arg3 harg3 arg4 harg4 arg6 harg6 arg7 harg7 2 0) 1 l r q hq) (fun l r q hq => xdec_at (loads x0 x1 x2 x3 x4 x5 x6 x7 arg2 harg2 arg3 harg3 arg4 harg4 arg6 harg6 arg7 harg7 2 0) 0 l r q hq) l q

theorem dAtA4 (l : Fin 256) (q : Fin 512) : (LoadRect.valAlong (hhK 2 0) (kernelRun0_A.sl.v1769 (F := Ideal) c arg2 harg2 arg3 harg3 arg4 harg4 arg6 harg6 arg7 harg7 arg13 x0 x1 x2 x4 x5) : S1x256x512.Idx → EReal) (ix3 0 l q) = (kc x0 x1 x2 x3 x4 x5 x6 x7 0 2).yd l q := by
  rw [(eqDA4 c arg2 harg2 arg3 harg3 arg4 harg4 arg6 harg6 arg7 harg7 arg13 x0 x1 x2 x4 x5)]
  exact D_of 2 0 _ _ _ _ _ _ _ _ _ _ _ (fun l q => (kc x0 x1 x2 x3 x4 x5 x6 x7 0 2).yd l q)
    (fun l r q hq => yd_at (loads x0 x1 x2 x3 x4 x5 x6 x7 arg2 harg2 arg3 harg3 arg4 harg4 arg6 harg6 arg7 harg7 2 0) 3 l r q hq) (fun l r q hq => yd_at (loads x0 x1 x2 x3 x4 x5 x6 x7 arg2 harg2 arg3 harg3 arg4 harg4 arg6 harg6 arg7 harg7 2 0) 2 l r q hq) (fun l r q hq => yd_at (loads x0 x1 x2 x3 x4 x5 x6 x7 arg2 harg2 arg3 harg3 arg4 harg4 arg6 harg6 arg7 harg7 2 0) 1 l r q hq) (fun l r q hq => yd_at (loads x0 x1 x2 x3 x4 x5 x6 x7 arg2 harg2 arg3 harg3 arg4 harg4 arg6 harg6 arg7 harg7 2 0) 0 l r q hq) l q

theorem sAtA4 (n : Fin 128) (q : Fin 512) : ((kernelRun0_A.sl.v1765 (F := Ideal) c arg2 harg2 arg3 harg3 arg4 harg4 arg6 harg6 arg7 harg7 arg11 arg12 x0 x1 x2 x4 x5) : S1x128x512.Idx → EReal) (ix3 0 n q) = (run (kc x0 x1 x2 x3 x4 x5 x6 x7 0) (fun _ _ => (0 : EReal)) (Fin.val (2 : Fin 4))) n q := by
  have e : (kernelRun0_A.sl.v1765 (F := Ideal) c arg2 harg2 arg3 harg3 arg4 harg4 arg6 harg6 arg7 harg7 arg11 arg12 x0 x1 x2 x4 x5) = arg11.view.readCov (Val := Elt Ideal) (⟨(Rect.unit (s := S2x128x512) ![1, 0, 0] S1x128x512.size inb_S2x128x512_S1x128x512_1_0_0), (kernelRun0_A.sl.v1432 (F := Ideal) c arg2 harg2 arg3 harg3 arg4 harg4 arg6 harg6 arg7 harg7 arg11 arg12 x0 x1 x2 x4 x5)⟩ :: ⟨(Rect.unit (s := S2x128x512) ![0, 0, 0] S1x128x512.size inb_S2x128x512_S1x128x512_0_0_0), (kernelRun0_A.sl.v1071 (F := Ideal) c arg2 harg2 arg3 harg3 arg4 harg4 arg6 harg6 arg7 harg7 arg11 arg12 x0 x1 x2 x4 x5)⟩ :: (kernelRun0_A.sl.HS0_3 (F := Ideal) c arg2 harg2 arg3 harg3 arg4 harg4 arg6 harg6 arg7 harg7 arg11 arg12 x0 x1 x2 x4 x5)) (Rect.unit (s := S2x128x512) ![0, 0, 0] S1x128x512.size inb_S2x128x512_S1x128x512_0_0_0).toLoadRect := by sl_kernel_rfl
  have e2 := e.trans ((View.readCov_skip _ _ _ _ _ (by decide)).trans (View.readCov_cons_toLoadRect _ _ _ _))
  exact (congrFun e2 (ix3 0 n q)).trans ((tAtA2 c arg2 harg2 arg3 harg3 arg4 harg4 arg5 harg5 arg6 harg6 arg7 harg7 arg8 harg8 arg9 harg9 arg11 harg11 arg12 arg13 x0 x1 x2 x3 x4 x5 x6 x7 xs0) n q)

theorem tAtA4 (n : Fin 128) (q : Fin 512) : ((kernelRun0_A.sl.v1793 (F := Ideal) c arg2 harg2 arg3 harg3 arg4 harg4 arg6 harg6 arg7 harg7 arg11 arg12 x0 x1 x2 x4 x5) : S1x128x512.Idx → EReal) (ix3 0 n q) = (run (kc x0 x1 x2 x3 x4 x5 x6 x7 0) (fun _ _ => (0 : EReal)) (Fin.val (2 : Fin 4) + 1)) n q := by
  rw [(eqTA4 c arg2 harg2 arg3 harg3 arg4 harg4 arg6 harg6 arg7 harg7 arg11 arg12 x0 x1 x2 x4 x5), run_succ]
  exact st_at (loads x0 x1 x2 x3 x4 x5 x6 x7 arg2 harg2 arg3 harg3 arg4 harg4 arg6 harg6 arg7 harg7 2 0) _ _ (run (kc x0 x1 x2 x3 x4 x5 x6 x7 0) (fun _ _ => (0 : EReal)) (Fin.val (2 : Fin 4))) (sAtA4 c arg2 harg2 arg3 harg3 arg4 harg4 arg5 harg5 arg6 harg6 arg7 harg7 arg8 harg8 arg9 harg9 arg11 harg11 arg12 arg13 x0 x1 x2 x3 x4 x5 x6 x7 xs0) (xAtA4 c arg2 harg2 arg3 harg3 arg4 harg4 arg5 harg5 arg6 harg6 arg7 harg7 arg8 harg8 arg9 harg9 arg11 harg11 arg12 arg13 x0 x1 x2 x3 x4 x5 x6 x7 xs0) n q

theorem oAtA4 (l : Fin 256) (q : Fin 512) : ((kernelRun0_A.sl.v1814 (F := Ideal) c arg2 harg2 arg3 harg3 arg4 harg4 arg5 harg5 arg6 harg6 arg7 harg7 arg8 harg8 arg9 harg9 arg11 arg12 arg13 x0 x1 x2 x3 x4 x5 x6 x7) : S1x256x512.Idx → EReal) (ix3 0 l q) = (kc x0 x1 x2 x3 x4 x5 x6 x7 0 2).out (run (kc x0 x1 x2 x3 x4 x5 x6 x7 0) (fun _ _ => (0 : EReal)) (Fin.val (2 : Fin 4))) l q := by
  rw [(eqOA4 c arg2 harg2 arg3 harg3 arg4 harg4 arg5 harg5 arg6 harg6 arg7 harg7 arg8 harg8 arg9 harg9 arg11 arg12 arg13 x0 x1 x2 x3 x4 x5 x6 x7)]
  exact out_at (loads x0 x1 x2 x3 x4 x5 x6 x7 arg2 harg2 arg3 harg3 arg4 harg4 arg6 harg6 arg7 harg7 2 0) _ _ _ _ _ (run (kc x0 x1 x2 x3 x4 x5 x6 x7 0) (fun _ _ => (0 : EReal)) (Fin.val (2 : Fin 4))) (sAtA4 c arg2 harg2 arg3 harg3 arg4 harg4 arg5 harg5 arg6 harg6 arg7 harg7 arg8 harg8 arg9 harg9 arg11 harg11 arg12 arg13 x0 x1 x2 x3 x4 x5 x6 x7 xs0) (dAtA4 c arg2 harg2 arg3 harg3 arg4 harg4 arg5 harg5 arg6 harg6 arg7 harg7 arg8 harg8 arg9 harg9 arg11 harg11 arg12 arg13 x0 x1 x2 x3 x4 x5 x6 x7 xs0) (fun l q => ldX_at arg5 harg5 x3 2 0 l q) (ldW_at arg8 harg8 x6 0) (ldW_at arg9 harg9 x7 0) l q

theorem xAtA5 (l : Fin 256) (q : Fin 512) : (LoadRect.valAlong (hhK 2 1) (kernelRun0_A.sl.v2148 (F := Ideal) c arg2 harg2 arg4 harg4 arg6 harg6 arg7 harg7 arg12 x0 x2 x4 x5) : S1x256x512.Idx → EReal) (ix3 0 l q) = (kc x0 x1 x2 x3 x4 x5 x6 x7 1 2).xd l q * Ideal.exp ((kc x0 x1 x2 x3 x4 x5 x6 x7 1 2).cl (hd q) - (kc x0 x1 x2 x3 x4 x5 x6 x7 1 2).cs l (hd q)) := by
  rw [(eqXA5 c arg2 harg2 arg4 harg4 arg6 harg6 arg7 harg7 arg12 x0 x2 x4 x5)]
  exact X_of 2 1 _ _ _ _ _ _ _ _ _ _ _ (fun l q => (kc x0 x1 x2 x3 x4 x5 x6 x7 1 2).xd l q * Ideal.exp ((kc x0 x1 x2 x3 x4 x5 x6 x7 1 2).cl (hd q) - (kc x0 x1 x2 x3 x4 x5 x6 x7 1 2).cs l (hd q)))
    (fun l r q hq => xdec_at (loads x0 x1 x2 x3 x4 x5 x6 x7 arg2 harg2 arg3 harg3 arg4 harg4 arg6 harg6 arg7 harg7 2 1) 3 l r q hq) (fun l r q hq => xdec_at (loads x0 x1 x2 x3 x4 x5 x6 x7 arg2 harg2 arg3 harg3 arg4 harg4 arg6 harg6 arg7 harg7 2 1) 2 l r q hq) (fun l r q hq => xdec_at (loads x0 x1 x2 x3 x4 x5 x6 x7 arg2 harg2 arg3 harg3 arg4 harg4 arg6 harg6 arg7 harg7 2 1) 1 l r q hq) (fun l r q hq => xdec_at (loads x0 x1 x2 x3 x4 x5 x6 x7 arg2 harg2 arg3 harg3 arg4 harg4 arg6 harg6 arg7 harg7 2 1) 0 l r q hq) l q

theorem dAtA5 (l : Fin 256) (q : Fin 512) : (LoadRect.valAlong (hhK 2 1) (kernelRun0_A.sl.v2130 (F := Ideal) c arg2 harg2 arg3 harg3 arg4 harg4 arg6 harg6 arg7 harg7 arg13 x0 x1 x2 x4 x5) : S1x256x512.Idx → EReal) (ix3 0 l q) = (kc x0 x1 x2 x3 x4 x5 x6 x7 1 2).yd l q := by
  rw [(eqDA5 c arg2 harg2 arg3 harg3 arg4 harg4 arg6 harg6 arg7 harg7 arg13 x0 x1 x2 x4 x5)]
  exact D_of 2 1 _ _ _ _ _ _ _ _ _ _ _ (fun l q => (kc x0 x1 x2 x3 x4 x5 x6 x7 1 2).yd l q)
    (fun l r q hq => yd_at (loads x0 x1 x2 x3 x4 x5 x6 x7 arg2 harg2 arg3 harg3 arg4 harg4 arg6 harg6 arg7 harg7 2 1) 3 l r q hq) (fun l r q hq => yd_at (loads x0 x1 x2 x3 x4 x5 x6 x7 arg2 harg2 arg3 harg3 arg4 harg4 arg6 harg6 arg7 harg7 2 1) 2 l r q hq) (fun l r q hq => yd_at (loads x0 x1 x2 x3 x4 x5 x6 x7 arg2 harg2 arg3 harg3 arg4 harg4 arg6 harg6 arg7 harg7 2 1) 1 l r q hq) (fun l r q hq => yd_at (loads x0 x1 x2 x3 x4 x5 x6 x7 arg2 harg2 arg3 harg3 arg4 harg4 arg6 harg6 arg7 harg7 2 1) 0 l r q hq) l q

theorem sAtA5 (n : Fin 128) (q : Fin 512) : ((kernelRun0_A.sl.v2126 (F := Ideal) c arg2 harg2 arg3 harg3 arg4 harg4 arg6 harg6 arg7 harg7 arg11 arg12 x0 x1 x2 x4 x5) : S1x128x512.Idx → EReal) (ix3 0 n q) = (run (kc x0 x1 x2 x3 x4 x5 x6 x7 1) (fun _ _ => (0 : EReal)) (Fin.val (2 : Fin 4))) n q := by
  have e : (kernelRun0_A.sl.v2126 (F := Ideal) c arg2 harg2 arg3 harg3 arg4 harg4 arg6 harg6 arg7 harg7 arg11 arg12 x0 x1 x2 x4 x5) = arg11.view.readCov (Val := Elt Ideal) (⟨(Rect.unit (s := S2x128x512) ![0, 0, 0] S1x128x512.size inb_S2x128x512_S1x128x512_0_0_0), (kernelRun0_A.sl.v1793 (F := Ideal) c arg2 harg2 arg3 harg3 arg4 harg4 arg6 harg6 arg7 harg7 arg11 arg12 x0 x1 x2 x4 x5)⟩ :: ⟨(Rect.unit (s := S2x128x512) ![1, 0, 0] S1x128x512.size inb_S2x128x512_S1x128x512_1_0_0), (kernelRun0_A.sl.v1432 (F := Ideal) c arg2 harg2 arg3 harg3 arg4 harg4 arg6 harg6 arg7 harg7 arg11 arg12 x0 x1 x2 x4 x5)⟩ :: (kernelRun0_A.sl.HS0_4 (F := Ideal) c arg2 harg2 arg3 harg3 arg4 harg4 arg6 harg6 arg7 harg7 arg11 arg12 x0 x1 x2 x4 x5)) (Rect.unit (s := S2x128x512) ![1, 0, 0] S1x128x512.size inb_S2x128x512_S1x128x512_1_0_0).toLoadRect := by sl_kernel_rfl
  have e2 := e.trans ((View.readCov_skip _ _ _ _ _ (by decide)).trans (View.readCov_cons_toLoadRect _ _ _ _))
  exact (congrFun e2 (ix3 0 n q)).trans ((tAtA3 c arg2 harg2 arg3 harg3 arg4 harg4 arg5 harg5 arg6 harg6 arg7 harg7 arg8 harg8 arg9 harg9 arg11 harg11 arg12 arg13 x0 x1 x2 x3 x4 x5 x6 x7 xs0) n q)

theorem tAtA5 (n : Fin 128) (q : Fin 512) : ((kernelRun0_A.sl.v2154 (F := Ideal) c arg2 harg2 arg3 harg3 arg4 harg4 arg6 harg6 arg7 harg7 arg11 arg12 x0 x1 x2 x4 x5) : S1x128x512.Idx → EReal) (ix3 0 n q) = (run (kc x0 x1 x2 x3 x4 x5 x6 x7 1) (fun _ _ => (0 : EReal)) (Fin.val (2 : Fin 4) + 1)) n q := by
  rw [(eqTA5 c arg2 harg2 arg3 harg3 arg4 harg4 arg6 harg6 arg7 harg7 arg11 arg12 x0 x1 x2 x4 x5), run_succ]
  exact st_at (loads x0 x1 x2 x3 x4 x5 x6 x7 arg2 harg2 arg3 harg3 arg4 harg4 arg6 harg6 arg7 harg7 2 1) _ _ (run (kc x0 x1 x2 x3 x4 x5 x6 x7 1) (fun _ _ => (0 : EReal)) (Fin.val (2 : Fin 4))) (sAtA5 c arg2 harg2 arg3 harg3 arg4 harg4 arg5 harg5 arg6 harg6 arg7 harg7 arg8 harg8 arg9 harg9 arg11 harg11 arg12 arg13 x0 x1 x2 x3 x4 x5 x6 x7 xs0) (xAtA5 c arg2 harg2 arg3 harg3 arg4 harg4 arg5 harg5 arg6 harg6 arg7 harg7 arg8 harg8 arg9 harg9 arg11 harg11 arg12 arg13 x0 x1 x2 x3 x4 x5 x6 x7 xs0) n q

theorem oAtA5 (l : Fin 256) (q : Fin 512) : ((kernelRun0_A.sl.v2175 (F := Ideal) c arg2 harg2 arg3 harg3 arg4 harg4 arg5 harg5 arg6 harg6 arg7 harg7 arg8 harg8 arg9 harg9 arg11 arg12 arg13 x0 x1 x2 x3 x4 x5 x6 x7) : S1x256x512.Idx → EReal) (ix3 0 l q) = (kc x0 x1 x2 x3 x4 x5 x6 x7 1 2).out (run (kc x0 x1 x2 x3 x4 x5 x6 x7 1) (fun _ _ => (0 : EReal)) (Fin.val (2 : Fin 4))) l q := by
  rw [(eqOA5 c arg2 harg2 arg3 harg3 arg4 harg4 arg5 harg5 arg6 harg6 arg7 harg7 arg8 harg8 arg9 harg9 arg11 arg12 arg13 x0 x1 x2 x3 x4 x5 x6 x7)]
  exact out_at (loads x0 x1 x2 x3 x4 x5 x6 x7 arg2 harg2 arg3 harg3 arg4 harg4 arg6 harg6 arg7 harg7 2 1) _ _ _ _ _ (run (kc x0 x1 x2 x3 x4 x5 x6 x7 1) (fun _ _ => (0 : EReal)) (Fin.val (2 : Fin 4))) (sAtA5 c arg2 harg2 arg3 harg3 arg4 harg4 arg5 harg5 arg6 harg6 arg7 harg7 arg8 harg8 arg9 harg9 arg11 harg11 arg12 arg13 x0 x1 x2 x3 x4 x5 x6 x7 xs0) (dAtA5 c arg2 harg2 arg3 harg3 arg4 harg4 arg5 harg5 arg6 harg6 arg7 harg7 arg8 harg8 arg9 harg9 arg11 harg11 arg12 arg13 x0 x1 x2 x3 x4 x5 x6 x7 xs0) (fun l q => ldX_at arg5 harg5 x3 2 1 l q) (ldW_at arg8 harg8 x6 1) (ldW_at arg9 harg9 x7 1) l q

theorem xAtA6 (l : Fin 256) (q : Fin 512) : (LoadRect.valAlong (hhK 3 0) (kernelRun0_A.sl.v2509 (F := Ideal) c arg2 harg2 arg4 harg4 arg6 harg6 arg7 harg7 arg12 x0 x2 x4 x5) : S1x256x512.Idx → EReal) (ix3 0 l q) = (kc x0 x1 x2 x3 x4 x5 x6 x7 0 3).xd l q * Ideal.exp ((kc x0 x1 x2 x3 x4 x5 x6 x7 0 3).cl (hd q) - (kc x0 x1 x2 x3 x4 x5 x6 x7 0 3).cs l (hd q)) := by
  rw [(eqXA6 c arg2 harg2 arg4 harg4 arg6 harg6 arg7 harg7 arg12 x0 x2 x4 x5)]
  exact X_of 3 0 _ _ _ _ _ _ _ _ _ _ _ (fun l q => (kc x0 x1 x2 x3 x4 x5 x6 x7 0 3).xd l q * Ideal.exp ((kc x0 x1 x2 x3 x4 x5 x6 x7 0 3).cl (hd q) - (kc x0 x1 x2 x3 x4 x5 x6 x7 0 3).cs l (hd q)))
    (fun l r q hq => xdec_at (loads x0 x1 x2 x3 x4 x5 x6 x7 arg2 harg2 arg3 harg3 arg4 harg4 arg6 harg6 arg7 harg7 3 0) 3 l r q hq) (fun l r q hq => xdec_at (loads x0 x1 x2 x3 x4 x5 x6 x7 arg2 harg2 arg3 harg3 arg4 harg4 arg6 harg6 arg7 harg7 3 0) 2 l r q hq) (fun l r q hq => xdec_at (loads x0 x1 x2 x3 x4 x5 x6 x7 arg2 harg2 arg3 harg3 arg4 harg4 arg6 harg6 arg7 harg7 3 0) 1 l r q hq) (fun l r q hq => xdec_at (loads x0 x1 x2 x3 x4 x5 x6 x7 arg2 harg2 arg3 harg3 arg4 harg4 arg6 harg6 arg7 harg7 3 0) 0 l r q hq) l q

theorem dAtA6 (l : Fin 256) (q : Fin 512) : (LoadRect.valAlong (hhK 3 0) (kernelRun0_A.sl.v2491 (F := Ideal) c arg2 harg2 arg3 harg3 arg4 harg4 arg6 harg6 arg7 harg7 arg13 x0 x1 x2 x4 x5) : S1x256x512.Idx → EReal) (ix3 0 l q) = (kc x0 x1 x2 x3 x4 x5 x6 x7 0 3).yd l q := by
  rw [(eqDA6 c arg2 harg2 arg3 harg3 arg4 harg4 arg6 harg6 arg7 harg7 arg13 x0 x1 x2 x4 x5)]
  exact D_of 3 0 _ _ _ _ _ _ _ _ _ _ _ (fun l q => (kc x0 x1 x2 x3 x4 x5 x6 x7 0 3).yd l q)
    (fun l r q hq => yd_at (loads x0 x1 x2 x3 x4 x5 x6 x7 arg2 harg2 arg3 harg3 arg4 harg4 arg6 harg6 arg7 harg7 3 0) 3 l r q hq) (fun l r q hq => yd_at (loads x0 x1 x2 x3 x4 x5 x6 x7 arg2 harg2 arg3 harg3 arg4 harg4 arg6 harg6 arg7 harg7 3 0) 2 l r q hq) (fun l r q hq => yd_at (loads x0 x1 x2 x3 x4 x5 x6 x7 arg2 harg2 arg3 harg3 arg4 harg4 arg6 harg6 arg7 harg7 3 0) 1 l r q hq) (fun l r q hq => yd_at (loads x0 x1 x2 x3 x4 x5 x6 x7 arg2 harg2 arg3 harg3 arg4 harg4 arg6 harg6 arg7 harg7 3 0) 0 l r q hq) l q

theorem sAtA6 (n : Fin 128) (q : Fin 512) : ((kernelRun0_A.sl.v2487 (F := Ideal) c arg2 harg2 arg3 harg3 arg4 harg4 arg6 harg6 arg7 harg7 arg11 arg12 x0 x1 x2 x4 x5) : S1x128x512.Idx → EReal) (ix3 0 n q) = (run (kc x0 x1 x2 x3 x4 x5 x6 x7 0) (fun _ _ => (0 : EReal)) (Fin.val (3 : Fin 4))) n q := by
  have e : (kernelRun0_A.sl.v2487 (F := Ideal) c arg2 harg2 arg3 harg3 arg4 harg4 arg6 harg6 arg7 harg7 arg11 arg12 x0 x1 x2 x4 x5) = arg11.view.readCov (Val := Elt Ideal) (⟨(Rect.unit (s := S2x128x512) ![1, 0, 0] S1x128x512.size inb_S2x128x512_S1x128x512_1_0_0), (kernelRun0_A.sl.v2154 (F := Ideal) c arg2 harg2 arg3 harg3 arg4 harg4 arg6 harg6 arg7 harg7 arg11 arg12 x0 x1 x2 x4 x5)⟩ :: ⟨(Rect.unit (s := S2x128x512) ![0, 0, 0] S1x128x512.size inb_S2x128x512_S1x128x512_0_0_0), (kernelRun0_A.sl.v1793 (F := Ideal) c arg2 harg2 arg3 harg3 arg4 harg4 arg6 harg6 arg7 harg7 arg11 arg12 x0 x1 x2 x4 x5)⟩ :: (kernelRun0_A.sl.HS0_5 (F := Ideal) c arg2 harg2 arg3 harg3 arg4 harg4 arg6 harg6 arg7 harg7 arg11 arg12 x0 x1 x2 x4 x5)) (Rect.unit (s := S2x128x512) ![0, 0, 0] S1x128x512.size inb_S2x128x512_S1x128x512_0_0_0).toLoadRect := by sl_kernel_rfl
  have e2 := e.trans ((View.readCov_skip _ _ _ _ _ (by decide)).trans (View.readCov_cons_toLoadRect _ _ _ _))
  exact (congrFun e2 (ix3 0 n q)).trans ((tAtA4 c arg2 harg2 arg3 harg3 arg4 harg4 arg5 harg5 arg6 harg6 arg7 harg7 arg8 harg8 arg9 harg9 arg11 harg11 arg12 arg13 x0 x1 x2 x3 x4 x5 x6 x7 xs0) n q)

theorem tAtA6 (n : Fin 128) (q : Fin 512) : ((kernelRun0_A.sl.v2515 (F := Ideal) c arg2 harg2 arg3 harg3 arg4 harg4 arg6 harg6 arg7 harg7 arg11 arg12 x0 x1 x2 x4 x5) : S1x128x512.Idx → EReal) (ix3 0 n q) = (run (kc x0 x1 x2 x3 x4 x5 x6 x7 0) (fun _ _ => (0 : EReal)) (Fin.val (3 : Fin 4) + 1)) n q := by
  rw [(eqTA6 c arg2 harg2 arg3 harg3 arg4 harg4 arg6 harg6 arg7 harg7 arg11 arg12 x0 x1 x2 x4 x5), run_succ]
  exact st_at (loads x0 x1 x2 x3 x4 x5 x6 x7 arg2 harg2 arg3 harg3 arg4 harg4 arg6 harg6 arg7 harg7 3 0) _ _ (run (kc x0 x1 x2 x3 x4 x5 x6 x7 0) (fun _ _ => (0 : EReal)) (Fin.val (3 : Fin 4))) (sAtA6 c arg2 harg2 arg3 harg3 arg4 harg4 arg5 harg5 arg6 harg6 arg7 harg7 arg8 harg8 arg9 harg9 arg11 harg11 arg12 arg13 x0 x1 x2 x3 x4 x5 x6 x7 xs0) (xAtA6 c arg2 harg2 arg3 harg3 arg4 harg4 arg5 harg5 arg6 harg6 arg7 harg7 arg8 harg8 arg9 harg9 arg11 harg11 arg12 arg13 x0 x1 x2 x3 x4 x5 x6 x7 xs0) n q

theorem oAtA6 (l : Fin 256) (q : Fin 512) : ((k0_pay395 (F := Ideal) (kernelRun0_A.sl.v2528 (F := Ideal) c arg2 harg2 arg3 harg3 arg4 harg4 arg5 harg5 arg6 harg6 arg7 harg7 arg8 harg8 arg11 arg12 arg13 x0 x1 x2 x3 x4 x5 x6) (ldW arg9 harg9 x7 0)) : S1x256x512.Idx → EReal) (ix3 0 l q) = (kc x0 x1 x2 x3 x4 x5 x6 x7 0 3).out (run (kc x0 x1 x2 x3 x4 x5 x6 x7 0) (fun _ _ => (0 : EReal)) (Fin.val (3 : Fin 4))) l q := by
  rw [(eqOA6 c arg2 harg2 arg3 harg3 arg4 harg4 arg5 harg5 arg6 harg6 arg7 harg7 arg8 harg8 arg9 harg9 arg11 arg12 arg13 x0 x1 x2 x3 x4 x5 x6 x7)]
  exact out_at (loads x0 x1 x2 x3 x4 x5 x6 x7 arg2 harg2 arg3 harg3 arg4 harg4 arg6 harg6 arg7 harg7 3 0) _ _ _ _ _ (run (kc x0 x1 x2 x3 x4 x5 x6 x7 0) (fun _ _ => (0 : EReal)) (Fin.val (3 : Fin 4))) (sAtA6 c arg2 harg2 arg3 harg3 arg4 harg4 arg5 harg5 arg6 harg6 arg7 harg7 arg8 harg8 arg9 harg9 arg11 harg11 arg12 arg13 x0 x1 x2 x3 x4 x5 x6 x7 xs0) (dAtA6 c arg2 harg2 arg3 harg3 arg4 harg4 arg5 harg5 arg6 harg6 arg7 harg7 arg8 harg8 arg9 harg9 arg11 harg11 arg12 arg13 x0 x1 x2 x3 x4 x5 x6 x7 xs0) (fun l q => ldX_at arg5 harg5 x3 3 0 l q) (ldW_at arg8 harg8 x6 0) (ldW_at arg9 harg9 x7 0) l q

theorem xAtA7 (l : Fin 256) (q : Fin 512) : (LoadRect.valAlong (hhK 3 1) (kernelRun0_A.sl.v2870 (F := Ideal) c arg2 harg2 arg4 harg4 arg6 harg6 arg7 harg7 arg12 x0 x2 x4 x5) : S1x256x512.Idx → EReal) (ix3 0 l q) = (kc x0 x1 x2 x3 x4 x5 x6 x7 1 3).xd l q * Ideal.exp ((kc x0 x1 x2 x3 x4 x5 x6 x7 1 3).cl (hd q) - (kc x0 x1 x2 x3 x4 x5 x6 x7 1 3).cs l (hd q)) := by
  rw [(eqXA7 c arg2 harg2 arg4 harg4 arg6 harg6 arg7 harg7 arg12 x0 x2 x4 x5)]
  exact X_of 3 1 _ _ _ _ _ _ _ _ _ _ _ (fun l q => (kc x0 x1 x2 x3 x4 x5 x6 x7 1 3).xd l q * Ideal.exp ((kc x0 x1 x2 x3 x4 x5 x6 x7 1 3).cl (hd q) - (kc x0 x1 x2 x3 x4 x5 x6 x7 1 3).cs l (hd q)))
    (fun l r q hq => xdec_at (loads x0 x1 x2 x3 x4 x5 x6 x7 arg2 harg2 arg3 harg3 arg4 harg4 arg6 harg6 arg7 harg7 3 1) 3 l r q hq) (fun l r q hq => xdec_at (loads x0 x1 x2 x3 x4 x5 x6 x7 arg2 harg2 arg3 harg3 arg4 harg4 arg6 harg6 arg7 harg7 3 1) 2 l r q hq) (fun l r q hq => xdec_at (loads x0 x1 x2 x3 x4 x5 x6 x7 arg2 harg2 arg3 harg3 arg4 harg4 arg6 harg6 arg7 harg7 3 1) 1 l r q hq) (fun l r q hq => xdec_at (loads x0 x1 x2 x3 x4 x5 x6 x7 arg2 harg2 arg3 harg3 arg4 harg4 arg6 harg6 arg7 harg7 3 1) 0 l r q hq) l q

theorem dAtA7 (l : Fin 256) (q : Fin 512) : (LoadRect.valAlong (hhK 3 1) (kernelRun0_A.sl.v2852 (F := Ideal) c arg2 harg2 arg3 harg3 arg4 harg4 arg6 harg6 arg7 harg7 arg13 x0 x1 x2 x4 x5) : S1x256x512.Idx → EReal) (ix3 0 l q) = (kc x0 x1 x2 x3 x4 x5 x6 x7 1 3).yd l q := by
  rw [(eqDA7 c arg2 harg2 arg3 harg3 arg4 harg4 arg6 harg6 arg7 harg7 arg13 x0 x1 x2 x4 x5)]
  exact D_of 3 1 _ _ _ _ _ _ _ _ _ _ _ (fun l q => (kc x0 x1 x2 x3 x4 x5 x6 x7 1 3).yd l q)
    (fun l r q hq => yd_at (loads x0 x1 x2 x3 x4 x5 x6 x7 arg2 harg2 arg3 harg3 arg4 harg4 arg6 harg6 arg7 harg7 3 1) 3 l r q hq) (fun l r q hq => yd_at (loads x0 x1 x2 x3 x4 x5 x6 x7 arg2 harg2 arg3 harg3 arg4 harg4 arg6 harg6 arg7 harg7 3 1) 2 l r q hq) (fun l r q hq => yd_at (loads x0 x1 x2 x3 x4 x5 x6 x7 arg2 harg2 arg3 harg3 arg4 harg4 arg6 harg6 arg7 harg7 3 1) 1 l r q hq) (fun l r q hq => yd_at (loads x0 x1 x2 x3 x4 x5 x6 x7 arg2 harg2 arg3 harg3 arg4 harg4 arg6 harg6 arg7 harg7 3 1) 0 l r q hq) l q

theorem sAtA7 (n : Fin 128) (q : Fin 512) : ((kernelRun0_A.sl.v2848 (F := Ideal) c arg2 harg2 arg3 harg3 arg4 harg4 arg6 harg6 arg7 harg7 arg11 arg12 x0 x1 x2 x4 x5) : S1x128x512.Idx → EReal) (ix3 0 n q) = (run (kc x0 x1 x2 x3 x4 x5 x6 x7 1) (fun _ _ => (0 : EReal)) (Fin.val (3 : Fin 4))) n q := by
  have e : (kernelRun0_A.sl.v2848 (F := Ideal) c arg2 harg2 arg3 harg3 arg4 harg4 arg6 harg6 arg7 harg7 arg11 arg12 x0 x1 x2 x4 x5) = arg11.view.readCov (Val := Elt Ideal) (⟨(Rect.unit (s := S2x128x512) ![0, 0, 0] S1x128x512.size inb_S2x128x512_S1x128x512_0_0_0), (kernelRun0_A.sl.v2515 (F := Ideal) c arg2 harg2 arg3 harg3 arg4 harg4 arg6 harg6 arg7 harg7 arg11 arg12 x0 x1 x2 x4 x5)⟩ :: ⟨(Rect.unit (s := S2x128x512) ![1, 0, 0] S1x128x512.size inb_S2x128x512_S1x128x512_1_0_0), (kernelRun0_A.sl.v2154 (F := Ideal) c arg2 harg2 arg3 harg3 arg4 harg4 arg6 harg6 arg7 harg7 arg11 arg12 x0 x1 x2 x4 x5)⟩ :: (kernelRun0_A.sl.HS0_6 (F := Ideal) c arg2 harg2 arg3 harg3 arg4 harg4 arg6 harg6 arg7 harg7 arg11 arg12 x0 x1 x2 x4 x5)) (Rect.unit (s := S2x128x512) ![1, 0, 0] S1x128x512.size inb_S2x128x512_S1x128x512_1_0_0).toLoadRect := by sl_kernel_rfl
  have e2 := e.trans ((View.readCov_skip _ _ _ _ _ (by decide)).trans (View.readCov_cons_toLoadRect _ _ _ _))
  exact (congrFun e2 (ix3 0 n q)).trans ((tAtA5 c arg2 harg2 arg3 harg3 arg4 harg4 arg5 harg5 arg6 harg6 arg7 harg7 arg8 harg8 arg9 harg9 arg11 harg11 arg12 arg13 x0 x1 x2 x3 x4 x5 x6 x7 xs0) n q)

theorem tAtA7 (n : Fin 128) (q : Fin 512) : ((k0_pay1 (F := Ideal) (kernelRun0_A.sl.r_94 (F := Ideal) c arg2 harg2 arg3 harg3 arg4 harg4 arg6 harg6 arg7 harg7 arg11 arg12 x0 x1 x2 x4 x5)) : S1x128x512.Idx → EReal) (ix3 0 n q) = (run (kc x0 x1 x2 x3 x4 x5 x6 x7 1) (fun _ _ => (0 : EReal)) (Fin.val (3 : Fin 4) + 1)) n q := by
  rw [(eqTA7 c arg2 harg2 arg3 harg3 arg4 harg4 arg6 harg6 arg7 harg7 arg11 arg12 x0 x1 x2 x4 x5), run_succ]
  exact st_at (loads x0 x1 x2 x3 x4 x5 x6 x7 arg2 harg2 arg3 harg3 arg4 harg4 arg6 harg6 arg7 harg7 3 1) _ _ (run (kc x0 x1 x2 x3 x4 x5 x6 x7 1) (fun _ _ => (0 : EReal)) (Fin.val (3 : Fin 4))) (sAtA7 c arg2 harg2 arg3 harg3 arg4 harg4 arg5 harg5 arg6 harg6 arg7 harg7 arg8 harg8 arg9 harg9 arg11 harg11 arg12 arg13 x0 x1 x2 x3 x4 x5 x6 x7 xs0) (xAtA7 c arg2 harg2 arg3 harg3 arg4 harg4 arg5 harg5 arg6 harg6 arg7 harg7 arg8 harg8 arg9 harg9 arg11 harg11 arg12 arg13 x0 x1 x2 x3 x4 x5 x6 x7 xs0) n q

theorem oAtA7 (l : Fin 256) (q : Fin 512) : ((k0_pay2 (F := Ideal) (kernelRun0_A.sl.r_93 (F := Ideal) c arg2 harg2 arg3 harg3 arg4 harg4 arg6 harg6 arg7 harg7 arg8 harg8 arg11 arg12 arg13 x0 x1 x2 x4 x5 x6) (ldX arg5 harg5 x3 3 1) (ldW arg9 harg9 x7 1)) : S1x256x512.Idx → EReal) (ix3 0 l q) = (kc x0 x1 x2 x3 x4 x5 x6 x7 1 3).out (run (kc x0 x1 x2 x3 x4 x5 x6 x7 1) (fun _ _ => (0 : EReal)) (Fin.val (3 : Fin 4))) l q := by
  rw [(eqOA7 c arg2 harg2 arg3 harg3 arg4 harg4 arg5 harg5 arg6 harg6 arg7 harg7 arg8 harg8 arg9 harg9 arg11 arg12 arg13 x0 x1 x2 x3 x4 x5 x6 x7)]
  exact out_at (loads x0 x1 x2 x3 x4 x5 x6 x7 arg2 harg2 arg3 harg3 arg4 harg4 arg6 harg6 arg7 harg7 3 1) _ _ _ _ _ (run (kc x0 x1 x2 x3 x4 x5 x6 x7 1) (fun _ _ => (0 : EReal)) (Fin.val (3 : Fin 4))) (sAtA7 c arg2 harg2 arg3 harg3 arg4 harg4 arg5 harg5 arg6 harg6 arg7 harg7 arg8 harg8 arg9 harg9 arg11 harg11 arg12 arg13 x0 x1 x2 x3 x4 x5 x6 x7 xs0) (dAtA7 c arg2 harg2 arg3 harg3 arg4 harg4 arg5 harg5 arg6 harg6 arg7 harg7 arg8 harg8 arg9 harg9 arg11 harg11 arg12 arg13 x0 x1 x2 x3 x4 x5 x6 x7 xs0) (fun l q => ldX_at arg5 harg5 x3 3 1 l q) (ldW_at arg8 harg8 x6 1) (ldW_at arg9 harg9 x7 1) l q

end

end Cert.SsdKer
end
-- ==== Proof.SsdOutA.lean ====
/- The selective recurrence: what a point of case A leaves. -/
module

public import proofs.«01_k».proof.Proof.SsdPick
public import proofs.«01_k».proof.Proof.SsdChainA

@[expose] public section

set_option maxRecDepth 16384

noncomputable section

open Idealize.ShloMosaic Idealize.ShloMosaic.TcCoe Idealize.SL.Sem

namespace Cert.SsdKer

open Cert.Ssd
open Cert.KernelIdeal Cert.KernelIdeal.Gen

theorem piecesA (c : Dev nD) (i : grid0.Coords) (arg2 : Memref sig .tc .vmem S1x1024x1024 .f32) (harg2 : arg2.IsWhole) (arg3 : Memref sig .tc .vmem S1x1024x512 .bf16) (harg3 : arg3.IsWhole) (arg4 : Memref sig .tc .vmem S1x1024x256 .f32) (harg4 : arg4.IsWhole) (arg5 : Memref sig .tc .vmem S1x1024x1024 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .bf16) (harg10 : arg10.IsWhole) (arg11 : Memref sig .tc .vmem S2x128x512 .f32) (harg11 : arg11.IsWhole) (arg12 : Memref sig .tc .vmem S4x2x256x512 .bf16) (harg12 : arg12.IsWhole) (arg13 : Memref sig .tc .vmem S4x2x256x512 .f32) (harg13 : arg13.IsWhole) (hc0 : cond0_0 i)
    (x0 : Vec Ideal S1x1024x1024 .f32) (x1 : Vec Ideal S1x1024x512 .bf16) (x2 : Vec Ideal S1x1024x256 .f32) (x3 : Vec Ideal S1x1024x1024 .f32) (x4 : Vec Ideal S1x256 .f32) (x5 : Vec Ideal S1x256 .f32) (x6 : Vec Ideal S1x1024 .f32) (x7 : Vec Ideal S1x1024 .f32) :
    (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).1 = [⟨orect 3 1, (k0_pay2 (F := Ideal) (kernelRun0_A.sl.r_93 (F := Ideal) c arg2 harg2 arg3 harg3 arg4 harg4 arg6 harg6 arg7 harg7 arg8 harg8 arg11 arg12 arg13 x0 x1 x2 x4 x5 x6) (ldX arg5 harg5 x3 3 1) (ldW arg9 harg9 x7 1))⟩,
      ⟨orect 3 0, (k0_pay395 (F := Ideal) (kernelRun0_A.sl.v2528 (F := Ideal) c arg2 harg2 arg3 harg3 arg4 harg4 arg5 harg5 arg6 harg6 arg7 harg7 arg8 harg8 arg11 arg12 arg13 x0 x1 x2 x3 x4 x5 x6) (ldW arg9 harg9 x7 0))⟩,
      ⟨orect 2 1, (kernelRun0_A.sl.v2175 (F := Ideal) c arg2 harg2 arg3 harg3 arg4 harg4 arg5 harg5 arg6 harg6 arg7 harg7 arg8 harg8 arg9 harg9 arg11 arg12 arg13 x0 x1 x2 x3 x4 x5 x6 x7)⟩,
      ⟨orect 2 0, (kernelRun0_A.sl.v1814 (F := Ideal) c arg2 harg2 arg3 harg3 arg4 harg4 arg5 harg5 arg6 harg6 arg7 harg7 arg8 harg8 arg9 harg9 arg11 arg12 arg13 x0 x1 x2 x3 x4 x5 x6 x7)⟩,
      ⟨orect 1 1, (kernelRun0_A.sl.v1453 (F := Ideal) c arg2 harg2 arg3 harg3 arg4 harg4 arg5 harg5 arg6 harg6 arg7 harg7 arg8 harg8 arg9 harg9 arg11 arg12 arg13 x0 x1 x2 x3 x4 x5 x6 x7)⟩,
      ⟨orect 1 0, (kernelRun0_A.sl.v1092 (F := Ideal) c arg2 harg2 arg3 harg3 arg4 harg4 arg5 harg5 arg6 harg6 arg7 harg7 arg8 harg8 arg9 harg9 arg11 arg12 arg13 x0 x1 x2 x3 x4 x5 x6 x7)⟩,
      ⟨orect 0 1, (k0_pay125 (F := Ideal) (kernelRun0_A.sl.v728 (F := Ideal) c arg2 harg2 arg3 harg3 arg4 harg4 arg5 harg5 arg6 harg6 arg7 harg7 arg8 harg8 arg9 harg9 arg11 arg12 arg13 x0 x1 x2 x3 x4 x5 x6 x7))⟩,
      ⟨orect 0 0, (kernelRun0_A.sl.v370 (F := Ideal) c arg2 harg2 arg3 harg3 arg4 harg4 arg5 harg5 arg6 harg6 arg7 harg7 arg8 harg8 arg9 harg9 arg11 arg13 x0 x1 x2 x3 x4 x5 x6 x7)⟩] := by
  sl_kernel_rfl

theorem outA (c : Dev nD) (i : grid0.Coords) (arg2 : Memref sig .tc .vmem S1x1024x1024 .f32) (harg2 : arg2.IsWhole) (arg3 : Memref sig .tc .vmem S1x1024x512 .bf16) (harg3 : arg3.IsWhole) (arg4 : Memref sig .tc .vmem S1x1024x256 .f32) (harg4 : arg4.IsWhole) (arg5 : Memref sig .tc .vmem S1x1024x1024 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .bf16) (harg10 : arg10.IsWhole) (arg11 : Memref sig .tc .vmem S2x128x512 .f32) (harg11 : arg11.IsWhole) (arg12 : Memref sig .tc .vmem S4x2x256x512 .bf16) (harg12 : arg12.IsWhole) (arg13 : Memref sig .tc .vmem S4x2x256x512 .f32) (harg13 : arg13.IsWhole) (hc0 : cond0_0 i)
    (x0 : Vec Ideal S1x1024x1024 .f32) (x1 : Vec Ideal S1x1024x512 .bf16) (x2 : Vec Ideal S1x1024x256 .f32) (x3 : Vec Ideal S1x1024x1024 .f32) (x4 : Vec Ideal S1x256 .f32) (x5 : Vec Ideal S1x256 .f32) (x6 : Vec Ideal S1x1024 .f32) (x7 : Vec Ideal S1x1024 .f32)
    (K : Fin 4) (g : Fin 2) (l : Fin 256) (q : Fin 512) : (out0_A_8 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 : S1x1024x1024.Idx → EReal) (ix3 0 ⟨256 * K.val + l.val, by omega⟩ ⟨512 * g.val + q.val, by omega⟩)
      = (kc x0 x1 x2 x3 x4 x5 x6 x7 g K).out (run (kc x0 x1 x2 x3 x4 x5 x6 x7 g) (fun _ _ => (0 : EReal)) K.val) l q := by
  unfold out0_A_8
  rw [View.read_writes_junk_eq_canon, piecesA]
  match K, g with
  | 0, 0 => exact (out_pick _ 0 0 _ ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans (View.readCov_cons_toLoadRect _ _ _ _)))))))) l q).trans (oAtA0 c arg2 harg2 arg3 harg3 arg4 harg4 arg5 harg5 arg6 harg6 arg7 harg7 arg8 harg8 arg9 harg9 arg11 harg11 arg12 arg13 x0 x1 x2 x3 x4 x5 x6 x7 (fun _ => (0 : EReal)) l q)
  | 0, 1 => exact (out_pick _ 0 1 _ ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans (View.readCov_cons_toLoadRect _ _ _ _))))))) l q).trans (oAtA1 c arg2 harg2 arg3 harg3 arg4 harg4 arg5 harg5 arg6 harg6 arg7 harg7 arg8 harg8 arg9 harg9 arg11 harg11 arg12 arg13 x0 x1 x2 x3 x4 x5 x6 x7 (fun _ => (0 : EReal)) l q)
  | 1, 0 => exact (out_pick _ 1 0 _ ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans (View.readCov_cons_toLoadRect _ _ _ _)))))) l q).trans (oAtA2 c arg2 harg2 arg3 harg3 arg4 harg4 arg5 harg5 arg6 harg6 arg7 harg7 arg8 harg8 arg9 harg9 arg11 harg11 arg12 arg13 x0 x1 x2 x3 x4 x5 x6 x7 (fun _ => (0 : EReal)) l q)
  | 1, 1 => exact (out_pick _ 1 1 _ ((View.readCov_skip _ _ _ _ _ (by decide)).trans ((View.readCov_skip _ _ _ _ _ (by decide)).trans ((View.readCov_skip _ _ _ _ _ (by decide)).trans ((View.readCov_skip _ _ _ _ _ (by decide)).trans (View.readCov_cons_toLoadRect _ _ _ _))))) l q).trans (oAtA3 c arg2 harg2 arg3 harg3 arg4 harg4 arg5 harg5 arg6 harg6 arg7 harg7 arg8 harg8 arg9 harg9 arg11 harg11 arg12 arg13 x0 x1 x2 x3 x4 x5 x6 x7 (fun _ => (0 : EReal)) l q)
  | 2, 0 => exact (out_pick _ 2 0 _ ((View.readCov_skip _ _ _ _ _ (by decide)).trans ((View.readCov_skip _ _ _ _ _ (by decide)).trans ((View.readCov_skip _ _ _ _ _ (by decide)).trans (View.readCov_cons_toLoadRect _ _ _ _)))) l q).trans (oAtA4 c arg2 harg2 arg3 harg3 arg4 harg4 arg5 harg5 arg6 harg6 arg7 harg7 arg8 harg8 arg9 harg9 arg11 harg11 arg12 arg13 x0 x1 x2 x3 x4 x5 x6 x7 (fun _ => (0 : EReal)) l q)
  | 2, 1 => exact (out_pick _ 2 1 _ ((View.readCov_skip _ _ _ _ _ (by decide)).trans ((View.readCov_skip _ _ _ _ _ (by decide)).trans (View.readCov_cons_toLoadRect _ _ _ _))) l q).trans (oAtA5 c arg2 harg2 arg3 harg3 arg4 harg4 arg5 harg5 arg6 harg6 arg7 harg7 arg8 harg8 arg9 harg9 arg11 harg11 arg12 arg13 x0 x1 x2 x3 x4 x5 x6 x7 (fun _ => (0 : EReal)) l q)
  | 3, 0 => exact (out_pick _ 3 0 _ ((View.readCov_skip _ _ _ _ _ (by decide)).trans (View.readCov_cons_toLoadRect _ _ _ _)) l q).trans (oAtA6 c arg2 harg2 arg3 harg3 arg4 harg4 arg5 harg5 arg6 harg6 arg7 harg7 arg8 harg8 arg9 harg9 arg11 harg11 arg12 arg13 x0 x1 x2 x3 x4 x5 x6 x7 (fun _ => (0 : EReal)) l q)
  | 3, 1 => exact (out_pick _ 3 1 _ (View.readCov_cons_toLoadRect _ _ _ _) l q).trans (oAtA7 c arg2 harg2 arg3 harg3 arg4 harg4 arg5 harg5 arg6 harg6 arg7 harg7 arg8 harg8 arg9 harg9 arg11 harg11 arg12 arg13 x0 x1 x2 x3 x4 x5 x6 x7 (fun _ => (0 : EReal)) l q)

theorem statePiecesA (c : Dev nD) (i : grid0.Coords) (arg2 : Memref sig .tc .vmem S1x1024x1024 .f32) (harg2 : arg2.IsWhole) (arg3 : Memref sig .tc .vmem S1x1024x512 .bf16) (harg3 : arg3.IsWhole) (arg4 : Memref sig .tc .vmem S1x1024x256 .f32) (harg4 : arg4.IsWhole) (arg5 : Memref sig .tc .vmem S1x1024x1024 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .bf16) (harg10 : arg10.IsWhole) (arg11 : Memref sig .tc .vmem S2x128x512 .f32) (harg11 : arg11.IsWhole) (arg12 : Memref sig .tc .vmem S4x2x256x512 .bf16) (harg12 : arg12.IsWhole) (arg13 : Memref sig .tc .vmem S4x2x256x512 .f32) (harg13 : arg13.IsWhole) (hc0 : cond0_0 i)
    (x0 : Vec Ideal S1x1024x1024 .f32) (x1 : Vec Ideal S1x1024x512 .bf16) (x2 : Vec Ideal S1x1024x256 .f32) (x3 : Vec Ideal S1x1024x1024 .f32) (x4 : Vec Ideal S1x256 .f32) (x5 : Vec Ideal S1x256 .f32) (x6 : Vec Ideal S1x1024 .f32) (x7 : Vec Ideal S1x1024 .f32) :
    (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.1 = ⟨srect 1, (k0_pay1 (F := Ideal) (kernelRun0_A.sl.r_94 (F := Ideal) c arg2 harg2 arg3 harg3 arg4 harg4 arg6 harg6 arg7 harg7 arg11 arg12 x0 x1 x2 x4 x5))⟩ :: ⟨srect 0, (kernelRun0_A.sl.v2515 (F := Ideal) c arg2 harg2 arg3 harg3 arg4 harg4 arg6 harg6 arg7 harg7 arg11 arg12 x0 x1 x2 x4 x5)⟩ :: (kernelRun0_A.sl.HS0_7 (F := Ideal) c arg2 harg2 arg3 harg3 arg4 harg4 arg6 harg6 arg7 harg7 arg11 arg12 x0 x1 x2 x4 x5) := by
  sl_kernel_rfl

theorem stateA (c : Dev nD) (i : grid0.Coords) (arg2 : Memref sig .tc .vmem S1x1024x1024 .f32) (harg2 : arg2.IsWhole) (arg3 : Memref sig .tc .vmem S1x1024x512 .bf16) (harg3 : arg3.IsWhole) (arg4 : Memref sig .tc .vmem S1x1024x256 .f32) (harg4 : arg4.IsWhole) (arg5 : Memref sig .tc .vmem S1x1024x1024 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .bf16) (harg10 : arg10.IsWhole) (arg11 : Memref sig .tc .vmem S2x128x512 .f32) (harg11 : arg11.IsWhole) (arg12 : Memref sig .tc .vmem S4x2x256x512 .bf16) (harg12 : arg12.IsWhole) (arg13 : Memref sig .tc .vmem S4x2x256x512 .f32) (harg13 : arg13.IsWhole) (hc0 : cond0_0 i)
    (x0 : Vec Ideal S1x1024x1024 .f32) (x1 : Vec Ideal S1x1024x512 .bf16) (x2 : Vec Ideal S1x1024x256 .f32) (x3 : Vec Ideal S1x1024x1024 .f32) (x4 : Vec Ideal S1x256 .f32) (x5 : Vec Ideal S1x256 .f32) (x6 : Vec Ideal S1x1024 .f32) (x7 : Vec Ideal S1x1024 .f32)
    (g : Fin 2) (n : Fin 128) (q : Fin 512) : (sout0_A_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 : S2x128x512.Idx → EReal) (ix3 g n q) = run (kc x0 x1 x2 x3 x4 x5 x6 x7 g) (fun _ _ => (0 : EReal)) 4 n q := by
  unfold sout0_A_0
  rw [View.read_writes_junk_eq_canon, statePiecesA]
  match g with
  | 0 => exact (state_pick _ 0 _ ((View.readCov_skip _ _ _ _ _ (by decide)).trans (View.readCov_cons_toLoadRect _ _ _ _)) n q).trans (tAtA6 c arg2 harg2 arg3 harg3 arg4 harg4 arg5 harg5 arg6 harg6 arg7 harg7 arg8 harg8 arg9 harg9 arg11 harg11 arg12 arg13 x0 x1 x2 x3 x4 x5 x6 x7 (fun _ => (0 : EReal)) n q)
  | 1 => exact (state_pick _ 1 _ (View.readCov_cons_toLoadRect _ _ _ _) n q).trans (tAtA7 c arg2 harg2 arg3 harg3 arg4 harg4 arg5 harg5 arg6 harg6 arg7 harg7 arg8 harg8 arg9 harg9 arg11 harg11 arg12 arg13 x0 x1 x2 x3 x4 x5 x6 x7 (fun _ => (0 : EReal)) n q)

end Cert.SsdKer
end
-- ==== Proof.SsdEqB.lean ====
/- The selective recurrence: the run's values for one chunk, case B. -/
module

public import proofs.«01_k».proof.Proof.SsdLoads

@[expose] public section

set_option maxRecDepth 16384

noncomputable section

open Idealize.ShloMosaic Idealize.ShloMosaic.TcCoe Idealize.SL.Sem

namespace Cert.SsdKer

open Cert.Ssd
open Cert.KernelIdeal Cert.KernelIdeal.Gen

section
variable (c : Dev nD) (arg2 : Memref sig .tc .vmem S1x1024x1024 .f32) (harg2 : arg2.IsWhole) (arg3 : Memref sig .tc .vmem S1x1024x512 .bf16) (harg3 : arg3.IsWhole) (arg4 : Memref sig .tc .vmem S1x1024x256 .f32) (harg4 : arg4.IsWhole) (arg5 : Memref sig .tc .vmem S1x1024x1024 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1024 .f32) (harg8 : arg8.IsWhole) (arg9 : Memref sig .tc .vmem S1x1024 .f32) (harg9 : arg9.IsWhole)
    (arg11 : Memref sig .tc .vmem S2x128x512 .f32) (harg11 : arg11.IsWhole) (arg12 : Memref sig .tc .vmem S4x2x256x512 .bf16) (arg13 : Memref sig .tc .vmem S4x2x256x512 .f32)
    (x0 : Vec Ideal S1x1024x1024 .f32) (x1 : Vec Ideal S1x1024x512 .bf16) (x2 : Vec Ideal S1x1024x256 .f32) (x3 : Vec Ideal S1x1024x1024 .f32) (x4 : Vec Ideal S1x256 .f32) (x5 : Vec Ideal S1x256 .f32) (x6 : Vec Ideal S1x1024 .f32) (x7 : Vec Ideal S1x1024 .f32) (xs0 : Vec Ideal S2x128x512 .f32)

theorem eqXB0 : (LoadRect.valAlong (hhK 0 0) (kernelRun0_B.sl.v343 (F := Ideal) c arg2 harg2 arg4 harg4 arg6 harg6 arg7 harg7 arg12 x0 x2 x4 x5) : S1x256x512.Idx → EReal) =
    LoadRect.valAlong (hhK 0 0) (arg12.view.readCov (Val := Elt Ideal) (⟨xrect 0 0 384 (by omega), xdecW (ldX arg2 harg2 x0 0 0) (ldT arg4 harg4 x2 0 0) (ldH arg6 harg6 x4 0) (ldH arg7 harg7 x5 0) 3⟩ :: ⟨xrect 0 0 256 (by omega), xdecW (ldX arg2 harg2 x0 0 0) (ldT arg4 harg4 x2 0 0) (ldH arg6 harg6 x4 0) (ldH arg7 harg7 x5 0) 2⟩ :: ⟨xrect 0 0 128 (by omega), xdecW (ldX arg2 harg2 x0 0 0) (ldT arg4 harg4 x2 0 0) (ldH arg6 harg6 x4 0) (ldH arg7 harg7 x5 0) 1⟩ :: ⟨xrect 0 0 0 (by omega), xdecW (ldX arg2 harg2 x0 0 0) (ldT arg4 harg4 x2 0 0) (ldH arg6 harg6 x4 0) (ldH arg7 harg7 x5 0) 0⟩ :: []) (gbox 0 0)) := by
  sl_kernel_rfl

theorem eqDB0 : (LoadRect.valAlong (hhK 0 0) (kernelRun0_B.sl.v325 (F := Ideal) c arg2 harg2 arg3 harg3 arg4 harg4 arg6 harg6 arg7 harg7 arg13 x0 x1 x2 x4 x5) : S1x256x512.Idx → EReal) =
    LoadRect.valAlong (hhK 0 0) (arg13.view.readCov (Val := Elt Ideal) (⟨drect 0 0 384 (by omega), dpay 0 0 384 (by omega) (ydF (ldX arg2 harg2 x0 0 0) (ldB arg3 harg3 x1 0 0) (ldC arg3 harg3 x1 0 0) (ldT arg4 harg4 x2 0 0) (ldH arg6 harg6 x4 0) (ldH arg7 harg7 x5 0) 3)⟩ :: ⟨drect 0 0 256 (by omega), dpay 0 0 256 (by omega) (ydF (ldX arg2 harg2 x0 0 0) (ldB arg3 harg3 x1 0 0) (ldC arg3 harg3 x1 0 0) (ldT arg4 harg4 x2 0 0) (ldH arg6 harg6 x4 0) (ldH arg7 harg7 x5 0) 2)⟩ :: ⟨drect 0 0 128 (by omega), dpay 0 0 128 (by omega) (ydF (ldX arg2 harg2 x0 0 0) (ldB arg3 harg3 x1 0 0) (ldC arg3 harg3 x1 0 0) (ldT arg4 harg4 x2 0 0) (ldH arg6 harg6 x4 0) (ldH arg7 harg7 x5 0) 1)⟩ :: ⟨drect 0 0 0 (by omega), dpay 0 0 0 (by omega) (ydF (ldX arg2 harg2 x0 0 0) (ldB arg3 harg3 x1 0 0) (ldC arg3 harg3 x1 0 0) (ldT arg4 harg4 x2 0 0) (ldH arg6 harg6 x4 0) (ldH arg7 harg7 x5 0) 0)⟩ :: []) (gbox 0 0)) := by
  sl_kernel_rfl

theorem eqTB0 : (kernelRun0_B.sl.v349 (F := Ideal) c arg2 harg2 arg3 harg3 arg4 harg4 arg6 harg6 arg7 harg7 arg11 harg11 arg12 x0 x1 x2 x4 x5 xs0) = stF (ldB arg3 harg3 x1 0 0) (ldT arg4 harg4 x2 0 0) (ldH arg6 harg6 x4 0) (ldH arg7 harg7 x5 0) (View.readAt (Elt Ideal) arg11.view (Rect.unit (s := S2x128x512) ![0, 0, 0] S1x128x512.size inb_S2x128x512_S1x128x512_0_0_0).toLoadRect (harg11.unread xs0)) (LoadRect.valAlong (hhK 0 0) (kernelRun0_B.sl.v343 (F := Ideal) c arg2 harg2 arg4 harg4 arg6 harg6 arg7 harg7 arg12 x0 x2 x4 x5)) := by
  sl_kernel_rfl

theorem eqOB0 : (kernelRun0_B.sl.v370 (F := Ideal) c arg2 harg2 arg3 harg3 arg4 harg4 arg5 harg5 arg6 harg6 arg7 harg7 arg8 harg8 arg9 harg9 arg11 harg11 arg13 x0 x1 x2 x3 x4 x5 x6 x7 xs0) = outF (ldX arg2 harg2 x0 0 0) (ldC arg3 harg3 x1 0 0) (ldT arg4 harg4 x2 0 0) (ldH arg6 harg6 x4 0) (ldH arg7 harg7 x5 0) (View.readAt (Elt Ideal) arg11.view (Rect.unit (s := S2x128x512) ![0, 0, 0] S1x128x512.size inb_S2x128x512_S1x128x512_0_0_0).toLoadRect (harg11.unread xs0)) (LoadRect.valAlong (hhK 0 0) (kernelRun0_B.sl.v325 (F := Ideal) c arg2 harg2 arg3 harg3 arg4 harg4 arg6 harg6 arg7 harg7 arg13 x0 x1 x2 x4 x5)) (ldX arg5 harg5 x3 0 0) (ldW arg8 harg8 x6 0) (ldW arg9 harg9 x7 0) := by
  sl_kernel_rfl

theorem eqXB1 : (LoadRect.valAlong (hhK 0 1) (kernelRun0_B.sl.v704 (F := Ideal) c arg2 harg2 arg4 harg4 arg6 harg6 arg7 harg7 arg12 x0 x2 x4 x5) : S1x256x512.Idx → EReal) =
    LoadRect.valAlong (hhK 0 1) (arg12.view.readCov (Val := Elt Ideal) (⟨xrect 0 1 384 (by omega), xdecW (ldX arg2 harg2 x0 0 1) (ldT arg4 harg4 x2 0 1) (ldH arg6 harg6 x4 1) (ldH arg7 harg7 x5 1) 3⟩ :: ⟨xrect 0 1 256 (by omega), xdecW (ldX arg2 harg2 x0 0 1) (ldT arg4 harg4 x2 0 1) (ldH arg6 harg6 x4 1) (ldH arg7 harg7 x5 1) 2⟩ :: ⟨xrect 0 1 128 (by omega), xdecW (ldX arg2 harg2 x0 0 1) (ldT arg4 harg4 x2 0 1) (ldH arg6 harg6 x4 1) (ldH arg7 harg7 x5 1) 1⟩ :: ⟨xrect 0 1 0 (by omega), xdecW (ldX arg2 harg2 x0 0 1) (ldT arg4 harg4 x2 0 1) (ldH arg6 harg6 x4 1) (ldH arg7 harg7 x5 1) 0⟩ :: (kernelRun0_B.sl.HS1_4 (F := Ideal) c arg2 harg2 arg4 harg4 arg6 harg6 arg7 harg7 x0 x2 x4 x5)) (gbox 0 1)) := by
  sl_kernel_rfl

theorem eqDB1 : (LoadRect.valAlong (hhK 0 1) (kernelRun0_B.sl.v686 (F := Ideal) c arg2 harg2 arg3 harg3 arg4 harg4 arg6 harg6 arg7 harg7 arg13 x0 x1 x2 x4 x5) : S1x256x512.Idx → EReal) =
    LoadRect.valAlong (hhK 0 1) (arg13.view.readCov (Val := Elt Ideal) (⟨drect 0 1 384 (by omega), dpay 0 1 384 (by omega) (ydF (ldX arg2 harg2 x0 0 1) (ldB arg3 harg3 x1 0 1) (ldC arg3 harg3 x1 0 1) (ldT arg4 harg4 x2 0 1) (ldH arg6 harg6 x4 1) (ldH arg7 harg7 x5 1) 3)⟩ :: ⟨drect 0 1 256 (by omega), dpay 0 1 256 (by omega) (ydF (ldX arg2 harg2 x0 0 1) (ldB arg3 harg3 x1 0 1) (ldC arg3 harg3 x1 0 1) (ldT arg4 harg4 x2 0 1) (ldH arg6 harg6 x4 1) (ldH arg7 harg7 x5 1) 2)⟩ :: ⟨drect 0 1 128 (by omega), dpay 0 1 128 (by omega) (ydF (ldX arg2 harg2 x0 0 1) (ldB arg3 harg3 x1 0 1) (ldC arg3 harg3 x1 0 1) (ldT arg4 harg4 x2 0 1) (ldH arg6 harg6 x4 1) (ldH arg7 harg7 x5 1) 1)⟩ :: ⟨drect 0 1 0 (by omega), dpay 0 1 0 (by omega) (ydF (ldX arg2 harg2 x0 0 1) (ldB arg3 harg3 x1 0 1) (ldC arg3 harg3 x1 0 1) (ldT arg4 harg4 x2 0 1) (ldH arg6 harg6 x4 1) (ldH arg7 harg7 x5 1) 0)⟩ :: (kernelRun0_B.sl.HS2_4 (F := Ideal) c arg2 harg2 arg3 harg3 arg4 harg4 arg6 harg6 arg7 harg7 x0 x1 x2 x4 x5)) (gbox 0 1)) := by
  sl_kernel_rfl

theorem eqTB1 : (kernelRun0_B.sl.v710 (F := Ideal) c arg2 harg2 arg3 harg3 arg4 harg4 arg6 harg6 arg7 harg7 arg11 harg11 arg12 x0 x1 x2 x4 x5 xs0) = stF (ldB arg3 harg3 x1 0 1) (ldT arg4 harg4 x2 0 1) (ldH arg6 harg6 x4 1) (ldH arg7 harg7 x5 1) (kernelRun0_B.sl.v682 (F := Ideal) c arg11 harg11 xs0) (LoadRect.valAlong (hhK 0 1) (kernelRun0_B.sl.v704 (F := Ideal) c arg2 harg2 arg4 harg4 arg6 harg6 arg7 harg7 arg12 x0 x2 x4 x5)) := by
  sl_kernel_rfl

theorem eqOB1 : (k0_pay125 (F := Ideal) (kernelRun0_B.sl.v728 (F := Ideal) c arg2 harg2 arg3 harg3 arg4 harg4 arg5 harg5 arg6 harg6 arg7 harg7 arg8 harg8 arg9 harg9 arg11 harg11 arg13 x0 x1 x2 x3 x4 x5 x6 x7 xs0)) = outF (ldX arg2 harg2 x0 0 1) (ldC arg3 harg3 x1 0 1) (ldT arg4 harg4 x2 0 1) (ldH arg6 harg6 x4 1) (ldH arg7 harg7 x5 1) (kernelRun0_B.sl.v682 (F := Ideal) c arg11 harg11 xs0) (LoadRect.valAlong (hhK 0 1) (kernelRun0_B.sl.v686 (F := Ideal) c arg2 harg2 arg3 harg3 arg4 harg4 arg6 harg6 arg7 harg7 arg13 x0 x1 x2 x4 x5)) (ldX arg5 harg5 x3 0 1) (ldW arg8 harg8 x6 1) (ldW arg9 harg9 x7 1) := by
  sl_kernel_rfl

theorem eqXB2 : (LoadRect.valAlong (hhK 1 0) (kernelRun0_B.sl.v1065 (F := Ideal) c arg2 harg2 arg4 harg4 arg6 harg6 arg7 harg7 arg12 x0 x2 x4 x5) : S1x256x512.Idx → EReal) =
    LoadRect.valAlong (hhK 1 0) (arg12.view.readCov (Val := Elt Ideal) (⟨xrect 1 0 384 (by omega), xdecW (ldX arg2 harg2 x0 1 0) (ldT arg4 harg4 x2 1 0) (ldH arg6 harg6 x4 0) (ldH arg7 harg7 x5 0) 3⟩ :: ⟨xrect 1 0 256 (by omega), xdecW (ldX arg2 harg2 x0 1 0) (ldT arg4 harg4 x2 1 0) (ldH arg6 harg6 x4 0) (ldH arg7 harg7 x5 0) 2⟩ :: ⟨xrect 1 0 128 (by omega), xdecW (ldX arg2 harg2 x0 1 0) (ldT arg4 harg4 x2 1 0) (ldH arg6 harg6 x4 0) (ldH arg7 harg7 x5 0) 1⟩ :: ⟨xrect 1 0 0 (by omega), xdecW (ldX arg2 harg2 x0 1 0) (ldT arg4 harg4 x2 1 0) (ldH arg6 harg6 x4 0) (ldH arg7 harg7 x5 0) 0⟩ :: (kernelRun0_B.sl.HS1_8 (F := Ideal) c arg2 harg2 arg4 harg4 arg6 harg6 arg7 harg7 x0 x2 x4 x5)) (gbox 1 0)) := by
  sl_kernel_rfl

theorem eqDB2 : (LoadRect.valAlong (hhK 1 0) (kernelRun0_B.sl.v1047 (F := Ideal) c arg2 harg2 arg3 harg3 arg4 harg4 arg6 harg6 arg7 harg7 arg13 x0 x1 x2 x4 x5) : S1x256x512.Idx → EReal) =
    LoadRect.valAlong (hhK 1 0) (arg13.view.readCov (Val := Elt Ideal) (⟨drect 1 0 384 (by omega), dpay 1 0 384 (by omega) (ydF (ldX arg2 harg2 x0 1 0) (ldB arg3 harg3 x1 1 0) (ldC arg3 harg3 x1 1 0) (ldT arg4 harg4 x2 1 0) (ldH arg6 harg6 x4 0) (ldH arg7 harg7 x5 0) 3)⟩ :: ⟨drect 1 0 256 (by omega), dpay 1 0 256 (by omega) (ydF (ldX arg2 harg2 x0 1 0) (ldB arg3 harg3 x1 1 0) (ldC arg3 harg3 x1 1 0) (ldT arg4 harg4 x2 1 0) (ldH arg6 harg6 x4 0) (ldH arg7 harg7 x5 0) 2)⟩ :: ⟨drect 1 0 128 (by omega), dpay 1 0 128 (by omega) (ydF (ldX arg2 harg2 x0 1 0) (ldB arg3 harg3 x1 1 0) (ldC arg3 harg3 x1 1 0) (ldT arg4 harg4 x2 1 0) (ldH arg6 harg6 x4 0) (ldH arg7 harg7 x5 0) 1)⟩ :: ⟨drect 1 0 0 (by omega), dpay 1 0 0 (by omega) (ydF (ldX arg2 harg2 x0 1 0) (ldB arg3 harg3 x1 1 0) (ldC arg3 harg3 x1 1 0) (ldT arg4 harg4 x2 1 0) (ldH arg6 harg6 x4 0) (ldH arg7 harg7 x5 0) 0)⟩ :: (kernelRun0_B.sl.HS2_8 (F := Ideal) c arg2 harg2 arg3 harg3 arg4 harg4 arg6 harg6 arg7 harg7 x0 x1 x2 x4 x5)) (gbox 1 0)) := by
  sl_kernel_rfl

theorem eqTB2 : (kernelRun0_B.sl.v1071 (F := Ideal) c arg2 harg2 arg3 harg3 arg4 harg4 arg6 harg6 arg7 harg7 arg11 harg11 arg12 x0 x1 x2 x4 x5 xs0) = stF (ldB arg3 harg3 x1 1 0) (ldT arg4 harg4 x2 1 0) (ldH arg6 harg6 x4 0) (ldH arg7 harg7 x5 0) (kernelRun0_B.sl.v1043 (F := Ideal) c arg2 harg2 arg3 harg3 arg4 harg4 arg6 harg6 arg7 harg7 arg11 harg11 arg12 x0 x1 x2 x4 x5 xs0) (LoadRect.valAlong (hhK 1 0) (kernelRun0_B.sl.v1065 (F := Ideal) c arg2 harg2 arg4 harg4 arg6 harg6 arg7 harg7 arg12 x0 x2 x4 x5)) := by
  sl_kernel_rfl

theorem eqOB2 : (kernelRun0_B.sl.v1092 (F := Ideal) c arg2 harg2 arg3 harg3 arg4 harg4 arg5 harg5 arg6 harg6 arg7 harg7 arg8 harg8 arg9 harg9 arg11 harg11 arg12 arg13 x0 x1 x2 x3 x4 x5 x6 x7 xs0) = outF (ldX arg2 harg2 x0 1 0) (ldC arg3 harg3 x1 1 0) (ldT arg4 harg4 x2 1 0) (ldH arg6 harg6 x4 0) (ldH arg7 harg7 x5 0) (kernelRun0_B.sl.v1043 (F := Ideal) c arg2 harg2 arg3 harg3 arg4 harg4 arg6 harg6 arg7 harg7 arg11 harg11 arg12 x0 x1 x2 x4 x5 xs0) (LoadRect.valAlong (hhK 1 0) (kernelRun0_B.sl.v1047 (F := Ideal) c arg2 harg2 arg3 harg3 arg4 harg4 arg6 harg6 arg7 harg7 arg13 x0 x1 x2 x4 x5)) (ldX arg5 harg5 x3 1 0) (ldW arg8 harg8 x6 0) (ldW arg9 harg9 x7 0) := by
  sl_kernel_rfl

theorem eqXB3 : (LoadRect.valAlong (hhK 1 1) (kernelRun0_B.sl.v1426 (F := Ideal) c arg2 harg2 arg4 harg4 arg6 harg6 arg7 harg7 arg12 x0 x2 x4 x5) : S1x256x512.Idx → EReal) =
    LoadRect.valAlong (hhK 1 1) (arg12.view.readCov (Val := Elt Ideal) (⟨xrect 1 1 384 (by omega), xdecW (ldX arg2 harg2 x0 1 1) (ldT arg4 harg4 x2 1 1) (ldH arg6 harg6 x4 1) (ldH arg7 harg7 x5 1) 3⟩ :: ⟨xrect 1 1 256 (by omega), xdecW (ldX arg2 harg2 x0 1 1) (ldT arg4 harg4 x2 1 1) (ldH arg6 harg6 x4 1) (ldH arg7 harg7 x5 1) 2⟩ :: ⟨xrect 1 1 128 (by omega), xdecW (ldX arg2 harg2 x0 1 1) (ldT arg4 harg4 x2 1 1) (ldH arg6 harg6 x4 1) (ldH arg7 harg7 x5 1) 1⟩ :: ⟨xrect 1 1 0 (by omega), xdecW (ldX arg2 harg2 x0 1 1) (ldT arg4 harg4 x2 1 1) (ldH arg6 harg6 x4 1) (ldH arg7 harg7 x5 1) 0⟩ :: (kernelRun0_B.sl.HS1_12 (F := Ideal) c arg2 harg2 arg4 harg4 arg6 harg6 arg7 harg7 x0 x2 x4 x5)) (gbox 1 1)) := by
  sl_kernel_rfl

theorem eqDB3 : (LoadRect.valAlong (hhK 1 1) (kernelRun0_B.sl.v1408 (F := Ideal) c arg2 harg2 arg3 harg3 arg4 harg4 arg6 harg6 arg7 harg7 arg13 x0 x1 x2 x4 x5) : S1x256x512.Idx → EReal) =
    LoadRect.valAlong (hhK 1 1) (arg13.view.readCov (Val := Elt Ideal) (⟨drect 1 1 384 (by omega), dpay 1 1 384 (by omega) (ydF (ldX arg2 harg2 x0 1 1) (ldB arg3 harg3 x1 1 1) (ldC arg3 harg3 x1 1 1) (ldT arg4 harg4 x2 1 1) (ldH arg6 harg6 x4 1) (ldH arg7 harg7 x5 1) 3)⟩ :: ⟨drect 1 1 256 (by omega), dpay 1 1 256 (by omega) (ydF (ldX arg2 harg2 x0 1 1) (ldB arg3 harg3 x1 1 1) (ldC arg3 harg3 x1 1 1) (ldT arg4 harg4 x2 1 1) (ldH arg6 harg6 x4 1) (ldH arg7 harg7 x5 1) 2)⟩ :: ⟨drect 1 1 128 (by omega), dpay 1 1 128 (by omega) (ydF (ldX arg2 harg2 x0 1 1) (ldB arg3 harg3 x1 1 1) (ldC arg3 harg3 x1 1 1) (ldT arg4 harg4 x2 1 1) (ldH arg6 harg6 x4 1) (ldH arg7 harg7 x5 1) 1)⟩ :: ⟨drect 1 1 0 (by omega), dpay 1 1 0 (by omega) (ydF (ldX arg2 harg2 x0 1 1) (ldB arg3 harg3 x1 1 1) (ldC arg3 harg3 x1 1 1) (ldT arg4 harg4 x2 1 1) (ldH arg6 harg6 x4 1) (ldH arg7 harg7 x5 1) 0)⟩ :: (kernelRun0_B.sl.HS2_12 (F := Ideal) c arg2 harg2 arg3 harg3 arg4 harg4 arg6 harg6 arg7 harg7 x0 x1 x2 x4 x5)) (gbox 1 1)) := by
  sl_kernel_rfl

theorem eqTB3 : (kernelRun0_B.sl.v1432 (F := Ideal) c arg2 harg2 arg3 harg3 arg4 harg4 arg6 harg6 arg7 harg7 arg11 harg11 arg12 x0 x1 x2 x4 x5 xs0) = stF (ldB arg3 harg3 x1 1 1) (ldT arg4 harg4 x2 1 1) (ldH arg6 harg6 x4 1) (ldH arg7 harg7 x5 1) (kernelRun0_B.sl.v1404 (F := Ideal) c arg2 harg2 arg3 harg3 arg4 harg4 arg6 harg6 arg7 harg7 arg11 harg11 arg12 x0 x1 x2 x4 x5 xs0) (LoadRect.valAlong (hhK 1 1) (kernelRun0_B.sl.v1426 (F := Ideal) c arg2 harg2 arg4 harg4 arg6 harg6 arg7 harg7 arg12 x0 x2 x4 x5)) := by
  sl_kernel_rfl

theorem eqOB3 : (kernelRun0_B.sl.v1453 (F := Ideal) c arg2 harg2 arg3 harg3 arg4 harg4 arg5 harg5 arg6 harg6 arg7 harg7 arg8 harg8 arg9 harg9 arg11 harg11 arg12 arg13 x0 x1 x2 x3 x4 x5 x6 x7 xs0) = outF (ldX arg2 harg2 x0 1 1) (ldC arg3 harg3 x1 1 1) (ldT arg4 harg4 x2 1 1) (ldH arg6 harg6 x4 1) (ldH arg7 harg7 x5 1) (kernelRun0_B.sl.v1404 (F := Ideal) c arg2 harg2 arg3 harg3 arg4 harg4 arg6 harg6 arg7 harg7 arg11 harg11 arg12 x0 x1 x2 x4 x5 xs0) (LoadRect.valAlong (hhK 1 1) (kernelRun0_B.sl.v1408 (F := Ideal) c arg2 harg2 arg3 harg3 arg4 harg4 arg6 harg6 arg7 harg7 arg13 x0 x1 x2 x4 x5)) (ldX arg5 harg5 x3 1 1) (ldW arg8 harg8 x6 1) (ldW arg9 harg9 x7 1) := by
  sl_kernel_rfl

theorem eqXB4 : (LoadRect.valAlong (hhK 2 0) (kernelRun0_B.sl.v1787 (F := Ideal) c arg2 harg2 arg4 harg4 arg6 harg6 arg7 harg7 arg12 x0 x2 x4 x5) : S1x256x512.Idx → EReal) =
    LoadRect.valAlong (hhK 2 0) (arg12.view.readCov (Val := Elt Ideal) (⟨xrect 2 0 384 (by omega), xdecW (ldX arg2 harg2 x0 2 0) (ldT arg4 harg4 x2 2 0) (ldH arg6 harg6 x4 0) (ldH arg7 harg7 x5 0) 3⟩ :: ⟨xrect 2 0 256 (by omega), xdecW (ldX arg2 harg2 x0 2 0) (ldT arg4 harg4 x2 2 0) (ldH arg6 harg6 x4 0) (ldH arg7 harg7 x5 0) 2⟩ :: ⟨xrect 2 0 128 (by omega), xdecW (ldX arg2 harg2 x0 2 0) (ldT arg4 harg4 x2 2 0) (ldH arg6 harg6 x4 0) (ldH arg7 harg7 x5 0) 1⟩ :: ⟨xrect 2 0 0 (by omega), xdecW (ldX arg2 harg2 x0 2 0) (ldT arg4 harg4 x2 2 0) (ldH arg6 harg6 x4 0) (ldH arg7 harg7 x5 0) 0⟩ :: (kernelRun0_B.sl.HS1_16 (F := Ideal) c arg2 harg2 arg4 harg4 arg6 harg6 arg7 harg7 x0 x2 x4 x5)) (gbox 2 0)) := by
  sl_kernel_rfl

theorem eqDB4 : (LoadRect.valAlong (hhK 2 0) (kernelRun0_B.sl.v1769 (F := Ideal) c arg2 harg2 arg3 harg3 arg4 harg4 arg6 harg6 arg7 harg7 arg13 x0 x1 x2 x4 x5) : S1x256x512.Idx → EReal) =
    LoadRect.valAlong (hhK 2 0) (arg13.view.readCov (Val := Elt Ideal) (⟨drect 2 0 384 (by omega), dpay 2 0 384 (by omega) (ydF (ldX arg2 harg2 x0 2 0) (ldB arg3 harg3 x1 2 0) (ldC arg3 harg3 x1 2 0) (ldT arg4 harg4 x2 2 0) (ldH arg6 harg6 x4 0) (ldH arg7 harg7 x5 0) 3)⟩ :: ⟨drect 2 0 256 (by omega), dpay 2 0 256 (by omega) (ydF (ldX arg2 harg2 x0 2 0) (ldB arg3 harg3 x1 2 0) (ldC arg3 harg3 x1 2 0) (ldT arg4 harg4 x2 2 0) (ldH arg6 harg6 x4 0) (ldH arg7 harg7 x5 0) 2)⟩ :: ⟨drect 2 0 128 (by omega), dpay 2 0 128 (by omega) (ydF (ldX arg2 harg2 x0 2 0) (ldB arg3 harg3 x1 2 0) (ldC arg3 harg3 x1 2 0) (ldT arg4 harg4 x2 2 0) (ldH arg6 harg6 x4 0) (ldH arg7 harg7 x5 0) 1)⟩ :: ⟨drect 2 0 0 (by omega), dpay 2 0 0 (by omega) (ydF (ldX arg2 harg2 x0 2 0) (ldB arg3 harg3 x1 2 0) (ldC arg3 harg3 x1 2 0) (ldT arg4 harg4 x2 2 0) (ldH arg6 harg6 x4 0) (ldH arg7 harg7 x5 0) 0)⟩ :: (kernelRun0_B.sl.HS2_16 (F := Ideal) c arg2 harg2 arg3 harg3 arg4 harg4 arg6 harg6 arg7 harg7 x0 x1 x2 x4 x5)) (gbox 2 0)) := by
  sl_kernel_rfl

theorem eqTB4 : (kernelRun0_B.sl.v1793 (F := Ideal) c arg2 harg2 arg3 harg3 arg4 harg4 arg6 harg6 arg7 harg7 arg11 harg11 arg12 x0 x1 x2 x4 x5 xs0) = stF (ldB arg3 harg3 x1 2 0) (ldT arg4 harg4 x2 2 0) (ldH arg6 harg6 x4 0) (ldH arg7 harg7 x5 0) (kernelRun0_B.sl.v1765 (F := Ideal) c arg2 harg2 arg3 harg3 arg4 harg4 arg6 harg6 arg7 harg7 arg11 harg11 arg12 x0 x1 x2 x4 x5 xs0) (LoadRect.valAlong (hhK 2 0) (kernelRun0_B.sl.v1787 (F := Ideal) c arg2 harg2 arg4 harg4 arg6 harg6 arg7 harg7 arg12 x0 x2 x4 x5)) := by
  sl_kernel_rfl

theorem eqOB4 : (kernelRun0_B.sl.v1814 (F := Ideal) c arg2 harg2 arg3 harg3 arg4 harg4 arg5 harg5 arg6 harg6 arg7 harg7 arg8 harg8 arg9 harg9 arg11 harg11 arg12 arg13 x0 x1 x2 x3 x4 x5 x6 x7 xs0) = outF (ldX arg2 harg2 x0 2 0) (ldC arg3 harg3 x1 2 0) (ldT arg4 harg4 x2 2 0) (ldH arg6 harg6 x4 0) (ldH arg7 harg7 x5 0) (kernelRun0_B.sl.v1765 (F := Ideal) c arg2 harg2 arg3 harg3 arg4 harg4 arg6 harg6 arg7 harg7 arg11 harg11 arg12 x0 x1 x2 x4 x5 xs0) (LoadRect.valAlong (hhK 2 0) (kernelRun0_B.sl.v1769 (F := Ideal) c arg2 harg2 arg3 harg3 arg4 harg4 arg6 harg6 arg7 harg7 arg13 x0 x1 x2 x4 x5)) (ldX arg5 harg5 x3 2 0) (ldW arg8 harg8 x6 0) (ldW arg9 harg9 x7 0) := by
  sl_kernel_rfl

theorem eqXB5 : (LoadRect.valAlong (hhK 2 1) (kernelRun0_B.sl.v2148 (F := Ideal) c arg2 harg2 arg4 harg4 arg6 harg6 arg7 harg7 arg12 x0 x2 x4 x5) : S1x256x512.Idx → EReal) =
    LoadRect.valAlong (hhK 2 1) (arg12.view.readCov (Val := Elt Ideal) (⟨xrect 2 1 384 (by omega), xdecW (ldX arg2 harg2 x0 2 1) (ldT arg4 harg4 x2 2 1) (ldH arg6 harg6 x4 1) (ldH arg7 harg7 x5 1) 3⟩ :: ⟨xrect 2 1 256 (by omega), xdecW (ldX arg2 harg2 x0 2 1) (ldT arg4 harg4 x2 2 1) (ldH arg6 harg6 x4 1) (ldH arg7 harg7 x5 1) 2⟩ :: ⟨xrect 2 1 128 (by omega), xdecW (ldX arg2 harg2 x0 2 1) (ldT arg4 harg4 x2 2 1) (ldH arg6 harg6 x4 1) (ldH arg7 harg7 x5 1) 1⟩ :: ⟨xrect 2 1 0 (by omega), xdecW (ldX arg2 harg2 x0 2 1) (ldT arg4 harg4 x2 2 1) (ldH arg6 harg6 x4 1) (ldH arg7 harg7 x5 1) 0⟩ :: (kernelRun0_B.sl.HS1_20 (F := Ideal) c arg2 harg2 arg4 harg4 arg6 harg6 arg7 harg7 x0 x2 x4 x5)) (gbox 2 1)) := by
  sl_kernel_rfl

theorem eqDB5 : (LoadRect.valAlong (hhK 2 1) (kernelRun0_B.sl.v2130 (F := Ideal) c arg2 harg2 arg3 harg3 arg4 harg4 arg6 harg6 arg7 harg7 arg13 x0 x1 x2 x4 x5) : S1x256x512.Idx → EReal) =
    LoadRect.valAlong (hhK 2 1) (arg13.view.readCov (Val := Elt Ideal) (⟨drect 2 1 384 (by omega), dpay 2 1 384 (by omega) (ydF (ldX arg2 harg2 x0 2 1) (ldB arg3 harg3 x1 2 1) (ldC arg3 harg3 x1 2 1) (ldT arg4 harg4 x2 2 1) (ldH arg6 harg6 x4 1) (ldH arg7 harg7 x5 1) 3)⟩ :: ⟨drect 2 1 256 (by omega), dpay 2 1 256 (by omega) (ydF (ldX arg2 harg2 x0 2 1) (ldB arg3 harg3 x1 2 1) (ldC arg3 harg3 x1 2 1) (ldT arg4 harg4 x2 2 1) (ldH arg6 harg6 x4 1) (ldH arg7 harg7 x5 1) 2)⟩ :: ⟨drect 2 1 128 (by omega), dpay 2 1 128 (by omega) (ydF (ldX arg2 harg2 x0 2 1) (ldB arg3 harg3 x1 2 1) (ldC arg3 harg3 x1 2 1) (ldT arg4 harg4 x2 2 1) (ldH arg6 harg6 x4 1) (ldH arg7 harg7 x5 1) 1)⟩ :: ⟨drect 2 1 0 (by omega), dpay 2 1 0 (by omega) (ydF (ldX arg2 harg2 x0 2 1) (ldB arg3 harg3 x1 2 1) (ldC arg3 harg3 x1 2 1) (ldT arg4 harg4 x2 2 1) (ldH arg6 harg6 x4 1) (ldH arg7 harg7 x5 1) 0)⟩ :: (kernelRun0_B.sl.HS2_20 (F := Ideal) c arg2 harg2 arg3 harg3 arg4 harg4 arg6 harg6 arg7 harg7 x0 x1 x2 x4 x5)) (gbox 2 1)) := by
  sl_kernel_rfl

theorem eqTB5 : (kernelRun0_B.sl.v2154 (F := Ideal) c arg2 harg2 arg3 harg3 arg4 harg4 arg6 harg6 arg7 harg7 arg11 harg11 arg12 x0 x1 x2 x4 x5 xs0) = stF (ldB arg3 harg3 x1 2 1) (ldT arg4 harg4 x2 2 1) (ldH arg6 harg6 x4 1) (ldH arg7 harg7 x5 1) (kernelRun0_B.sl.v2126 (F := Ideal) c arg2 harg2 arg3 harg3 arg4 harg4 arg6 harg6 arg7 harg7 arg11 harg11 arg12 x0 x1 x2 x4 x5 xs0) (LoadRect.valAlong (hhK 2 1) (kernelRun0_B.sl.v2148 (F := Ideal) c arg2 harg2 arg4 harg4 arg6 harg6 arg7 harg7 arg12 x0 x2 x4 x5)) := by
  sl_kernel_rfl

theorem eqOB5 : (kernelRun0_B.sl.v2175 (F := Ideal) c arg2 harg2 arg3 harg3 arg4 harg4 arg5 harg5 arg6 harg6 arg7 harg7 arg8 harg8 arg9 harg9 arg11 harg11 arg12 arg13 x0 x1 x2 x3 x4 x5 x6 x7 xs0) = outF (ldX arg2 harg2 x0 2 1) (ldC arg3 harg3 x1 2 1) (ldT arg4 harg4 x2 2 1) (ldH arg6 harg6 x4 1) (ldH arg7 harg7 x5 1) (kernelRun0_B.sl.v2126 (F := Ideal) c arg2 harg2 arg3 harg3 arg4 harg4 arg6 harg6 arg7 harg7 arg11 harg11 arg12 x0 x1 x2 x4 x5 xs0) (LoadRect.valAlong (hhK 2 1) (kernelRun0_B.sl.v2130 (F := Ideal) c arg2 harg2 arg3 harg3 arg4 harg4 arg6 harg6 arg7 harg7 arg13 x0 x1 x2 x4 x5)) (ldX arg5 harg5 x3 2 1) (ldW arg8 harg8 x6 1) (ldW arg9 harg9 x7 1) := by
  sl_kernel_rfl

theorem eqXB6 : (LoadRect.valAlong (hhK 3 0) (kernelRun0_B.sl.v2509 (F := Ideal) c arg2 harg2 arg4 harg4 arg6 harg6 arg7 harg7 arg12 x0 x2 x4 x5) : S1x256x512.Idx → EReal) =
    LoadRect.valAlong (hhK 3 0) (arg12.view.readCov (Val := Elt Ideal) (⟨xrect 3 0 384 (by omega), xdecW (ldX arg2 harg2 x0 3 0) (ldT arg4 harg4 x2 3 0) (ldH arg6 harg6 x4 0) (ldH arg7 harg7 x5 0) 3⟩ :: ⟨xrect 3 0 256 (by omega), xdecW (ldX arg2 harg2 x0 3 0) (ldT arg4 harg4 x2 3 0) (ldH arg6 harg6 x4 0) (ldH arg7 harg7 x5 0) 2⟩ :: ⟨xrect 3 0 128 (by omega), xdecW (ldX arg2 harg2 x0 3 0) (ldT arg4 harg4 x2 3 0) (ldH arg6 harg6 x4 0) (ldH arg7 harg7 x5 0) 1⟩ :: ⟨xrect 3 0 0 (by omega), xdecW (ldX arg2 harg2 x0 3 0) (ldT arg4 harg4 x2 3 0) (ldH arg6 harg6 x4 0) (ldH arg7 harg7 x5 0) 0⟩ :: (kernelRun0_B.sl.HS1_24 (F := Ideal) c arg2 harg2 arg4 harg4 arg6 harg6 arg7 harg7 x0 x2 x4 x5)) (gbox 3 0)) := by
  sl_kernel_rfl

theorem eqDB6 : (LoadRect.valAlong (hhK 3 0) (kernelRun0_B.sl.v2491 (F := Ideal) c arg2 harg2 arg3 harg3 arg4 harg4 arg6 harg6 arg7 harg7 arg13 x0 x1 x2 x4 x5) : S1x256x512.Idx → EReal) =
    LoadRect.valAlong (hhK 3 0) (arg13.view.readCov (Val := Elt Ideal) (⟨drect 3 0 384 (by omega), dpay 3 0 384 (by omega) (ydF (ldX arg2 harg2 x0 3 0) (ldB arg3 harg3 x1 3 0) (ldC arg3 harg3 x1 3 0) (ldT arg4 harg4 x2 3 0) (ldH arg6 harg6 x4 0) (ldH arg7 harg7 x5 0) 3)⟩ :: ⟨drect 3 0 256 (by omega), dpay 3 0 256 (by omega) (ydF (ldX arg2 harg2 x0 3 0) (ldB arg3 harg3 x1 3 0) (ldC arg3 harg3 x1 3 0) (ldT arg4 harg4 x2 3 0) (ldH arg6 harg6 x4 0) (ldH arg7 harg7 x5 0) 2)⟩ :: ⟨drect 3 0 128 (by omega), dpay 3 0 128 (by omega) (ydF (ldX arg2 harg2 x0 3 0) (ldB arg3 harg3 x1 3 0) (ldC arg3 harg3 x1 3 0) (ldT arg4 harg4 x2 3 0) (ldH arg6 harg6 x4 0) (ldH arg7 harg7 x5 0) 1)⟩ :: ⟨drect 3 0 0 (by omega), dpay 3 0 0 (by omega) (ydF (ldX arg2 harg2 x0 3 0) (ldB arg3 harg3 x1 3 0) (ldC arg3 harg3 x1 3 0) (ldT arg4 harg4 x2 3 0) (ldH arg6 harg6 x4 0) (ldH arg7 harg7 x5 0) 0)⟩ :: (kernelRun0_B.sl.HS2_24 (F := Ideal) c arg2 harg2 arg3 harg3 arg4 harg4 arg6 harg6 arg7 harg7 x0 x1 x2 x4 x5)) (gbox 3 0)) := by
  sl_kernel_rfl

theorem eqTB6 : (kernelRun0_B.sl.v2515 (F := Ideal) c arg2 harg2 arg3 harg3 arg4 harg4 arg6 harg6 arg7 harg7 arg11 harg11 arg12 x0 x1 x2 x4 x5 xs0) = stF (ldB arg3 harg3 x1 3 0) (ldT arg4 harg4 x2 3 0) (ldH arg6 harg6 x4 0) (ldH arg7 harg7 x5 0) (kernelRun0_B.sl.v2487 (F := Ideal) c arg2 harg2 arg3 harg3 arg4 harg4 arg6 harg6 arg7 harg7 arg11 harg11 arg12 x0 x1 x2 x4 x5 xs0) (LoadRect.valAlong (hhK 3 0) (kernelRun0_B.sl.v2509 (F := Ideal) c arg2 harg2 arg4 harg4 arg6 harg6 arg7 harg7 arg12 x0 x2 x4 x5)) := by
  sl_kernel_rfl

theorem eqOB6 : (k0_pay395 (F := Ideal) (kernelRun0_B.sl.v2528 (F := Ideal) c arg2 harg2 arg3 harg3 arg4 harg4 arg5 harg5 arg6 harg6 arg7 harg7 arg8 harg8 arg11 harg11 arg12 arg13 x0 x1 x2 x3 x4 x5 x6 xs0) (ldW arg9 harg9 x7 0)) = outF (ldX arg2 harg2 x0 3 0) (ldC arg3 harg3 x1 3 0) (ldT arg4 harg4 x2 3 0) (ldH arg6 harg6 x4 0) (ldH arg7 harg7 x5 0) (kernelRun0_B.sl.v2487 (F := Ideal) c arg2 harg2 arg3 harg3 arg4 harg4 arg6 harg6 arg7 harg7 arg11 harg11 arg12 x0 x1 x2 x4 x5 xs0) (LoadRect.valAlong (hhK 3 0) (kernelRun0_B.sl.v2491 (F := Ideal) c arg2 harg2 arg3 harg3 arg4 harg4 arg6 harg6 arg7 harg7 arg13 x0 x1 x2 x4 x5)) (ldX arg5 harg5 x3 3 0) (ldW arg8 harg8 x6 0) (ldW arg9 harg9 x7 0) := by
  sl_kernel_rfl

theorem eqXB7 : (LoadRect.valAlong (hhK 3 1) (kernelRun0_B.sl.v2870 (F := Ideal) c arg2 harg2 arg4 harg4 arg6 harg6 arg7 harg7 arg12 x0 x2 x4 x5) : S1x256x512.Idx → EReal) =
    LoadRect.valAlong (hhK 3 1) (arg12.view.readCov (Val := Elt Ideal) (⟨xrect 3 1 384 (by omega), xdecW (ldX arg2 harg2 x0 3 1) (ldT arg4 harg4 x2 3 1) (ldH arg6 harg6 x4 1) (ldH arg7 harg7 x5 1) 3⟩ :: ⟨xrect 3 1 256 (by omega), xdecW (ldX arg2 harg2 x0 3 1) (ldT arg4 harg4 x2 3 1) (ldH arg6 harg6 x4 1) (ldH arg7 harg7 x5 1) 2⟩ :: ⟨xrect 3 1 128 (by omega), xdecW (ldX arg2 harg2 x0 3 1) (ldT arg4 harg4 x2 3 1) (ldH arg6 harg6 x4 1) (ldH arg7 harg7 x5 1) 1⟩ :: ⟨xrect 3 1 0 (by omega), xdecW (ldX arg2 harg2 x0 3 1) (ldT arg4 harg4 x2 3 1) (ldH arg6 harg6 x4 1) (ldH arg7 harg7 x5 1) 0⟩ :: (kernelRun0_B.sl.HS1_28 (F := Ideal) c arg2 harg2 arg4 harg4 arg6 harg6 arg7 harg7 x0 x2 x4 x5)) (gbox 3 1)) := by
  sl_kernel_rfl

theorem eqDB7 : (LoadRect.valAlong (hhK 3 1) (kernelRun0_B.sl.v2852 (F := Ideal) c arg2 harg2 arg3 harg3 arg4 harg4 arg6 harg6 arg7 harg7 arg13 x0 x1 x2 x4 x5) : S1x256x512.Idx → EReal) =
    LoadRect.valAlong (hhK 3 1) (arg13.view.readCov (Val := Elt Ideal) (⟨drect 3 1 384 (by omega), dpay 3 1 384 (by omega) (ydF (ldX arg2 harg2 x0 3 1) (ldB arg3 harg3 x1 3 1) (ldC arg3 harg3 x1 3 1) (ldT arg4 harg4 x2 3 1) (ldH arg6 harg6 x4 1) (ldH arg7 harg7 x5 1) 3)⟩ :: ⟨drect 3 1 256 (by omega), dpay 3 1 256 (by omega) (ydF (ldX arg2 harg2 x0 3 1) (ldB arg3 harg3 x1 3 1) (ldC arg3 harg3 x1 3 1) (ldT arg4 harg4 x2 3 1) (ldH arg6 harg6 x4 1) (ldH arg7 harg7 x5 1) 2)⟩ :: ⟨drect 3 1 128 (by omega), dpay 3 1 128 (by omega) (ydF (ldX arg2 harg2 x0 3 1) (ldB arg3 harg3 x1 3 1) (ldC arg3 harg3 x1 3 1) (ldT arg4 harg4 x2 3 1) (ldH arg6 harg6 x4 1) (ldH arg7 harg7 x5 1) 1)⟩ :: ⟨drect 3 1 0 (by omega), dpay 3 1 0 (by omega) (ydF (ldX arg2 harg2 x0 3 1) (ldB arg3 harg3 x1 3 1) (ldC arg3 harg3 x1 3 1) (ldT arg4 harg4 x2 3 1) (ldH arg6 harg6 x4 1) (ldH arg7 harg7 x5 1) 0)⟩ :: (kernelRun0_B.sl.HS2_28 (F := Ideal) c arg2 harg2 arg3 harg3 arg4 harg4 arg6 harg6 arg7 harg7 x0 x1 x2 x4 x5)) (gbox 3 1)) := by
  sl_kernel_rfl

theorem eqTB7 : (k0_pay1 (F := Ideal) (kernelRun0_B.sl.r_94 (F := Ideal) c arg2 harg2 arg3 harg3 arg4 harg4 arg6 harg6 arg7 harg7 arg11 harg11 arg12 x0 x1 x2 x4 x5 xs0)) = stF (ldB arg3 harg3 x1 3 1) (ldT arg4 harg4 x2 3 1) (ldH arg6 harg6 x4 1) (ldH arg7 harg7 x5 1) (kernelRun0_B.sl.v2848 (F := Ideal) c arg2 harg2 arg3 harg3 arg4 harg4 arg6 harg6 arg7 harg7 arg11 harg11 arg12 x0 x1 x2 x4 x5 xs0) (LoadRect.valAlong (hhK 3 1) (kernelRun0_B.sl.v2870 (F := Ideal) c arg2 harg2 arg4 harg4 arg6 harg6 arg7 harg7 arg12 x0 x2 x4 x5)) := by
  sl_kernel_rfl

theorem eqOB7 : (k0_pay2 (F := Ideal) (kernelRun0_B.sl.r_93 (F := Ideal) c arg2 harg2 arg3 harg3 arg4 harg4 arg6 harg6 arg7 harg7 arg8 harg8 arg11 harg11 arg12 arg13 x0 x1 x2 x4 x5 x6 xs0) (ldX arg5 harg5 x3 3 1) (ldW arg9 harg9 x7 1)) = outF (ldX arg2 harg2 x0 3 1) (ldC arg3 harg3 x1 3 1) (ldT arg4 harg4 x2 3 1) (ldH arg6 harg6 x4 1) (ldH arg7 harg7 x5 1) (kernelRun0_B.sl.v2848 (F := Ideal) c arg2 harg2 arg3 harg3 arg4 harg4 arg6 harg6 arg7 harg7 arg11 harg11 arg12 x0 x1 x2 x4 x5 xs0) (LoadRect.valAlong (hhK 3 1) (kernelRun0_B.sl.v2852 (F := Ideal) c arg2 harg2 arg3 harg3 arg4 harg4 arg6 harg6 arg7 harg7 arg13 x0 x1 x2 x4 x5)) (ldX arg5 harg5 x3 3 1) (ldW arg8 harg8 x6 1) (ldW arg9 harg9 x7 1) := by
  sl_kernel_rfl

end

end Cert.SsdKer
end
-- ==== Proof.SsdChainB.lean ====
/- The selective recurrence: the run's values as the mathematics of the chunks, case B. -/
module

public import proofs.«01_k».proof.Proof.SsdState
public import proofs.«01_k».proof.Proof.SsdEqB

@[expose] public section

set_option maxRecDepth 16384

noncomputable section

open Idealize.ShloMosaic Idealize.ShloMosaic.TcCoe Idealize.SL.Sem

namespace Cert.SsdKer

open Cert.Ssd
open Cert.KernelIdeal Cert.KernelIdeal.Gen

section
variable (c : Dev nD) (arg2 : Memref sig .tc .vmem S1x1024x1024 .f32) (harg2 : arg2.IsWhole) (arg3 : Memref sig .tc .vmem S1x1024x512 .bf16) (harg3 : arg3.IsWhole) (arg4 : Memref sig .tc .vmem S1x1024x256 .f32) (harg4 : arg4.IsWhole) (arg5 : Memref sig .tc .vmem S1x1024x1024 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1024 .f32) (harg8 : arg8.IsWhole) (arg9 : Memref sig .tc .vmem S1x1024 .f32) (harg9 : arg9.IsWhole)
    (arg11 : Memref sig .tc .vmem S2x128x512 .f32) (harg11 : arg11.IsWhole) (arg12 : Memref sig .tc .vmem S4x2x256x512 .bf16) (arg13 : Memref sig .tc .vmem S4x2x256x512 .f32)
    (x0 : Vec Ideal S1x1024x1024 .f32) (x1 : Vec Ideal S1x1024x512 .bf16) (x2 : Vec Ideal S1x1024x256 .f32) (x3 : Vec Ideal S1x1024x1024 .f32) (x4 : Vec Ideal S1x256 .f32) (x5 : Vec Ideal S1x256 .f32) (x6 : Vec Ideal S1x1024 .f32) (x7 : Vec Ideal S1x1024 .f32) (xs0 : Vec Ideal S2x128x512 .f32)

include c arg2 harg2 arg3 harg3 arg4 harg4 arg5 harg5 arg6 harg6 arg7 harg7 arg8 harg8 arg9 harg9 arg11 harg11 arg12 arg13 x0 x1 x2 x3 x4 x5 x6 x7 xs0

theorem xAtB0 (l : Fin 256) (q : Fin 512) : (LoadRect.valAlong (hhK 0 0) (kernelRun0_B.sl.v343 (F := Ideal) c arg2 harg2 arg4 harg4 arg6 harg6 arg7 harg7 arg12 x0 x2 x4 x5) : S1x256x512.Idx → EReal) (ix3 0 l q) = (kc x0 x1 x2 x3 x4 x5 x6 x7 0 0).xd l q * Ideal.exp ((kc x0 x1 x2 x3 x4 x5 x6 x7 0 0).cl (hd q) - (kc x0 x1 x2 x3 x4 x5 x6 x7 0 0).cs l (hd q)) := by
  rw [(eqXB0 c arg2 harg2 arg4 harg4 arg6 harg6 arg7 harg7 arg12 x0 x2 x4 x5)]
  exact X_of 0 0 _ _ _ _ _ _ _ _ _ _ _ (fun l q => (kc x0 x1 x2 x3 x4 x5 x6 x7 0 0).xd l q * Ideal.exp ((kc x0 x1 x2 x3 x4 x5 x6 x7 0 0).cl (hd q) - (kc x0 x1 x2 x3 x4 x5 x6 x7 0 0).cs l (hd q)))
    (fun l r q hq => xdec_at (loads x0 x1 x2 x3 x4 x5 x6 x7 arg2 harg2 arg3 harg3 arg4 harg4 arg6 harg6 arg7 harg7 0 0) 3 l r q hq) (fun l r q hq => xdec_at (loads x0 x1 x2 x3 x4 x5 x6 x7 arg2 harg2 arg3 harg3 arg4 harg4 arg6 harg6 arg7 harg7 0 0) 2 l r q hq) (fun l r q hq => xdec_at (loads x0 x1 x2 x3 x4 x5 x6 x7 arg2 harg2 arg3 harg3 arg4 harg4 arg6 harg6 arg7 harg7 0 0) 1 l r q hq) (fun l r q hq => xdec_at (loads x0 x1 x2 x3 x4 x5 x6 x7 arg2 harg2 arg3 harg3 arg4 harg4 arg6 harg6 arg7 harg7 0 0) 0 l r q hq) l q

theorem dAtB0 (l : Fin 256) (q : Fin 512) : (LoadRect.valAlong (hhK 0 0) (kernelRun0_B.sl.v325 (F := Ideal) c arg2 harg2 arg3 harg3 arg4 harg4 arg6 harg6 arg7 harg7 arg13 x0 x1 x2 x4 x5) : S1x256x512.Idx → EReal) (ix3 0 l q) = (kc x0 x1 x2 x3 x4 x5 x6 x7 0 0).yd l q := by
  rw [(eqDB0 c arg2 harg2 arg3 harg3 arg4 harg4 arg6 harg6 arg7 harg7 arg13 x0 x1 x2 x4 x5)]
  exact D_of 0 0 _ _ _ _ _ _ _ _ _ _ _ (fun l q => (kc x0 x1 x2 x3 x4 x5 x6 x7 0 0).yd l q)
    (fun l r q hq => yd_at (loads x0 x1 x2 x3 x4 x5 x6 x7 arg2 harg2 arg3 harg3 arg4 harg4 arg6 harg6 arg7 harg7 0 0) 3 l r q hq) (fun l r q hq => yd_at (loads x0 x1 x2 x3 x4 x5 x6 x7 arg2 harg2 arg3 harg3 arg4 harg4 arg6 harg6 arg7 harg7 0 0) 2 l r q hq) (fun l r q hq => yd_at (loads x0 x1 x2 x3 x4 x5 x6 x7 arg2 harg2 arg3 harg3 arg4 harg4 arg6 harg6 arg7 harg7 0 0) 1 l r q hq) (fun l r q hq => yd_at (loads x0 x1 x2 x3 x4 x5 x6 x7 arg2 harg2 arg3 harg3 arg4 harg4 arg6 harg6 arg7 harg7 0 0) 0 l r q hq) l q

theorem sAtB0 (n : Fin 128) (q : Fin 512) : ((View.readAt (Elt Ideal) arg11.view (Rect.unit (s := S2x128x512) ![0, 0, 0] S1x128x512.size inb_S2x128x512_S1x128x512_0_0_0).toLoadRect (harg11.unread xs0)) : S1x128x512.Idx → EReal) (ix3 0 n q) = (run (kc x0 x1 x2 x3 x4 x5 x6 x7 0) (fun n q => (xs0 (ix3 0 n q) : EReal)) (Fin.val (0 : Fin 4))) n q := by
  exact st0 arg11 harg11 xs0 0 _ n q

theorem tAtB0 (n : Fin 128) (q : Fin 512) : ((kernelRun0_B.sl.v349 (F := Ideal) c arg2 harg2 arg3 harg3 arg4 harg4 arg6 harg6 arg7 harg7 arg11 harg11 arg12 x0 x1 x2 x4 x5 xs0) : S1x128x512.Idx → EReal) (ix3 0 n q) = (run (kc x0 x1 x2 x3 x4 x5 x6 x7 0) (fun n q => (xs0 (ix3 0 n q) : EReal)) (Fin.val (0 : Fin 4) + 1)) n q := by
  rw [(eqTB0 c arg2 harg2 arg3 harg3 arg4 harg4 arg6 harg6 arg7 harg7 arg11 harg11 arg12 x0 x1 x2 x4 x5 xs0), run_succ]
  exact st_at (loads x0 x1 x2 x3 x4 x5 x6 x7 arg2 harg2 arg3 harg3 arg4 harg4 arg6 harg6 arg7 harg7 0 0) _ _ (run (kc x0 x1 x2 x3 x4 x5 x6 x7 0) (fun n q => (xs0 (ix3 0 n q) : EReal)) (Fin.val (0 : Fin 4))) (sAtB0 c arg2 harg2 arg3 harg3 arg4 harg4 arg5 harg5 arg6 harg6 arg7 harg7 arg8 harg8 arg9 harg9 arg11 harg11 arg12 arg13 x0 x1 x2 x3 x4 x5 x6 x7 xs0) (xAtB0 c arg2 harg2 arg3 harg3 arg4 harg4 arg5 harg5 arg6 harg6 arg7 harg7 arg8 harg8 arg9 harg9 arg11 harg11 arg12 arg13 x0 x1 x2 x3 x4 x5 x6 x7 xs0) n q

theorem oAtB0 (l : Fin 256) (q : Fin 512) : ((kernelRun0_B.sl.v370 (F := Ideal) c arg2 harg2 arg3 harg3 arg4 harg4 arg5 harg5 arg6 harg6 arg7 harg7 arg8 harg8 arg9 harg9 arg11 harg11 arg13 x0 x1 x2 x3 x4 x5 x6 x7 xs0) : S1x256x512.Idx → EReal) (ix3 0 l q) = (kc x0 x1 x2 x3 x4 x5 x6 x7 0 0).out (run (kc x0 x1 x2 x3 x4 x5 x6 x7 0) (fun n q => (xs0 (ix3 0 n q) : EReal)) (Fin.val (0 : Fin 4))) l q := by
  rw [(eqOB0 c arg2 harg2 arg3 harg3 arg4 harg4 arg5 harg5 arg6 harg6 arg7 harg7 arg8 harg8 arg9 harg9 arg11 harg11 arg13 x0 x1 x2 x3 x4 x5 x6 x7 xs0)]
  exact out_at (loads x0 x1 x2 x3 x4 x5 x6 x7 arg2 harg2 arg3 harg3 arg4 harg4 arg6 harg6 arg7 harg7 0 0) _ _ _ _ _ (run (kc x0 x1 x2 x3 x4 x5 x6 x7 0) (fun n q => (xs0 (ix3 0 n q) : EReal)) (Fin.val (0 : Fin 4))) (sAtB0 c arg2 harg2 arg3 harg3 arg4 harg4 arg5 harg5 arg6 harg6 arg7 harg7 arg8 harg8 arg9 harg9 arg11 harg11 arg12 arg13 x0 x1 x2 x3 x4 x5 x6 x7 xs0) (dAtB0 c arg2 harg2 arg3 harg3 arg4 harg4 arg5 harg5 arg6 harg6 arg7 harg7 arg8 harg8 arg9 harg9 arg11 harg11 arg12 arg13 x0 x1 x2 x3 x4 x5 x6 x7 xs0) (fun l q => ldX_at arg5 harg5 x3 0 0 l q) (ldW_at arg8 harg8 x6 0) (ldW_at arg9 harg9 x7 0) l q

theorem xAtB1 (l : Fin 256) (q : Fin 512) : (LoadRect.valAlong (hhK 0 1) (kernelRun0_B.sl.v704 (F := Ideal) c arg2 harg2 arg4 harg4 arg6 harg6 arg7 harg7 arg12 x0 x2 x4 x5) : S1x256x512.Idx → EReal) (ix3 0 l q) = (kc x0 x1 x2 x3 x4 x5 x6 x7 1 0).xd l q * Ideal.exp ((kc x0 x1 x2 x3 x4 x5 x6 x7 1 0).cl (hd q) - (kc x0 x1 x2 x3 x4 x5 x6 x7 1 0).cs l (hd q)) := by
  rw [(eqXB1 c arg2 harg2 arg4 harg4 arg6 harg6 arg7 harg7 arg12 x0 x2 x4 x5)]
  exact X_of 0 1 _ _ _ _ _ _ _ _ _ _ _ (fun l q => (kc x0 x1 x2 x3 x4 x5 x6 x7 1 0).xd l q * Ideal.exp ((kc x0 x1 x2 x3 x4 x5 x6 x7 1 0).cl (hd q) - (kc x0 x1 x2 x3 x4 x5 x6 x7 1 0).cs l (hd q)))
    (fun l r q hq => xdec_at (loads x0 x1 x2 x3 x4 x5 x6 x7 arg2 harg2 arg3 harg3 arg4 harg4 arg6 harg6 arg7 harg7 0 1) 3 l r q hq) (fun l r q hq => xdec_at (loads x0 x1 x2 x3 x4 x5 x6 x7 arg2 harg2 arg3 harg3 arg4 harg4 arg6 harg6 arg7 harg7 0 1) 2 l r q hq) (fun l r q hq => xdec_at (loads x0 x1 x2 x3 x4 x5 x6 x7 arg2 harg2 arg3 harg3 arg4 harg4 arg6 harg6 arg7 harg7 0 1) 1 l r q hq) (fun l r q hq => xdec_at (loads x0 x1 x2 x3 x4 x5 x6 x7 arg2 harg2 arg3 harg3 arg4 harg4 arg6 harg6 arg7 harg7 0 1) 0 l r q hq) l q

theorem dAtB1 (l : Fin 256) (q : Fin 512) : (LoadRect.valAlong (hhK 0 1) (kernelRun0_B.sl.v686 (F := Ideal) c arg2 harg2 arg3 harg3 arg4 harg4 arg6 harg6 arg7 harg7 arg13 x0 x1 x2 x4 x5) : S1x256x512.Idx → EReal) (ix3 0 l q) = (kc x0 x1 x2 x3 x4 x5 x6 x7 1 0).yd l q := by
  rw [(eqDB1 c arg2 harg2 arg3 harg3 arg4 harg4 arg6 harg6 arg7 harg7 arg13 x0 x1 x2 x4 x5)]
  exact D_of 0 1 _ _ _ _ _ _ _ _ _ _ _ (fun l q => (kc x0 x1 x2 x3 x4 x5 x6 x7 1 0).yd l q)
    (fun l r q hq => yd_at (loads x0 x1 x2 x3 x4 x5 x6 x7 arg2 harg2 arg3 harg3 arg4 harg4 arg6 harg6 arg7 harg7 0 1) 3 l r q hq) (fun l r q hq => yd_at (loads x0 x1 x2 x3 x4 x5 x6 x7 arg2 harg2 arg3 harg3 arg4 harg4 arg6 harg6 arg7 harg7 0 1) 2 l r q hq) (fun l r q hq => yd_at (loads x0 x1 x2 x3 x4 x5 x6 x7 arg2 harg2 arg3 harg3 arg4 harg4 arg6 harg6 arg7 harg7 0 1) 1 l r q hq) (fun l r q hq => yd_at (loads x0 x1 x2 x3 x4 x5 x6 x7 arg2 harg2 arg3 harg3 arg4 harg4 arg6 harg6 arg7 harg7 0 1) 0 l r q hq) l q

theorem sAtB1 (n : Fin 128) (q : Fin 512) : ((kernelRun0_B.sl.v682 (F := Ideal) c arg11 harg11 xs0) : S1x128x512.Idx → EReal) (ix3 0 n q) = (run (kc x0 x1 x2 x3 x4 x5 x6 x7 1) (fun n q => (xs0 (ix3 1 n q) : EReal)) (Fin.val (0 : Fin 4))) n q := by
  have e : (kernelRun0_B.sl.v682 (F := Ideal) c arg11 harg11 xs0) = View.readAt (Elt Ideal) arg11.view (Rect.unit (s := S2x128x512) ![1, 0, 0] S1x128x512.size inb_S2x128x512_S1x128x512_1_0_0).toLoadRect (harg11.unread xs0) := by sl_kernel_rfl
  exact (congrFun e (ix3 0 n q)).trans (st0 arg11 harg11 xs0 1 _ n q)

theorem tAtB1 (n : Fin 128) (q : Fin 512) : ((kernelRun0_B.sl.v710 (F := Ideal) c arg2 harg2 arg3 harg3 arg4 harg4 arg6 harg6 arg7 harg7 arg11 harg11 arg12 x0 x1 x2 x4 x5 xs0) : S1x128x512.Idx → EReal) (ix3 0 n q) = (run (kc x0 x1 x2 x3 x4 x5 x6 x7 1) (fun n q => (xs0 (ix3 1 n q) : EReal)) (Fin.val (0 : Fin 4) + 1)) n q := by
  rw [(eqTB1 c arg2 harg2 arg3 harg3 arg4 harg4 arg6 harg6 arg7 harg7 arg11 harg11 arg12 x0 x1 x2 x4 x5 xs0), run_succ]
  exact st_at (loads x0 x1 x2 x3 x4 x5 x6 x7 arg2 harg2 arg3 harg3 arg4 harg4 arg6 harg6 arg7 harg7 0 1) _ _ (run (kc x0 x1 x2 x3 x4 x5 x6 x7 1) (fun n q => (xs0 (ix3 1 n q) : EReal)) (Fin.val (0 : Fin 4))) (sAtB1 c arg2 harg2 arg3 harg3 arg4 harg4 arg5 harg5 arg6 harg6 arg7 harg7 arg8 harg8 arg9 harg9 arg11 harg11 arg12 arg13 x0 x1 x2 x3 x4 x5 x6 x7 xs0) (xAtB1 c arg2 harg2 arg3 harg3 arg4 harg4 arg5 harg5 arg6 harg6 arg7 harg7 arg8 harg8 arg9 harg9 arg11 harg11 arg12 arg13 x0 x1 x2 x3 x4 x5 x6 x7 xs0) n q

theorem oAtB1 (l : Fin 256) (q : Fin 512) : ((k0_pay125 (F := Ideal) (kernelRun0_B.sl.v728 (F := Ideal) c arg2 harg2 arg3 harg3 arg4 harg4 arg5 harg5 arg6 harg6 arg7 harg7 arg8 harg8 arg9 harg9 arg11 harg11 arg13 x0 x1 x2 x3 x4 x5 x6 x7 xs0)) : S1x256x512.Idx → EReal) (ix3 0 l q) = (kc x0 x1 x2 x3 x4 x5 x6 x7 1 0).out (run (kc x0 x1 x2 x3 x4 x5 x6 x7 1) (fun n q => (xs0 (ix3 1 n q) : EReal)) (Fin.val (0 : Fin 4))) l q := by
  rw [(eqOB1 c arg2 harg2 arg3 harg3 arg4 harg4 arg5 harg5 arg6 harg6 arg7 harg7 arg8 harg8 arg9 harg9 arg11 harg11 arg13 x0 x1 x2 x3 x4 x5 x6 x7 xs0)]
  exact out_at (loads x0 x1 x2 x3 x4 x5 x6 x7 arg2 harg2 arg3 harg3 arg4 harg4 arg6 harg6 arg7 harg7 0 1) _ _ _ _ _ (run (kc x0 x1 x2 x3 x4 x5 x6 x7 1) (fun n q => (xs0 (ix3 1 n q) : EReal)) (Fin.val (0 : Fin 4))) (sAtB1 c arg2 harg2 arg3 harg3 arg4 harg4 arg5 harg5 arg6 harg6 arg7 harg7 arg8 harg8 arg9 harg9 arg11 harg11 arg12 arg13 x0 x1 x2 x3 x4 x5 x6 x7 xs0) (dAtB1 c arg2 harg2 arg3 harg3 arg4 harg4 arg5 harg5 arg6 harg6 arg7 harg7 arg8 harg8 arg9 harg9 arg11 harg11 arg12 arg13 x0 x1 x2 x3 x4 x5 x6 x7 xs0) (fun l q => ldX_at arg5 harg5 x3 0 1 l q) (ldW_at arg8 harg8 x6 1) (ldW_at arg9 harg9 x7 1) l q

theorem xAtB2 (l : Fin 256) (q : Fin 512) : (LoadRect.valAlong (hhK 1 0) (kernelRun0_B.sl.v1065 (F := Ideal) c arg2 harg2 arg4 harg4 arg6 harg6 arg7 harg7 arg12 x0 x2 x4 x5) : S1x256x512.Idx → EReal) (ix3 0 l q) = (kc x0 x1 x2 x3 x4 x5 x6 x7 0 1).xd l q * Ideal.exp ((kc x0 x1 x2 x3 x4 x5 x6 x7 0 1).cl (hd q) - (kc x0 x1 x2 x3 x4 x5 x6 x7 0 1).cs l (hd q)) := by
  rw [(eqXB2 c arg2 harg2 arg4 harg4 arg6 harg6 arg7 harg7 arg12 x0 x2 x4 x5)]
  exact X_of 1 0 _ _ _ _ _ _ _ _ _ _ _ (fun l q => (kc x0 x1 x2 x3 x4 x5 x6 x7 0 1).xd l q * Ideal.exp ((kc x0 x1 x2 x3 x4 x5 x6 x7 0 1).cl (hd q) - (kc x0 x1 x2 x3 x4 x5 x6 x7 0 1).cs l (hd q)))
    (fun l r q hq => xdec_at (loads x0 x1 x2 x3 x4 x5 x6 x7 arg2 harg2 arg3 harg3 arg4 harg4 arg6 harg6 arg7 harg7 1 0) 3 l r q hq) (fun l r q hq => xdec_at (loads x0 x1 x2 x3 x4 x5 x6 x7 arg2 harg2 arg3 harg3 arg4 harg4 arg6 harg6 arg7 harg7 1 0) 2 l r q hq) (fun l r q hq => xdec_at (loads x0 x1 x2 x3 x4 x5 x6 x7 arg2 harg2 arg3 harg3 arg4 harg4 arg6 harg6 arg7 harg7 1 0) 1 l r q hq) (fun l r q hq => xdec_at (loads x0 x1 x2 x3 x4 x5 x6 x7 arg2 harg2 arg3 harg3 arg4 harg4 arg6 harg6 arg7 harg7 1 0) 0 l r q hq) l q

theorem dAtB2 (l : Fin 256) (q : Fin 512) : (LoadRect.valAlong (hhK 1 0) (kernelRun0_B.sl.v1047 (F := Ideal) c arg2 harg2 arg3 harg3 arg4 harg4 arg6 harg6 arg7 harg7 arg13 x0 x1 x2 x4 x5) : S1x256x512.Idx → EReal) (ix3 0 l q) = (kc x0 x1 x2 x3 x4 x5 x6 x7 0 1).yd l q := by
  rw [(eqDB2 c arg2 harg2 arg3 harg3 arg4 harg4 arg6 harg6 arg7 harg7 arg13 x0 x1 x2 x4 x5)]
  exact D_of 1 0 _ _ _ _ _ _ _ _ _ _ _ (fun l q => (kc x0 x1 x2 x3 x4 x5 x6 x7 0 1).yd l q)
    (fun l r q hq => yd_at (loads x0 x1 x2 x3 x4 x5 x6 x7 arg2 harg2 arg3 harg3 arg4 harg4 arg6 harg6 arg7 harg7 1 0) 3 l r q hq) (fun l r q hq => yd_at (loads x0 x1 x2 x3 x4 x5 x6 x7 arg2 harg2 arg3 harg3 arg4 harg4 arg6 harg6 arg7 harg7 1 0) 2 l r q hq) (fun l r q hq => yd_at (loads x0 x1 x2 x3 x4 x5 x6 x7 arg2 harg2 arg3 harg3 arg4 harg4 arg6 harg6 arg7 harg7 1 0) 1 l r q hq) (fun l r q hq => yd_at (loads x0 x1 x2 x3 x4 x5 x6 x7 arg2 harg2 arg3 harg3 arg4 harg4 arg6 harg6 arg7 harg7 1 0) 0 l r q hq) l q

theorem sAtB2 (n : Fin 128) (q : Fin 512) : ((kernelRun0_B.sl.v1043 (F := Ideal) c arg2 harg2 arg3 harg3 arg4 harg4 arg6 harg6 arg7 harg7 arg11 harg11 arg12 x0 x1 x2 x4 x5 xs0) : S1x128x512.Idx → EReal) (ix3 0 n q) = (run (kc x0 x1 x2 x3 x4 x5 x6 x7 0) (fun n q => (xs0 (ix3 0 n q) : EReal)) (Fin.val (1 : Fin 4))) n q := by
  have e : (kernelRun0_B.sl.v1043 (F := Ideal) c arg2 harg2 arg3 harg3 arg4 harg4 arg6 harg6 arg7 harg7 arg11 harg11 arg12 x0 x1 x2 x4 x5 xs0) = arg11.view.readCov (Val := Elt Ideal) (⟨(Rect.unit (s := S2x128x512) ![1, 0, 0] S1x128x512.size inb_S2x128x512_S1x128x512_1_0_0), (kernelRun0_B.sl.v710 (F := Ideal) c arg2 harg2 arg3 harg3 arg4 harg4 arg6 harg6 arg7 harg7 arg11 harg11 arg12 x0 x1 x2 x4 x5 xs0)⟩ :: ⟨(Rect.unit (s := S2x128x512) ![0, 0, 0] S1x128x512.size inb_S2x128x512_S1x128x512_0_0_0), (kernelRun0_B.sl.v349 (F := Ideal) c arg2 harg2 arg3 harg3 arg4 harg4 arg6 harg6 arg7 harg7 arg11 harg11 arg12 x0 x1 x2 x4 x5 xs0)⟩ :: []) (Rect.unit (s := S2x128x512) ![0, 0, 0] S1x128x512.size inb_S2x128x512_S1x128x512_0_0_0).toLoadRect := by sl_kernel_rfl
  have e2 := e.trans ((View.readCov_skip _ _ _ _ _ (by decide)).trans (View.readCov_cons_toLoadRect _ _ _ _))
  exact (congrFun e2 (ix3 0 n q)).trans ((tAtB0 c arg2 harg2 arg3 harg3 arg4 harg4 arg5 harg5 arg6 harg6 arg7 harg7 arg8 harg8 arg9 harg9 arg11 harg11 arg12 arg13 x0 x1 x2 x3 x4 x5 x6 x7 xs0) n q)

theorem tAtB2 (n : Fin 128) (q : Fin 512) : ((kernelRun0_B.sl.v1071 (F := Ideal) c arg2 harg2 arg3 harg3 arg4 harg4 arg6 harg6 arg7 harg7 arg11 harg11 arg12 x0 x1 x2 x4 x5 xs0) : S1x128x512.Idx → EReal) (ix3 0 n q) = (run (kc x0 x1 x2 x3 x4 x5 x6 x7 0) (fun n q => (xs0 (ix3 0 n q) : EReal)) (Fin.val (1 : Fin 4) + 1)) n q := by
  rw [(eqTB2 c arg2 harg2 arg3 harg3 arg4 harg4 arg6 harg6 arg7 harg7 arg11 harg11 arg12 x0 x1 x2 x4 x5 xs0), run_succ]
  exact st_at (loads x0 x1 x2 x3 x4 x5 x6 x7 arg2 harg2 arg3 harg3 arg4 harg4 arg6 harg6 arg7 harg7 1 0) _ _ (run (kc x0 x1 x2 x3 x4 x5 x6 x7 0) (fun n q => (xs0 (ix3 0 n q) : EReal)) (Fin.val (1 : Fin 4))) (sAtB2 c arg2 harg2 arg3 harg3 arg4 harg4 arg5 harg5 arg6 harg6 arg7 harg7 arg8 harg8 arg9 harg9 arg11 harg11 arg12 arg13 x0 x1 x2 x3 x4 x5 x6 x7 xs0) (xAtB2 c arg2 harg2 arg3 harg3 arg4 harg4 arg5 harg5 arg6 harg6 arg7 harg7 arg8 harg8 arg9 harg9 arg11 harg11 arg12 arg13 x0 x1 x2 x3 x4 x5 x6 x7 xs0) n q

theorem oAtB2 (l : Fin 256) (q : Fin 512) : ((kernelRun0_B.sl.v1092 (F := Ideal) c arg2 harg2 arg3 harg3 arg4 harg4 arg5 harg5 arg6 harg6 arg7 harg7 arg8 harg8 arg9 harg9 arg11 harg11 arg12 arg13 x0 x1 x2 x3 x4 x5 x6 x7 xs0) : S1x256x512.Idx → EReal) (ix3 0 l q) = (kc x0 x1 x2 x3 x4 x5 x6 x7 0 1).out (run (kc x0 x1 x2 x3 x4 x5 x6 x7 0) (fun n q => (xs0 (ix3 0 n q) : EReal)) (Fin.val (1 : Fin 4))) l q := by
  rw [(eqOB2 c arg2 harg2 arg3 harg3 arg4 harg4 arg5 harg5 arg6 harg6 arg7 harg7 arg8 harg8 arg9 harg9 arg11 harg11 arg12 arg13 x0 x1 x2 x3 x4 x5 x6 x7 xs0)]
  exact out_at (loads x0 x1 x2 x3 x4 x5 x6 x7 arg2 harg2 arg3 harg3 arg4 harg4 arg6 harg6 arg7 harg7 1 0) _ _ _ _ _ (run (kc x0 x1 x2 x3 x4 x5 x6 x7 0) (fun n q => (xs0 (ix3 0 n q) : EReal)) (Fin.val (1 : Fin 4))) (sAtB2 c arg2 harg2 arg3 harg3 arg4 harg4 arg5 harg5 arg6 harg6 arg7 harg7 arg8 harg8 arg9 harg9 arg11 harg11 arg12 arg13 x0 x1 x2 x3 x4 x5 x6 x7 xs0) (dAtB2 c arg2 harg2 arg3 harg3 arg4 harg4 arg5 harg5 arg6 harg6 arg7 harg7 arg8 harg8 arg9 harg9 arg11 harg11 arg12 arg13 x0 x1 x2 x3 x4 x5 x6 x7 xs0) (fun l q => ldX_at arg5 harg5 x3 1 0 l q) (ldW_at arg8 harg8 x6 0) (ldW_at arg9 harg9 x7 0) l q

theorem xAtB3 (l : Fin 256) (q : Fin 512) : (LoadRect.valAlong (hhK 1 1) (kernelRun0_B.sl.v1426 (F := Ideal) c arg2 harg2 arg4 harg4 arg6 harg6 arg7 harg7 arg12 x0 x2 x4 x5) : S1x256x512.Idx → EReal) (ix3 0 l q) = (kc x0 x1 x2 x3 x4 x5 x6 x7 1 1).xd l q * Ideal.exp ((kc x0 x1 x2 x3 x4 x5 x6 x7 1 1).cl (hd q) - (kc x0 x1 x2 x3 x4 x5 x6 x7 1 1).cs l (hd q)) := by
  rw [(eqXB3 c arg2 harg2 arg4 harg4 arg6 harg6 arg7 harg7 arg12 x0 x2 x4 x5)]
  exact X_of 1 1 _ _ _ _ _ _ _ _ _ _ _ (fun l q => (kc x0 x1 x2 x3 x4 x5 x6 x7 1 1).xd l q * Ideal.exp ((kc x0 x1 x2 x3 x4 x5 x6 x7 1 1).cl (hd q) - (kc x0 x1 x2 x3 x4 x5 x6 x7 1 1).cs l (hd q)))
    (fun l r q hq => xdec_at (loads x0 x1 x2 x3 x4 x5 x6 x7 arg2 harg2 arg3 harg3 arg4 harg4 arg6 harg6 arg7 harg7 1 1) 3 l r q hq) (fun l r q hq => xdec_at (loads x0 x1 x2 x3 x4 x5 x6 x7 arg2 harg2 arg3 harg3 arg4 harg4 arg6 harg6 arg7 harg7 1 1) 2 l r q hq) (fun l r q hq => xdec_at (loads x0 x1 x2 x3 x4 x5 x6 x7 arg2 harg2 arg3 harg3 arg4 harg4 arg6 harg6 arg7 harg7 1 1) 1 l r q hq) (fun l r q hq => xdec_at (loads x0 x1 x2 x3 x4 x5 x6 x7 arg2 harg2 arg3 harg3 arg4 harg4 arg6 harg6 arg7 harg7 1 1) 0 l r q hq) l q

theorem dAtB3 (l : Fin 256) (q : Fin 512) : (LoadRect.valAlong (hhK 1 1) (kernelRun0_B.sl.v1408 (F := Ideal) c arg2 harg2 arg3 harg3 arg4 harg4 arg6 harg6 arg7 harg7 arg13 x0 x1 x2 x4 x5) : S1x256x512.Idx → EReal) (ix3 0 l q) = (kc x0 x1 x2 x3 x4 x5 x6 x7 1 1).yd l q := by
  rw [(eqDB3 c arg2 harg2 arg3 harg3 arg4 harg4 arg6 harg6 arg7 harg7 arg13 x0 x1 x2 x4 x5)]
  exact D_of 1 1 _ _ _ _ _ _ _ _ _ _ _ (fun l q => (kc x0 x1 x2 x3 x4 x5 x6 x7 1 1).yd l q)
    (fun l r q hq => yd_at (loads x0 x1 x2 x3 x4 x5 x6 x7 arg2 harg2 arg3 harg3 arg4 harg4 arg6 harg6 arg7 harg7 1 1) 3 l r q hq) (fun l r q hq => yd_at (loads x0 x1 x2 x3 x4 x5 x6 x7 arg2 harg2 arg3 harg3 arg4 harg4 arg6 harg6 arg7 harg7 1 1) 2 l r q hq) (fun l r q hq => yd_at (loads x0 x1 x2 x3 x4 x5 x6 x7 arg2 harg2 arg3 harg3 arg4 harg4 arg6 harg6 arg7 harg7 1 1) 1 l r q hq) (fun l r q hq => yd_at (loads x0 x1 x2 x3 x4 x5 x6 x7 arg2 harg2 arg3 harg3 arg4 harg4 arg6 harg6 arg7 harg7 1 1) 0 l r q hq) l q

theorem sAtB3 (n : Fin 128) (q : Fin 512) : ((kernelRun0_B.sl.v1404 (F := Ideal) c arg2 harg2 arg3 harg3 arg4 harg4 arg6 harg6 arg7 harg7 arg11 harg11 arg12 x0 x1 x2 x4 x5 xs0) : S1x128x512.Idx → EReal) (ix3 0 n q) = (run (kc x0 x1 x2 x3 x4 x5 x6 x7 1) (fun n q => (xs0 (ix3 1 n q) : EReal)) (Fin.val (1 : Fin 4))) n q := by
  have e : (kernelRun0_B.sl.v1404 (F := Ideal) c arg2 harg2 arg3 harg3 arg4 harg4 arg6 harg6 arg7 harg7 arg11 harg11 arg12 x0 x1 x2 x4 x5 xs0) = arg11.view.readCov (Val := Elt Ideal) (⟨(Rect.unit (s := S2x128x512) ![0, 0, 0] S1x128x512.size inb_S2x128x512_S1x128x512_0_0_0), (kernelRun0_B.sl.v1071 (F := Ideal) c arg2 harg2 arg3 harg3 arg4 harg4 arg6 harg6 arg7 harg7 arg11 harg11 arg12 x0 x1 x2 x4 x5 xs0)⟩ :: ⟨(Rect.unit (s := S2x128x512) ![1, 0, 0] S1x128x512.size inb_S2x128x512_S1x128x512_1_0_0), (kernelRun0_B.sl.v710 (F := Ideal) c arg2 harg2 arg3 harg3 arg4 harg4 arg6 harg6 arg7 harg7 arg11 harg11 arg12 x0 x1 x2 x4 x5 xs0)⟩ :: [⟨(Rect.unit (s := S2x128x512) ![0, 0, 0] S1x128x512.size inb_S2x128x512_S1x128x512_0_0_0), (kernelRun0_B.sl.v349 (F := Ideal) c arg2 harg2 arg3 harg3 arg4 harg4 arg6 harg6 arg7 harg7 arg11 harg11 arg12 x0 x1 x2 x4 x5 xs0)⟩]) (Rect.unit (s := S2x128x512) ![1, 0, 0] S1x128x512.size inb_S2x128x512_S1x128x512_1_0_0).toLoadRect := by sl_kernel_rfl
  have e2 := e.trans ((View.readCov_skip _ _ _ _ _ (by decide)).trans (View.readCov_cons_toLoadRect _ _ _ _))
  exact (congrFun e2 (ix3 0 n q)).trans ((tAtB1 c arg2 harg2 arg3 harg3 arg4 harg4 arg5 harg5 arg6 harg6 arg7 harg7 arg8 harg8 arg9 harg9 arg11 harg11 arg12 arg13 x0 x1 x2 x3 x4 x5 x6 x7 xs0) n q)

theorem tAtB3 (n : Fin 128) (q : Fin 512) : ((kernelRun0_B.sl.v1432 (F := Ideal) c arg2 harg2 arg3 harg3 arg4 harg4 arg6 harg6 arg7 harg7 arg11 harg11 arg12 x0 x1 x2 x4 x5 xs0) : S1x128x512.Idx → EReal) (ix3 0 n q) = (run (kc x0 x1 x2 x3 x4 x5 x6 x7 1) (fun n q => (xs0 (ix3 1 n q) : EReal)) (Fin.val (1 : Fin 4) + 1)) n q := by
  rw [(eqTB3 c arg2 harg2 arg3 harg3 arg4 harg4 arg6 harg6 arg7 harg7 arg11 harg11 arg12 x0 x1 x2 x4 x5 xs0), run_succ]
  exact st_at (loads x0 x1 x2 x3 x4 x5 x6 x7 arg2 harg2 arg3 harg3 arg4 harg4 arg6 harg6 arg7 harg7 1 1) _ _ (run (kc x0 x1 x2 x3 x4 x5 x6 x7 1) (fun n q => (xs0 (ix3 1 n q) : EReal)) (Fin.val (1 : Fin 4))) (sAtB3 c arg2 harg2 arg3 harg3 arg4 harg4 arg5 harg5 arg6 harg6 arg7 harg7 arg8 harg8 arg9 harg9 arg11 harg11 arg12 arg13 x0 x1 x2 x3 x4 x5 x6 x7 xs0) (xAtB3 c arg2 harg2 arg3 harg3 arg4 harg4 arg5 harg5 arg6 harg6 arg7 harg7 arg8 harg8 arg9 harg9 arg11 harg11 arg12 arg13 x0 x1 x2 x3 x4 x5 x6 x7 xs0) n q

theorem oAtB3 (l : Fin 256) (q : Fin 512) : ((kernelRun0_B.sl.v1453 (F := Ideal) c arg2 harg2 arg3 harg3 arg4 harg4 arg5 harg5 arg6 harg6 arg7 harg7 arg8 harg8 arg9 harg9 arg11 harg11 arg12 arg13 x0 x1 x2 x3 x4 x5 x6 x7 xs0) : S1x256x512.Idx → EReal) (ix3 0 l q) = (kc x0 x1 x2 x3 x4 x5 x6 x7 1 1).out (run (kc x0 x1 x2 x3 x4 x5 x6 x7 1) (fun n q => (xs0 (ix3 1 n q) : EReal)) (Fin.val (1 : Fin 4))) l q := by
  rw [(eqOB3 c arg2 harg2 arg3 harg3 arg4 harg4 arg5 harg5 arg6 harg6 arg7 harg7 arg8 harg8 arg9 harg9 arg11 harg11 arg12 arg13 x0 x1 x2 x3 x4 x5 x6 x7 xs0)]
  exact out_at (loads x0 x1 x2 x3 x4 x5 x6 x7 arg2 harg2 arg3 harg3 arg4 harg4 arg6 harg6 arg7 harg7 1 1) _ _ _ _ _ (run (kc x0 x1 x2 x3 x4 x5 x6 x7 1) (fun n q => (xs0 (ix3 1 n q) : EReal)) (Fin.val (1 : Fin 4))) (sAtB3 c arg2 harg2 arg3 harg3 arg4 harg4 arg5 harg5 arg6 harg6 arg7 harg7 arg8 harg8 arg9 harg9 arg11 harg11 arg12 arg13 x0 x1 x2 x3 x4 x5 x6 x7 xs0) (dAtB3 c arg2 harg2 arg3 harg3 arg4 harg4 arg5 harg5 arg6 harg6 arg7 harg7 arg8 harg8 arg9 harg9 arg11 harg11 arg12 arg13 x0 x1 x2 x3 x4 x5 x6 x7 xs0) (fun l q => ldX_at arg5 harg5 x3 1 1 l q) (ldW_at arg8 harg8 x6 1) (ldW_at arg9 harg9 x7 1) l q

theorem xAtB4 (l : Fin 256) (q : Fin 512) : (LoadRect.valAlong (hhK 2 0) (kernelRun0_B.sl.v1787 (F := Ideal) c arg2 harg2 arg4 harg4 arg6 harg6 arg7 harg7 arg12 x0 x2 x4 x5) : S1x256x512.Idx → EReal) (ix3 0 l q) = (kc x0 x1 x2 x3 x4 x5 x6 x7 0 2).xd l q * Ideal.exp ((kc x0 x1 x2 x3 x4 x5 x6 x7 0 2).cl (hd q) - (kc x0 x1 x2 x3 x4 x5 x6 x7 0 2).cs l (hd q)) := by
  rw [(eqXB4 c arg2 harg2 arg4 harg4 arg6 harg6 arg7 harg7 arg12 x0 x2 x4 x5)]
  exact X_of 2 0 _ _ _ _ _ _ _ _ _ _ _ (fun l q => (kc x0 x1 x2 x3 x4 x5 x6 x7 0 2).xd l q * Ideal.exp ((kc x0 x1 x2 x3 x4 x5 x6 x7 0 2).cl (hd q) - (kc x0 x1 x2 x3 x4 x5 x6 x7 0 2).cs l (hd q)))
    (fun l r q hq => xdec_at (loads x0 x1 x2 x3 x4 x5 x6 x7 arg2 harg2 arg3 harg3 arg4 harg4 arg6 harg6 arg7 harg7 2 0) 3 l r q hq) (fun l r q hq => xdec_at (loads x0 x1 x2 x3 x4 x5 x6 x7 arg2 harg2 arg3 harg3 arg4 harg4 arg6 harg6 arg7 harg7 2 0) 2 l r q hq) (fun l r q hq => xdec_at (loads x0 x1 x2 x3 x4 x5 x6 x7 arg2 harg2 arg3 harg3 arg4 harg4 arg6 harg6 arg7 harg7 2 0) 1 l r q hq) (fun l r q hq => xdec_at (loads x0 x1 x2 x3 x4 x5 x6 x7 arg2 harg2 arg3 harg3 arg4 harg4 arg6 harg6 arg7 harg7 2 0) 0 l r q hq) l q

theorem dAtB4 (l : Fin 256) (q : Fin 512) : (LoadRect.valAlong (hhK 2 0) (kernelRun0_B.sl.v1769 (F := Ideal) c arg2 harg2 arg3 harg3 arg4 harg4 arg6 harg6 arg7 harg7 arg13 x0 x1 x2 x4 x5) : S1x256x512.Idx → EReal) (ix3 0 l q) = (kc x0 x1 x2 x3 x4 x5 x6 x7 0 2).yd l q := by
  rw [(eqDB4 c arg2 harg2 arg3 harg3 arg4 harg4 arg6 harg6 arg7 harg7 arg13 x0 x1 x2 x4 x5)]
  exact D_of 2 0 _ _ _ _ _ _ _ _ _ _ _ (fun l q => (kc x0 x1 x2 x3 x4 x5 x6 x7 0 2).yd l q)
    (fun l r q hq => yd_at (loads x0 x1 x2 x3 x4 x5 x6 x7 arg2 harg2 arg3 harg3 arg4 harg4 arg6 harg6 arg7 harg7 2 0) 3 l r q hq) (fun l r q hq => yd_at (loads x0 x1 x2 x3 x4 x5 x6 x7 arg2 harg2 arg3 harg3 arg4 harg4 arg6 harg6 arg7 harg7 2 0) 2 l r q hq) (fun l r q hq => yd_at (loads x0 x1 x2 x3 x4 x5 x6 x7 arg2 harg2 arg3 harg3 arg4 harg4 arg6 harg6 arg7 harg7 2 0) 1 l r q hq) (fun l r q hq => yd_at (loads x0 x1 x2 x3 x4 x5 x6 x7 arg2 harg2 arg3 harg3 arg4 harg4 arg6 harg6 arg7 harg7 2 0) 0 l r q hq) l q

theorem sAtB4 (n : Fin 128) (q : Fin 512) : ((kernelRun0_B.sl.v1765 (F := Ideal) c arg2 harg2 arg3 harg3 arg4 harg4 arg6 harg6 arg7 harg7 arg11 harg11 arg12 x0 x1 x2 x4 x5 xs0) : S1x128x512.Idx → EReal) (ix3 0 n q) = (run (kc x0 x1 x2 x3 x4 x5 x6 x7 0) (fun n q => (xs0 (ix3 0 n q) : EReal)) (Fin.val (2 : Fin 4))) n q := by
  have e : (kernelRun0_B.sl.v1765 (F := Ideal) c arg2 harg2 arg3 harg3 arg4 harg4 arg6 harg6 arg7 harg7 arg11 harg11 arg12 x0 x1 x2 x4 x5 xs0) = arg11.view.readCov (Val := Elt Ideal) (⟨(Rect.unit (s := S2x128x512) ![1, 0, 0] S1x128x512.size inb_S2x128x512_S1x128x512_1_0_0), (kernelRun0_B.sl.v1432 (F := Ideal) c arg2 harg2 arg3 harg3 arg4 harg4 arg6 harg6 arg7 harg7 arg11 harg11 arg12 x0 x1 x2 x4 x5 xs0)⟩ :: ⟨(Rect.unit (s := S2x128x512) ![0, 0, 0] S1x128x512.size inb_S2x128x512_S1x128x512_0_0_0), (kernelRun0_B.sl.v1071 (F := Ideal) c arg2 harg2 arg3 harg3 arg4 harg4 arg6 harg6 arg7 harg7 arg11 harg11 arg12 x0 x1 x2 x4 x5 xs0)⟩ :: (kernelRun0_B.sl.HS0_2 (F := Ideal) c arg2 harg2 arg3 harg3 arg4 harg4 arg6 harg6 arg7 harg7 arg11 harg11 arg12 x0 x1 x2 x4 x5 xs0)) (Rect.unit (s := S2x128x512) ![0, 0, 0] S1x128x512.size inb_S2x128x512_S1x128x512_0_0_0).toLoadRect := by sl_kernel_rfl
  have e2 := e.trans ((View.readCov_skip _ _ _ _ _ (by decide)).trans (View.readCov_cons_toLoadRect _ _ _ _))
  exact (congrFun e2 (ix3 0 n q)).trans ((tAtB2 c arg2 harg2 arg3 harg3 arg4 harg4 arg5 harg5 arg6 harg6 arg7 harg7 arg8 harg8 arg9 harg9 arg11 harg11 arg12 arg13 x0 x1 x2 x3 x4 x5 x6 x7 xs0) n q)

theorem tAtB4 (n : Fin 128) (q : Fin 512) : ((kernelRun0_B.sl.v1793 (F := Ideal) c arg2 harg2 arg3 harg3 arg4 harg4 arg6 harg6 arg7 harg7 arg11 harg11 arg12 x0 x1 x2 x4 x5 xs0) : S1x128x512.Idx → EReal) (ix3 0 n q) = (run (kc x0 x1 x2 x3 x4 x5 x6 x7 0) (fun n q => (xs0 (ix3 0 n q) : EReal)) (Fin.val (2 : Fin 4) + 1)) n q := by
  rw [(eqTB4 c arg2 harg2 arg3 harg3 arg4 harg4 arg6 harg6 arg7 harg7 arg11 harg11 arg12 x0 x1 x2 x4 x5 xs0), run_succ]
  exact st_at (loads x0 x1 x2 x3 x4 x5 x6 x7 arg2 harg2 arg3 harg3 arg4 harg4 arg6 harg6 arg7 harg7 2 0) _ _ (run (kc x0 x1 x2 x3 x4 x5 x6 x7 0) (fun n q => (xs0 (ix3 0 n q) : EReal)) (Fin.val (2 : Fin 4))) (sAtB4 c arg2 harg2 arg3 harg3 arg4 harg4 arg5 harg5 arg6 harg6 arg7 harg7 arg8 harg8 arg9 harg9 arg11 harg11 arg12 arg13 x0 x1 x2 x3 x4 x5 x6 x7 xs0) (xAtB4 c arg2 harg2 arg3 harg3 arg4 harg4 arg5 harg5 arg6 harg6 arg7 harg7 arg8 harg8 arg9 harg9 arg11 harg11 arg12 arg13 x0 x1 x2 x3 x4 x5 x6 x7 xs0) n q

theorem oAtB4 (l : Fin 256) (q : Fin 512) : ((kernelRun0_B.sl.v1814 (F := Ideal) c arg2 harg2 arg3 harg3 arg4 harg4 arg5 harg5 arg6 harg6 arg7 harg7 arg8 harg8 arg9 harg9 arg11 harg11 arg12 arg13 x0 x1 x2 x3 x4 x5 x6 x7 xs0) : S1x256x512.Idx → EReal) (ix3 0 l q) = (kc x0 x1 x2 x3 x4 x5 x6 x7 0 2).out (run (kc x0 x1 x2 x3 x4 x5 x6 x7 0) (fun n q => (xs0 (ix3 0 n q) : EReal)) (Fin.val (2 : Fin 4))) l q := by
  rw [(eqOB4 c arg2 harg2 arg3 harg3 arg4 harg4 arg5 harg5 arg6 harg6 arg7 harg7 arg8 harg8 arg9 harg9 arg11 harg11 arg12 arg13 x0 x1 x2 x3 x4 x5 x6 x7 xs0)]
  exact out_at (loads x0 x1 x2 x3 x4 x5 x6 x7 arg2 harg2 arg3 harg3 arg4 harg4 arg6 harg6 arg7 harg7 2 0) _ _ _ _ _ (run (kc x0 x1 x2 x3 x4 x5 x6 x7 0) (fun n q => (xs0 (ix3 0 n q) : EReal)) (Fin.val (2 : Fin 4))) (sAtB4 c arg2 harg2 arg3 harg3 arg4 harg4 arg5 harg5 arg6 harg6 arg7 harg7 arg8 harg8 arg9 harg9 arg11 harg11 arg12 arg13 x0 x1 x2 x3 x4 x5 x6 x7 xs0) (dAtB4 c arg2 harg2 arg3 harg3 arg4 harg4 arg5 harg5 arg6 harg6 arg7 harg7 arg8 harg8 arg9 harg9 arg11 harg11 arg12 arg13 x0 x1 x2 x3 x4 x5 x6 x7 xs0) (fun l q => ldX_at arg5 harg5 x3 2 0 l q) (ldW_at arg8 harg8 x6 0) (ldW_at arg9 harg9 x7 0) l q

theorem xAtB5 (l : Fin 256) (q : Fin 512) : (LoadRect.valAlong (hhK 2 1) (kernelRun0_B.sl.v2148 (F := Ideal) c arg2 harg2 arg4 harg4 arg6 harg6 arg7 harg7 arg12 x0 x2 x4 x5) : S1x256x512.Idx → EReal) (ix3 0 l q) = (kc x0 x1 x2 x3 x4 x5 x6 x7 1 2).xd l q * Ideal.exp ((kc x0 x1 x2 x3 x4 x5 x6 x7 1 2).cl (hd q) - (kc x0 x1 x2 x3 x4 x5 x6 x7 1 2).cs l (hd q)) := by
  rw [(eqXB5 c arg2 harg2 arg4 harg4 arg6 harg6 arg7 harg7 arg12 x0 x2 x4 x5)]
  exact X_of 2 1 _ _ _ _ _ _ _ _ _ _ _ (fun l q => (kc x0 x1 x2 x3 x4 x5 x6 x7 1 2).xd l q * Ideal.exp ((kc x0 x1 x2 x3 x4 x5 x6 x7 1 2).cl (hd q) - (kc x0 x1 x2 x3 x4 x5 x6 x7 1 2).cs l (hd q)))
    (fun l r q hq => xdec_at (loads x0 x1 x2 x3 x4 x5 x6 x7 arg2 harg2 arg3 harg3 arg4 harg4 arg6 harg6 arg7 harg7 2 1) 3 l r q hq) (fun l r q hq => xdec_at (loads x0 x1 x2 x3 x4 x5 x6 x7 arg2 harg2 arg3 harg3 arg4 harg4 arg6 harg6 arg7 harg7 2 1) 2 l r q hq) (fun l r q hq => xdec_at (loads x0 x1 x2 x3 x4 x5 x6 x7 arg2 harg2 arg3 harg3 arg4 harg4 arg6 harg6 arg7 harg7 2 1) 1 l r q hq) (fun l r q hq => xdec_at (loads x0 x1 x2 x3 x4 x5 x6 x7 arg2 harg2 arg3 harg3 arg4 harg4 arg6 harg6 arg7 harg7 2 1) 0 l r q hq) l q

theorem dAtB5 (l : Fin 256) (q : Fin 512) : (LoadRect.valAlong (hhK 2 1) (kernelRun0_B.sl.v2130 (F := Ideal) c arg2 harg2 arg3 harg3 arg4 harg4 arg6 harg6 arg7 harg7 arg13 x0 x1 x2 x4 x5) : S1x256x512.Idx → EReal) (ix3 0 l q) = (kc x0 x1 x2 x3 x4 x5 x6 x7 1 2).yd l q := by
  rw [(eqDB5 c arg2 harg2 arg3 harg3 arg4 harg4 arg6 harg6 arg7 harg7 arg13 x0 x1 x2 x4 x5)]
  exact D_of 2 1 _ _ _ _ _ _ _ _ _ _ _ (fun l q => (kc x0 x1 x2 x3 x4 x5 x6 x7 1 2).yd l q)
    (fun l r q hq => yd_at (loads x0 x1 x2 x3 x4 x5 x6 x7 arg2 harg2 arg3 harg3 arg4 harg4 arg6 harg6 arg7 harg7 2 1) 3 l r q hq) (fun l r q hq => yd_at (loads x0 x1 x2 x3 x4 x5 x6 x7 arg2 harg2 arg3 harg3 arg4 harg4 arg6 harg6 arg7 harg7 2 1) 2 l r q hq) (fun l r q hq => yd_at (loads x0 x1 x2 x3 x4 x5 x6 x7 arg2 harg2 arg3 harg3 arg4 harg4 arg6 harg6 arg7 harg7 2 1) 1 l r q hq) (fun l r q hq => yd_at (loads x0 x1 x2 x3 x4 x5 x6 x7 arg2 harg2 arg3 harg3 arg4 harg4 arg6 harg6 arg7 harg7 2 1) 0 l r q hq) l q

theorem sAtB5 (n : Fin 128) (q : Fin 512) : ((kernelRun0_B.sl.v2126 (F := Ideal) c arg2 harg2 arg3 harg3 arg4 harg4 arg6 harg6 arg7 harg7 arg11 harg11 arg12 x0 x1 x2 x4 x5 xs0) : S1x128x512.Idx → EReal) (ix3 0 n q) = (run (kc x0 x1 x2 x3 x4 x5 x6 x7 1) (fun n q => (xs0 (ix3 1 n q) : EReal)) (Fin.val (2 : Fin 4))) n q := by
  have e : (kernelRun0_B.sl.v2126 (F := Ideal) c arg2 harg2 arg3 harg3 arg4 harg4 arg6 harg6 arg7 harg7 arg11 harg11 arg12 x0 x1 x2 x4 x5 xs0) = arg11.view.readCov (Val := Elt Ideal) (⟨(Rect.unit (s := S2x128x512) ![0, 0, 0] S1x128x512.size inb_S2x128x512_S1x128x512_0_0_0), (kernelRun0_B.sl.v1793 (F := Ideal) c arg2 harg2 arg3 harg3 arg4 harg4 arg6 harg6 arg7 harg7 arg11 harg11 arg12 x0 x1 x2 x4 x5 xs0)⟩ :: ⟨(Rect.unit (s := S2x128x512) ![1, 0, 0] S1x128x512.size inb_S2x128x512_S1x128x512_1_0_0), (kernelRun0_B.sl.v1432 (F := Ideal) c arg2 harg2 arg3 harg3 arg4 harg4 arg6 harg6 arg7 harg7 arg11 harg11 arg12 x0 x1 x2 x4 x5 xs0)⟩ :: (kernelRun0_B.sl.HS0_3 (F := Ideal) c arg2 harg2 arg3 harg3 arg4 harg4 arg6 harg6 arg7 harg7 arg11 harg11 arg12 x0 x1 x2 x4 x5 xs0)) (Rect.unit (s := S2x128x512) ![1, 0, 0] S1x128x512.size inb_S2x128x512_S1x128x512_1_0_0).toLoadRect := by sl_kernel_rfl
  have e2 := e.trans ((View.readCov_skip _ _ _ _ _ (by decide)).trans (View.readCov_cons_toLoadRect _ _ _ _))
  exact (congrFun e2 (ix3 0 n q)).trans ((tAtB3 c arg2 harg2 arg3 harg3 arg4 harg4 arg5 harg5 arg6 harg6 arg7 harg7 arg8 harg8 arg9 harg9 arg11 harg11 arg12 arg13 x0 x1 x2 x3 x4 x5 x6 x7 xs0) n q)

theorem tAtB5 (n : Fin 128) (q : Fin 512) : ((kernelRun0_B.sl.v2154 (F := Ideal) c arg2 harg2 arg3 harg3 arg4 harg4 arg6 harg6 arg7 harg7 arg11 harg11 arg12 x0 x1 x2 x4 x5 xs0) : S1x128x512.Idx → EReal) (ix3 0 n q) = (run (kc x0 x1 x2 x3 x4 x5 x6 x7 1) (fun n q => (xs0 (ix3 1 n q) : EReal)) (Fin.val (2 : Fin 4) + 1)) n q := by
  rw [(eqTB5 c arg2 harg2 arg3 harg3 arg4 harg4 arg6 harg6 arg7 harg7 arg11 harg11 arg12 x0 x1 x2 x4 x5 xs0), run_succ]
  exact st_at (loads x0 x1 x2 x3 x4 x5 x6 x7 arg2 harg2 arg3 harg3 arg4 harg4 arg6 harg6 arg7 harg7 2 1) _ _ (run (kc x0 x1 x2 x3 x4 x5 x6 x7 1) (fun n q => (xs0 (ix3 1 n q) : EReal)) (Fin.val (2 : Fin 4))) (sAtB5 c arg2 harg2 arg3 harg3 arg4 harg4 arg5 harg5 arg6 harg6 arg7 harg7 arg8 harg8 arg9 harg9 arg11 harg11 arg12 arg13 x0 x1 x2 x3 x4 x5 x6 x7 xs0) (xAtB5 c arg2 harg2 arg3 harg3 arg4 harg4 arg5 harg5 arg6 harg6 arg7 harg7 arg8 harg8 arg9 harg9 arg11 harg11 arg12 arg13 x0 x1 x2 x3 x4 x5 x6 x7 xs0) n q

theorem oAtB5 (l : Fin 256) (q : Fin 512) : ((kernelRun0_B.sl.v2175 (F := Ideal) c arg2 harg2 arg3 harg3 arg4 harg4 arg5 harg5 arg6 harg6 arg7 harg7 arg8 harg8 arg9 harg9 arg11 harg11 arg12 arg13 x0 x1 x2 x3 x4 x5 x6 x7 xs0) : S1x256x512.Idx → EReal) (ix3 0 l q) = (kc x0 x1 x2 x3 x4 x5 x6 x7 1 2).out (run (kc x0 x1 x2 x3 x4 x5 x6 x7 1) (fun n q => (xs0 (ix3 1 n q) : EReal)) (Fin.val (2 : Fin 4))) l q := by
  rw [(eqOB5 c arg2 harg2 arg3 harg3 arg4 harg4 arg5 harg5 arg6 harg6 arg7 harg7 arg8 harg8 arg9 harg9 arg11 harg11 arg12 arg13 x0 x1 x2 x3 x4 x5 x6 x7 xs0)]
  exact out_at (loads x0 x1 x2 x3 x4 x5 x6 x7 arg2 harg2 arg3 harg3 arg4 harg4 arg6 harg6 arg7 harg7 2 1) _ _ _ _ _ (run (kc x0 x1 x2 x3 x4 x5 x6 x7 1) (fun n q => (xs0 (ix3 1 n q) : EReal)) (Fin.val (2 : Fin 4))) (sAtB5 c arg2 harg2 arg3 harg3 arg4 harg4 arg5 harg5 arg6 harg6 arg7 harg7 arg8 harg8 arg9 harg9 arg11 harg11 arg12 arg13 x0 x1 x2 x3 x4 x5 x6 x7 xs0) (dAtB5 c arg2 harg2 arg3 harg3 arg4 harg4 arg5 harg5 arg6 harg6 arg7 harg7 arg8 harg8 arg9 harg9 arg11 harg11 arg12 arg13 x0 x1 x2 x3 x4 x5 x6 x7 xs0) (fun l q => ldX_at arg5 harg5 x3 2 1 l q) (ldW_at arg8 harg8 x6 1) (ldW_at arg9 harg9 x7 1) l q

theorem xAtB6 (l : Fin 256) (q : Fin 512) : (LoadRect.valAlong (hhK 3 0) (kernelRun0_B.sl.v2509 (F := Ideal) c arg2 harg2 arg4 harg4 arg6 harg6 arg7 harg7 arg12 x0 x2 x4 x5) : S1x256x512.Idx → EReal) (ix3 0 l q) = (kc x0 x1 x2 x3 x4 x5 x6 x7 0 3).xd l q * Ideal.exp ((kc x0 x1 x2 x3 x4 x5 x6 x7 0 3).cl (hd q) - (kc x0 x1 x2 x3 x4 x5 x6 x7 0 3).cs l (hd q)) := by
  rw [(eqXB6 c arg2 harg2 arg4 harg4 arg6 harg6 arg7 harg7 arg12 x0 x2 x4 x5)]
  exact X_of 3 0 _ _ _ _ _ _ _ _ _ _ _ (fun l q => (kc x0 x1 x2 x3 x4 x5 x6 x7 0 3).xd l q * Ideal.exp ((kc x0 x1 x2 x3 x4 x5 x6 x7 0 3).cl (hd q) - (kc x0 x1 x2 x3 x4 x5 x6 x7 0 3).cs l (hd q)))
    (fun l r q hq => xdec_at (loads x0 x1 x2 x3 x4 x5 x6 x7 arg2 harg2 arg3 harg3 arg4 harg4 arg6 harg6 arg7 harg7 3 0) 3 l r q hq) (fun l r q hq => xdec_at (loads x0 x1 x2 x3 x4 x5 x6 x7 arg2 harg2 arg3 harg3 arg4 harg4 arg6 harg6 arg7 harg7 3 0) 2 l r q hq) (fun l r q hq => xdec_at (loads x0 x1 x2 x3 x4 x5 x6 x7 arg2 harg2 arg3 harg3 arg4 harg4 arg6 harg6 arg7 harg7 3 0) 1 l r q hq) (fun l r q hq => xdec_at (loads x0 x1 x2 x3 x4 x5 x6 x7 arg2 harg2 arg3 harg3 arg4 harg4 arg6 harg6 arg7 harg7 3 0) 0 l r q hq) l q

theorem dAtB6 (l : Fin 256) (q : Fin 512) : (LoadRect.valAlong (hhK 3 0) (kernelRun0_B.sl.v2491 (F := Ideal) c arg2 harg2 arg3 harg3 arg4 harg4 arg6 harg6 arg7 harg7 arg13 x0 x1 x2 x4 x5) : S1x256x512.Idx → EReal) (ix3 0 l q) = (kc x0 x1 x2 x3 x4 x5 x6 x7 0 3).yd l q := by
  rw [(eqDB6 c arg2 harg2 arg3 harg3 arg4 harg4 arg6 harg6 arg7 harg7 arg13 x0 x1 x2 x4 x5)]
  exact D_of 3 0 _ _ _ _ _ _ _ _ _ _ _ (fun l q => (kc x0 x1 x2 x3 x4 x5 x6 x7 0 3).yd l q)
    (fun l r q hq => yd_at (loads x0 x1 x2 x3 x4 x5 x6 x7 arg2 harg2 arg3 harg3 arg4 harg4 arg6 harg6 arg7 harg7 3 0) 3 l r q hq) (fun l r q hq => yd_at (loads x0 x1 x2 x3 x4 x5 x6 x7 arg2 harg2 arg3 harg3 arg4 harg4 arg6 harg6 arg7 harg7 3 0) 2 l r q hq) (fun l r q hq => yd_at (loads x0 x1 x2 x3 x4 x5 x6 x7 arg2 harg2 arg3 harg3 arg4 harg4 arg6 harg6 arg7 harg7 3 0) 1 l r q hq) (fun l r q hq => yd_at (loads x0 x1 x2 x3 x4 x5 x6 x7 arg2 harg2 arg3 harg3 arg4 harg4 arg6 harg6 arg7 harg7 3 0) 0 l r q hq) l q

theorem sAtB6 (n : Fin 128) (q : Fin 512) : ((kernelRun0_B.sl.v2487 (F := Ideal) c arg2 harg2 arg3 harg3 arg4 harg4 arg6 harg6 arg7 harg7 arg11 harg11 arg12 x0 x1 x2 x4 x5 xs0) : S1x128x512.Idx → EReal) (ix3 0 n q) = (run (kc x0 x1 x2 x3 x4 x5 x6 x7 0) (fun n q => (xs0 (ix3 0 n q) : EReal)) (Fin.val (3 : Fin 4))) n q := by
  have e : (kernelRun0_B.sl.v2487 (F := Ideal) c arg2 harg2 arg3 harg3 arg4 harg4 arg6 harg6 arg7 harg7 arg11 harg11 arg12 x0 x1 x2 x4 x5 xs0) = arg11.view.readCov (Val := Elt Ideal) (⟨(Rect.unit (s := S2x128x512) ![1, 0, 0] S1x128x512.size inb_S2x128x512_S1x128x512_1_0_0), (kernelRun0_B.sl.v2154 (F := Ideal) c arg2 harg2 arg3 harg3 arg4 harg4 arg6 harg6 arg7 harg7 arg11 harg11 arg12 x0 x1 x2 x4 x5 xs0)⟩ :: ⟨(Rect.unit (s := S2x128x512) ![0, 0, 0] S1x128x512.size inb_S2x128x512_S1x128x512_0_0_0), (kernelRun0_B.sl.v1793 (F := Ideal) c arg2 harg2 arg3 harg3 arg4 harg4 arg6 harg6 arg7 harg7 arg11 harg11 arg12 x0 x1 x2 x4 x5 xs0)⟩ :: (kernelRun0_B.sl.HS0_4 (F := Ideal) c arg2 harg2 arg3 harg3 arg4 harg4 arg6 harg6 arg7 harg7 arg11 harg11 arg12 x0 x1 x2 x4 x5 xs0)) (Rect.unit (s := S2x128x512) ![0, 0, 0] S1x128x512.size inb_S2x128x512_S1x128x512_0_0_0).toLoadRect := by sl_kernel_rfl
  have e2 := e.trans ((View.readCov_skip _ _ _ _ _ (by decide)).trans (View.readCov_cons_toLoadRect _ _ _ _))
  exact (congrFun e2 (ix3 0 n q)).trans ((tAtB4 c arg2 harg2 arg3 harg3 arg4 harg4 arg5 harg5 arg6 harg6 arg7 harg7 arg8 harg8 arg9 harg9 arg11 harg11 arg12 arg13 x0 x1 x2 x3 x4 x5 x6 x7 xs0) n q)

theorem tAtB6 (n : Fin 128) (q : Fin 512) : ((kernelRun0_B.sl.v2515 (F := Ideal) c arg2 harg2 arg3 harg3 arg4 harg4 arg6 harg6 arg7 harg7 arg11 harg11 arg12 x0 x1 x2 x4 x5 xs0) : S1x128x512.Idx → EReal) (ix3 0 n q) = (run (kc x0 x1 x2 x3 x4 x5 x6 x7 0) (fun n q => (xs0 (ix3 0 n q) : EReal)) (Fin.val (3 : Fin 4) + 1)) n q := by
  rw [(eqTB6 c arg2 harg2 arg3 harg3 arg4 harg4 arg6 harg6 arg7 harg7 arg11 harg11 arg12 x0 x1 x2 x4 x5 xs0), run_succ]
  exact st_at (loads x0 x1 x2 x3 x4 x5 x6 x7 arg2 harg2 arg3 harg3 arg4 harg4 arg6 harg6 arg7 harg7 3 0) _ _ (run (kc x0 x1 x2 x3 x4 x5 x6 x7 0) (fun n q => (xs0 (ix3 0 n q) : EReal)) (Fin.val (3 : Fin 4))) (sAtB6 c arg2 harg2 arg3 harg3 arg4 harg4 arg5 harg5 arg6 harg6 arg7 harg7 arg8 harg8 arg9 harg9 arg11 harg11 arg12 arg13 x0 x1 x2 x3 x4 x5 x6 x7 xs0) (xAtB6 c arg2 harg2 arg3 harg3 arg4 harg4 arg5 harg5 arg6 harg6 arg7 harg7 arg8 harg8 arg9 harg9 arg11 harg11 arg12 arg13 x0 x1 x2 x3 x4 x5 x6 x7 xs0) n q

theorem oAtB6 (l : Fin 256) (q : Fin 512) : ((k0_pay395 (F := Ideal) (kernelRun0_B.sl.v2528 (F := Ideal) c arg2 harg2 arg3 harg3 arg4 harg4 arg5 harg5 arg6 harg6 arg7 harg7 arg8 harg8 arg11 harg11 arg12 arg13 x0 x1 x2 x3 x4 x5 x6 xs0) (ldW arg9 harg9 x7 0)) : S1x256x512.Idx → EReal) (ix3 0 l q) = (kc x0 x1 x2 x3 x4 x5 x6 x7 0 3).out (run (kc x0 x1 x2 x3 x4 x5 x6 x7 0) (fun n q => (xs0 (ix3 0 n q) : EReal)) (Fin.val (3 : Fin 4))) l q := by
  rw [(eqOB6 c arg2 harg2 arg3 harg3 arg4 harg4 arg5 harg5 arg6 harg6 arg7 harg7 arg8 harg8 arg9 harg9 arg11 harg11 arg12 arg13 x0 x1 x2 x3 x4 x5 x6 x7 xs0)]
  exact out_at (loads x0 x1 x2 x3 x4 x5 x6 x7 arg2 harg2 arg3 harg3 arg4 harg4 arg6 harg6 arg7 harg7 3 0) _ _ _ _ _ (run (kc x0 x1 x2 x3 x4 x5 x6 x7 0) (fun n q => (xs0 (ix3 0 n q) : EReal)) (Fin.val (3 : Fin 4))) (sAtB6 c arg2 harg2 arg3 harg3 arg4 harg4 arg5 harg5 arg6 harg6 arg7 harg7 arg8 harg8 arg9 harg9 arg11 harg11 arg12 arg13 x0 x1 x2 x3 x4 x5 x6 x7 xs0) (dAtB6 c arg2 harg2 arg3 harg3 arg4 harg4 arg5 harg5 arg6 harg6 arg7 harg7 arg8 harg8 arg9 harg9 arg11 harg11 arg12 arg13 x0 x1 x2 x3 x4 x5 x6 x7 xs0) (fun l q => ldX_at arg5 harg5 x3 3 0 l q) (ldW_at arg8 harg8 x6 0) (ldW_at arg9 harg9 x7 0) l q

theorem xAtB7 (l : Fin 256) (q : Fin 512) : (LoadRect.valAlong (hhK 3 1) (kernelRun0_B.sl.v2870 (F := Ideal) c arg2 harg2 arg4 harg4 arg6 harg6 arg7 harg7 arg12 x0 x2 x4 x5) : S1x256x512.Idx → EReal) (ix3 0 l q) = (kc x0 x1 x2 x3 x4 x5 x6 x7 1 3).xd l q * Ideal.exp ((kc x0 x1 x2 x3 x4 x5 x6 x7 1 3).cl (hd q) - (kc x0 x1 x2 x3 x4 x5 x6 x7 1 3).cs l (hd q)) := by
  rw [(eqXB7 c arg2 harg2 arg4 harg4 arg6 harg6 arg7 harg7 arg12 x0 x2 x4 x5)]
  exact X_of 3 1 _ _ _ _ _ _ _ _ _ _ _ (fun l q => (kc x0 x1 x2 x3 x4 x5 x6 x7 1 3).xd l q * Ideal.exp ((kc x0 x1 x2 x3 x4 x5 x6 x7 1 3).cl (hd q) - (kc x0 x1 x2 x3 x4 x5 x6 x7 1 3).cs l (hd q)))
    (fun l r q hq => xdec_at (loads x0 x1 x2 x3 x4 x5 x6 x7 arg2 harg2 arg3 harg3 arg4 harg4 arg6 harg6 arg7 harg7 3 1) 3 l r q hq) (fun l r q hq => xdec_at (loads x0 x1 x2 x3 x4 x5 x6 x7 arg2 harg2 arg3 harg3 arg4 harg4 arg6 harg6 arg7 harg7 3 1) 2 l r q hq) (fun l r q hq => xdec_at (loads x0 x1 x2 x3 x4 x5 x6 x7 arg2 harg2 arg3 harg3 arg4 harg4 arg6 harg6 arg7 harg7 3 1) 1 l r q hq) (fun l r q hq => xdec_at (loads x0 x1 x2 x3 x4 x5 x6 x7 arg2 harg2 arg3 harg3 arg4 harg4 arg6 harg6 arg7 harg7 3 1) 0 l r q hq) l q

theorem dAtB7 (l : Fin 256) (q : Fin 512) : (LoadRect.valAlong (hhK 3 1) (kernelRun0_B.sl.v2852 (F := Ideal) c arg2 harg2 arg3 harg3 arg4 harg4 arg6 harg6 arg7 harg7 arg13 x0 x1 x2 x4 x5) : S1x256x512.Idx → EReal) (ix3 0 l q) = (kc x0 x1 x2 x3 x4 x5 x6 x7 1 3).yd l q := by
  rw [(eqDB7 c arg2 harg2 arg3 harg3 arg4 harg4 arg6 harg6 arg7 harg7 arg13 x0 x1 x2 x4 x5)]
  exact D_of 3 1 _ _ _ _ _ _ _ _ _ _ _ (fun l q => (kc x0 x1 x2 x3 x4 x5 x6 x7 1 3).yd l q)
    (fun l r q hq => yd_at (loads x0 x1 x2 x3 x4 x5 x6 x7 arg2 harg2 arg3 harg3 arg4 harg4 arg6 harg6 arg7 harg7 3 1) 3 l r q hq) (fun l r q hq => yd_at (loads x0 x1 x2 x3 x4 x5 x6 x7 arg2 harg2 arg3 harg3 arg4 harg4 arg6 harg6 arg7 harg7 3 1) 2 l r q hq) (fun l r q hq => yd_at (loads x0 x1 x2 x3 x4 x5 x6 x7 arg2 harg2 arg3 harg3 arg4 harg4 arg6 harg6 arg7 harg7 3 1) 1 l r q hq) (fun l r q hq => yd_at (loads x0 x1 x2 x3 x4 x5 x6 x7 arg2 harg2 arg3 harg3 arg4 harg4 arg6 harg6 arg7 harg7 3 1) 0 l r q hq) l q

theorem sAtB7 (n : Fin 128) (q : Fin 512) : ((kernelRun0_B.sl.v2848 (F := Ideal) c arg2 harg2 arg3 harg3 arg4 harg4 arg6 harg6 arg7 harg7 arg11 harg11 arg12 x0 x1 x2 x4 x5 xs0) : S1x128x512.Idx → EReal) (ix3 0 n q) = (run (kc x0 x1 x2 x3 x4 x5 x6 x7 1) (fun n q => (xs0 (ix3 1 n q) : EReal)) (Fin.val (3 : Fin 4))) n q := by
  have e : (kernelRun0_B.sl.v2848 (F := Ideal) c arg2 harg2 arg3 harg3 arg4 harg4 arg6 harg6 arg7 harg7 arg11 harg11 arg12 x0 x1 x2 x4 x5 xs0) = arg11.view.readCov (Val := Elt Ideal) (⟨(Rect.unit (s := S2x128x512) ![0, 0, 0] S1x128x512.size inb_S2x128x512_S1x128x512_0_0_0), (kernelRun0_B.sl.v2515 (F := Ideal) c arg2 harg2 arg3 harg3 arg4 harg4 arg6 harg6 arg7 harg7 arg11 harg11 arg12 x0 x1 x2 x4 x5 xs0)⟩ :: ⟨(Rect.unit (s := S2x128x512) ![1, 0, 0] S1x128x512.size inb_S2x128x512_S1x128x512_1_0_0), (kernelRun0_B.sl.v2154 (F := Ideal) c arg2 harg2 arg3 harg3 arg4 harg4 arg6 harg6 arg7 harg7 arg11 harg11 arg12 x0 x1 x2 x4 x5 xs0)⟩ :: (kernelRun0_B.sl.HS0_5 (F := Ideal) c arg2 harg2 arg3 harg3 arg4 harg4 arg6 harg6 arg7 harg7 arg11 harg11 arg12 x0 x1 x2 x4 x5 xs0)) (Rect.unit (s := S2x128x512) ![1, 0, 0] S1x128x512.size inb_S2x128x512_S1x128x512_1_0_0).toLoadRect := by sl_kernel_rfl
  have e2 := e.trans ((View.readCov_skip _ _ _ _ _ (by decide)).trans (View.readCov_cons_toLoadRect _ _ _ _))
  exact (congrFun e2 (ix3 0 n q)).trans ((tAtB5 c arg2 harg2 arg3 harg3 arg4 harg4 arg5 harg5 arg6 harg6 arg7 harg7 arg8 harg8 arg9 harg9 arg11 harg11 arg12 arg13 x0 x1 x2 x3 x4 x5 x6 x7 xs0) n q)

theorem tAtB7 (n : Fin 128) (q : Fin 512) : ((k0_pay1 (F := Ideal) (kernelRun0_B.sl.r_94 (F := Ideal) c arg2 harg2 arg3 harg3 arg4 harg4 arg6 harg6 arg7 harg7 arg11 harg11 arg12 x0 x1 x2 x4 x5 xs0)) : S1x128x512.Idx → EReal) (ix3 0 n q) = (run (kc x0 x1 x2 x3 x4 x5 x6 x7 1) (fun n q => (xs0 (ix3 1 n q) : EReal)) (Fin.val (3 : Fin 4) + 1)) n q := by
  rw [(eqTB7 c arg2 harg2 arg3 harg3 arg4 harg4 arg6 harg6 arg7 harg7 arg11 harg11 arg12 x0 x1 x2 x4 x5 xs0), run_succ]
  exact st_at (loads x0 x1 x2 x3 x4 x5 x6 x7 arg2 harg2 arg3 harg3 arg4 harg4 arg6 harg6 arg7 harg7 3 1) _ _ (run (kc x0 x1 x2 x3 x4 x5 x6 x7 1) (fun n q => (xs0 (ix3 1 n q) : EReal)) (Fin.val (3 : Fin 4))) (sAtB7 c arg2 harg2 arg3 harg3 arg4 harg4 arg5 harg5 arg6 harg6 arg7 harg7 arg8 harg8 arg9 harg9 arg11 harg11 arg12 arg13 x0 x1 x2 x3 x4 x5 x6 x7 xs0) (xAtB7 c arg2 harg2 arg3 harg3 arg4 harg4 arg5 harg5 arg6 harg6 arg7 harg7 arg8 harg8 arg9 harg9 arg11 harg11 arg12 arg13 x0 x1 x2 x3 x4 x5 x6 x7 xs0) n q

theorem oAtB7 (l : Fin 256) (q : Fin 512) : ((k0_pay2 (F := Ideal) (kernelRun0_B.sl.r_93 (F := Ideal) c arg2 harg2 arg3 harg3 arg4 harg4 arg6 harg6 arg7 harg7 arg8 harg8 arg11 harg11 arg12 arg13 x0 x1 x2 x4 x5 x6 xs0) (ldX arg5 harg5 x3 3 1) (ldW arg9 harg9 x7 1)) : S1x256x512.Idx → EReal) (ix3 0 l q) = (kc x0 x1 x2 x3 x4 x5 x6 x7 1 3).out (run (kc x0 x1 x2 x3 x4 x5 x6 x7 1) (fun n q => (xs0 (ix3 1 n q) : EReal)) (Fin.val (3 : Fin 4))) l q := by
  rw [(eqOB7 c arg2 harg2 arg3 harg3 arg4 harg4 arg5 harg5 arg6 harg6 arg7 harg7 arg8 harg8 arg9 harg9 arg11 harg11 arg12 arg13 x0 x1 x2 x3 x4 x5 x6 x7 xs0)]
  exact out_at (loads x0 x1 x2 x3 x4 x5 x6 x7 arg2 harg2 arg3 harg3 arg4 harg4 arg6 harg6 arg7 harg7 3 1) _ _ _ _ _ (run (kc x0 x1 x2 x3 x4 x5 x6 x7 1) (fun n q => (xs0 (ix3 1 n q) : EReal)) (Fin.val (3 : Fin 4))) (sAtB7 c arg2 harg2 arg3 harg3 arg4 harg4 arg5 harg5 arg6 harg6 arg7 harg7 arg8 harg8 arg9 harg9 arg11 harg11 arg12 arg13 x0 x1 x2 x3 x4 x5 x6 x7 xs0) (dAtB7 c arg2 harg2 arg3 harg3 arg4 harg4 arg5 harg5 arg6 harg6 arg7 harg7 arg8 harg8 arg9 harg9 arg11 harg11 arg12 arg13 x0 x1 x2 x3 x4 x5 x6 x7 xs0) (fun l q => ldX_at arg5 harg5 x3 3 1 l q) (ldW_at arg8 harg8 x6 1) (ldW_at arg9 harg9 x7 1) l q

end

end Cert.SsdKer
end
-- ==== Proof.SsdOutB.lean ====
/- The selective recurrence: what a point of case B leaves. -/
module

public import proofs.«01_k».proof.Proof.SsdPick
public import proofs.«01_k».proof.Proof.SsdChainB

@[expose] public section

set_option maxRecDepth 16384

noncomputable section

open Idealize.ShloMosaic Idealize.ShloMosaic.TcCoe Idealize.SL.Sem

namespace Cert.SsdKer

open Cert.Ssd
open Cert.KernelIdeal Cert.KernelIdeal.Gen

theorem piecesB (c : Dev nD) (i : grid0.Coords) (arg2 : Memref sig .tc .vmem S1x1024x1024 .f32) (harg2 : arg2.IsWhole) (arg3 : Memref sig .tc .vmem S1x1024x512 .bf16) (harg3 : arg3.IsWhole) (arg4 : Memref sig .tc .vmem S1x1024x256 .f32) (harg4 : arg4.IsWhole) (arg5 : Memref sig .tc .vmem S1x1024x1024 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .bf16) (harg10 : arg10.IsWhole) (arg11 : Memref sig .tc .vmem S2x128x512 .f32) (harg11 : arg11.IsWhole) (arg12 : Memref sig .tc .vmem S4x2x256x512 .bf16) (harg12 : arg12.IsWhole) (arg13 : Memref sig .tc .vmem S4x2x256x512 .f32) (harg13 : arg13.IsWhole) (hc0 : ¬cond0_0 i)
    (x0 : Vec Ideal S1x1024x1024 .f32) (x1 : Vec Ideal S1x1024x512 .bf16) (x2 : Vec Ideal S1x1024x256 .f32) (x3 : Vec Ideal S1x1024x1024 .f32) (x4 : Vec Ideal S1x256 .f32) (x5 : Vec Ideal S1x256 .f32) (x6 : Vec Ideal S1x1024 .f32) (x7 : Vec Ideal S1x1024 .f32) (xs0 : Vec Ideal S2x128x512 .f32) :
    (kernelRun0_B (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0).1 = [⟨orect 3 1, (k0_pay2 (F := Ideal) (kernelRun0_B.sl.r_93 (F := Ideal) c arg2 harg2 arg3 harg3 arg4 harg4 arg6 harg6 arg7 harg7 arg8 harg8 arg11 harg11 arg12 arg13 x0 x1 x2 x4 x5 x6 xs0) (ldX arg5 harg5 x3 3 1) (ldW arg9 harg9 x7 1))⟩,
      ⟨orect 3 0, (k0_pay395 (F := Ideal) (kernelRun0_B.sl.v2528 (F := Ideal) c arg2 harg2 arg3 harg3 arg4 harg4 arg5 harg5 arg6 harg6 arg7 harg7 arg8 harg8 arg11 harg11 arg12 arg13 x0 x1 x2 x3 x4 x5 x6 xs0) (ldW arg9 harg9 x7 0))⟩,
      ⟨orect 2 1, (kernelRun0_B.sl.v2175 (F := Ideal) c arg2 harg2 arg3 harg3 arg4 harg4 arg5 harg5 arg6 harg6 arg7 harg7 arg8 harg8 arg9 harg9 arg11 harg11 arg12 arg13 x0 x1 x2 x3 x4 x5 x6 x7 xs0)⟩,
      ⟨orect 2 0, (kernelRun0_B.sl.v1814 (F := Ideal) c arg2 harg2 arg3 harg3 arg4 harg4 arg5 harg5 arg6 harg6 arg7 harg7 arg8 harg8 arg9 harg9 arg11 harg11 arg12 arg13 x0 x1 x2 x3 x4 x5 x6 x7 xs0)⟩,
      ⟨orect 1 1, (kernelRun0_B.sl.v1453 (F := Ideal) c arg2 harg2 arg3 harg3 arg4 harg4 arg5 harg5 arg6 harg6 arg7 harg7 arg8 harg8 arg9 harg9 arg11 harg11 arg12 arg13 x0 x1 x2 x3 x4 x5 x6 x7 xs0)⟩,
      ⟨orect 1 0, (kernelRun0_B.sl.v1092 (F := Ideal) c arg2 harg2 arg3 harg3 arg4 harg4 arg5 harg5 arg6 harg6 arg7 harg7 arg8 harg8 arg9 harg9 arg11 harg11 arg12 arg13 x0 x1 x2 x3 x4 x5 x6 x7 xs0)⟩,
      ⟨orect 0 1, (k0_pay125 (F := Ideal) (kernelRun0_B.sl.v728 (F := Ideal) c arg2 harg2 arg3 harg3 arg4 harg4 arg5 harg5 arg6 harg6 arg7 harg7 arg8 harg8 arg9 harg9 arg11 harg11 arg13 x0 x1 x2 x3 x4 x5 x6 x7 xs0))⟩,
      ⟨orect 0 0, (kernelRun0_B.sl.v370 (F := Ideal) c arg2 harg2 arg3 harg3 arg4 harg4 arg5 harg5 arg6 harg6 arg7 harg7 arg8 harg8 arg9 harg9 arg11 harg11 arg13 x0 x1 x2 x3 x4 x5 x6 x7 xs0)⟩] := by
  sl_kernel_rfl

theorem outB (c : Dev nD) (i : grid0.Coords) (arg2 : Memref sig .tc .vmem S1x1024x1024 .f32) (harg2 : arg2.IsWhole) (arg3 : Memref sig .tc .vmem S1x1024x512 .bf16) (harg3 : arg3.IsWhole) (arg4 : Memref sig .tc .vmem S1x1024x256 .f32) (harg4 : arg4.IsWhole) (arg5 : Memref sig .tc .vmem S1x1024x1024 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .bf16) (harg10 : arg10.IsWhole) (arg11 : Memref sig .tc .vmem S2x128x512 .f32) (harg11 : arg11.IsWhole) (arg12 : Memref sig .tc .vmem S4x2x256x512 .bf16) (harg12 : arg12.IsWhole) (arg13 : Memref sig .tc .vmem S4x2x256x512 .f32) (harg13 : arg13.IsWhole) (hc0 : ¬cond0_0 i)
    (x0 : Vec Ideal S1x1024x1024 .f32) (x1 : Vec Ideal S1x1024x512 .bf16) (x2 : Vec Ideal S1x1024x256 .f32) (x3 : Vec Ideal S1x1024x1024 .f32) (x4 : Vec Ideal S1x256 .f32) (x5 : Vec Ideal S1x256 .f32) (x6 : Vec Ideal S1x1024 .f32) (x7 : Vec Ideal S1x1024 .f32) (xs0 : Vec Ideal S2x128x512 .f32)
    (K : Fin 4) (g : Fin 2) (l : Fin 256) (q : Fin 512) : (out0_B_8 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 : S1x1024x1024.Idx → EReal) (ix3 0 ⟨256 * K.val + l.val, by omega⟩ ⟨512 * g.val + q.val, by omega⟩)
      = (kc x0 x1 x2 x3 x4 x5 x6 x7 g K).out (run (kc x0 x1 x2 x3 x4 x5 x6 x7 g) (fun n q => (xs0 (ix3 g n q) : EReal)) K.val) l q := by
  unfold out0_B_8
  rw [View.read_writes_junk_eq_canon, piecesB]
  match K, g with
  | 0, 0 => exact (out_pick _ 0 0 _ ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans (View.readCov_cons_toLoadRect _ _ _ _)))))))) l q).trans (oAtB0 c arg2 harg2 arg3 harg3 arg4 harg4 arg5 harg5 arg6 harg6 arg7 harg7 arg8 harg8 arg9 harg9 arg11 harg11 arg12 arg13 x0 x1 x2 x3 x4 x5 x6 x7 xs0 l q)
  | 0, 1 => exact (out_pick _ 0 1 _ ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans (View.readCov_cons_toLoadRect _ _ _ _))))))) l q).trans (oAtB1 c arg2 harg2 arg3 harg3 arg4 harg4 arg5 harg5 arg6 harg6 arg7 harg7 arg8 harg8 arg9 harg9 arg11 harg11 arg12 arg13 x0 x1 x2 x3 x4 x5 x6 x7 xs0 l q)
  | 1, 0 => exact (out_pick _ 1 0 _ ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans (View.readCov_cons_toLoadRect _ _ _ _)))))) l q).trans (oAtB2 c arg2 harg2 arg3 harg3 arg4 harg4 arg5 harg5 arg6 harg6 arg7 harg7 arg8 harg8 arg9 harg9 arg11 harg11 arg12 arg13 x0 x1 x2 x3 x4 x5 x6 x7 xs0 l q)
  | 1, 1 => exact (out_pick _ 1 1 _ ((View.readCov_skip _ _ _ _ _ (by decide)).trans ((View.readCov_skip _ _ _ _ _ (by decide)).trans ((View.readCov_skip _ _ _ _ _ (by decide)).trans ((View.readCov_skip _ _ _ _ _ (by decide)).trans (View.readCov_cons_toLoadRect _ _ _ _))))) l q).trans (oAtB3 c arg2 harg2 arg3 harg3 arg4 harg4 arg5 harg5 arg6 harg6 arg7 harg7 arg8 harg8 arg9 harg9 arg11 harg11 arg12 arg13 x0 x1 x2 x3 x4 x5 x6 x7 xs0 l q)
  | 2, 0 => exact (out_pick _ 2 0 _ ((View.readCov_skip _ _ _ _ _ (by decide)).trans ((View.readCov_skip _ _ _ _ _ (by decide)).trans ((View.readCov_skip _ _ _ _ _ (by decide)).trans (View.readCov_cons_toLoadRect _ _ _ _)))) l q).trans (oAtB4 c arg2 harg2 arg3 harg3 arg4 harg4 arg5 harg5 arg6 harg6 arg7 harg7 arg8 harg8 arg9 harg9 arg11 harg11 arg12 arg13 x0 x1 x2 x3 x4 x5 x6 x7 xs0 l q)
  | 2, 1 => exact (out_pick _ 2 1 _ ((View.readCov_skip _ _ _ _ _ (by decide)).trans ((View.readCov_skip _ _ _ _ _ (by decide)).trans (View.readCov_cons_toLoadRect _ _ _ _))) l q).trans (oAtB5 c arg2 harg2 arg3 harg3 arg4 harg4 arg5 harg5 arg6 harg6 arg7 harg7 arg8 harg8 arg9 harg9 arg11 harg11 arg12 arg13 x0 x1 x2 x3 x4 x5 x6 x7 xs0 l q)
  | 3, 0 => exact (out_pick _ 3 0 _ ((View.readCov_skip _ _ _ _ _ (by decide)).trans (View.readCov_cons_toLoadRect _ _ _ _)) l q).trans (oAtB6 c arg2 harg2 arg3 harg3 arg4 harg4 arg5 harg5 arg6 harg6 arg7 harg7 arg8 harg8 arg9 harg9 arg11 harg11 arg12 arg13 x0 x1 x2 x3 x4 x5 x6 x7 xs0 l q)
  | 3, 1 => exact (out_pick _ 3 1 _ (View.readCov_cons_toLoadRect _ _ _ _) l q).trans (oAtB7 c arg2 harg2 arg3 harg3 arg4 harg4 arg5 harg5 arg6 harg6 arg7 harg7 arg8 harg8 arg9 harg9 arg11 harg11 arg12 arg13 x0 x1 x2 x3 x4 x5 x6 x7 xs0 l q)

end Cert.SsdKer
end
-- ==== Proof.SsdHost.lean ====
/- The selective recurrence: the arrays that the operations before the call hand to it. -/
module

public import proofs.«01_k».proof.Proof.SsdPick
public import Idealize.ShloMosaic.Lib.Pipeline.ReadBack
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.SsdKer

open Cert.Ssd
open Cert.KernelIdeal Cert.KernelIdeal.Gen

variable (m : (ℓ : Loc nD τ sig) → Buf (Elt Ideal) ℓ)

theorem v17 (c : Dev nD) : V m c main_v17 = shapeCast S1x1024 (shapeCast S1024 (m ((c.tc : Thread nD τ).loc main_arg7)) shapeCasts_S1x1024_S1024) shapeCasts_S1024_S1x1024 := by
  rfl
theorem v15 (c : Dev nD) : V m c main_v15 = shapeCast S1x1024 (shapeCast S1024 (broadcastInDim S16x64 ![0] bcast_S16_S16x64_0 (shapeCast S16 (m ((c.tc : Thread nD τ).loc main_arg6)) shapeCasts_S1x16_S16)) shapeCasts_S16x64_S1024) shapeCasts_S1024_S1x1024 := by
  rfl
theorem v11 (c : Dev nD) : V m c main_v11 = shapeCast S1x256 (pad S2x128 ![0, 0] ![0, 120] ![0, 0] (shapeCast S2x8 (shapeCast S16 (m ((c.tc : Thread nD τ).loc main_arg5)) shapeCasts_S1x16_S16) shapeCasts_S16_S2x8) (sitofp (F := Ideal) .f32 (constantI S_ 32 0#32)) pads_S2x8_S2x128_000_01200 h_S_) shapeCasts_S2x128_S1x256 := by
  rfl
theorem v7 (c : Dev nD) : V m c main_v7 = shapeCast S1x256 (pad S2x128 ![0, 0] ![0, 120] ![0, 0] (shapeCast S2x8 (shapeCast S16 (m ((c.tc : Thread nD τ).loc main_arg4)) shapeCasts_S1x16_S16) shapeCasts_S16_S2x8) (sitofp (F := Ideal) .f32 (constantI S_ 32 0#32)) pads_S2x8_S2x128_000_01200 h_S_) shapeCasts_S2x128_S1x256 := by
  rfl
theorem v2 (c : Dev nD) : V m c main_v2 = shapeCast S8x2048x256 (pad S8x2048x2x128 ![0, 0, 0, 0] ![0, 0, 0, 120] ![0, 0, 0, 0] (shapeCast S8x2048x2x8 (m ((c.tc : Thread nD τ).loc main_arg2)) shapeCasts_S8x2048x16_S8x2048x2x8) (sitofp (F := Ideal) .f32 (constantI S_ 32 0#32)) pads_S8x2048x2x8_S8x2048x2x128_000_000_000_01200 h_S_) shapeCasts_S8x2048x2x128_S8x2048x256 := by
  rfl

end Cert.SsdKer
end
-- ==== Proof.SsdHostAt.lean ====
/- The selective recurrence: those arrays, index by index. -/
module

public import proofs.«01_k».proof.Proof.SsdHost
public import Idealize.ShloMosaic.Lib.Pipeline.ReadBack
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.SsdKer

open Cert.Ssd
open Cert.KernelIdeal Cert.KernelIdeal.Gen

variable (m : (ℓ : Loc nD τ sig) → Buf (Elt Ideal) ℓ)

theorem v17_at (c : Dev nD) (k : Fin 1024) : V m c main_v17 (ix2 0 k) = m ((c.tc : Thread nD τ).loc main_arg7) (ix2 0 k) := by
  rw [v17]
  pointwise

theorem v15_at (c : Dev nD) (k : Fin 1024) : V m c main_v15 (ix2 0 k) = m ((c.tc : Thread nD τ).loc main_arg6) (ix2 0 ⟨k.val / 64, by omega⟩) := by
  rw [v15]
  pointwise

theorem padded (x : Vec Ideal S2x8 .f32) (v : Vec Ideal S_ .f32) (g : Fin 2) (h : Fin 8) :
    shapeCast S1x256 (pad S2x128 ![0, 0] ![0, 120] ![0, 0] x v pads_S2x8_S2x128_000_01200 h_S_) shapeCasts_S2x128_S1x256 (ix2 0 ⟨128 * g.val + h.val, by omega⟩) = x (ix2 g h) := by
  have e : (128 * g.val + h.val) % 128 = h.val := by omega
  have e' : (128 * g.val + h.val) / 128 = g.val := by omega
  generalize hP : pad S2x128 ![0, 0] ![0, 120] ![0, 0] x v pads_S2x8_S2x128_000_01200 h_S_ = P
  have e1 : P (ix2 g ⟨h.val, by omega⟩) = x (ix2 g h) := by
    rw [← hP]
    pointwise
  rw [← e1]
  pointwise
  simp only [e, e']

theorem split16 (x : Vec Ideal S1x16 .f32) (g : Fin 2) (h : Fin 8) :
    shapeCast S2x8 (shapeCast S16 x shapeCasts_S1x16_S16) shapeCasts_S16_S2x8 (ix2 g h) = x (ix2 0 ⟨g.val * 8 + h.val, by omega⟩) := by
  pointwise

theorem v11_at (c : Dev nD) (g : Fin 2) (h : Fin 8) :
    V m c main_v11 (ix2 0 ⟨128 * g.val + h.val, by omega⟩) = m ((c.tc : Thread nD τ).loc main_arg5) (ix2 0 ⟨g.val * 8 + h.val, by omega⟩) := by
  rw [v11]
  exact (padded _ _ g h).trans (split16 _ g h)

theorem v7_at (c : Dev nD) (g : Fin 2) (h : Fin 8) :
    V m c main_v7 (ix2 0 ⟨128 * g.val + h.val, by omega⟩) = m ((c.tc : Thread nD τ).loc main_arg4) (ix2 0 ⟨g.val * 8 + h.val, by omega⟩) := by
  rw [v7]
  exact (padded _ _ g h).trans (split16 _ g h)

theorem v2_at (c : Dev nD) (i : Fin 8) (s : Fin 2048) (g : Fin 2) (h : Fin 8) :
    V m c main_v2 (ix3 i s ⟨128 * g.val + h.val, by omega⟩) = m ((c.tc : Thread nD τ).loc main_arg2) (ix3 i s ⟨g.val * 8 + h.val, by omega⟩) := by
  have e : (128 * g.val + h.val) % 128 = h.val := by omega
  rw [v2]
  pointwise
  rw [dif_pos (by omega)]
  simp only [e]

end Cert.SsdKer
end
-- ==== Proof.SsdPieces.lean ====
/- The selective recurrence: the blocks that a grid point reads, as numbers of the arguments. -/
module

public import proofs.«01_k».proof.Proof.SsdHostAt
public import Idealize.ShloMosaic.Lib.Pipeline.ReadBack
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.SsdKer

open Cert.Ssd
open Cert.KernelIdeal Cert.KernelIdeal.Gen
open Idealize.ShloMosaic.Pipeline (Dat)

variable (m : (ℓ : Loc nD τ sig) → Buf (Elt Ideal) ℓ)

theorem idx : ∀ t : Fin cfg0.N, win0_0.index t = ![t.val / 2, t.val % 2, 0] ∧ win0_1.index t = ![t.val / 2, t.val % 2, 0] ∧ win0_2.index t = ![t.val / 2, t.val % 2, 0]
    ∧ win0_3.index t = ![t.val / 2, t.val % 2, 0] ∧ win0_4.index t = ![0, 0] ∧ win0_5.index t = ![0, 0] ∧ win0_6.index t = ![0, 0] ∧ win0_7.index t = ![0, 0]
    ∧ win0_8.index t = ![t.val / 2, t.val % 2, 0] :=
  (by decide +kernel : ∀ t : Fin grid0.N, _)

theorem b0 (c : Dev nD) (t : Fin cfg0.N) (i : Fin 8) (hi : i.val = t.val / 2) (r : Fin 1024) (s : Fin 2048)
    (hs : s.val = t.val % 2 * 1024 + r.val) (k : Fin 1024) :
    iblk m c 0 t (ix3 0 r k) = m ((c.tc : Thread nD τ).loc main_arg0) (ix3 i s k) := by
  blk_point [iblk, V, idx t]

theorem b1 (c : Dev nD) (t : Fin cfg0.N) (i : Fin 8) (hi : i.val = t.val / 2) (r : Fin 1024) (s : Fin 2048)
    (hs : s.val = t.val % 2 * 1024 + r.val) (k : Fin 512) :
    (iblk m c 1 t (ix3 0 r k) : EReal) = m ((c.tc : Thread nD τ).loc main_arg1) (ix3 i s k) := by
  blk_point [iblk, V, idx t]

theorem b2 (c : Dev nD) (t : Fin cfg0.N) (i : Fin 8) (hi : i.val = t.val / 2) (r : Fin 1024) (s : Fin 2048)
    (hs : s.val = t.val % 2 * 1024 + r.val) (g : Fin 2) (h : Fin 8) :
    iblk m c 2 t (ix3 0 r ⟨128 * g.val + h.val, by omega⟩) = m ((c.tc : Thread nD τ).loc main_arg2) (ix3 i s ⟨g.val * 8 + h.val, by omega⟩) := by
  refine Eq.trans (b := V m c main_v2 (ix3 i s ⟨128 * g.val + h.val, by omega⟩)) ?_ (v2_at m c i s g h)
  blk_ext [iblk, idx t]

theorem b3 (c : Dev nD) (t : Fin cfg0.N) (i : Fin 8) (hi : i.val = t.val / 2) (r : Fin 1024) (s : Fin 2048)
    (hs : s.val = t.val % 2 * 1024 + r.val) (k : Fin 1024) :
    iblk m c 3 t (ix3 0 r k) = m ((c.tc : Thread nD τ).loc main_arg3) (ix3 i s k) := by
  blk_point [iblk, V, idx t]

theorem b4 (c : Dev nD) (t : Fin cfg0.N) (g : Fin 2) (h : Fin 8) :
    iblk m c 4 t (ix2 0 ⟨128 * g.val + h.val, by omega⟩) = m ((c.tc : Thread nD τ).loc main_arg4) (ix2 0 ⟨g.val * 8 + h.val, by omega⟩) := by
  refine Eq.trans (b := V m c main_v7 (ix2 0 ⟨128 * g.val + h.val, by omega⟩)) ?_ (v7_at m c g h)
  blk_ext [iblk, idx t]

theorem b5 (c : Dev nD) (t : Fin cfg0.N) (g : Fin 2) (h : Fin 8) :
    iblk m c 5 t (ix2 0 ⟨128 * g.val + h.val, by omega⟩) = m ((c.tc : Thread nD τ).loc main_arg5) (ix2 0 ⟨g.val * 8 + h.val, by omega⟩) := by
  refine Eq.trans (b := V m c main_v11 (ix2 0 ⟨128 * g.val + h.val, by omega⟩)) ?_ (v11_at m c g h)
  blk_ext [iblk, idx t]

theorem b6 (c : Dev nD) (t : Fin cfg0.N) (k : Fin 1024) :
    iblk m c 6 t (ix2 0 k) = m ((c.tc : Thread nD τ).loc main_arg6) (ix2 0 ⟨k.val / 64, by omega⟩) := by
  refine Eq.trans (b := V m c main_v15 (ix2 0 k)) ?_ (v15_at m c k)
  blk_ext [iblk, idx t]

theorem b7 (c : Dev nD) (t : Fin cfg0.N) (k : Fin 1024) :
    iblk m c 7 t (ix2 0 k) = m ((c.tc : Thread nD τ).loc main_arg7) (ix2 0 k) := by
  refine Eq.trans (b := V m c main_v17 (ix2 0 k)) ?_ (v17_at m c k)
  blk_ext [iblk, idx t]

end Cert.SsdKer
end
-- ==== Proof.SsdFinal.lean ====
/- The selective recurrence: the array that the call leaves is the reference's array, index by index. -/
module

public import proofs.«01_k».proof.Proof.SsdOutA
public import proofs.«01_k».proof.Proof.SsdOutB
public import proofs.«01_k».proof.Proof.SsdPieces
public import proofs.«01_k».proof.Proof.Gen.ReferenceIdeal.Run

@[expose] public section

set_option maxRecDepth 16384

noncomputable section

open Idealize.ShloMosaic Idealize.ShloMosaic.TcCoe Idealize.SL.Sem

namespace Cert.SsdKer

open Cert.Ssd
open Cert.KernelIdeal Cert.KernelIdeal.Gen
open Idealize.ShloMosaic.Pipeline (Dat)

/-- A point's chunks are four of the sequence's, so its states are the sequence's. -/
theorem run_St (u : Fin 4 → Chunk) (v : Fin 8 → Chunk) (k0 : ℕ) (h0 : k0 + 4 ≤ 8) (huv : ∀ (K : Fin 4) (k : Fin 8), k.val = k0 + K.val → u K = v k)
    (S : Fin 128 → Fin 512 → EReal) (hS : S = St v k0) : ∀ k, k ≤ 4 → run u S k = St v (k0 + k)
  | 0, _ => hS
  | k + 1, h => by
    show (if h : k < 4 then (u ⟨k, h⟩).step (run u S k) else run u S k) = if h : k0 + k < 8 then (v ⟨k0 + k, h⟩).step (St v (k0 + k)) else fun _ _ => 0
    rw [dif_pos (by omega), dif_pos (by omega), run_St u v k0 h0 huv S hS k (by omega), huv ⟨k, by omega⟩ ⟨k0 + k, by omega⟩ rfl]

variable (m : (ℓ : Loc nD τ sig) → Buf (Elt Ideal) ℓ)

/-- A sequence's chunk over the arguments in memory. -/
def ch (c : Dev nD) (i : Fin 8) (g : Fin 2) (k : Fin 8) : Chunk :=
  chunkOf (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) i g k

/-- A point's chunk over its blocks. -/
def pc (c : Dev nD) (t : Fin cfg0.N) (g : Fin 2) (K : Fin 4) : Chunk :=
  kc (iblk m c 0 t) (iblk m c 1 t) (iblk m c 2 t) (iblk m c 3 t) (iblk m c 4 t) (iblk m c 5 t) (iblk m c 6 t) (iblk m c 7 t) g K

theorem pc_eq (c : Dev nD) (t : Fin cfg0.N) (i : Fin 8) (hi : i.val = t.val / 2) (g : Fin 2) (K : Fin 4) (k : Fin 8) (hk : k.val = t.val % 2 * 4 + K.val) :
    pc m c t g K = ch m c i g k := by
  have hs : ∀ l : Fin 256, (sq k l).val = t.val % 2 * 1024 + (256 * K.val + l.val) := by
    intro l
    show k.val * 256 + l.val = _
    omega
  have hq : ∀ q : Fin 512, (⟨512 * g.val + q.val, by omega⟩ : Fin 1024) = gl g q := fun q => Fin.ext (by show 512 * g.val + q.val = g.val * 512 + q.val; omega)
  unfold pc ch kc chunkOf
  rw [Chunk.mk.injEq]
  refine ⟨funext fun l => funext fun q => ?_, funext fun l => funext fun n => ?_, funext fun l => funext fun n => ?_, funext fun l => funext fun h => ?_,
    funext fun h => ?_, funext fun h => ?_, funext fun l => funext fun q => ?_, funext fun q => ?_, funext fun q => ?_⟩
  · rw [← hq]
    exact b0 m c t i hi ⟨256 * K.val + l.val, by omega⟩ (sq k l) (hs l) _
  · refine (b1 m c t i hi ⟨256 * K.val + l.val, by omega⟩ (sq k l) (hs l) _).trans (congrArg (fun z => m ((c.tc : Thread nD τ).loc main_arg1) (ix3 i (sq k l) z)) (Fin.ext ?_))
    show 128 * g.val + n.val = g.val * 128 + n.val
    omega
  · refine (b1 m c t i hi ⟨256 * K.val + l.val, by omega⟩ (sq k l) (hs l) _).trans (congrArg (fun z => m ((c.tc : Thread nD τ).loc main_arg1) (ix3 i (sq k l) z)) (Fin.ext ?_))
    show 256 + 128 * g.val + n.val = 256 + (g.val * 128 + n.val)
    omega
  · exact b2 m c t i hi ⟨256 * K.val + l.val, by omega⟩ (sq k l) (hs l) g h
  · exact b4 m c t g h
  · exact b5 m c t g h
  · rw [← hq]
    exact b3 m c t i hi ⟨256 * K.val + l.val, by omega⟩ (sq k l) (hs l) _
  · refine (b6 m c t ⟨512 * g.val + q.val, by omega⟩).trans (congrArg (fun z => m ((c.tc : Thread nD τ).loc main_arg6) (ix2 0 z)) (Fin.ext ?_))
    show (512 * g.val + q.val) / 64 = g.val * 8 + q.val / 64
    omega
  · rw [← hq]
    exact b7 m c t _

/-- The reference's rows over the arguments in memory. -/
def ref (c : Dev nD) : FVec Ideal ReferenceIdeal.S8x2048x1024 .bf16 :=
  ssdH (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))

/-- The state that a sequence's first point leaves is the one before the fifth chunk. -/
theorem state_left (c : Dev nD) (t : Fin cfg0.N) (hc : t.val % 2 = 0) (i : Fin 8) (hi : i.val = t.val / 2) (g : Fin 2) (n : Fin 128) (q : Fin 512) :
    (outsAt0 m c t.val t.isLt).2 (ix3 g n q) = St (ch m c i g) 4 n q := by
  rw [outsAt0_A m c t hc]
  dsimp only
  rw [stateA]
  exact congrFun (congrFun (run_St (pc m c t g) (ch m c i g) 0 (by omega) (fun K k h => pc_eq m c t i hi g K k (by omega)) _ rfl 4 (by omega)) n) q

theorem point (c : Dev nD) (t : Fin cfg0.N) (y : S1x1024x1024.Idx) :
    (outsAt0 m c t.val t.isLt).1 y = ref m c (((cfg0.win 8).blk t).view.emb y) := by
  have hy0 : (y 0).val < 1 := (y 0).isLt
  have hy1 : (y 1).val < 1024 := (y 1).isLt
  have hy2 : (y 2).val < 1024 := (y 2).isLt
  have q0 : ((((cfg0.win 8).blk t).view.emb y) 0 : ℕ) = t.val / 2 := by blk_simp [idx t] <;> (try omega)
  have q1 : ((((cfg0.win 8).blk t).view.emb y) 1 : ℕ) = t.val % 2 * 1024 + (y 1).val := by blk_simp [idx t] <;> (try omega)
  have q2 : ((((cfg0.win 8).blk t).view.emb y) 2 : ℕ) = (y 2).val := by blk_simp [idx t] <;> (try omega)
  have ht : t.val < 16 := t.isLt
  generalize ((cfg0.win 8).blk t).view.emb y = j at q0 q1 q2 ⊢
  obtain ⟨i, hi⟩ : ∃ i : Fin 8, i.val = t.val / 2 := ⟨⟨t.val / 2, by omega⟩, rfl⟩
  obtain ⟨K, hK⟩ : ∃ K : Fin 4, K.val = (y 1).val / 256 := ⟨⟨(y 1).val / 256, by omega⟩, rfl⟩
  obtain ⟨l, hl⟩ : ∃ l : Fin 256, l.val = (y 1).val % 256 := ⟨⟨(y 1).val % 256, by omega⟩, rfl⟩
  obtain ⟨g, hg⟩ : ∃ g : Fin 2, g.val = (y 2).val / 512 := ⟨⟨(y 2).val / 512, by omega⟩, rfl⟩
  obtain ⟨q, hq⟩ : ∃ q : Fin 512, q.val = (y 2).val % 512 := ⟨⟨(y 2).val % 512, by omega⟩, rfl⟩
  obtain ⟨k, hk⟩ : ∃ k : Fin 8, k.val = t.val % 2 * 4 + K.val := ⟨⟨t.val % 2 * 4 + K.val, by omega⟩, rfl⟩
  have ey : y = ix3 0 ⟨256 * K.val + l.val, by omega⟩ ⟨512 * g.val + q.val, by omega⟩ := funext fun a => match a with
    | 0 => Fin.ext (by show (y 0).val = 0; omega)
    | 1 => Fin.ext (by show (y 1).val = 256 * K.val + l.val; omega)
    | 2 => Fin.ext (by show (y 2).val = 512 * g.val + q.val; omega)
  have ej : j = ix3 i (sq k l) (gl g q) := funext fun a => match a with
    | 0 => Fin.ext (by show (j 0).val = i.val; omega)
    | 1 => Fin.ext (by show (j 1).val = k.val * 256 + l.val; omega)
    | 2 => Fin.ext (by show (j 2).val = g.val * 512 + q.val; omega)
  rw [ej]
  refine Eq.trans ?_ (ssdH_at _ _ _ _ _ _ _ _ i k l g q).symm
  show _ = (ch m c i g k).out (St (ch m c i g) k.val) l q
  rw [← pc_eq m c t i hi g K k hk]
  rw [ey]
  by_cases hc : t.val % 2 = 0
  · rw [outsAt0_A m c t hc]
    dsimp only
    rw [outA]
    refine congrArg (fun S => (pc m c t g K).out S l q) ?_
    refine (run_St (pc m c t g) (ch m c i g) 0 (by omega) (fun K k h => pc_eq m c t i hi g K k (by omega)) _ rfl K.val (by omega)).trans ?_
    rw [hk, hc]
  · rw [outsAt0_B m c t hc]
    dsimp only
    rw [outB]
    refine congrArg (fun S => (pc m c t g K).out S l q) ?_
    refine (run_St (pc m c t g) (ch m c i g) 4 (by omega) (fun K k h => pc_eq m c t i hi g K k (by omega)) _
      (funext fun n => funext fun q => state_left m c ⟨t.val - 1, by omega⟩ (by show (t.val - 1) % 2 = 0; omega) i (by show i.val = (t.val - 1) / 2; omega) g n q) K.val (by omega)).trans ?_
    rw [hk, show t.val % 2 = 1 by omega]

/-- The call's result array is the reference's. -/
theorem final (c : Dev nD) : (dats m 0 c).arrAt 8 (cfgs 0).N = ref m c := by
  refine (dats m 0 c).arrAt_eq_of_covers 8 _ (by decide +kernel) fun t hf y => ?_
  blk_simp
  rw [after0_8]
  exact point m c t y

end Cert.SsdKer

namespace Cert.Ssd
open Cert.ReferenceIdeal Cert.ReferenceIdeal.Gen

/-- The run's last line over the rows before the norm. -/
theorem res_eq (m : (ℓ : Loc nD τ sig) → Buf (Elt Ideal) ℓ) (c : Dev nD) :
    outH (Value.res_main_v146 (StableHlo.launchContents m c)) (m ((c.tc : Thread nD τ).loc main_arg7))
      = ssdH (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) :=
  congrArg (fun z => outH z (m ((c.tc : Thread nD τ).loc main_arg7))) (mid_eq (StableHlo.launchContents m c))

end Cert.Ssd
end
-- ==== Proof.Claims.lean ====
/- The three value claims, from the programs' runs and the equality of their result arrays. -/
module

public import proofs.«01_k».proof.Defs
public import proofs.«01_k».proof.Proof.Mixer
public import proofs.«01_k».proof.Proof.FfnFinal
public import proofs.«01_k».proof.Proof.SsdFinal
public import Idealize.ShloMosaic.Lib.Quiescent

@[expose] public section

noncomputable section

open Idealize.ShloMosaic Idealize.ShloMosaic.TcCoe Idealize.SL.Sem

namespace Cert.Claims

/-- The output projection: from agreeing arguments the two programs end with equal arrays. -/
theorem mixer : Cert.algebraic_OutProjIdeal_OutProjRefIdeal := by
  pair_intro
  · run_from Cert.OutProjIdeal.Gen.run_main m g
  · run_from Cert.OutProjRefIdeal.Value.run m' g'
    obtain ⟨h0, h1, h2, h3, h4, h5, h6⟩ := hagree c
    refine (Mixer.res_eq m' c).trans ?_
    rw [h0, h1, h2, h3, h4, h5, h6]
    exact (Mixer.final m c).symm

/-- The gated block: from agreeing arguments the two programs end with equal arrays. -/
theorem ffn : Cert.algebraic_FfnIdeal_FfnRefIdeal := by
  pair_intro
  · run_from Cert.FfnIdeal.Gen.run_main m g
  · run_from Cert.FfnRefIdeal.Value.run m' g'
    obtain ⟨h0, h1, h2, h3, h4, h5, h6, h7⟩ := hagree c
    refine (FfnBlock.res_eq m' c).trans ?_
    rw [h0, h1, h2, h3, h4, h5, h6, h7]
    exact (FfnBlock.final m c).symm

/-- The selective recurrence: from agreeing arguments the two programs end with equal arrays. -/
theorem ssd : Cert.algebraic_KernelIdeal_ReferenceIdeal := by
  pair_intro
  · run_from Cert.KernelIdeal.Gen.run_main m g
    all_goals rfl
  · run_from Cert.ReferenceIdeal.Value.run m' g'
    obtain ⟨h0, h1, h2, h3, h4, h5, h6, h7⟩ := hagree c
    have e := Ssd.res_eq m' c
    rw [h0, h1, h2, h3, h4, h5, h6, h7] at e
    exact e.trans (SsdKer.final m c).symm

/-- The named constant is the real it is named. -/
theorem named : Cert.preserves_Kernel_KernelIdeal :=
  IdealRules.named_const.statement Cert.KernelIdeal.κ "log2e" .f32 0x3FB8AA3B#32 (((Real.log 2)⁻¹ : ℝ) : EReal) rfl

end Cert.Claims
end
-- ==== Proof.lean ====
/- The claims' assembly: the programs' frames (generated), the references' frames from their runs, the ledgers and the three value claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjRefIdeal
public import proofs.«01_k».proof.Proof.Gen.KernelIdeal.Value
public import proofs.«01_k».proof.Proof.Gen.FfnIdeal.Value
public import proofs.«01_k».proof.Proof.Gen.OutProjIdeal.Value
public import proofs.«01_k».proof.Proof.Gen.ReferenceIdeal.Run
public import proofs.«01_k».proof.Proof.Gen.FfnRefIdeal.Run
public import proofs.«01_k».proof.Proof.Gen.OutProjRefIdeal.Run
public import proofs.«01_k».proof.Proof.Claims
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Ffn.Gen.facts,
  Cert.FfnIdeal.Gen.facts, Cert.FfnRefIdeal.Gen.facts, Cert.OutProj.Gen.facts, Cert.OutProjIdeal.Gen.facts, Cert.OutProjRefIdeal.Gen.facts,
  fun m ρ _ => Cert.Kernel.Gen.frame m ρ,
  fun m ρ _ => Cert.KernelIdeal.Gen.frame m ρ,
  fun m ρ _ => (θ_run Cert.ReferenceIdeal.defs _ _).mono (fun r h => ⟨fun c => (h c).2, Idealize.ShloMosaic.sem_eq_zero_of_no_sems (by decide) r.2⟩)
    (Cert.ReferenceIdeal.Value.run (F := Ideal) m ρ),
  fun m ρ _ => Cert.Ffn.Gen.frame m ρ,
  fun m ρ _ => Cert.FfnIdeal.Gen.frame m ρ,
  fun m ρ _ => (θ_run Cert.FfnRefIdeal.defs _ _).mono (fun r h => ⟨fun c => (h c).2, Idealize.ShloMosaic.sem_eq_zero_of_no_sems (by decide) r.2⟩)
    (Cert.FfnRefIdeal.Value.run (F := Ideal) m ρ),
  fun m ρ _ => Cert.OutProj.Gen.frame m ρ,
  fun m ρ _ => Cert.OutProjIdeal.Gen.frame m ρ,
  fun m ρ _ => (θ_run Cert.OutProjRefIdeal.defs _ _).mono (fun r h => ⟨fun c => (h c).2, Idealize.ShloMosaic.sem_eq_zero_of_no_sems (by decide) r.2⟩)
    (Cert.OutProjRefIdeal.Value.run (F := Ideal) m ρ),
  Cert.Claims.named, Cert.Claims.ssd, trivial, Cert.Claims.ffn, trivial, Cert.Claims.mixer⟩

end Cert.Proof

end
